-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjPlainIdeal (m : (ℓ : Loc Cert.ProjPlainIdeal.nD Cert.ProjPlainIdeal.τ Cert.ProjPlainIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GatePlainIdeal (m : (ℓ : Loc Cert.GatePlainIdeal.nD Cert.GatePlainIdeal.τ Cert.GatePlainIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryPlainIdeal (m : (ℓ : Loc Cert.MemoryPlainIdeal.nD Cert.MemoryPlainIdeal.τ Cert.MemoryPlainIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff [hPre_finite_diff : Cert.Pre_finite_diff.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).1 = (fun _ => 1#1)
    ∧ (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.1 = (fun _ => 1#1)
    ∧ (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.1 = (fun _ => 1#1)
    ∧ (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.2.1 = (fun _ => 1#1)
    ∧ (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.2.2.1 = (fun _ => 1#1)
    ∧ (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.2.2.2.1 = (fun _ => 1#1)
    ∧ (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))).2.2.2.2.2.2 = (fun _ => 1#1)

def Pre_DiffPlainIdeal (m : (ℓ : Loc Cert.DiffPlainIdeal.nD Cert.DiffPlainIdeal.τ Cert.DiffPlainIdeal.sig) → Buf (Elt Ideal) ℓ) : Prop :=
  True

def Pre_Late (m : (ℓ : Loc Cert.Late.nD Cert.Late.τ Cert.Late.sig) → Buf (Elt Bits) ℓ) : Prop :=
  True

def Pre_LateIdeal (m : (ℓ : Loc Cert.LateIdeal.nD Cert.LateIdeal.τ Cert.LateIdeal.sig) → Buf (Elt Ideal) ℓ) : Prop :=
  True

def Pre_LateIdeal_finite_diff [hPre_finite_diff : Cert.Pre_finite_diff.Facts] (m : (ℓ : Loc Cert.LateIdeal.nD Cert.LateIdeal.τ Cert.LateIdeal.sig) → Buf (Elt Ideal) ℓ) : Prop :=
  ∀ c : Dev Cert.LateIdeal.nD,
    (Cert.Pre_finite_diff.fn (F := Ideal) (m ((c.tc : Thread Cert.LateIdeal.nD Cert.LateIdeal.τ).loc Cert.LateIdeal.main_arg0)) (m ((c.tc : Thread Cert.LateIdeal.nD Cert.LateIdeal.τ).loc Cert.LateIdeal.main_arg1)) (m ((c.tc : Thread Cert.LateIdeal.nD Cert.LateIdeal.τ).loc Cert.LateIdeal.main_arg2)) (m ((c.tc : Thread Cert.LateIdeal.nD Cert.LateIdeal.τ).loc Cert.LateIdeal.main_arg3)) (m ((c.tc : Thread Cert.LateIdeal.nD Cert.LateIdeal.τ).loc Cert.LateIdeal.main_arg4)) (m ((c.tc : Thread Cert.LateIdeal.nD Cert.LateIdeal.τ).loc Cert.LateIdeal.main_arg5)) (m ((c.tc : Thread Cert.LateIdeal.nD Cert.LateIdeal.τ).loc Cert.LateIdeal.main_arg6))).1 = (fun _ => 1#1)
    ∧ (Cert.Pre_finite_diff.fn (F := Ideal) (m ((c.tc : Thread Cert.LateIdeal.nD Cert.LateIdeal.τ).loc Cert.LateIdeal.main_arg0)) (m ((c.tc : Thread Cert.LateIdeal.nD Cert.LateIdeal.τ).loc Cert.LateIdeal.main_arg1)) (m ((c.tc : Thread Cert.LateIdeal.nD Cert.LateIdeal.τ).loc Cert.LateIdeal.main_arg2)) (m ((c.tc : Thread Cert.LateIdeal.nD Cert.LateIdeal.τ).loc Cert.LateIdeal.main_arg3)) (m ((c.tc : Thread Cert.LateIdeal.nD Cert.LateIdeal.τ).loc Cert.LateIdeal.main_arg4)) (m ((c.tc : Thread Cert.LateIdeal.nD Cert.LateIdeal.τ).loc Cert.LateIdeal.main_arg5)) (m ((c.tc : Thread Cert.LateIdeal.nD Cert.LateIdeal.τ).loc Cert.LateIdeal.main_arg6))).2.1 = (fun _ => 1#1)
    ∧ (Cert.Pre_finite_diff.fn (F := Ideal) (m ((c.tc : Thread Cert.LateIdeal.nD Cert.LateIdeal.τ).loc Cert.LateIdeal.main_arg0)) (m ((c.tc : Thread Cert.LateIdeal.nD Cert.LateIdeal.τ).loc Cert.LateIdeal.main_arg1)) (m ((c.tc : Thread Cert.LateIdeal.nD Cert.LateIdeal.τ).loc Cert.LateIdeal.main_arg2)) (m ((c.tc : Thread Cert.LateIdeal.nD Cert.LateIdeal.τ).loc Cert.LateIdeal.main_arg3)) (m ((c.tc : Thread Cert.LateIdeal.nD Cert.LateIdeal.τ).loc Cert.LateIdeal.main_arg4)) (m ((c.tc : Thread Cert.LateIdeal.nD Cert.LateIdeal.τ).loc Cert.LateIdeal.main_arg5)) (m ((c.tc : Thread Cert.LateIdeal.nD Cert.LateIdeal.τ).loc Cert.LateIdeal.main_arg6))).2.2.1 = (fun _ => 1#1)
    ∧ (Cert.Pre_finite_diff.fn (F := Ideal) (m ((c.tc : Thread Cert.LateIdeal.nD Cert.LateIdeal.τ).loc Cert.LateIdeal.main_arg0)) (m ((c.tc : Thread Cert.LateIdeal.nD Cert.LateIdeal.τ).loc Cert.LateIdeal.main_arg1)) (m ((c.tc : Thread Cert.LateIdeal.nD Cert.LateIdeal.τ).loc Cert.LateIdeal.main_arg2)) (m ((c.tc : Thread Cert.LateIdeal.nD Cert.LateIdeal.τ).loc Cert.LateIdeal.main_arg3)) (m ((c.tc : Thread Cert.LateIdeal.nD Cert.LateIdeal.τ).loc Cert.LateIdeal.main_arg4)) (m ((c.tc : Thread Cert.LateIdeal.nD Cert.LateIdeal.τ).loc Cert.LateIdeal.main_arg5)) (m ((c.tc : Thread Cert.LateIdeal.nD Cert.LateIdeal.τ).loc Cert.LateIdeal.main_arg6))).2.2.2.1 = (fun _ => 1#1)
    ∧ (Cert.Pre_finite_diff.fn (F := Ideal) (m ((c.tc : Thread Cert.LateIdeal.nD Cert.LateIdeal.τ).loc Cert.LateIdeal.main_arg0)) (m ((c.tc : Thread Cert.LateIdeal.nD Cert.LateIdeal.τ).loc Cert.LateIdeal.main_arg1)) (m ((c.tc : Thread Cert.LateIdeal.nD Cert.LateIdeal.τ).loc Cert.LateIdeal.main_arg2)) (m ((c.tc : Thread Cert.LateIdeal.nD Cert.LateIdeal.τ).loc Cert.LateIdeal.main_arg3)) (m ((c.tc : Thread Cert.LateIdeal.nD Cert.LateIdeal.τ).loc Cert.LateIdeal.main_arg4)) (m ((c.tc : Thread Cert.LateIdeal.nD Cert.LateIdeal.τ).loc Cert.LateIdeal.main_arg5)) (m ((c.tc : Thread Cert.LateIdeal.nD Cert.LateIdeal.τ).loc Cert.LateIdeal.main_arg6))).2.2.2.2.1 = (fun _ => 1#1)
    ∧ (Cert.Pre_finite_diff.fn (F := Ideal) (m ((c.tc : Thread Cert.LateIdeal.nD Cert.LateIdeal.τ).loc Cert.LateIdeal.main_arg0)) (m ((c.tc : Thread Cert.LateIdeal.nD Cert.LateIdeal.τ).loc Cert.LateIdeal.main_arg1)) (m ((c.tc : Thread Cert.LateIdeal.nD Cert.LateIdeal.τ).loc Cert.LateIdeal.main_arg2)) (m ((c.tc : Thread Cert.LateIdeal.nD Cert.LateIdeal.τ).loc Cert.LateIdeal.main_arg3)) (m ((c.tc : Thread Cert.LateIdeal.nD Cert.LateIdeal.τ).loc Cert.LateIdeal.main_arg4)) (m ((c.tc : Thread Cert.LateIdeal.nD Cert.LateIdeal.τ).loc Cert.LateIdeal.main_arg5)) (m ((c.tc : Thread Cert.LateIdeal.nD Cert.LateIdeal.τ).loc Cert.LateIdeal.main_arg6))).2.2.2.2.2.1 = (fun _ => 1#1)
    ∧ (Cert.Pre_finite_diff.fn (F := Ideal) (m ((c.tc : Thread Cert.LateIdeal.nD Cert.LateIdeal.τ).loc Cert.LateIdeal.main_arg0)) (m ((c.tc : Thread Cert.LateIdeal.nD Cert.LateIdeal.τ).loc Cert.LateIdeal.main_arg1)) (m ((c.tc : Thread Cert.LateIdeal.nD Cert.LateIdeal.τ).loc Cert.LateIdeal.main_arg2)) (m ((c.tc : Thread Cert.LateIdeal.nD Cert.LateIdeal.τ).loc Cert.LateIdeal.main_arg3)) (m ((c.tc : Thread Cert.LateIdeal.nD Cert.LateIdeal.τ).loc Cert.LateIdeal.main_arg4)) (m ((c.tc : Thread Cert.LateIdeal.nD Cert.LateIdeal.τ).loc Cert.LateIdeal.main_arg5)) (m ((c.tc : Thread Cert.LateIdeal.nD Cert.LateIdeal.τ).loc Cert.LateIdeal.main_arg6))).2.2.2.2.2.2 = (fun _ => 1#1)

def Pre_LatePlainIdeal (m : (ℓ : Loc Cert.LatePlainIdeal.nD Cert.LatePlainIdeal.τ Cert.LatePlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjPlainIdeal [hProjPlainIdeal : Cert.ProjPlainIdeal.Facts] : Prop :=
  ∀ (m : (ℓ : Loc Cert.ProjPlainIdeal.nD Cert.ProjPlainIdeal.τ Cert.ProjPlainIdeal.sig) → Buf (Elt Ideal) ℓ) (g : Dev Cert.ProjPlainIdeal.nD → PrngReg), Pre_ProjPlainIdeal m →
    θ_run (Cert.ProjPlainIdeal.defs (F := Ideal)) (onTc (τ := Cert.ProjPlainIdeal.τ) (Cert.ProjPlainIdeal.main (F := Ideal))) ⟨m, fun _ => 0, g⟩ (fun r => (∀ c : Dev Cert.ProjPlainIdeal.nD,
      r.2.mem ((c.tc : Thread Cert.ProjPlainIdeal.nD Cert.ProjPlainIdeal.τ).loc Cert.ProjPlainIdeal.main_arg0) = m ((c.tc : Thread Cert.ProjPlainIdeal.nD Cert.ProjPlainIdeal.τ).loc Cert.ProjPlainIdeal.main_arg0)
      ∧ r.2.mem ((c.tc : Thread Cert.ProjPlainIdeal.nD Cert.ProjPlainIdeal.τ).loc Cert.ProjPlainIdeal.main_arg1) = m ((c.tc : Thread Cert.ProjPlainIdeal.nD Cert.ProjPlainIdeal.τ).loc Cert.ProjPlainIdeal.main_arg1)
      ∧ r.2.mem ((c.tc : Thread Cert.ProjPlainIdeal.nD Cert.ProjPlainIdeal.τ).loc Cert.ProjPlainIdeal.main_arg2) = m ((c.tc : Thread Cert.ProjPlainIdeal.nD Cert.ProjPlainIdeal.τ).loc Cert.ProjPlainIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GatePlainIdeal [hGatePlainIdeal : Cert.GatePlainIdeal.Facts] : Prop :=
  ∀ (m : (ℓ : Loc Cert.GatePlainIdeal.nD Cert.GatePlainIdeal.τ Cert.GatePlainIdeal.sig) → Buf (Elt Ideal) ℓ) (g : Dev Cert.GatePlainIdeal.nD → PrngReg), Pre_GatePlainIdeal m →
    θ_run (Cert.GatePlainIdeal.defs (F := Ideal)) (onTc (τ := Cert.GatePlainIdeal.τ) (Cert.GatePlainIdeal.main (F := Ideal))) ⟨m, fun _ => 0, g⟩ (fun r => (∀ c : Dev Cert.GatePlainIdeal.nD,
      r.2.mem ((c.tc : Thread Cert.GatePlainIdeal.nD Cert.GatePlainIdeal.τ).loc Cert.GatePlainIdeal.main_arg0) = m ((c.tc : Thread Cert.GatePlainIdeal.nD Cert.GatePlainIdeal.τ).loc Cert.GatePlainIdeal.main_arg0)
      ∧ r.2.mem ((c.tc : Thread Cert.GatePlainIdeal.nD Cert.GatePlainIdeal.τ).loc Cert.GatePlainIdeal.main_arg1) = m ((c.tc : Thread Cert.GatePlainIdeal.nD Cert.GatePlainIdeal.τ).loc Cert.GatePlainIdeal.main_arg1)
      ∧ r.2.mem ((c.tc : Thread Cert.GatePlainIdeal.nD Cert.GatePlainIdeal.τ).loc Cert.GatePlainIdeal.main_arg2) = m ((c.tc : Thread Cert.GatePlainIdeal.nD Cert.GatePlainIdeal.τ).loc Cert.GatePlainIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryPlainIdeal [hMemoryPlainIdeal : Cert.MemoryPlainIdeal.Facts] : Prop :=
  ∀ (m : (ℓ : Loc Cert.MemoryPlainIdeal.nD Cert.MemoryPlainIdeal.τ Cert.MemoryPlainIdeal.sig) → Buf (Elt Ideal) ℓ) (g : Dev Cert.MemoryPlainIdeal.nD → PrngReg), Pre_MemoryPlainIdeal m →
    θ_run (Cert.MemoryPlainIdeal.defs (F := Ideal)) (onTc (τ := Cert.MemoryPlainIdeal.τ) (Cert.MemoryPlainIdeal.main (F := Ideal))) ⟨m, fun _ => 0, g⟩ (fun r => (∀ c : Dev Cert.MemoryPlainIdeal.nD,
      r.2.mem ((c.tc : Thread Cert.MemoryPlainIdeal.nD Cert.MemoryPlainIdeal.τ).loc Cert.MemoryPlainIdeal.main_arg0) = m ((c.tc : Thread Cert.MemoryPlainIdeal.nD Cert.MemoryPlainIdeal.τ).loc Cert.MemoryPlainIdeal.main_arg0)
      ∧ r.2.mem ((c.tc : Thread Cert.MemoryPlainIdeal.nD Cert.MemoryPlainIdeal.τ).loc Cert.MemoryPlainIdeal.main_arg1) = m ((c.tc : Thread Cert.MemoryPlainIdeal.nD Cert.MemoryPlainIdeal.τ).loc Cert.MemoryPlainIdeal.main_arg1)
      ∧ r.2.mem ((c.tc : Thread Cert.MemoryPlainIdeal.nD Cert.MemoryPlainIdeal.τ).loc Cert.MemoryPlainIdeal.main_arg2) = m ((c.tc : Thread Cert.MemoryPlainIdeal.nD Cert.MemoryPlainIdeal.τ).loc Cert.MemoryPlainIdeal.main_arg2))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffIdeal_pre_finite_diff [hDiffIdeal : Cert.DiffIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffPlainIdeal [hDiffPlainIdeal : Cert.DiffPlainIdeal.Facts] : Prop :=
  ∀ (m : (ℓ : Loc Cert.DiffPlainIdeal.nD Cert.DiffPlainIdeal.τ Cert.DiffPlainIdeal.sig) → Buf (Elt Ideal) ℓ) (g : Dev Cert.DiffPlainIdeal.nD → PrngReg), Pre_DiffPlainIdeal m →
    θ_run (Cert.DiffPlainIdeal.defs (F := Ideal)) (onTc (τ := Cert.DiffPlainIdeal.τ) (Cert.DiffPlainIdeal.main (F := Ideal))) ⟨m, fun _ => 0, g⟩ (fun r => (∀ c : Dev Cert.DiffPlainIdeal.nD,
      r.2.mem ((c.tc : Thread Cert.DiffPlainIdeal.nD Cert.DiffPlainIdeal.τ).loc Cert.DiffPlainIdeal.main_arg0) = m ((c.tc : Thread Cert.DiffPlainIdeal.nD Cert.DiffPlainIdeal.τ).loc Cert.DiffPlainIdeal.main_arg0)
      ∧ r.2.mem ((c.tc : Thread Cert.DiffPlainIdeal.nD Cert.DiffPlainIdeal.τ).loc Cert.DiffPlainIdeal.main_arg1) = m ((c.tc : Thread Cert.DiffPlainIdeal.nD Cert.DiffPlainIdeal.τ).loc Cert.DiffPlainIdeal.main_arg1)
      ∧ r.2.mem ((c.tc : Thread Cert.DiffPlainIdeal.nD Cert.DiffPlainIdeal.τ).loc Cert.DiffPlainIdeal.main_arg2) = m ((c.tc : Thread Cert.DiffPlainIdeal.nD Cert.DiffPlainIdeal.τ).loc Cert.DiffPlainIdeal.main_arg2)
      ∧ r.2.mem ((c.tc : Thread Cert.DiffPlainIdeal.nD Cert.DiffPlainIdeal.τ).loc Cert.DiffPlainIdeal.main_arg3) = m ((c.tc : Thread Cert.DiffPlainIdeal.nD Cert.DiffPlainIdeal.τ).loc Cert.DiffPlainIdeal.main_arg3)
      ∧ r.2.mem ((c.tc : Thread Cert.DiffPlainIdeal.nD Cert.DiffPlainIdeal.τ).loc Cert.DiffPlainIdeal.main_arg4) = m ((c.tc : Thread Cert.DiffPlainIdeal.nD Cert.DiffPlainIdeal.τ).loc Cert.DiffPlainIdeal.main_arg4)
      ∧ r.2.mem ((c.tc : Thread Cert.DiffPlainIdeal.nD Cert.DiffPlainIdeal.τ).loc Cert.DiffPlainIdeal.main_arg5) = m ((c.tc : Thread Cert.DiffPlainIdeal.nD Cert.DiffPlainIdeal.τ).loc Cert.DiffPlainIdeal.main_arg5)
      ∧ r.2.mem ((c.tc : Thread Cert.DiffPlainIdeal.nD Cert.DiffPlainIdeal.τ).loc Cert.DiffPlainIdeal.main_arg6) = m ((c.tc : Thread Cert.DiffPlainIdeal.nD Cert.DiffPlainIdeal.τ).loc Cert.DiffPlainIdeal.main_arg6))
      ∧ r.2.sem = fun _ => 0)

def quiescent_Late [hLate : Cert.Late.Facts] : Prop :=
  ∀ (m : (ℓ : Loc Cert.Late.nD Cert.Late.τ Cert.Late.sig) → Buf (Elt Bits) ℓ) (g : Dev Cert.Late.nD → PrngReg), Pre_Late m →
    θ_run (Cert.Late.defs (F := Bits)) (onTc (τ := Cert.Late.τ) (Cert.Late.main (F := Bits))) ⟨m, fun _ => 0, g⟩ (fun r => (∀ c : Dev Cert.Late.nD,
      r.2.mem ((c.tc : Thread Cert.Late.nD Cert.Late.τ).loc Cert.Late.main_arg0) = m ((c.tc : Thread Cert.Late.nD Cert.Late.τ).loc Cert.Late.main_arg0)
      ∧ r.2.mem ((c.tc : Thread Cert.Late.nD Cert.Late.τ).loc Cert.Late.main_arg1) = m ((c.tc : Thread Cert.Late.nD Cert.Late.τ).loc Cert.Late.main_arg1)
      ∧ r.2.mem ((c.tc : Thread Cert.Late.nD Cert.Late.τ).loc Cert.Late.main_arg2) = m ((c.tc : Thread Cert.Late.nD Cert.Late.τ).loc Cert.Late.main_arg2)
      ∧ r.2.mem ((c.tc : Thread Cert.Late.nD Cert.Late.τ).loc Cert.Late.main_arg3) = m ((c.tc : Thread Cert.Late.nD Cert.Late.τ).loc Cert.Late.main_arg3)
      ∧ r.2.mem ((c.tc : Thread Cert.Late.nD Cert.Late.τ).loc Cert.Late.main_arg4) = m ((c.tc : Thread Cert.Late.nD Cert.Late.τ).loc Cert.Late.main_arg4)
      ∧ r.2.mem ((c.tc : Thread Cert.Late.nD Cert.Late.τ).loc Cert.Late.main_arg5) = m ((c.tc : Thread Cert.Late.nD Cert.Late.τ).loc Cert.Late.main_arg5)
      ∧ r.2.mem ((c.tc : Thread Cert.Late.nD Cert.Late.τ).loc Cert.Late.main_arg6) = m ((c.tc : Thread Cert.Late.nD Cert.Late.τ).loc Cert.Late.main_arg6))
      ∧ r.2.sem = fun _ => 0)

def quiescent_LateIdeal [hLateIdeal : Cert.LateIdeal.Facts] : Prop :=
  ∀ (m : (ℓ : Loc Cert.LateIdeal.nD Cert.LateIdeal.τ Cert.LateIdeal.sig) → Buf (Elt Ideal) ℓ) (g : Dev Cert.LateIdeal.nD → PrngReg), Pre_LateIdeal m →
    θ_run (Cert.LateIdeal.defs (F := Ideal)) (onTc (τ := Cert.LateIdeal.τ) (Cert.LateIdeal.main (F := Ideal))) ⟨m, fun _ => 0, g⟩ (fun r => (∀ c : Dev Cert.LateIdeal.nD,
      r.2.mem ((c.tc : Thread Cert.LateIdeal.nD Cert.LateIdeal.τ).loc Cert.LateIdeal.main_arg0) = m ((c.tc : Thread Cert.LateIdeal.nD Cert.LateIdeal.τ).loc Cert.LateIdeal.main_arg0)
      ∧ r.2.mem ((c.tc : Thread Cert.LateIdeal.nD Cert.LateIdeal.τ).loc Cert.LateIdeal.main_arg1) = m ((c.tc : Thread Cert.LateIdeal.nD Cert.LateIdeal.τ).loc Cert.LateIdeal.main_arg1)
      ∧ r.2.mem ((c.tc : Thread Cert.LateIdeal.nD Cert.LateIdeal.τ).loc Cert.LateIdeal.main_arg2) = m ((c.tc : Thread Cert.LateIdeal.nD Cert.LateIdeal.τ).loc Cert.LateIdeal.main_arg2)
      ∧ r.2.mem ((c.tc : Thread Cert.LateIdeal.nD Cert.LateIdeal.τ).loc Cert.LateIdeal.main_arg3) = m ((c.tc : Thread Cert.LateIdeal.nD Cert.LateIdeal.τ).loc Cert.LateIdeal.main_arg3)
      ∧ r.2.mem ((c.tc : Thread Cert.LateIdeal.nD Cert.LateIdeal.τ).loc Cert.LateIdeal.main_arg4) = m ((c.tc : Thread Cert.LateIdeal.nD Cert.LateIdeal.τ).loc Cert.LateIdeal.main_arg4)
      ∧ r.2.mem ((c.tc : Thread Cert.LateIdeal.nD Cert.LateIdeal.τ).loc Cert.LateIdeal.main_arg5) = m ((c.tc : Thread Cert.LateIdeal.nD Cert.LateIdeal.τ).loc Cert.LateIdeal.main_arg5)
      ∧ r.2.mem ((c.tc : Thread Cert.LateIdeal.nD Cert.LateIdeal.τ).loc Cert.LateIdeal.main_arg6) = m ((c.tc : Thread Cert.LateIdeal.nD Cert.LateIdeal.τ).loc Cert.LateIdeal.main_arg6))
      ∧ r.2.sem = fun _ => 0)

def quiescent_LateIdeal_pre_finite_diff [hLateIdeal : Cert.LateIdeal.Facts] [hPre_finite_diff : Cert.Pre_finite_diff.Facts] : Prop :=
  ∀ (m : (ℓ : Loc Cert.LateIdeal.nD Cert.LateIdeal.τ Cert.LateIdeal.sig) → Buf (Elt Ideal) ℓ) (g : Dev Cert.LateIdeal.nD → PrngReg), Pre_LateIdeal_finite_diff m →
    θ_run (Cert.LateIdeal.defs (F := Ideal)) (onTc (τ := Cert.LateIdeal.τ) (Cert.LateIdeal.main (F := Ideal))) ⟨m, fun _ => 0, g⟩ (fun r => (∀ c : Dev Cert.LateIdeal.nD,
      r.2.mem ((c.tc : Thread Cert.LateIdeal.nD Cert.LateIdeal.τ).loc Cert.LateIdeal.main_arg0) = m ((c.tc : Thread Cert.LateIdeal.nD Cert.LateIdeal.τ).loc Cert.LateIdeal.main_arg0)
      ∧ r.2.mem ((c.tc : Thread Cert.LateIdeal.nD Cert.LateIdeal.τ).loc Cert.LateIdeal.main_arg1) = m ((c.tc : Thread Cert.LateIdeal.nD Cert.LateIdeal.τ).loc Cert.LateIdeal.main_arg1)
      ∧ r.2.mem ((c.tc : Thread Cert.LateIdeal.nD Cert.LateIdeal.τ).loc Cert.LateIdeal.main_arg2) = m ((c.tc : Thread Cert.LateIdeal.nD Cert.LateIdeal.τ).loc Cert.LateIdeal.main_arg2)
      ∧ r.2.mem ((c.tc : Thread Cert.LateIdeal.nD Cert.LateIdeal.τ).loc Cert.LateIdeal.main_arg3) = m ((c.tc : Thread Cert.LateIdeal.nD Cert.LateIdeal.τ).loc Cert.LateIdeal.main_arg3)
      ∧ r.2.mem ((c.tc : Thread Cert.LateIdeal.nD Cert.LateIdeal.τ).loc Cert.LateIdeal.main_arg4) = m ((c.tc : Thread Cert.LateIdeal.nD Cert.LateIdeal.τ).loc Cert.LateIdeal.main_arg4)
      ∧ r.2.mem ((c.tc : Thread Cert.LateIdeal.nD Cert.LateIdeal.τ).loc Cert.LateIdeal.main_arg5) = m ((c.tc : Thread Cert.LateIdeal.nD Cert.LateIdeal.τ).loc Cert.LateIdeal.main_arg5)
      ∧ r.2.mem ((c.tc : Thread Cert.LateIdeal.nD Cert.LateIdeal.τ).loc Cert.LateIdeal.main_arg6) = m ((c.tc : Thread Cert.LateIdeal.nD Cert.LateIdeal.τ).loc Cert.LateIdeal.main_arg6))
      ∧ r.2.sem = fun _ => 0)

def quiescent_LatePlainIdeal [hLatePlainIdeal : Cert.LatePlainIdeal.Facts] : Prop :=
  ∀ (m : (ℓ : Loc Cert.LatePlainIdeal.nD Cert.LatePlainIdeal.τ Cert.LatePlainIdeal.sig) → Buf (Elt Ideal) ℓ) (g : Dev Cert.LatePlainIdeal.nD → PrngReg), Pre_LatePlainIdeal m →
    θ_run (Cert.LatePlainIdeal.defs (F := Ideal)) (onTc (τ := Cert.LatePlainIdeal.τ) (Cert.LatePlainIdeal.main (F := Ideal))) ⟨m, fun _ => 0, g⟩ (fun r => (∀ c : Dev Cert.LatePlainIdeal.nD,
      r.2.mem ((c.tc : Thread Cert.LatePlainIdeal.nD Cert.LatePlainIdeal.τ).loc Cert.LatePlainIdeal.main_arg0) = m ((c.tc : Thread Cert.LatePlainIdeal.nD Cert.LatePlainIdeal.τ).loc Cert.LatePlainIdeal.main_arg0)
      ∧ r.2.mem ((c.tc : Thread Cert.LatePlainIdeal.nD Cert.LatePlainIdeal.τ).loc Cert.LatePlainIdeal.main_arg1) = m ((c.tc : Thread Cert.LatePlainIdeal.nD Cert.LatePlainIdeal.τ).loc Cert.LatePlainIdeal.main_arg1)
      ∧ r.2.mem ((c.tc : Thread Cert.LatePlainIdeal.nD Cert.LatePlainIdeal.τ).loc Cert.LatePlainIdeal.main_arg2) = m ((c.tc : Thread Cert.LatePlainIdeal.nD Cert.LatePlainIdeal.τ).loc Cert.LatePlainIdeal.main_arg2)
      ∧ r.2.mem ((c.tc : Thread Cert.LatePlainIdeal.nD Cert.LatePlainIdeal.τ).loc Cert.LatePlainIdeal.main_arg3) = m ((c.tc : Thread Cert.LatePlainIdeal.nD Cert.LatePlainIdeal.τ).loc Cert.LatePlainIdeal.main_arg3)
      ∧ r.2.mem ((c.tc : Thread Cert.LatePlainIdeal.nD Cert.LatePlainIdeal.τ).loc Cert.LatePlainIdeal.main_arg4) = m ((c.tc : Thread Cert.LatePlainIdeal.nD Cert.LatePlainIdeal.τ).loc Cert.LatePlainIdeal.main_arg4)
      ∧ r.2.mem ((c.tc : Thread Cert.LatePlainIdeal.nD Cert.LatePlainIdeal.τ).loc Cert.LatePlainIdeal.main_arg5) = m ((c.tc : Thread Cert.LatePlainIdeal.nD Cert.LatePlainIdeal.τ).loc Cert.LatePlainIdeal.main_arg5)
      ∧ r.2.mem ((c.tc : Thread Cert.LatePlainIdeal.nD Cert.LatePlainIdeal.τ).loc Cert.LatePlainIdeal.main_arg6) = m ((c.tc : Thread Cert.LatePlainIdeal.nD Cert.LatePlainIdeal.τ).loc Cert.LatePlainIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_ProjPlainIdeal [hProjIdeal : Cert.ProjIdeal.Facts] [hProjPlainIdeal : Cert.ProjPlainIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjPlainIdeal.nD Cert.ProjPlainIdeal.τ Cert.ProjPlainIdeal.sig) → Buf (Elt Ideal) ℓ) (g' : Dev Cert.ProjPlainIdeal.nD → PrngReg), Pre_ProjIdeal m →
    (∀ c : Dev Cert.ProjIdeal.nD,
      m' ((c.tc : Thread Cert.ProjPlainIdeal.nD Cert.ProjPlainIdeal.τ).loc Cert.ProjPlainIdeal.main_arg0) = m ((c.tc : Thread Cert.ProjIdeal.nD Cert.ProjIdeal.τ).loc Cert.ProjIdeal.main_arg0)
      ∧ m' ((c.tc : Thread Cert.ProjPlainIdeal.nD Cert.ProjPlainIdeal.τ).loc Cert.ProjPlainIdeal.main_arg1) = m ((c.tc : Thread Cert.ProjIdeal.nD Cert.ProjIdeal.τ).loc Cert.ProjIdeal.main_arg1)
      ∧ m' ((c.tc : Thread Cert.ProjPlainIdeal.nD Cert.ProjPlainIdeal.τ).loc Cert.ProjPlainIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v25)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v25) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjPlainIdeal.defs (F := Ideal)) (onTc (τ := Cert.ProjPlainIdeal.τ) (Cert.ProjPlainIdeal.main (F := Ideal))) ⟨m', fun _ => 0, g'⟩ (fun r => ∀ c : Dev Cert.ProjPlainIdeal.nD,
          r.2.mem ((c.tc : Thread Cert.ProjPlainIdeal.nD Cert.ProjPlainIdeal.τ).loc Cert.ProjPlainIdeal.main_v34) = v0 c
          ∧ r.2.mem ((c.tc : Thread Cert.ProjPlainIdeal.nD Cert.ProjPlainIdeal.τ).loc Cert.ProjPlainIdeal.main_arg0) = m' ((c.tc : Thread Cert.ProjPlainIdeal.nD Cert.ProjPlainIdeal.τ).loc Cert.ProjPlainIdeal.main_arg0)
          ∧ r.2.mem ((c.tc : Thread Cert.ProjPlainIdeal.nD Cert.ProjPlainIdeal.τ).loc Cert.ProjPlainIdeal.main_arg1) = m' ((c.tc : Thread Cert.ProjPlainIdeal.nD Cert.ProjPlainIdeal.τ).loc Cert.ProjPlainIdeal.main_arg1)
          ∧ r.2.mem ((c.tc : Thread Cert.ProjPlainIdeal.nD Cert.ProjPlainIdeal.τ).loc Cert.ProjPlainIdeal.main_arg2) = m' ((c.tc : Thread Cert.ProjPlainIdeal.nD Cert.ProjPlainIdeal.τ).loc Cert.ProjPlainIdeal.main_arg2))

def preserves_Gate_GateIdeal : Prop :=
  True

def algebraic_GateIdeal_GatePlainIdeal [hGateIdeal : Cert.GateIdeal.Facts] [hGatePlainIdeal : Cert.GatePlainIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GatePlainIdeal.nD Cert.GatePlainIdeal.τ Cert.GatePlainIdeal.sig) → Buf (Elt Ideal) ℓ) (g' : Dev Cert.GatePlainIdeal.nD → PrngReg), Pre_GateIdeal m →
    (∀ c : Dev Cert.GateIdeal.nD,
      m' ((c.tc : Thread Cert.GatePlainIdeal.nD Cert.GatePlainIdeal.τ).loc Cert.GatePlainIdeal.main_arg0) = m ((c.tc : Thread Cert.GateIdeal.nD Cert.GateIdeal.τ).loc Cert.GateIdeal.main_arg0)
      ∧ m' ((c.tc : Thread Cert.GatePlainIdeal.nD Cert.GatePlainIdeal.τ).loc Cert.GatePlainIdeal.main_arg1) = m ((c.tc : Thread Cert.GateIdeal.nD Cert.GateIdeal.τ).loc Cert.GateIdeal.main_arg1)
      ∧ m' ((c.tc : Thread Cert.GatePlainIdeal.nD Cert.GatePlainIdeal.τ).loc Cert.GatePlainIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v17)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v17) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GatePlainIdeal.defs (F := Ideal)) (onTc (τ := Cert.GatePlainIdeal.τ) (Cert.GatePlainIdeal.main (F := Ideal))) ⟨m', fun _ => 0, g'⟩ (fun r => ∀ c : Dev Cert.GatePlainIdeal.nD,
          r.2.mem ((c.tc : Thread Cert.GatePlainIdeal.nD Cert.GatePlainIdeal.τ).loc Cert.GatePlainIdeal.main_v29) = v0 c
          ∧ r.2.mem ((c.tc : Thread Cert.GatePlainIdeal.nD Cert.GatePlainIdeal.τ).loc Cert.GatePlainIdeal.main_arg0) = m' ((c.tc : Thread Cert.GatePlainIdeal.nD Cert.GatePlainIdeal.τ).loc Cert.GatePlainIdeal.main_arg0)
          ∧ r.2.mem ((c.tc : Thread Cert.GatePlainIdeal.nD Cert.GatePlainIdeal.τ).loc Cert.GatePlainIdeal.main_arg1) = m' ((c.tc : Thread Cert.GatePlainIdeal.nD Cert.GatePlainIdeal.τ).loc Cert.GatePlainIdeal.main_arg1)
          ∧ r.2.mem ((c.tc : Thread Cert.GatePlainIdeal.nD Cert.GatePlainIdeal.τ).loc Cert.GatePlainIdeal.main_arg2) = m' ((c.tc : Thread Cert.GatePlainIdeal.nD Cert.GatePlainIdeal.τ).loc Cert.GatePlainIdeal.main_arg2))

def preserves_Memory_MemoryIdeal : Prop :=
  True

def algebraic_MemoryIdeal_MemoryPlainIdeal [hMemoryIdeal : Cert.MemoryIdeal.Facts] [hMemoryPlainIdeal : Cert.MemoryPlainIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryPlainIdeal.nD Cert.MemoryPlainIdeal.τ Cert.MemoryPlainIdeal.sig) → Buf (Elt Ideal) ℓ) (g' : Dev Cert.MemoryPlainIdeal.nD → PrngReg), Pre_MemoryIdeal m →
    (∀ c : Dev Cert.MemoryIdeal.nD,
      m' ((c.tc : Thread Cert.MemoryPlainIdeal.nD Cert.MemoryPlainIdeal.τ).loc Cert.MemoryPlainIdeal.main_arg0) = m ((c.tc : Thread Cert.MemoryIdeal.nD Cert.MemoryIdeal.τ).loc Cert.MemoryIdeal.main_arg0)
      ∧ m' ((c.tc : Thread Cert.MemoryPlainIdeal.nD Cert.MemoryPlainIdeal.τ).loc Cert.MemoryPlainIdeal.main_arg1) = m ((c.tc : Thread Cert.MemoryIdeal.nD Cert.MemoryIdeal.τ).loc Cert.MemoryIdeal.main_arg1)
      ∧ m' ((c.tc : Thread Cert.MemoryPlainIdeal.nD Cert.MemoryPlainIdeal.τ).loc Cert.MemoryPlainIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v3)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryPlainIdeal.defs (F := Ideal)) (onTc (τ := Cert.MemoryPlainIdeal.τ) (Cert.MemoryPlainIdeal.main (F := Ideal))) ⟨m', fun _ => 0, g'⟩ (fun r => ∀ c : Dev Cert.MemoryPlainIdeal.nD,
          r.2.mem ((c.tc : Thread Cert.MemoryPlainIdeal.nD Cert.MemoryPlainIdeal.τ).loc Cert.MemoryPlainIdeal.main_v14) = v0 c
          ∧ r.2.mem ((c.tc : Thread Cert.MemoryPlainIdeal.nD Cert.MemoryPlainIdeal.τ).loc Cert.MemoryPlainIdeal.main_arg0) = m' ((c.tc : Thread Cert.MemoryPlainIdeal.nD Cert.MemoryPlainIdeal.τ).loc Cert.MemoryPlainIdeal.main_arg0)
          ∧ r.2.mem ((c.tc : Thread Cert.MemoryPlainIdeal.nD Cert.MemoryPlainIdeal.τ).loc Cert.MemoryPlainIdeal.main_arg1) = m' ((c.tc : Thread Cert.MemoryPlainIdeal.nD Cert.MemoryPlainIdeal.τ).loc Cert.MemoryPlainIdeal.main_arg1)
          ∧ r.2.mem ((c.tc : Thread Cert.MemoryPlainIdeal.nD Cert.MemoryPlainIdeal.τ).loc Cert.MemoryPlainIdeal.main_arg2) = m' ((c.tc : Thread Cert.MemoryPlainIdeal.nD Cert.MemoryPlainIdeal.τ).loc Cert.MemoryPlainIdeal.main_arg2))

def preserves_Diff_DiffIdeal : Prop :=
  IdealRules.named_const.Statement Cert.DiffIdeal.κ "mask" .f32 0xF149F2CA#32 ⊥

def holds_DiffIdeal_matches_diff_pre_finite_diff [hDiffIdeal : Cert.DiffIdeal.Facts] [hPre_finite_diff : Cert.Pre_finite_diff.Facts] [hPost_matches_diff : Cert.Post_matches_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => ∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ (Cert.Post_matches_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (r.2.mem ((c.tc : Thread Cert.DiffIdeal.nD Cert.DiffIdeal.τ).loc Cert.DiffIdeal.main_v198))) = (fun _ => 1#1))

def preserves_Late_LateIdeal : Prop :=
  IdealRules.named_const.Statement Cert.LateIdeal.κ "mask" .f32 0xF149F2CA#32 ⊥

def holds_LateIdeal_matches_late_pre_finite_diff [hLateIdeal : Cert.LateIdeal.Facts] [hPre_finite_diff : Cert.Pre_finite_diff.Facts] [hPost_matches_late : Cert.Post_matches_late.Facts] : Prop :=
  ∀ (m : (ℓ : Loc Cert.LateIdeal.nD Cert.LateIdeal.τ Cert.LateIdeal.sig) → Buf (Elt Ideal) ℓ) (g : Dev Cert.LateIdeal.nD → PrngReg), Pre_LateIdeal_finite_diff m →
    θ_run (Cert.LateIdeal.defs (F := Ideal)) (onTc (τ := Cert.LateIdeal.τ) (Cert.LateIdeal.main (F := Ideal))) ⟨m, fun _ => 0, g⟩ (fun r => ∀ c : Dev Cert.LateIdeal.nD,
      r.2.mem ((c.tc : Thread Cert.LateIdeal.nD Cert.LateIdeal.τ).loc Cert.LateIdeal.main_arg0) = m ((c.tc : Thread Cert.LateIdeal.nD Cert.LateIdeal.τ).loc Cert.LateIdeal.main_arg0)
      ∧ r.2.mem ((c.tc : Thread Cert.LateIdeal.nD Cert.LateIdeal.τ).loc Cert.LateIdeal.main_arg1) = m ((c.tc : Thread Cert.LateIdeal.nD Cert.LateIdeal.τ).loc Cert.LateIdeal.main_arg1)
      ∧ r.2.mem ((c.tc : Thread Cert.LateIdeal.nD Cert.LateIdeal.τ).loc Cert.LateIdeal.main_arg2) = m ((c.tc : Thread Cert.LateIdeal.nD Cert.LateIdeal.τ).loc Cert.LateIdeal.main_arg2)
      ∧ r.2.mem ((c.tc : Thread Cert.LateIdeal.nD Cert.LateIdeal.τ).loc Cert.LateIdeal.main_arg3) = m ((c.tc : Thread Cert.LateIdeal.nD Cert.LateIdeal.τ).loc Cert.LateIdeal.main_arg3)
      ∧ r.2.mem ((c.tc : Thread Cert.LateIdeal.nD Cert.LateIdeal.τ).loc Cert.LateIdeal.main_arg4) = m ((c.tc : Thread Cert.LateIdeal.nD Cert.LateIdeal.τ).loc Cert.LateIdeal.main_arg4)
      ∧ r.2.mem ((c.tc : Thread Cert.LateIdeal.nD Cert.LateIdeal.τ).loc Cert.LateIdeal.main_arg5) = m ((c.tc : Thread Cert.LateIdeal.nD Cert.LateIdeal.τ).loc Cert.LateIdeal.main_arg5)
      ∧ r.2.mem ((c.tc : Thread Cert.LateIdeal.nD Cert.LateIdeal.τ).loc Cert.LateIdeal.main_arg6) = m ((c.tc : Thread Cert.LateIdeal.nD Cert.LateIdeal.τ).loc Cert.LateIdeal.main_arg6)
      ∧ (Cert.Post_matches_late.fn (F := Ideal) (m ((c.tc : Thread Cert.LateIdeal.nD Cert.LateIdeal.τ).loc Cert.LateIdeal.main_arg0)) (m ((c.tc : Thread Cert.LateIdeal.nD Cert.LateIdeal.τ).loc Cert.LateIdeal.main_arg1)) (m ((c.tc : Thread Cert.LateIdeal.nD Cert.LateIdeal.τ).loc Cert.LateIdeal.main_arg2)) (m ((c.tc : Thread Cert.LateIdeal.nD Cert.LateIdeal.τ).loc Cert.LateIdeal.main_arg3)) (m ((c.tc : Thread Cert.LateIdeal.nD Cert.LateIdeal.τ).loc Cert.LateIdeal.main_arg4)) (m ((c.tc : Thread Cert.LateIdeal.nD Cert.LateIdeal.τ).loc Cert.LateIdeal.main_arg5)) (m ((c.tc : Thread Cert.LateIdeal.nD Cert.LateIdeal.τ).loc Cert.LateIdeal.main_arg6)) (r.2.mem ((c.tc : Thread Cert.LateIdeal.nD Cert.LateIdeal.τ).loc Cert.LateIdeal.main_v198))) = (fun _ => 1#1))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjPlainIdeal : Cert.ProjPlainIdeal.Facts) (hGate : Cert.Gate.Facts) (hGateIdeal : Cert.GateIdeal.Facts) (hGatePlainIdeal : Cert.GatePlainIdeal.Facts) (hMemory : Cert.Memory.Facts) (hMemoryIdeal : Cert.MemoryIdeal.Facts) (hMemoryPlainIdeal : Cert.MemoryPlainIdeal.Facts) (hDiff : Cert.Diff.Facts) (hDiffIdeal : Cert.DiffIdeal.Facts) (hDiffPlainIdeal : Cert.DiffPlainIdeal.Facts) (hLate : Cert.Late.Facts) (hLateIdeal : Cert.LateIdeal.Facts) (hLatePlainIdeal : Cert.LatePlainIdeal.Facts) (hPre_finite_args : Cert.Pre_finite_args.Facts) (hPre_finite_diff : Cert.Pre_finite_diff.Facts) (hPost_matches_diff : Cert.Post_matches_diff.Facts) (hPost_matches_late : Cert.Post_matches_late.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Proj (hProj := hProj)
    ∧ quiescent_ProjIdeal (hProjIdeal := hProjIdeal)
    ∧ quiescent_ProjPlainIdeal (hProjPlainIdeal := hProjPlainIdeal)
    ∧ quiescent_Gate (hGate := hGate)
    ∧ quiescent_GateIdeal (hGateIdeal := hGateIdeal)
    ∧ quiescent_GatePlainIdeal (hGatePlainIdeal := hGatePlainIdeal)
    ∧ quiescent_Memory (hMemory := hMemory)
    ∧ quiescent_MemoryIdeal (hMemoryIdeal := hMemoryIdeal)
    ∧ quiescent_MemoryPlainIdeal (hMemoryPlainIdeal := hMemoryPlainIdeal)
    ∧ quiescent_Diff (hDiff := hDiff)
    ∧ quiescent_DiffIdeal (hDiffIdeal := hDiffIdeal)
    ∧ quiescent_DiffIdeal_pre_finite_diff (hDiffIdeal := hDiffIdeal) (hPre_finite_diff := hPre_finite_diff)
    ∧ quiescent_DiffPlainIdeal (hDiffPlainIdeal := hDiffPlainIdeal)
    ∧ quiescent_Late (hLate := hLate)
    ∧ quiescent_LateIdeal (hLateIdeal := hLateIdeal)
    ∧ quiescent_LateIdeal_pre_finite_diff (hLateIdeal := hLateIdeal) (hPre_finite_diff := hPre_finite_diff)
    ∧ quiescent_LatePlainIdeal (hLatePlainIdeal := hLatePlainIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Proj_ProjIdeal
    ∧ algebraic_ProjIdeal_ProjPlainIdeal (hProjIdeal := hProjIdeal) (hProjPlainIdeal := hProjPlainIdeal)
    ∧ preserves_Gate_GateIdeal
    ∧ algebraic_GateIdeal_GatePlainIdeal (hGateIdeal := hGateIdeal) (hGatePlainIdeal := hGatePlainIdeal)
    ∧ preserves_Memory_MemoryIdeal
    ∧ algebraic_MemoryIdeal_MemoryPlainIdeal (hMemoryIdeal := hMemoryIdeal) (hMemoryPlainIdeal := hMemoryPlainIdeal)
    ∧ preserves_Diff_DiffIdeal
    ∧ holds_DiffIdeal_matches_diff_pre_finite_diff (hDiffIdeal := hDiffIdeal) (hPre_finite_diff := hPre_finite_diff) (hPost_matches_diff := hPost_matches_diff)
    ∧ preserves_Late_LateIdeal
    ∧ holds_LateIdeal_matches_late_pre_finite_diff (hLateIdeal := hLateIdeal) (hPre_finite_diff := hPre_finite_diff) (hPost_matches_late := hPost_matches_late)
-- ==== Post_matches_diff.lean ====
abbrev S16384x2688 : Shape := ⟨2, ![16384, 2688]⟩
abbrev S32x12 : Shape := ⟨2, ![32, 12]⟩
abbrev S64 : Shape := ⟨1, ![64]⟩
abbrev S128 : Shape := ⟨1, ![128]⟩
abbrev S16384x512 : Shape := ⟨2, ![16384, 512]⟩
abbrev S16384 : Shape := ⟨1, ![16384]⟩
abbrev S1x16384x4x128 : Shape := ⟨4, ![1, 16384, 4, 128]⟩
abbrev S16384x256 : Shape := ⟨2, ![16384, 256]⟩
abbrev S1x16384x1x256 : Shape := ⟨4, ![1, 16384, 1, 256]⟩
abbrev S_ : Shape := ⟨0, ![]⟩
abbrev S1x16384x1x4x128 : Shape := ⟨5, ![1, 16384, 1, 4, 128]⟩
abbrev S32x4 : Shape := ⟨2, ![32, 4]⟩
abbrev S32x1x4 : Shape := ⟨3, ![32, 1, 4]⟩
abbrev S16384x1 : Shape := ⟨2, ![16384, 1]⟩
abbrev S1x16384 : Shape := ⟨2, ![1, 16384]⟩
abbrev S16384x16384 : Shape := ⟨2, ![16384, 16384]⟩
abbrev S16384x16384x1 : Shape := ⟨3, ![16384, 16384, 1]⟩
abbrev S16384x16384x1x4 : Shape := ⟨4, ![16384, 16384, 1, 4]⟩
abbrev S16384x1x4x16384 : Shape := ⟨4, ![16384, 1, 4, 16384]⟩
abbrev S1x16384x1x1x16384 : Shape := ⟨5, ![1, 16384, 1, 1, 16384]⟩
abbrev S1x16384x1x4x64 : Shape := ⟨5, ![1, 16384, 1, 4, 64]⟩
abbrev S1x16384x1x64 : Shape := ⟨4, ![1, 16384, 1, 64]⟩
abbrev S1x1x16384x16384x4 : Shape := ⟨5, ![1, 1, 16384, 16384, 4]⟩
abbrev S1x16384x1x4x16384 : Shape := ⟨5, ![1, 16384, 1, 4, 16384]⟩
abbrev S1x16384x1x4 : Shape := ⟨4, ![1, 16384, 1, 4]⟩
abbrev S1x16384x1x4x1 : Shape := ⟨5, ![1, 16384, 1, 4, 1]⟩
abbrev S1x16384x1x128 : Shape := ⟨4, ![1, 16384, 1, 128]⟩
abbrev S1x1x128x16384x4 : Shape := ⟨5, ![1, 1, 128, 16384, 4]⟩
abbrev S1x1x1x1x128 : Shape := ⟨5, ![1, 1, 1, 1, 128]⟩

class Facts : Prop where
  slices_S16384x2688_S16384x512_0_512 : S16384x2688.Slices ![0, 512] S16384x512
  shapeCasts_S16384x512_S1x16384x4x128 : S16384x512.ShapeCasts S1x16384x4x128
  slices_S16384x2688_S16384x256_0_1792 : S16384x2688.Slices ![0, 1792] S16384x256
  shapeCasts_S16384x256_S1x16384x1x256 : S16384x256.ShapeCasts S1x16384x1x256
  reducesTo_S64_S_d0 : S64.ReducesTo [0] S_
  h_S_ : 0 < S_.numel
  shapeCasts_S1x16384x4x128_S1x16384x1x4x128 : S1x16384x4x128.ShapeCasts S1x16384x1x4x128
  bcast_S_S1x16384x1x4x128 : S_.BroadcastsInDim S1x16384x1x4x128 (![] : Fin 0 → Fin S1x16384x1x4x128.rank)
  slices_S32x12_S32x4_0_8 : S32x12.Slices ![0, 8] S32x4
  shapeCasts_S32x4_S32x1x4 : S32x4.ShapeCasts S32x1x4
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  bcast_S16384x16384_S16384x16384x1_0_1 : S16384x16384.BroadcastsInDim S16384x16384x1 (![0, 1] : Fin 2 → Fin S16384x16384x1.rank)
  transposes_S16384x16384x1x4_S16384x1x4x16384_0_2_3_1 : S16384x16384x1x4.Transposes [0, 2, 3, 1] S16384x1x4x16384
  bcast_S16384x16384_S1x16384x1x1x16384_1_4 : S16384x16384.BroadcastsInDim S1x16384x1x1x16384 (![1, 4] : Fin 2 → Fin S1x16384x1x1x16384.rank)
  slices_S1x16384x1x4x128_S1x16384x1x4x64_0_0_0_0_0 : S1x16384x1x4x128.Slices ![0, 0, 0, 0, 0] S1x16384x1x4x64
  slices_S1x16384x1x256_S1x16384x1x64_0_0_0_0 : S1x16384x1x256.Slices ![0, 0, 0, 0] S1x16384x1x64
  transposes_S1x1x16384x16384x4_S1x16384x1x4x16384_0_3_1_4_2 : S1x1x16384x16384x4.Transposes [0, 3, 1, 4, 2] S1x16384x1x4x16384
  bcast_S16384x1x4x16384_S1x16384x1x4x16384_1_2_3_4 : S16384x1x4x16384.BroadcastsInDim S1x16384x1x4x16384 (![1, 2, 3, 4] : Fin 4 → Fin S1x16384x1x4x16384.rank)
  slices_S1x16384x1x4x128_S1x16384x1x4x64_0_0_0_0_64 : S1x16384x1x4x128.Slices ![0, 0, 0, 0, 64] S1x16384x1x4x64
  slices_S1x16384x1x256_S1x16384x1x64_0_0_0_64 : S1x16384x1x256.Slices ![0, 0, 0, 64] S1x16384x1x64
  bcast_S1x16384x1x1x16384_S1x16384x1x4x16384_0_1_2_3_4 : S1x16384x1x1x16384.BroadcastsInDim S1x16384x1x4x16384 (![0, 1, 2, 3, 4] : Fin 5 → Fin S1x16384x1x4x16384.rank)
  bcast_S_S1x16384x1x4x16384 : S_.BroadcastsInDim S1x16384x1x4x16384 (![] : Fin 0 → Fin S1x16384x1x4x16384.rank)
  reducesTo_S1x16384x1x4x16384_S1x16384x1x4_d4 : S1x16384x1x4x16384.ReducesTo [4] S1x16384x1x4
  bcast_S1x16384x1x4_S1x16384x1x4x1_0_1_2_3 : S1x16384x1x4.BroadcastsInDim S1x16384x1x4x1 (![0, 1, 2, 3] : Fin 4 → Fin S1x16384x1x4x1.rank)
  bcast_S_S1x16384x1x4x1 : S_.BroadcastsInDim S1x16384x1x4x1 (![] : Fin 0 → Fin S1x16384x1x4x1.rank)
  bcast_S1x16384x1x4x1_S1x16384x1x4x16384_0_1_2_3_4 : S1x16384x1x4x1.BroadcastsInDim S1x16384x1x4x16384 (![0, 1, 2, 3, 4] : Fin 5 → Fin S1x16384x1x4x16384.rank)
  slices_S1x16384x1x256_S1x16384x1x128_0_0_0_128 : S1x16384x1x256.Slices ![0, 0, 0, 128] S1x16384x1x128
  transposes_S1x1x128x16384x4_S1x16384x1x4x128_0_3_1_4_2 : S1x1x128x16384x4.Transposes [0, 3, 1, 4, 2] S1x16384x1x4x128
  reducesTo_S1x16384x1x4x128_S1x16384x1x4_d4 : S1x16384x1x4x128.ReducesTo [4] S1x16384x1x4
  bcast_S1x16384x1x4x1_S1x16384x1x4x128_0_1_2_3_4 : S1x16384x1x4x1.BroadcastsInDim S1x16384x1x4x128 (![0, 1, 2, 3, 4] : Fin 5 → Fin S1x16384x1x4x128.rank)
  bcast_S128_S1x1x1x1x128_4 : S128.BroadcastsInDim S1x1x1x1x128 (![4] : Fin 1 → Fin S1x1x1x1x128.rank)
  bcast_S1x1x1x1x128_S1x16384x1x4x128_0_1_2_3_4 : S1x1x1x1x128.BroadcastsInDim S1x16384x1x4x128 (![0, 1, 2, 3, 4] : Fin 5 → Fin S1x16384x1x4x128.rank)
  shapeCasts_S1x16384x1x4x128_S16384x512 : S1x16384x1x4x128.ShapeCasts S16384x512
  gather_S32x1x4_S16384x16384x1_S16384x16384x1x4_23_0_n_n_0_2_114_wf : GatherDims.WF S32x1x4 S16384x16384x1 S16384x16384x1x4 [2, 3] [0] [] [0] [] 2 ![1, 1, 4]
  dot_S1x16384x1x64_S1x16384x1x4x64_S1x1x16384x16384x4_3_4_1_13_02_02_wf : DotDims.WF S1x16384x1x64 S1x16384x1x4x64 S1x1x16384x16384x4 [3] [4] [1] [1, 3] [0, 2] [0, 2]
  dot_S1x16384x1x128_S1x16384x1x4x16384_S1x1x128x16384x4_1_4_3_13_02_02_wf : DotDims.WF S1x16384x1x128 S1x16384x1x4x16384 S1x1x128x16384x4 [1] [4] [3] [1, 3] [0, 2] [0, 2]

variable [Facts]

def gather_S32x1x4_S16384x16384x1_S16384x16384x1x4_23_0_n_n_0_2_114 : GatherDims S32x1x4 S16384x16384x1 S16384x16384x1x4 where
  offsetDims := [2, 3]
  collapsedSliceDims := [0]
  operandBatchingDims := []
  startIndicesBatchingDims := []
  startIndexMap := [0]
  indexVectorDim := 2
  sliceSizes := ![1, 1, 4]
  wf := gather_S32x1x4_S16384x16384x1_S16384x16384x1x4_23_0_n_n_0_2_114_wf
def dot_S1x16384x1x64_S1x16384x1x4x64_S1x1x16384x16384x4_3_4_1_13_02_02 : DotDims S1x16384x1x64 S1x16384x1x4x64 S1x1x16384x16384x4 where
  lhsContracting := [3]
  rhsContracting := [4]
  lhsNonContracting := [1]
  rhsNonContracting := [1, 3]
  lhsBatch := [0, 2]
  rhsBatch := [0, 2]
  wf := dot_S1x16384x1x64_S1x16384x1x4x64_S1x1x16384x16384x4_3_4_1_13_02_02_wf
def dot_S1x16384x1x128_S1x16384x1x4x16384_S1x1x128x16384x4_1_4_3_13_02_02 : DotDims S1x16384x1x128 S1x16384x1x4x16384 S1x1x128x16384x4 where
  lhsContracting := [1]
  rhsContracting := [4]
  lhsNonContracting := [3]
  rhsNonContracting := [1, 3]
  lhsBatch := [0, 2]
  rhsBatch := [0, 2]
  wf := dot_S1x16384x1x128_S1x16384x1x4x16384_S1x1x128x16384x4_1_4_3_13_02_02_wf
def fn_where {F : FTy → Type} [FloatOps F] (arg0 : IVec S16384x16384 1) (arg1 : IVec S16384x16384 32) (arg2 : IVec S16384x16384 32) : IVec S16384x16384 32 :=
  let v0 : IVec S16384x16384 32 := select arg0 arg1 arg2
  v0

def fn_where_0 {F : FTy → Type} [FloatOps F] (arg0 : IVec S1x16384x1x1x16384 1) (arg1 : FVec F S1x16384x1x4x16384 .f32) (arg2 : FVec F S_ .f32) : FVec F S1x16384x1x4x16384 .f32 :=
  let v0 : FVec F S_ .f32 := id arg2
  let v1 : IVec S1x16384x1x4x16384 1 := broadcastInDim S1x16384x1x4x16384 ![0, 1, 2, 3, 4] bcast_S1x16384x1x1x16384_S1x16384x1x4x16384_0_1_2_3_4 arg0
  let v2 : FVec F S1x16384x1x4x16384 .f32 := broadcastInDim S1x16384x1x4x16384 ![] bcast_S_S1x16384x1x4x16384 v0
  let v3 : FVec F S1x16384x1x4x16384 .f32 := select v1 arg1 v2
  v3

def fn_where_1 {F : FTy → Type} [FloatOps F] (arg0 : IVec S1x16384x1x4x1 1) (arg1 : FVec F S1x16384x1x4x1 .f32) (arg2 : FVec F S_ .f32) : FVec F S1x16384x1x4x1 .f32 :=
  let v0 : FVec F S_ .f32 := id arg2
  let v1 : FVec F S1x16384x1x4x1 .f32 := broadcastInDim S1x16384x1x4x1 ![] bcast_S_S1x16384x1x4x1 v0
  let v2 : FVec F S1x16384x1x4x1 .f32 := select arg0 arg1 v1
  v2

def fn_part6 {F : FTy → Type} [FloatOps F] (main_arg6 : FVec F S128 .f32) (main_arg7 : FVec F S16384x512 .f32) (main_v108 : FVec F S1x16384x1x4x128 .f32) (main_v113 : FVec F S1x16384x1x4x1 .f32) : IVec S16384x512 1 :=
  let main_cst_28 : FVec F S_ .f32 := constant S_ .f32 0x358637BD#32
  let main_v114 : FVec F S1x16384x1x4x1 .f32 := broadcastInDim S1x16384x1x4x1 ![] bcast_S_S1x16384x1x4x1 main_cst_28
  let main_v115 : FVec F S1x16384x1x4x1 .f32 := addf main_v113 main_v114
  let main_v116 : FVec F S1x16384x1x4x1 .f32 := Host.rsqrt main_v115
  let main_v117 : FVec F S1x16384x1x4x128 .f32 := broadcastInDim S1x16384x1x4x128 ![0, 1, 2, 3, 4] bcast_S1x16384x1x4x1_S1x16384x1x4x128_0_1_2_3_4 main_v116
  let main_v118 : FVec F S1x16384x1x4x128 .f32 := mulf main_v108 main_v117
  let main_v119 : FVec F S1x1x1x1x128 .f32 := broadcastInDim S1x1x1x1x128 ![4] bcast_S128_S1x1x1x1x128_4 main_arg6
  let main_v120 : FVec F S1x16384x1x4x128 .f32 := broadcastInDim S1x16384x1x4x128 ![0, 1, 2, 3, 4] bcast_S1x1x1x1x128_S1x16384x1x4x128_0_1_2_3_4 main_v119
  let main_v121 : FVec F S1x16384x1x4x128 .f32 := mulf main_v118 main_v120
  let main_cst_29 : FVec F S_ .f32 := constant S_ .f32 0x3F4CCCCD#32
  let main_v122 : FVec F S1x16384x1x4x128 .f32 := broadcastInDim S1x16384x1x4x128 ![] bcast_S_S1x16384x1x4x128 main_cst_29
  let main_v123 : FVec F S1x16384x1x4x128 .f32 := mulf main_v121 main_v122
  let main_v124 : FVec F S16384x512 .f32 := shapeCast S16384x512 main_v123 shapeCasts_S1x16384x1x4x128_S16384x512
  let main_v125 : IVec S16384x512 1 := cmpf .oeq main_arg7 main_v124
  main_v125

def fn_part5 {F : FTy → Type} [FloatOps F] (main_arg6 : FVec F S128 .f32) (main_arg7 : FVec F S16384x512 .f32) (main_v4 : FVec F S1x16384x1x256 .f32) (main_v12 : FVec F S_ .f32) (main_v56 : IVec S1x16384x1x1x16384 1) (main_v85 : FVec F S1x16384x1x4x16384 .f32) (main_v94 : FVec F S1x16384x1x4x16384 .f32) : IVec S16384x512 1 :=
  let main_v95 : FVec F S1x16384x1x4x16384 .f32 := Host.exp main_v94
  let main_cst_23 : FVec F S_ .f32 := constant S_ .f32 0x00000000#32
  let main_v96 : FVec F S1x16384x1x4x16384 .f32 := fn_where_0 (F := F) main_v56 main_v95 main_cst_23
  let main_cst_24 : FVec F S_ .f32 := constant S_ .f32 0x00000000#32
  let main_v97 : FVec F S1x16384x1x4 .f32 := (fun x v => Host.reduceAdd x v reducesTo_S1x16384x1x4x16384_S1x16384x1x4_d4 h_S_) main_v96 main_cst_24
  let main_v98 : FVec F S1x16384x1x4x1 .f32 := broadcastInDim S1x16384x1x4x1 ![0, 1, 2, 3] bcast_S1x16384x1x4_S1x16384x1x4x1_0_1_2_3 main_v97
  let main_cst_25 : FVec F S_ .f32 := constant S_ .f32 0x00800000#32
  let main_v99 : FVec F S1x16384x1x4x1 .f32 := broadcastInDim S1x16384x1x4x1 ![] bcast_S_S1x16384x1x4x1 main_cst_25
  let main_v100 : FVec F S1x16384x1x4x1 .f32 := maximumf main_v98 main_v99
  let main_v101 : FVec F S1x16384x1x4x16384 .f32 := broadcastInDim S1x16384x1x4x16384 ![0, 1, 2, 3, 4] bcast_S1x16384x1x4x1_S1x16384x1x4x16384_0_1_2_3_4 main_v100
  let main_v102 : FVec F S1x16384x1x4x16384 .f32 := Host.divf main_v96 main_v101
  let main_v103 : FVec F S1x16384x1x4x16384 .f32 := broadcastInDim S1x16384x1x4x16384 ![] bcast_S_S1x16384x1x4x16384 main_v12
  let main_v104 : FVec F S1x16384x1x4x16384 .f32 := mulf main_v103 main_v102
  let main_v105 : FVec F S1x16384x1x4x16384 .f32 := subf main_v85 main_v104
  let main_v106 : FVec F S1x16384x1x128 .f32 := (extractStridedSlice S1x16384x1x128 ![0, 0, 0, 128] · slices_S1x16384x1x256_S1x16384x1x128_0_0_0_128) main_v4
  let main_v107 : FVec F S1x1x128x16384x4 .f32 := (fun l r => Host.dotGeneral dot_S1x16384x1x128_S1x16384x1x4x16384_S1x1x128x16384x4_1_4_3_13_02_02 none l r) main_v106 main_v105
  let main_v108 : FVec F S1x16384x1x4x128 .f32 := (transpose S1x16384x1x4x128 [0, 3, 1, 4, 2] · transposes_S1x1x128x16384x4_S1x16384x1x4x128_0_3_1_4_2) main_v107
  let main_v109 : FVec F S1x16384x1x4x128 .f32 := mulf main_v108 main_v108
  let main_cst_26 : FVec F S_ .f32 := constant S_ .f32 0x00000000#32
  let main_v110 : FVec F S1x16384x1x4 .f32 := (fun x v => Host.reduceAdd x v reducesTo_S1x16384x1x4x128_S1x16384x1x4_d4 h_S_) main_v109 main_cst_26
  let main_v111 : FVec F S1x16384x1x4x1 .f32 := broadcastInDim S1x16384x1x4x1 ![0, 1, 2, 3] bcast_S1x16384x1x4_S1x16384x1x4x1_0_1_2_3 main_v110
  let main_cst_27 : FVec F S_ .f32 := constant S_ .f32 0x43000000#32
  let main_v112 : FVec F S1x16384x1x4x1 .f32 := broadcastInDim S1x16384x1x4x1 ![] bcast_S_S1x16384x1x4x1 main_cst_27
  let main_v113 : FVec F S1x16384x1x4x1 .f32 := Host.divf main_v111 main_v112
  fn_part6 (F := F) main_arg6 main_arg7 main_v108 main_v113

def fn_part4 {F : FTy → Type} [FloatOps F] (main_arg6 : FVec F S128 .f32) (main_arg7 : FVec F S16384x512 .f32) (main_v4 : FVec F S1x16384x1x256 .f32) (main_v12 : FVec F S_ .f32) (main_v56 : IVec S1x16384x1x1x16384 1) (main_v68 : FVec F S1x16384x1x4x16384 .f32) (main_v77 : FVec F S1x16384x1x4x16384 .f32) : IVec S16384x512 1 :=
  let main_v78 : FVec F S1x16384x1x4x16384 .f32 := Host.exp main_v77
  let main_cst_16 : FVec F S_ .f32 := constant S_ .f32 0x00000000#32
  let main_v79 : FVec F S1x16384x1x4x16384 .f32 := fn_where_0 (F := F) main_v56 main_v78 main_cst_16
  let main_cst_17 : FVec F S_ .f32 := constant S_ .f32 0x00000000#32
  let main_v80 : FVec F S1x16384x1x4 .f32 := (fun x v => Host.reduceAdd x v reducesTo_S1x16384x1x4x16384_S1x16384x1x4_d4 h_S_) main_v79 main_cst_17
  let main_v81 : FVec F S1x16384x1x4x1 .f32 := broadcastInDim S1x16384x1x4x1 ![0, 1, 2, 3] bcast_S1x16384x1x4_S1x16384x1x4x1_0_1_2_3 main_v80
  let main_cst_18 : FVec F S_ .f32 := constant S_ .f32 0x00800000#32
  let main_v82 : FVec F S1x16384x1x4x1 .f32 := broadcastInDim S1x16384x1x4x1 ![] bcast_S_S1x16384x1x4x1 main_cst_18
  let main_v83 : FVec F S1x16384x1x4x1 .f32 := maximumf main_v81 main_v82
  let main_v84 : FVec F S1x16384x1x4x16384 .f32 := broadcastInDim S1x16384x1x4x16384 ![0, 1, 2, 3, 4] bcast_S1x16384x1x4x1_S1x16384x1x4x16384_0_1_2_3_4 main_v83
  let main_v85 : FVec F S1x16384x1x4x16384 .f32 := Host.divf main_v79 main_v84
  let main_cst_19 : FVec F S_ .f32 := constant S_ .f32 0xFF800000#32
  let main_v86 : FVec F S1x16384x1x4x16384 .f32 := fn_where_0 (F := F) main_v56 main_v68 main_cst_19
  let main_cst_20 : FVec F S_ .f32 := constant S_ .f32 0xFF800000#32
  let main_v87 : FVec F S1x16384x1x4 .f32 := (fun x v => Host.reduce FloatOps.maximumf x v reducesTo_S1x16384x1x4x16384_S1x16384x1x4_d4 h_S_) main_v86 main_cst_20
  let main_v88 : FVec F S1x16384x1x4x1 .f32 := broadcastInDim S1x16384x1x4x1 ![0, 1, 2, 3] bcast_S1x16384x1x4_S1x16384x1x4x1_0_1_2_3 main_v87
  let main_v89 : FVec F S1x16384x1x4x1 .f32 := Host.absf main_v88
  let main_cst_21 : FVec F S_ .f32 := constant S_ .f32 0x7F800000#32
  let main_v90 : FVec F S1x16384x1x4x1 .f32 := broadcastInDim S1x16384x1x4x1 ![] bcast_S_S1x16384x1x4x1 main_cst_21
  let main_v91 : IVec S1x16384x1x4x1 1 := cmpf .olt main_v89 main_v90
  let main_cst_22 : FVec F S_ .f32 := constant S_ .f32 0x00000000#32
  let main_v92 : FVec F S1x16384x1x4x1 .f32 := fn_where_1 (F := F) main_v91 main_v88 main_cst_22
  let main_v93 : FVec F S1x16384x1x4x16384 .f32 := broadcastInDim S1x16384x1x4x16384 ![0, 1, 2, 3, 4] bcast_S1x16384x1x4x1_S1x16384x1x4x16384_0_1_2_3_4 main_v92
  let main_v94 : FVec F S1x16384x1x4x16384 .f32 := subf main_v86 main_v93
  fn_part5 (F := F) main_arg6 main_arg7 main_v4 main_v12 main_v56 main_v85 main_v94

def fn_part3 {F : FTy → Type} [FloatOps F] (main_arg6 : FVec F S128 .f32) (main_arg7 : FVec F S16384x512 .f32) (main_v4 : FVec F S1x16384x1x256 .f32) (main_v12 : FVec F S_ .f32) (main_v15 : FVec F S1x16384x1x4x128 .f32) (main_v50 : FVec F S16384x1x4x16384 .f32) (main_v56 : IVec S1x16384x1x1x16384 1) (main_v57 : FVec F S1x16384x1x4x64 .f32) : IVec S16384x512 1 :=
  let main_v58 : FVec F S1x16384x1x64 .f32 := (extractStridedSlice S1x16384x1x64 ![0, 0, 0, 0] · slices_S1x16384x1x256_S1x16384x1x64_0_0_0_0) main_v4
  let main_v59 : FVec F S1x1x16384x16384x4 .f32 := (fun l r => Host.dotGeneral dot_S1x16384x1x64_S1x16384x1x4x64_S1x1x16384x16384x4_3_4_1_13_02_02 none l r) main_v58 main_v57
  let main_v60 : FVec F S1x16384x1x4x16384 .f32 := (transpose S1x16384x1x4x16384 [0, 3, 1, 4, 2] · transposes_S1x1x16384x16384x4_S1x16384x1x4x16384_0_3_1_4_2) main_v59
  let main_v61 : FVec F S1x16384x1x4x16384 .f32 := broadcastInDim S1x16384x1x4x16384 ![1, 2, 3, 4] bcast_S16384x1x4x16384_S1x16384x1x4x16384_1_2_3_4 main_v50
  let main_v62 : FVec F S1x16384x1x4x16384 .f32 := addf main_v60 main_v61
  let main_v63 : FVec F S1x16384x1x4x64 .f32 := (extractStridedSlice S1x16384x1x4x64 ![0, 0, 0, 0, 64] · slices_S1x16384x1x4x128_S1x16384x1x4x64_0_0_0_0_64) main_v15
  let main_v64 : FVec F S1x16384x1x64 .f32 := (extractStridedSlice S1x16384x1x64 ![0, 0, 0, 64] · slices_S1x16384x1x256_S1x16384x1x64_0_0_0_64) main_v4
  let main_v65 : FVec F S1x1x16384x16384x4 .f32 := (fun l r => Host.dotGeneral dot_S1x16384x1x64_S1x16384x1x4x64_S1x1x16384x16384x4_3_4_1_13_02_02 none l r) main_v64 main_v63
  let main_v66 : FVec F S1x16384x1x4x16384 .f32 := (transpose S1x16384x1x4x16384 [0, 3, 1, 4, 2] · transposes_S1x1x16384x16384x4_S1x16384x1x4x16384_0_3_1_4_2) main_v65
  let main_v67 : FVec F S1x16384x1x4x16384 .f32 := broadcastInDim S1x16384x1x4x16384 ![1, 2, 3, 4] bcast_S16384x1x4x16384_S1x16384x1x4x16384_1_2_3_4 main_v50
  let main_v68 : FVec F S1x16384x1x4x16384 .f32 := addf main_v66 main_v67
  let main_cst_12 : FVec F S_ .f32 := constant S_ .f32 0xFF800000#32
  let main_v69 : FVec F S1x16384x1x4x16384 .f32 := fn_where_0 (F := F) main_v56 main_v62 main_cst_12
  let main_cst_13 : FVec F S_ .f32 := constant S_ .f32 0xFF800000#32
  let main_v70 : FVec F S1x16384x1x4 .f32 := (fun x v => Host.reduce FloatOps.maximumf x v reducesTo_S1x16384x1x4x16384_S1x16384x1x4_d4 h_S_) main_v69 main_cst_13
  let main_v71 : FVec F S1x16384x1x4x1 .f32 := broadcastInDim S1x16384x1x4x1 ![0, 1, 2, 3] bcast_S1x16384x1x4_S1x16384x1x4x1_0_1_2_3 main_v70
  let main_v72 : FVec F S1x16384x1x4x1 .f32 := Host.absf main_v71
  let main_cst_14 : FVec F S_ .f32 := constant S_ .f32 0x7F800000#32
  let main_v73 : FVec F S1x16384x1x4x1 .f32 := broadcastInDim S1x16384x1x4x1 ![] bcast_S_S1x16384x1x4x1 main_cst_14
  let main_v74 : IVec S1x16384x1x4x1 1 := cmpf .olt main_v72 main_v73
  let main_cst_15 : FVec F S_ .f32 := constant S_ .f32 0x00000000#32
  let main_v75 : FVec F S1x16384x1x4x1 .f32 := fn_where_1 (F := F) main_v74 main_v71 main_cst_15
  let main_v76 : FVec F S1x16384x1x4x16384 .f32 := broadcastInDim S1x16384x1x4x16384 ![0, 1, 2, 3, 4] bcast_S1x16384x1x4x1_S1x16384x1x4x16384_0_1_2_3_4 main_v75
  let main_v77 : FVec F S1x16384x1x4x16384 .f32 := subf main_v69 main_v76
  fn_part4 (F := F) main_arg6 main_arg7 main_v4 main_v12 main_v56 main_v68 main_v77

def fn_part2 {F : FTy → Type} [FloatOps F] (main_arg6 : FVec F S128 .f32) (main_arg7 : FVec F S16384x512 .f32) (main_v0 : IVec S16384 32) (main_v4 : FVec F S1x16384x1x256 .f32) (main_v12 : FVec F S_ .f32) (main_v15 : FVec F S1x16384x1x4x128 .f32) (main_v17 : FVec F S32x1x4 .f32) (main_v24 : IVec S16384x16384 32) (main_v37 : IVec S16384x16384 32) : IVec S16384x512 1 :=
  let main_c_8 : IVec S_ 32 := constantI S_ 32 16#32
  let main_v38 : IVec S16384x16384 32 := broadcastInDim S16384x16384 ![] bcast_S_S16384x16384 main_c_8
  let main_v39 : IVec S16384x16384 1 := cmpi .slt main_v24 main_v38
  let main_c_9 : IVec S_ 32 := constantI S_ 32 31#32
  let main_v40 : IVec S16384x16384 32 := broadcastInDim S16384x16384 ![] bcast_S_S16384x16384 main_c_9
  let main_v41 : IVec S16384x16384 32 := minsi main_v37 main_v40
  let main_v42 : IVec S16384x16384 32 := fn_where (F := F) main_v39 main_v24 main_v41
  let main_c_10 : IVec S_ 32 := constantI S_ 32 0#32
  let main_v43 : IVec S16384x16384 32 := broadcastInDim S16384x16384 ![] bcast_S_S16384x16384 main_c_10
  let main_v44 : IVec S16384x16384 1 := cmpi .slt main_v42 main_v43
  let main_c_11 : IVec S_ 32 := constantI S_ 32 32#32
  let main_v45 : IVec S16384x16384 32 := broadcastInDim S16384x16384 ![] bcast_S_S16384x16384 main_c_11
  let main_v46 : IVec S16384x16384 32 := addi main_v42 main_v45
  let main_v47 : IVec S16384x16384 32 := select main_v44 main_v46 main_v42
  let main_v48 : IVec S16384x16384x1 32 := broadcastInDim S16384x16384x1 ![0, 1] bcast_S16384x16384_S16384x16384x1_0_1 main_v47
  let main_v49 : FVec F S16384x16384x1x4 .f32 := (fun x i => Host.gather gather_S32x1x4_S16384x16384x1_S16384x16384x1x4_23_0_n_n_0_2_114 x i) main_v17 main_v48
  let main_v50 : FVec F S16384x1x4x16384 .f32 := (transpose S16384x1x4x16384 [0, 2, 3, 1] · transposes_S16384x16384x1x4_S16384x1x4x16384_0_2_3_1) main_v49
  let main_v51 : IVec S1x16384 32 := broadcastInDim S1x16384 ![1] bcast_S16384_S1x16384_1 main_v0
  let main_v52 : IVec S16384x1 32 := broadcastInDim S16384x1 ![0] bcast_S16384_S16384x1_0 main_v0
  let main_v53 : IVec S16384x16384 32 := broadcastInDim S16384x16384 ![0, 1] bcast_S1x16384_S16384x16384_0_1 main_v51
  let main_v54 : IVec S16384x16384 32 := broadcastInDim S16384x16384 ![0, 1] bcast_S16384x1_S16384x16384_0_1 main_v52
  let main_v55 : IVec S16384x16384 1 := cmpi .sle main_v53 main_v54
  let main_v56 : IVec S1x16384x1x1x16384 1 := broadcastInDim S1x16384x1x1x16384 ![1, 4] bcast_S16384x16384_S1x16384x1x1x16384_1_4 main_v55
  let main_v57 : FVec F S1x16384x1x4x64 .f32 := (extractStridedSlice S1x16384x1x4x64 ![0, 0, 0, 0, 0] · slices_S1x16384x1x4x128_S1x16384x1x4x64_0_0_0_0_0) main_v15
  fn_part3 (F := F) main_arg6 main_arg7 main_v4 main_v12 main_v15 main_v50 main_v56 main_v57

def fn_part1 {F : FTy → Type} [FloatOps F] (main_arg6 : FVec F S128 .f32) (main_arg7 : FVec F S16384x512 .f32) (main_v0 : IVec S16384 32) (main_v4 : FVec F S1x16384x1x256 .f32) (main_v12 : FVec F S_ .f32) (main_v15 : FVec F S1x16384x1x4x128 .f32) (main_v17 : FVec F S32x1x4 .f32) (main_v18 : IVec S16384x1 32) (main_v19 : IVec S1x16384 32) : IVec S16384x512 1 :=
  let main_v20 : IVec S16384x16384 32 := broadcastInDim S16384x16384 ![0, 1] bcast_S16384x1_S16384x16384_0_1 main_v18
  let main_v21 : IVec S16384x16384 32 := broadcastInDim S16384x16384 ![0, 1] bcast_S1x16384_S16384x16384_0_1 main_v19
  let main_v22 : IVec S16384x16384 32 := subi main_v20 main_v21
  let main_c : IVec S_ 32 := constantI S_ 32 0#32
  let main_v23 : IVec S16384x16384 32 := broadcastInDim S16384x16384 ![] bcast_S_S16384x16384 main_c
  let main_v24 : IVec S16384x16384 32 := maxsi main_v22 main_v23
  let main_c_3 : IVec S_ 32 := constantI S_ 32 16#32
  let main_v25 : IVec S16384x16384 32 := broadcastInDim S16384x16384 ![] bcast_S_S16384x16384 main_c_3
  let main_v26 : IVec S16384x16384 32 := maxsi main_v24 main_v25
  let main_v27 : FVec F S16384x16384 .f32 := sitofp .f32 main_v26
  let main_cst_4 : FVec F S_ .f32 := constant S_ .f32 0x41800000#32
  let main_v28 : FVec F S16384x16384 .f32 := broadcastInDim S16384x16384 ![] bcast_S_S16384x16384 main_cst_4
  let main_v29 : FVec F S16384x16384 .f32 := Host.divf main_v27 main_v28
  let main_v30 : FVec F S16384x16384 .f32 := Host.log main_v29
  let main_cst_5 : FVec F S_ .f32 := constant S_ .f32 0x40051592#32
  let main_v31 : FVec F S16384x16384 .f32 := broadcastInDim S16384x16384 ![] bcast_S_S16384x16384 main_cst_5
  let main_v32 : FVec F S16384x16384 .f32 := Host.divf main_v30 main_v31
  let main_cst_6 : FVec F S_ .f32 := constant S_ .f32 0x41800000#32
  let main_v33 : FVec F S16384x16384 .f32 := broadcastInDim S16384x16384 ![] bcast_S_S16384x16384 main_cst_6
  let main_v34 : FVec F S16384x16384 .f32 := mulf main_v32 main_v33
  let main_v35 : IVec S16384x16384 32 := fptosi 32 main_v34
  let main_c_7 : IVec S_ 32 := constantI S_ 32 16#32
  let main_v36 : IVec S16384x16384 32 := broadcastInDim S16384x16384 ![] bcast_S_S16384x16384 main_c_7
  let main_v37 : IVec S16384x16384 32 := addi main_v36 main_v35
  fn_part2 (F := F) main_arg6 main_arg7 main_v0 main_v4 main_v12 main_v15 main_v17 main_v24 main_v37

def fn {F : FTy → Type} [FloatOps F] (main_arg0 : FVec F S16384x2688 .f32) (main_arg1 : FVec F S32x12 .f32) (main_arg2 : FVec F S64 .f32) (main_arg3 : FVec F S64 .f32) (main_arg4 : FVec F S64 .f32) (main_arg5 : FVec F S64 .f32) (main_arg6 : FVec F S128 .f32) (main_arg7 : FVec F S16384x512 .f32) : IVec S16384x512 1 :=
  let main_v0 : IVec S16384 32 := iotaInDim S16384 32 0
  let main_v1 : FVec F S16384x512 .f32 := (extractStridedSlice S16384x512 ![0, 512] · slices_S16384x2688_S16384x512_0_512) main_arg0
  let main_v2 : FVec F S1x16384x4x128 .f32 := shapeCast S1x16384x4x128 main_v1 shapeCasts_S16384x512_S1x16384x4x128
  let main_v3 : FVec F S16384x256 .f32 := (extractStridedSlice S16384x256 ![0, 1792] · slices_S16384x2688_S16384x256_0_1792) main_arg0
  let main_v4 : FVec F S1x16384x1x256 .f32 := shapeCast S1x16384x1x256 main_v3 shapeCasts_S16384x256_S1x16384x1x256
  let main_v5 : FVec F S64 .f32 := mulf main_arg2 main_arg3
  let main_cst : FVec F S_ .f32 := constant S_ .f32 0x00000000#32
  let main_v6 : FVec F S_ .f32 := (fun x v => Host.reduceAdd x v reducesTo_S64_S_d0 h_S_) main_v5 main_cst
  let main_v7 : FVec F S_ .f32 := Host.exp main_v6
  let main_v8 : FVec F S64 .f32 := mulf main_arg4 main_arg5
  let main_cst_0 : FVec F S_ .f32 := constant S_ .f32 0x00000000#32
  let main_v9 : FVec F S_ .f32 := (fun x v => Host.reduceAdd x v reducesTo_S64_S_d0 h_S_) main_v8 main_cst_0
  let main_v10 : FVec F S_ .f32 := Host.exp main_v9
  let main_v11 : FVec F S_ .f32 := subf main_v7 main_v10
  let main_cst_1 : FVec F S_ .f32 := constant S_ .f32 0x3E4CCCCD#32
  let main_v12 : FVec F S_ .f32 := addf main_v11 main_cst_1
  let main_v13 : FVec F S1x16384x1x4x128 .f32 := shapeCast S1x16384x1x4x128 main_v2 shapeCasts_S1x16384x4x128_S1x16384x1x4x128
  let main_cst_2 : FVec F S_ .f32 := constant S_ .f32 0x3E000000#32
  let main_v14 : FVec F S1x16384x1x4x128 .f32 := broadcastInDim S1x16384x1x4x128 ![] bcast_S_S1x16384x1x4x128 main_cst_2
  let main_v15 : FVec F S1x16384x1x4x128 .f32 := mulf main_v13 main_v14
  let main_v16 : FVec F S32x4 .f32 := (extractStridedSlice S32x4 ![0, 8] · slices_S32x12_S32x4_0_8) main_arg1
  let main_v17 : FVec F S32x1x4 .f32 := shapeCast S32x1x4 main_v16 shapeCasts_S32x4_S32x1x4
  let main_v18 : IVec S16384x1 32 := broadcastInDim S16384x1 ![0] bcast_S16384_S16384x1_0 main_v0
  let main_v19 : IVec S1x16384 32 := broadcastInDim S1x16384 ![1] bcast_S16384_S1x16384_1 main_v0
  fn_part1 (F := F) main_arg6 main_arg7 main_v0 main_v4 main_v12 main_v15 main_v17 main_v18 main_v19
-- ==== Post_matches_late.lean ====
abbrev S16384x2688 : Shape := ⟨2, ![16384, 2688]⟩
abbrev S32x12 : Shape := ⟨2, ![32, 12]⟩
abbrev S64 : Shape := ⟨1, ![64]⟩
abbrev S128 : Shape := ⟨1, ![128]⟩
abbrev S16384x512 : Shape := ⟨2, ![16384, 512]⟩
abbrev S16384 : Shape := ⟨1, ![16384]⟩
abbrev S1x16384x4x128 : Shape := ⟨4, ![1, 16384, 4, 128]⟩
abbrev S16384x256 : Shape := ⟨2, ![16384, 256]⟩
abbrev S1x16384x1x256 : Shape := ⟨4, ![1, 16384, 1, 256]⟩
abbrev S_ : Shape := ⟨0, ![]⟩
abbrev S1x16384x1x4x128 : Shape := ⟨5, ![1, 16384, 1, 4, 128]⟩
abbrev S32x4 : Shape := ⟨2, ![32, 4]⟩
abbrev S32x1x4 : Shape := ⟨3, ![32, 1, 4]⟩
abbrev S16384x1 : Shape := ⟨2, ![16384, 1]⟩
abbrev S1x16384 : Shape := ⟨2, ![1, 16384]⟩
abbrev S16384x16384 : Shape := ⟨2, ![16384, 16384]⟩
abbrev S16384x16384x1 : Shape := ⟨3, ![16384, 16384, 1]⟩
abbrev S16384x16384x1x4 : Shape := ⟨4, ![16384, 16384, 1, 4]⟩
abbrev S16384x1x4x16384 : Shape := ⟨4, ![16384, 1, 4, 16384]⟩
abbrev S1x16384x1x1x16384 : Shape := ⟨5, ![1, 16384, 1, 1, 16384]⟩
abbrev S1x16384x1x4x64 : Shape := ⟨5, ![1, 16384, 1, 4, 64]⟩
abbrev S1x16384x1x64 : Shape := ⟨4, ![1, 16384, 1, 64]⟩
abbrev S1x1x16384x16384x4 : Shape := ⟨5, ![1, 1, 16384, 16384, 4]⟩
abbrev S1x16384x1x4x16384 : Shape := ⟨5, ![1, 16384, 1, 4, 16384]⟩
abbrev S1x16384x1x4 : Shape := ⟨4, ![1, 16384, 1, 4]⟩
abbrev S1x16384x1x4x1 : Shape := ⟨5, ![1, 16384, 1, 4, 1]⟩
abbrev S1x16384x1x128 : Shape := ⟨4, ![1, 16384, 1, 128]⟩
abbrev S1x1x128x16384x4 : Shape := ⟨5, ![1, 1, 128, 16384, 4]⟩
abbrev S1x1x1x1x128 : Shape := ⟨5, ![1, 1, 1, 1, 128]⟩

class Facts : Prop where
  slices_S16384x2688_S16384x512_0_512 : S16384x2688.Slices ![0, 512] S16384x512
  shapeCasts_S16384x512_S1x16384x4x128 : S16384x512.ShapeCasts S1x16384x4x128
  slices_S16384x2688_S16384x256_0_1792 : S16384x2688.Slices ![0, 1792] S16384x256
  shapeCasts_S16384x256_S1x16384x1x256 : S16384x256.ShapeCasts S1x16384x1x256
  reducesTo_S64_S_d0 : S64.ReducesTo [0] S_
  h_S_ : 0 < S_.numel
  shapeCasts_S1x16384x4x128_S1x16384x1x4x128 : S1x16384x4x128.ShapeCasts S1x16384x1x4x128
  bcast_S_S1x16384x1x4x128 : S_.BroadcastsInDim S1x16384x1x4x128 (![] : Fin 0 → Fin S1x16384x1x4x128.rank)
  slices_S32x12_S32x4_0_8 : S32x12.Slices ![0, 8] S32x4
  shapeCasts_S32x4_S32x1x4 : S32x4.ShapeCasts S32x1x4
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  bcast_S16384x16384_S16384x16384x1_0_1 : S16384x16384.BroadcastsInDim S16384x16384x1 (![0, 1] : Fin 2 → Fin S16384x16384x1.rank)
  transposes_S16384x16384x1x4_S16384x1x4x16384_0_2_3_1 : S16384x16384x1x4.Transposes [0, 2, 3, 1] S16384x1x4x16384
  bcast_S16384x16384_S1x16384x1x1x16384_1_4 : S16384x16384.BroadcastsInDim S1x16384x1x1x16384 (![1, 4] : Fin 2 → Fin S1x16384x1x1x16384.rank)
  slices_S1x16384x1x4x128_S1x16384x1x4x64_0_0_0_0_0 : S1x16384x1x4x128.Slices ![0, 0, 0, 0, 0] S1x16384x1x4x64
  slices_S1x16384x1x256_S1x16384x1x64_0_0_0_0 : S1x16384x1x256.Slices ![0, 0, 0, 0] S1x16384x1x64
  transposes_S1x1x16384x16384x4_S1x16384x1x4x16384_0_3_1_4_2 : S1x1x16384x16384x4.Transposes [0, 3, 1, 4, 2] S1x16384x1x4x16384
  bcast_S16384x1x4x16384_S1x16384x1x4x16384_1_2_3_4 : S16384x1x4x16384.BroadcastsInDim S1x16384x1x4x16384 (![1, 2, 3, 4] : Fin 4 → Fin S1x16384x1x4x16384.rank)
  slices_S1x16384x1x4x128_S1x16384x1x4x64_0_0_0_0_64 : S1x16384x1x4x128.Slices ![0, 0, 0, 0, 64] S1x16384x1x4x64
  slices_S1x16384x1x256_S1x16384x1x64_0_0_0_64 : S1x16384x1x256.Slices ![0, 0, 0, 64] S1x16384x1x64
  bcast_S1x16384x1x1x16384_S1x16384x1x4x16384_0_1_2_3_4 : S1x16384x1x1x16384.BroadcastsInDim S1x16384x1x4x16384 (![0, 1, 2, 3, 4] : Fin 5 → Fin S1x16384x1x4x16384.rank)
  bcast_S_S1x16384x1x4x16384 : S_.BroadcastsInDim S1x16384x1x4x16384 (![] : Fin 0 → Fin S1x16384x1x4x16384.rank)
  reducesTo_S1x16384x1x4x16384_S1x16384x1x4_d4 : S1x16384x1x4x16384.ReducesTo [4] S1x16384x1x4
  bcast_S1x16384x1x4_S1x16384x1x4x1_0_1_2_3 : S1x16384x1x4.BroadcastsInDim S1x16384x1x4x1 (![0, 1, 2, 3] : Fin 4 → Fin S1x16384x1x4x1.rank)
  bcast_S_S1x16384x1x4x1 : S_.BroadcastsInDim S1x16384x1x4x1 (![] : Fin 0 → Fin S1x16384x1x4x1.rank)
  bcast_S1x16384x1x4x1_S1x16384x1x4x16384_0_1_2_3_4 : S1x16384x1x4x1.BroadcastsInDim S1x16384x1x4x16384 (![0, 1, 2, 3, 4] : Fin 5 → Fin S1x16384x1x4x16384.rank)
  slices_S1x16384x1x256_S1x16384x1x128_0_0_0_128 : S1x16384x1x256.Slices ![0, 0, 0, 128] S1x16384x1x128
  transposes_S1x1x128x16384x4_S1x16384x1x4x128_0_3_1_4_2 : S1x1x128x16384x4.Transposes [0, 3, 1, 4, 2] S1x16384x1x4x128
  reducesTo_S1x16384x1x4x128_S1x16384x1x4_d4 : S1x16384x1x4x128.ReducesTo [4] S1x16384x1x4
  bcast_S1x16384x1x4x1_S1x16384x1x4x128_0_1_2_3_4 : S1x16384x1x4x1.BroadcastsInDim S1x16384x1x4x128 (![0, 1, 2, 3, 4] : Fin 5 → Fin S1x16384x1x4x128.rank)
  bcast_S128_S1x1x1x1x128_4 : S128.BroadcastsInDim S1x1x1x1x128 (![4] : Fin 1 → Fin S1x1x1x1x128.rank)
  bcast_S1x1x1x1x128_S1x16384x1x4x128_0_1_2_3_4 : S1x1x1x1x128.BroadcastsInDim S1x16384x1x4x128 (![0, 1, 2, 3, 4] : Fin 5 → Fin S1x16384x1x4x128.rank)
  shapeCasts_S1x16384x1x4x128_S16384x512 : S1x16384x1x4x128.ShapeCasts S16384x512
  gather_S32x1x4_S16384x16384x1_S16384x16384x1x4_23_0_n_n_0_2_114_wf : GatherDims.WF S32x1x4 S16384x16384x1 S16384x16384x1x4 [2, 3] [0] [] [0] [] 2 ![1, 1, 4]
  dot_S1x16384x1x64_S1x16384x1x4x64_S1x1x16384x16384x4_3_4_1_13_02_02_wf : DotDims.WF S1x16384x1x64 S1x16384x1x4x64 S1x1x16384x16384x4 [3] [4] [1] [1, 3] [0, 2] [0, 2]
  dot_S1x16384x1x128_S1x16384x1x4x16384_S1x1x128x16384x4_1_4_3_13_02_02_wf : DotDims.WF S1x16384x1x128 S1x16384x1x4x16384 S1x1x128x16384x4 [1] [4] [3] [1, 3] [0, 2] [0, 2]

variable [Facts]

def gather_S32x1x4_S16384x16384x1_S16384x16384x1x4_23_0_n_n_0_2_114 : GatherDims S32x1x4 S16384x16384x1 S16384x16384x1x4 where
  offsetDims := [2, 3]
  collapsedSliceDims := [0]
  operandBatchingDims := []
  startIndicesBatchingDims := []
  startIndexMap := [0]
  indexVectorDim := 2
  sliceSizes := ![1, 1, 4]
  wf := gather_S32x1x4_S16384x16384x1_S16384x16384x1x4_23_0_n_n_0_2_114_wf
def dot_S1x16384x1x64_S1x16384x1x4x64_S1x1x16384x16384x4_3_4_1_13_02_02 : DotDims S1x16384x1x64 S1x16384x1x4x64 S1x1x16384x16384x4 where
  lhsContracting := [3]
  rhsContracting := [4]
  lhsNonContracting := [1]
  rhsNonContracting := [1, 3]
  lhsBatch := [0, 2]
  rhsBatch := [0, 2]
  wf := dot_S1x16384x1x64_S1x16384x1x4x64_S1x1x16384x16384x4_3_4_1_13_02_02_wf
def dot_S1x16384x1x128_S1x16384x1x4x16384_S1x1x128x16384x4_1_4_3_13_02_02 : DotDims S1x16384x1x128 S1x16384x1x4x16384 S1x1x128x16384x4 where
  lhsContracting := [1]
  rhsContracting := [4]
  lhsNonContracting := [3]
  rhsNonContracting := [1, 3]
  lhsBatch := [0, 2]
  rhsBatch := [0, 2]
  wf := dot_S1x16384x1x128_S1x16384x1x4x16384_S1x1x128x16384x4_1_4_3_13_02_02_wf
def fn_where {F : FTy → Type} [FloatOps F] (arg0 : IVec S16384x16384 1) (arg1 : IVec S16384x16384 32) (arg2 : IVec S16384x16384 32) : IVec S16384x16384 32 :=
  let v0 : IVec S16384x16384 32 := select arg0 arg1 arg2
  v0

def fn_where_0 {F : FTy → Type} [FloatOps F] (arg0 : IVec S1x16384x1x1x16384 1) (arg1 : FVec F S1x16384x1x4x16384 .f32) (arg2 : FVec F S_ .f32) : FVec F S1x16384x1x4x16384 .f32 :=
  let v0 : FVec F S_ .f32 := id arg2
  let v1 : IVec S1x16384x1x4x16384 1 := broadcastInDim S1x16384x1x4x16384 ![0, 1, 2, 3, 4] bcast_S1x16384x1x1x16384_S1x16384x1x4x16384_0_1_2_3_4 arg0
  let v2 : FVec F S1x16384x1x4x16384 .f32 := broadcastInDim S1x16384x1x4x16384 ![] bcast_S_S1x16384x1x4x16384 v0
  let v3 : FVec F S1x16384x1x4x16384 .f32 := select v1 arg1 v2
  v3

def fn_where_1 {F : FTy → Type} [FloatOps F] (arg0 : IVec S1x16384x1x4x1 1) (arg1 : FVec F S1x16384x1x4x1 .f32) (arg2 : FVec F S_ .f32) : FVec F S1x16384x1x4x1 .f32 :=
  let v0 : FVec F S_ .f32 := id arg2
  let v1 : FVec F S1x16384x1x4x1 .f32 := broadcastInDim S1x16384x1x4x1 ![] bcast_S_S1x16384x1x4x1 v0
  let v2 : FVec F S1x16384x1x4x1 .f32 := select arg0 arg1 v1
  v2

def fn_part6 {F : FTy → Type} [FloatOps F] (main_arg6 : FVec F S128 .f32) (main_arg7 : FVec F S16384x512 .f32) (main_v108 : FVec F S1x16384x1x4x128 .f32) (main_v113 : FVec F S1x16384x1x4x1 .f32) : IVec S16384x512 1 :=
  let main_cst_28 : FVec F S_ .f32 := constant S_ .f32 0x358637BD#32
  let main_v114 : FVec F S1x16384x1x4x1 .f32 := broadcastInDim S1x16384x1x4x1 ![] bcast_S_S1x16384x1x4x1 main_cst_28
  let main_v115 : FVec F S1x16384x1x4x1 .f32 := addf main_v113 main_v114
  let main_v116 : FVec F S1x16384x1x4x1 .f32 := Host.rsqrt main_v115
  let main_v117 : FVec F S1x16384x1x4x128 .f32 := broadcastInDim S1x16384x1x4x128 ![0, 1, 2, 3, 4] bcast_S1x16384x1x4x1_S1x16384x1x4x128_0_1_2_3_4 main_v116
  let main_v118 : FVec F S1x16384x1x4x128 .f32 := mulf main_v108 main_v117
  let main_v119 : FVec F S1x1x1x1x128 .f32 := broadcastInDim S1x1x1x1x128 ![4] bcast_S128_S1x1x1x1x128_4 main_arg6
  let main_v120 : FVec F S1x16384x1x4x128 .f32 := broadcastInDim S1x16384x1x4x128 ![0, 1, 2, 3, 4] bcast_S1x1x1x1x128_S1x16384x1x4x128_0_1_2_3_4 main_v119
  let main_v121 : FVec F S1x16384x1x4x128 .f32 := mulf main_v118 main_v120
  let main_cst_29 : FVec F S_ .f32 := constant S_ .f32 0x3F24FD5C#32
  let main_v122 : FVec F S1x16384x1x4x128 .f32 := broadcastInDim S1x16384x1x4x128 ![] bcast_S_S1x16384x1x4x128 main_cst_29
  let main_v123 : FVec F S1x16384x1x4x128 .f32 := mulf main_v121 main_v122
  let main_v124 : FVec F S16384x512 .f32 := shapeCast S16384x512 main_v123 shapeCasts_S1x16384x1x4x128_S16384x512
  let main_v125 : IVec S16384x512 1 := cmpf .oeq main_arg7 main_v124
  main_v125

def fn_part5 {F : FTy → Type} [FloatOps F] (main_arg6 : FVec F S128 .f32) (main_arg7 : FVec F S16384x512 .f32) (main_v4 : FVec F S1x16384x1x256 .f32) (main_v12 : FVec F S_ .f32) (main_v56 : IVec S1x16384x1x1x16384 1) (main_v85 : FVec F S1x16384x1x4x16384 .f32) (main_v94 : FVec F S1x16384x1x4x16384 .f32) : IVec S16384x512 1 :=
  let main_v95 : FVec F S1x16384x1x4x16384 .f32 := Host.exp main_v94
  let main_cst_23 : FVec F S_ .f32 := constant S_ .f32 0x00000000#32
  let main_v96 : FVec F S1x16384x1x4x16384 .f32 := fn_where_0 (F := F) main_v56 main_v95 main_cst_23
  let main_cst_24 : FVec F S_ .f32 := constant S_ .f32 0x00000000#32
  let main_v97 : FVec F S1x16384x1x4 .f32 := (fun x v => Host.reduceAdd x v reducesTo_S1x16384x1x4x16384_S1x16384x1x4_d4 h_S_) main_v96 main_cst_24
  let main_v98 : FVec F S1x16384x1x4x1 .f32 := broadcastInDim S1x16384x1x4x1 ![0, 1, 2, 3] bcast_S1x16384x1x4_S1x16384x1x4x1_0_1_2_3 main_v97
  let main_cst_25 : FVec F S_ .f32 := constant S_ .f32 0x00800000#32
  let main_v99 : FVec F S1x16384x1x4x1 .f32 := broadcastInDim S1x16384x1x4x1 ![] bcast_S_S1x16384x1x4x1 main_cst_25
  let main_v100 : FVec F S1x16384x1x4x1 .f32 := maximumf main_v98 main_v99
  let main_v101 : FVec F S1x16384x1x4x16384 .f32 := broadcastInDim S1x16384x1x4x16384 ![0, 1, 2, 3, 4] bcast_S1x16384x1x4x1_S1x16384x1x4x16384_0_1_2_3_4 main_v100
  let main_v102 : FVec F S1x16384x1x4x16384 .f32 := Host.divf main_v96 main_v101
  let main_v103 : FVec F S1x16384x1x4x16384 .f32 := broadcastInDim S1x16384x1x4x16384 ![] bcast_S_S1x16384x1x4x16384 main_v12
  let main_v104 : FVec F S1x16384x1x4x16384 .f32 := mulf main_v103 main_v102
  let main_v105 : FVec F S1x16384x1x4x16384 .f32 := subf main_v85 main_v104
  let main_v106 : FVec F S1x16384x1x128 .f32 := (extractStridedSlice S1x16384x1x128 ![0, 0, 0, 128] · slices_S1x16384x1x256_S1x16384x1x128_0_0_0_128) main_v4
  let main_v107 : FVec F S1x1x128x16384x4 .f32 := (fun l r => Host.dotGeneral dot_S1x16384x1x128_S1x16384x1x4x16384_S1x1x128x16384x4_1_4_3_13_02_02 none l r) main_v106 main_v105
  let main_v108 : FVec F S1x16384x1x4x128 .f32 := (transpose S1x16384x1x4x128 [0, 3, 1, 4, 2] · transposes_S1x1x128x16384x4_S1x16384x1x4x128_0_3_1_4_2) main_v107
  let main_v109 : FVec F S1x16384x1x4x128 .f32 := mulf main_v108 main_v108
  let main_cst_26 : FVec F S_ .f32 := constant S_ .f32 0x00000000#32
  let main_v110 : FVec F S1x16384x1x4 .f32 := (fun x v => Host.reduceAdd x v reducesTo_S1x16384x1x4x128_S1x16384x1x4_d4 h_S_) main_v109 main_cst_26
  let main_v111 : FVec F S1x16384x1x4x1 .f32 := broadcastInDim S1x16384x1x4x1 ![0, 1, 2, 3] bcast_S1x16384x1x4_S1x16384x1x4x1_0_1_2_3 main_v110
  let main_cst_27 : FVec F S_ .f32 := constant S_ .f32 0x43000000#32
  let main_v112 : FVec F S1x16384x1x4x1 .f32 := broadcastInDim S1x16384x1x4x1 ![] bcast_S_S1x16384x1x4x1 main_cst_27
  let main_v113 : FVec F S1x16384x1x4x1 .f32 := Host.divf main_v111 main_v112
  fn_part6 (F := F) main_arg6 main_arg7 main_v108 main_v113

def fn_part4 {F : FTy → Type} [FloatOps F] (main_arg6 : FVec F S128 .f32) (main_arg7 : FVec F S16384x512 .f32) (main_v4 : FVec F S1x16384x1x256 .f32) (main_v12 : FVec F S_ .f32) (main_v56 : IVec S1x16384x1x1x16384 1) (main_v68 : FVec F S1x16384x1x4x16384 .f32) (main_v77 : FVec F S1x16384x1x4x16384 .f32) : IVec S16384x512 1 :=
  let main_v78 : FVec F S1x16384x1x4x16384 .f32 := Host.exp main_v77
  let main_cst_16 : FVec F S_ .f32 := constant S_ .f32 0x00000000#32
  let main_v79 : FVec F S1x16384x1x4x16384 .f32 := fn_where_0 (F := F) main_v56 main_v78 main_cst_16
  let main_cst_17 : FVec F S_ .f32 := constant S_ .f32 0x00000000#32
  let main_v80 : FVec F S1x16384x1x4 .f32 := (fun x v => Host.reduceAdd x v reducesTo_S1x16384x1x4x16384_S1x16384x1x4_d4 h_S_) main_v79 main_cst_17
  let main_v81 : FVec F S1x16384x1x4x1 .f32 := broadcastInDim S1x16384x1x4x1 ![0, 1, 2, 3] bcast_S1x16384x1x4_S1x16384x1x4x1_0_1_2_3 main_v80
  let main_cst_18 : FVec F S_ .f32 := constant S_ .f32 0x00800000#32
  let main_v82 : FVec F S1x16384x1x4x1 .f32 := broadcastInDim S1x16384x1x4x1 ![] bcast_S_S1x16384x1x4x1 main_cst_18
  let main_v83 : FVec F S1x16384x1x4x1 .f32 := maximumf main_v81 main_v82
  let main_v84 : FVec F S1x16384x1x4x16384 .f32 := broadcastInDim S1x16384x1x4x16384 ![0, 1, 2, 3, 4] bcast_S1x16384x1x4x1_S1x16384x1x4x16384_0_1_2_3_4 main_v83
  let main_v85 : FVec F S1x16384x1x4x16384 .f32 := Host.divf main_v79 main_v84
  let main_cst_19 : FVec F S_ .f32 := constant S_ .f32 0xFF800000#32
  let main_v86 : FVec F S1x16384x1x4x16384 .f32 := fn_where_0 (F := F) main_v56 main_v68 main_cst_19
  let main_cst_20 : FVec F S_ .f32 := constant S_ .f32 0xFF800000#32
  let main_v87 : FVec F S1x16384x1x4 .f32 := (fun x v => Host.reduce FloatOps.maximumf x v reducesTo_S1x16384x1x4x16384_S1x16384x1x4_d4 h_S_) main_v86 main_cst_20
  let main_v88 : FVec F S1x16384x1x4x1 .f32 := broadcastInDim S1x16384x1x4x1 ![0, 1, 2, 3] bcast_S1x16384x1x4_S1x16384x1x4x1_0_1_2_3 main_v87
  let main_v89 : FVec F S1x16384x1x4x1 .f32 := Host.absf main_v88
  let main_cst_21 : FVec F S_ .f32 := constant S_ .f32 0x7F800000#32
  let main_v90 : FVec F S1x16384x1x4x1 .f32 := broadcastInDim S1x16384x1x4x1 ![] bcast_S_S1x16384x1x4x1 main_cst_21
  let main_v91 : IVec S1x16384x1x4x1 1 := cmpf .olt main_v89 main_v90
  let main_cst_22 : FVec F S_ .f32 := constant S_ .f32 0x00000000#32
  let main_v92 : FVec F S1x16384x1x4x1 .f32 := fn_where_1 (F := F) main_v91 main_v88 main_cst_22
  let main_v93 : FVec F S1x16384x1x4x16384 .f32 := broadcastInDim S1x16384x1x4x16384 ![0, 1, 2, 3, 4] bcast_S1x16384x1x4x1_S1x16384x1x4x16384_0_1_2_3_4 main_v92
  let main_v94 : FVec F S1x16384x1x4x16384 .f32 := subf main_v86 main_v93
  fn_part5 (F := F) main_arg6 main_arg7 main_v4 main_v12 main_v56 main_v85 main_v94

def fn_part3 {F : FTy → Type} [FloatOps F] (main_arg6 : FVec F S128 .f32) (main_arg7 : FVec F S16384x512 .f32) (main_v4 : FVec F S1x16384x1x256 .f32) (main_v12 : FVec F S_ .f32) (main_v15 : FVec F S1x16384x1x4x128 .f32) (main_v50 : FVec F S16384x1x4x16384 .f32) (main_v56 : IVec S1x16384x1x1x16384 1) (main_v57 : FVec F S1x16384x1x4x64 .f32) : IVec S16384x512 1 :=
  let main_v58 : FVec F S1x16384x1x64 .f32 := (extractStridedSlice S1x16384x1x64 ![0, 0, 0, 0] · slices_S1x16384x1x256_S1x16384x1x64_0_0_0_0) main_v4
  let main_v59 : FVec F S1x1x16384x16384x4 .f32 := (fun l r => Host.dotGeneral dot_S1x16384x1x64_S1x16384x1x4x64_S1x1x16384x16384x4_3_4_1_13_02_02 none l r) main_v58 main_v57
  let main_v60 : FVec F S1x16384x1x4x16384 .f32 := (transpose S1x16384x1x4x16384 [0, 3, 1, 4, 2] · transposes_S1x1x16384x16384x4_S1x16384x1x4x16384_0_3_1_4_2) main_v59
  let main_v61 : FVec F S1x16384x1x4x16384 .f32 := broadcastInDim S1x16384x1x4x16384 ![1, 2, 3, 4] bcast_S16384x1x4x16384_S1x16384x1x4x16384_1_2_3_4 main_v50
  let main_v62 : FVec F S1x16384x1x4x16384 .f32 := addf main_v60 main_v61
  let main_v63 : FVec F S1x16384x1x4x64 .f32 := (extractStridedSlice S1x16384x1x4x64 ![0, 0, 0, 0, 64] · slices_S1x16384x1x4x128_S1x16384x1x4x64_0_0_0_0_64) main_v15
  let main_v64 : FVec F S1x16384x1x64 .f32 := (extractStridedSlice S1x16384x1x64 ![0, 0, 0, 64] · slices_S1x16384x1x256_S1x16384x1x64_0_0_0_64) main_v4
  let main_v65 : FVec F S1x1x16384x16384x4 .f32 := (fun l r => Host.dotGeneral dot_S1x16384x1x64_S1x16384x1x4x64_S1x1x16384x16384x4_3_4_1_13_02_02 none l r) main_v64 main_v63
  let main_v66 : FVec F S1x16384x1x4x16384 .f32 := (transpose S1x16384x1x4x16384 [0, 3, 1, 4, 2] · transposes_S1x1x16384x16384x4_S1x16384x1x4x16384_0_3_1_4_2) main_v65
  let main_v67 : FVec F S1x16384x1x4x16384 .f32 := broadcastInDim S1x16384x1x4x16384 ![1, 2, 3, 4] bcast_S16384x1x4x16384_S1x16384x1x4x16384_1_2_3_4 main_v50
  let main_v68 : FVec F S1x16384x1x4x16384 .f32 := addf main_v66 main_v67
  let main_cst_12 : FVec F S_ .f32 := constant S_ .f32 0xFF800000#32
  let main_v69 : FVec F S1x16384x1x4x16384 .f32 := fn_where_0 (F := F) main_v56 main_v62 main_cst_12
  let main_cst_13 : FVec F S_ .f32 := constant S_ .f32 0xFF800000#32
  let main_v70 : FVec F S1x16384x1x4 .f32 := (fun x v => Host.reduce FloatOps.maximumf x v reducesTo_S1x16384x1x4x16384_S1x16384x1x4_d4 h_S_) main_v69 main_cst_13
  let main_v71 : FVec F S1x16384x1x4x1 .f32 := broadcastInDim S1x16384x1x4x1 ![0, 1, 2, 3] bcast_S1x16384x1x4_S1x16384x1x4x1_0_1_2_3 main_v70
  let main_v72 : FVec F S1x16384x1x4x1 .f32 := Host.absf main_v71
  let main_cst_14 : FVec F S_ .f32 := constant S_ .f32 0x7F800000#32
  let main_v73 : FVec F S1x16384x1x4x1 .f32 := broadcastInDim S1x16384x1x4x1 ![] bcast_S_S1x16384x1x4x1 main_cst_14
  let main_v74 : IVec S1x16384x1x4x1 1 := cmpf .olt main_v72 main_v73
  let main_cst_15 : FVec F S_ .f32 := constant S_ .f32 0x00000000#32
  let main_v75 : FVec F S1x16384x1x4x1 .f32 := fn_where_1 (F := F) main_v74 main_v71 main_cst_15
  let main_v76 : FVec F S1x16384x1x4x16384 .f32 := broadcastInDim S1x16384x1x4x16384 ![0, 1, 2, 3, 4] bcast_S1x16384x1x4x1_S1x16384x1x4x16384_0_1_2_3_4 main_v75
  let main_v77 : FVec F S1x16384x1x4x16384 .f32 := subf main_v69 main_v76
  fn_part4 (F := F) main_arg6 main_arg7 main_v4 main_v12 main_v56 main_v68 main_v77

def fn_part2 {F : FTy → Type} [FloatOps F] (main_arg6 : FVec F S128 .f32) (main_arg7 : FVec F S16384x512 .f32) (main_v0 : IVec S16384 32) (main_v4 : FVec F S1x16384x1x256 .f32) (main_v12 : FVec F S_ .f32) (main_v15 : FVec F S1x16384x1x4x128 .f32) (main_v17 : FVec F S32x1x4 .f32) (main_v24 : IVec S16384x16384 32) (main_v37 : IVec S16384x16384 32) : IVec S16384x512 1 :=
  let main_c_8 : IVec S_ 32 := constantI S_ 32 16#32
  let main_v38 : IVec S16384x16384 32 := broadcastInDim S16384x16384 ![] bcast_S_S16384x16384 main_c_8
  let main_v39 : IVec S16384x16384 1 := cmpi .slt main_v24 main_v38
  let main_c_9 : IVec S_ 32 := constantI S_ 32 31#32
  let main_v40 : IVec S16384x16384 32 := broadcastInDim S16384x16384 ![] bcast_S_S16384x16384 main_c_9
  let main_v41 : IVec S16384x16384 32 := minsi main_v37 main_v40
  let main_v42 : IVec S16384x16384 32 := fn_where (F := F) main_v39 main_v24 main_v41
  let main_c_10 : IVec S_ 32 := constantI S_ 32 0#32
  let main_v43 : IVec S16384x16384 32 := broadcastInDim S16384x16384 ![] bcast_S_S16384x16384 main_c_10
  let main_v44 : IVec S16384x16384 1 := cmpi .slt main_v42 main_v43
  let main_c_11 : IVec S_ 32 := constantI S_ 32 32#32
  let main_v45 : IVec S16384x16384 32 := broadcastInDim S16384x16384 ![] bcast_S_S16384x16384 main_c_11
  let main_v46 : IVec S16384x16384 32 := addi main_v42 main_v45
  let main_v47 : IVec S16384x16384 32 := select main_v44 main_v46 main_v42
  let main_v48 : IVec S16384x16384x1 32 := broadcastInDim S16384x16384x1 ![0, 1] bcast_S16384x16384_S16384x16384x1_0_1 main_v47
  let main_v49 : FVec F S16384x16384x1x4 .f32 := (fun x i => Host.gather gather_S32x1x4_S16384x16384x1_S16384x16384x1x4_23_0_n_n_0_2_114 x i) main_v17 main_v48
  let main_v50 : FVec F S16384x1x4x16384 .f32 := (transpose S16384x1x4x16384 [0, 2, 3, 1] · transposes_S16384x16384x1x4_S16384x1x4x16384_0_2_3_1) main_v49
  let main_v51 : IVec S1x16384 32 := broadcastInDim S1x16384 ![1] bcast_S16384_S1x16384_1 main_v0
  let main_v52 : IVec S16384x1 32 := broadcastInDim S16384x1 ![0] bcast_S16384_S16384x1_0 main_v0
  let main_v53 : IVec S16384x16384 32 := broadcastInDim S16384x16384 ![0, 1] bcast_S1x16384_S16384x16384_0_1 main_v51
  let main_v54 : IVec S16384x16384 32 := broadcastInDim S16384x16384 ![0, 1] bcast_S16384x1_S16384x16384_0_1 main_v52
  let main_v55 : IVec S16384x16384 1 := cmpi .sle main_v53 main_v54
  let main_v56 : IVec S1x16384x1x1x16384 1 := broadcastInDim S1x16384x1x1x16384 ![1, 4] bcast_S16384x16384_S1x16384x1x1x16384_1_4 main_v55
  let main_v57 : FVec F S1x16384x1x4x64 .f32 := (extractStridedSlice S1x16384x1x4x64 ![0, 0, 0, 0, 0] · slices_S1x16384x1x4x128_S1x16384x1x4x64_0_0_0_0_0) main_v15
  fn_part3 (F := F) main_arg6 main_arg7 main_v4 main_v12 main_v15 main_v50 main_v56 main_v57

def fn_part1 {F : FTy → Type} [FloatOps F] (main_arg6 : FVec F S128 .f32) (main_arg7 : FVec F S16384x512 .f32) (main_v0 : IVec S16384 32) (main_v4 : FVec F S1x16384x1x256 .f32) (main_v12 : FVec F S_ .f32) (main_v15 : FVec F S1x16384x1x4x128 .f32) (main_v17 : FVec F S32x1x4 .f32) (main_v18 : IVec S16384x1 32) (main_v19 : IVec S1x16384 32) : IVec S16384x512 1 :=
  let main_v20 : IVec S16384x16384 32 := broadcastInDim S16384x16384 ![0, 1] bcast_S16384x1_S16384x16384_0_1 main_v18
  let main_v21 : IVec S16384x16384 32 := broadcastInDim S16384x16384 ![0, 1] bcast_S1x16384_S16384x16384_0_1 main_v19
  let main_v22 : IVec S16384x16384 32 := subi main_v20 main_v21
  let main_c : IVec S_ 32 := constantI S_ 32 0#32
  let main_v23 : IVec S16384x16384 32 := broadcastInDim S16384x16384 ![] bcast_S_S16384x16384 main_c
  let main_v24 : IVec S16384x16384 32 := maxsi main_v22 main_v23
  let main_c_3 : IVec S_ 32 := constantI S_ 32 16#32
  let main_v25 : IVec S16384x16384 32 := broadcastInDim S16384x16384 ![] bcast_S_S16384x16384 main_c_3
  let main_v26 : IVec S16384x16384 32 := maxsi main_v24 main_v25
  let main_v27 : FVec F S16384x16384 .f32 := sitofp .f32 main_v26
  let main_cst_4 : FVec F S_ .f32 := constant S_ .f32 0x41800000#32
  let main_v28 : FVec F S16384x16384 .f32 := broadcastInDim S16384x16384 ![] bcast_S_S16384x16384 main_cst_4
  let main_v29 : FVec F S16384x16384 .f32 := Host.divf main_v27 main_v28
  let main_v30 : FVec F S16384x16384 .f32 := Host.log main_v29
  let main_cst_5 : FVec F S_ .f32 := constant S_ .f32 0x40051592#32
  let main_v31 : FVec F S16384x16384 .f32 := broadcastInDim S16384x16384 ![] bcast_S_S16384x16384 main_cst_5
  let main_v32 : FVec F S16384x16384 .f32 := Host.divf main_v30 main_v31
  let main_cst_6 : FVec F S_ .f32 := constant S_ .f32 0x41800000#32
  let main_v33 : FVec F S16384x16384 .f32 := broadcastInDim S16384x16384 ![] bcast_S_S16384x16384 main_cst_6
  let main_v34 : FVec F S16384x16384 .f32 := mulf main_v32 main_v33
  let main_v35 : IVec S16384x16384 32 := fptosi 32 main_v34
  let main_c_7 : IVec S_ 32 := constantI S_ 32 16#32
  let main_v36 : IVec S16384x16384 32 := broadcastInDim S16384x16384 ![] bcast_S_S16384x16384 main_c_7
  let main_v37 : IVec S16384x16384 32 := addi main_v36 main_v35
  fn_part2 (F := F) main_arg6 main_arg7 main_v0 main_v4 main_v12 main_v15 main_v17 main_v24 main_v37

def fn {F : FTy → Type} [FloatOps F] (main_arg0 : FVec F S16384x2688 .f32) (main_arg1 : FVec F S32x12 .f32) (main_arg2 : FVec F S64 .f32) (main_arg3 : FVec F S64 .f32) (main_arg4 : FVec F S64 .f32) (main_arg5 : FVec F S64 .f32) (main_arg6 : FVec F S128 .f32) (main_arg7 : FVec F S16384x512 .f32) : IVec S16384x512 1 :=
  let main_v0 : IVec S16384 32 := iotaInDim S16384 32 0
  let main_v1 : FVec F S16384x512 .f32 := (extractStridedSlice S16384x512 ![0, 512] · slices_S16384x2688_S16384x512_0_512) main_arg0
  let main_v2 : FVec F S1x16384x4x128 .f32 := shapeCast S1x16384x4x128 main_v1 shapeCasts_S16384x512_S1x16384x4x128
  let main_v3 : FVec F S16384x256 .f32 := (extractStridedSlice S16384x256 ![0, 1792] · slices_S16384x2688_S16384x256_0_1792) main_arg0
  let main_v4 : FVec F S1x16384x1x256 .f32 := shapeCast S1x16384x1x256 main_v3 shapeCasts_S16384x256_S1x16384x1x256
  let main_v5 : FVec F S64 .f32 := mulf main_arg2 main_arg3
  let main_cst : FVec F S_ .f32 := constant S_ .f32 0x00000000#32
  let main_v6 : FVec F S_ .f32 := (fun x v => Host.reduceAdd x v reducesTo_S64_S_d0 h_S_) main_v5 main_cst
  let main_v7 : FVec F S_ .f32 := Host.exp main_v6
  let main_v8 : FVec F S64 .f32 := mulf main_arg4 main_arg5
  let main_cst_0 : FVec F S_ .f32 := constant S_ .f32 0x00000000#32
  let main_v9 : FVec F S_ .f32 := (fun x v => Host.reduceAdd x v reducesTo_S64_S_d0 h_S_) main_v8 main_cst_0
  let main_v10 : FVec F S_ .f32 := Host.exp main_v9
  let main_v11 : FVec F S_ .f32 := subf main_v7 main_v10
  let main_cst_1 : FVec F S_ .f32 := constant S_ .f32 0x3EB60549#32
  let main_v12 : FVec F S_ .f32 := addf main_v11 main_cst_1
  let main_v13 : FVec F S1x16384x1x4x128 .f32 := shapeCast S1x16384x1x4x128 main_v2 shapeCasts_S1x16384x4x128_S1x16384x1x4x128
  let main_cst_2 : FVec F S_ .f32 := constant S_ .f32 0x3E000000#32
  let main_v14 : FVec F S1x16384x1x4x128 .f32 := broadcastInDim S1x16384x1x4x128 ![] bcast_S_S1x16384x1x4x128 main_cst_2
  let main_v15 : FVec F S1x16384x1x4x128 .f32 := mulf main_v13 main_v14
  let main_v16 : FVec F S32x4 .f32 := (extractStridedSlice S32x4 ![0, 8] · slices_S32x12_S32x4_0_8) main_arg1
  let main_v17 : FVec F S32x1x4 .f32 := shapeCast S32x1x4 main_v16 shapeCasts_S32x4_S32x1x4
  let main_v18 : IVec S16384x1 32 := broadcastInDim S16384x1 ![0] bcast_S16384_S16384x1_0 main_v0
  let main_v19 : IVec S1x16384 32 := broadcastInDim S1x16384 ![1] bcast_S16384_S1x16384_1 main_v0
  fn_part1 (F := F) main_arg6 main_arg7 main_v0 main_v4 main_v12 main_v15 main_v17 main_v18 main_v19
-- ==== Pre_finite_args.lean ====
abbrev S1x16384x8x128 : Shape := ⟨4, ![1, 16384, 8, 128]⟩
abbrev S1x16384x8x32 : Shape := ⟨4, ![1, 16384, 8, 32]⟩
abbrev S1x16384x160 : Shape := ⟨3, ![1, 16384, 160]⟩
abbrev S128x512 : Shape := ⟨2, ![128, 512]⟩
abbrev S_ : Shape := ⟨0, ![]⟩

class Facts : Prop where
  bcast_S_S1x16384x8x128 : S_.BroadcastsInDim S1x16384x8x128 (![] : Fin 0 → Fin S1x16384x8x128.rank)
  bcast_S_S1x16384x8x32 : S_.BroadcastsInDim S1x16384x8x32 (![] : Fin 0 → Fin S1x16384x8x32.rank)
  bcast_S_S1x16384x160 : S_.BroadcastsInDim S1x16384x160 (![] : Fin 0 → Fin S1x16384x160.rank)

variable [Facts]

def fn {F : FTy → Type} [FloatOps F] (main_arg0 : FVec F S1x16384x8x128 .f32) (main_arg1 : FVec F S1x16384x8x32 .f32) (main_arg2 : FVec F S1x16384x160 .f32) (main_arg3 : FVec F S128x512 .f32) : IVec S1x16384x8x128 1 × IVec S1x16384x8x32 1 × IVec S1x16384x160 1 :=
  let main_v0 : FVec F S1x16384x8x128 .f32 := Host.absf main_arg0
  let main_cst : FVec F S_ .f32 := constant S_ .f32 0x7F800000#32
  let main_v1 : FVec F S1x16384x8x128 .f32 := broadcastInDim S1x16384x8x128 ![] bcast_S_S1x16384x8x128 main_cst
  let main_v2 : IVec S1x16384x8x128 1 := cmpf .olt main_v0 main_v1
  let main_v3 : FVec F S1x16384x8x32 .f32 := Host.absf main_arg1
  let main_cst_0 : FVec F S_ .f32 := constant S_ .f32 0x7F800000#32
  let main_v4 : FVec F S1x16384x8x32 .f32 := broadcastInDim S1x16384x8x32 ![] bcast_S_S1x16384x8x32 main_cst_0
  let main_v5 : IVec S1x16384x8x32 1 := cmpf .olt main_v3 main_v4
  let main_v6 : FVec F S1x16384x160 .f32 := Host.absf main_arg2
  let main_cst_1 : FVec F S_ .f32 := constant S_ .f32 0x7F800000#32
  let main_v7 : FVec F S1x16384x160 .f32 := broadcastInDim S1x16384x160 ![] bcast_S_S1x16384x160 main_cst_1
  let main_v8 : IVec S1x16384x160 1 := cmpf .olt main_v6 main_v7
  (main_v2, main_v5, main_v8)
-- ==== Pre_finite_diff.lean ====
abbrev S16384x2688 : Shape := ⟨2, ![16384, 2688]⟩
abbrev S32x12 : Shape := ⟨2, ![32, 12]⟩
abbrev S64 : Shape := ⟨1, ![64]⟩
abbrev S128 : Shape := ⟨1, ![128]⟩
abbrev S16384x512 : Shape := ⟨2, ![16384, 512]⟩
abbrev S16384x256 : Shape := ⟨2, ![16384, 256]⟩
abbrev S32x4 : Shape := ⟨2, ![32, 4]⟩
abbrev S_ : Shape := ⟨0, ![]⟩

class Facts : Prop where
  slices_S16384x2688_S16384x512_0_512 : S16384x2688.Slices ![0, 512] S16384x512
  slices_S16384x2688_S16384x256_0_1792 : S16384x2688.Slices ![0, 1792] S16384x256
  slices_S32x12_S32x4_0_8 : S32x12.Slices ![0, 8] S32x4
  bcast_S_S16384x512 : S_.BroadcastsInDim S16384x512 (![] : Fin 0 → Fin S16384x512.rank)
  bcast_S_S16384x256 : S_.BroadcastsInDim S16384x256 (![] : Fin 0 → Fin S16384x256.rank)
  bcast_S_S32x4 : S_.BroadcastsInDim S32x4 (![] : Fin 0 → Fin S32x4.rank)
  bcast_S_S64 : S_.BroadcastsInDim S64 (![] : Fin 0 → Fin S64.rank)

variable [Facts]

def fn_part1 {F : FTy → Type} [FloatOps F] (main_arg5 : FVec F S64 .f32) (main_v5 : IVec S16384x512 1) (main_v8 : IVec S16384x256 1) (main_v11 : IVec S32x4 1) (main_v14 : IVec S64 1) (main_v17 : IVec S64 1) (main_v18 : FVec F S64 .f32) : IVec S16384x512 1 × IVec S16384x256 1 × IVec S32x4 1 × IVec S64 1 × IVec S64 1 × IVec S64 1 × IVec S64 1 :=
  let main_cst_4 : FVec F S_ .f32 := constant S_ .f32 0x7F800000#32
  let main_v19 : FVec F S64 .f32 := broadcastInDim S64 ![] bcast_S_S64 main_cst_4
  let main_v20 : IVec S64 1 := cmpf .olt main_v18 main_v19
  let main_v21 : FVec F S64 .f32 := Host.absf main_arg5
  let main_cst_5 : FVec F S_ .f32 := constant S_ .f32 0x7F800000#32
  let main_v22 : FVec F S64 .f32 := broadcastInDim S64 ![] bcast_S_S64 main_cst_5
  let main_v23 : IVec S64 1 := cmpf .olt main_v21 main_v22
  (main_v5, main_v8, main_v11, main_v14, main_v17, main_v20, main_v23)

def fn {F : FTy → Type} [FloatOps F] (main_arg0 : FVec F S16384x2688 .f32) (main_arg1 : FVec F S32x12 .f32) (main_arg2 : FVec F S64 .f32) (main_arg3 : FVec F S64 .f32) (main_arg4 : FVec F S64 .f32) (main_arg5 : FVec F S64 .f32) (main_arg6 : FVec F S128 .f32) : IVec S16384x512 1 × IVec S16384x256 1 × IVec S32x4 1 × IVec S64 1 × IVec S64 1 × IVec S64 1 × IVec S64 1 :=
  let main_v0 : FVec F S16384x512 .f32 := (extractStridedSlice S16384x512 ![0, 512] · slices_S16384x2688_S16384x512_0_512) main_arg0
  let main_v1 : FVec F S16384x256 .f32 := (extractStridedSlice S16384x256 ![0, 1792] · slices_S16384x2688_S16384x256_0_1792) main_arg0
  let main_v2 : FVec F S32x4 .f32 := (extractStridedSlice S32x4 ![0, 8] · slices_S32x12_S32x4_0_8) main_arg1
  let main_v3 : FVec F S16384x512 .f32 := Host.absf main_v0
  let main_cst : FVec F S_ .f32 := constant S_ .f32 0x7F800000#32
  let main_v4 : FVec F S16384x512 .f32 := broadcastInDim S16384x512 ![] bcast_S_S16384x512 main_cst
  let main_v5 : IVec S16384x512 1 := cmpf .olt main_v3 main_v4
  let main_v6 : FVec F S16384x256 .f32 := Host.absf main_v1
  let main_cst_0 : FVec F S_ .f32 := constant S_ .f32 0x7F800000#32
  let main_v7 : FVec F S16384x256 .f32 := broadcastInDim S16384x256 ![] bcast_S_S16384x256 main_cst_0
  let main_v8 : IVec S16384x256 1 := cmpf .olt main_v6 main_v7
  let main_v9 : FVec F S32x4 .f32 := Host.absf main_v2
  let main_cst_1 : FVec F S_ .f32 := constant S_ .f32 0x7F800000#32
  let main_v10 : FVec F S32x4 .f32 := broadcastInDim S32x4 ![] bcast_S_S32x4 main_cst_1
  let main_v11 : IVec S32x4 1 := cmpf .olt main_v9 main_v10
  let main_v12 : FVec F S64 .f32 := Host.absf main_arg2
  let main_cst_2 : FVec F S_ .f32 := constant S_ .f32 0x7F800000#32
  let main_v13 : FVec F S64 .f32 := broadcastInDim S64 ![] bcast_S_S64 main_cst_2
  let main_v14 : IVec S64 1 := cmpf .olt main_v12 main_v13
  let main_v15 : FVec F S64 .f32 := Host.absf main_arg3
  let main_cst_3 : FVec F S_ .f32 := constant S_ .f32 0x7F800000#32
  let main_v16 : FVec F S64 .f32 := broadcastInDim S64 ![] bcast_S_S64 main_cst_3
  let main_v17 : IVec S64 1 := cmpf .olt main_v15 main_v16
  let main_v18 : FVec F S64 .f32 := Host.absf main_arg4
  fn_part1 (F := F) main_arg5 main_v5 main_v8 main_v11 main_v14 main_v17 main_v18
-- ==== Kernel.lean ====
abbrev S1x16384x8x128 : Shape := ⟨4, ![1, 16384, 8, 128]⟩
abbrev S1x16384x8x32 : Shape := ⟨4, ![1, 16384, 8, 32]⟩
abbrev S1x16384x160 : Shape := ⟨3, ![1, 16384, 160]⟩
abbrev S128x512 : Shape := ⟨2, ![128, 512]⟩
abbrev S16384x8x128 : Shape := ⟨3, ![16384, 8, 128]⟩
abbrev S8x16384x128 : Shape := ⟨3, ![8, 16384, 128]⟩
abbrev S_ : Shape := ⟨0, ![]⟩
abbrev S16384x8x32 : Shape := ⟨3, ![16384, 8, 32]⟩
abbrev S8x16384x32 : Shape := ⟨3, ![8, 16384, 32]⟩
abbrev S8x16384x96 : Shape := ⟨3, ![8, 16384, 96]⟩
abbrev S8x16384x256 : Shape := ⟨3, ![8, 16384, 256]⟩
abbrev S16384x160 : Shape := ⟨2, ![16384, 160]⟩
abbrev S16384x32 : Shape := ⟨2, ![16384, 32]⟩
abbrev S16384x96 : Shape := ⟨2, ![16384, 96]⟩
abbrev S16384x128 : Shape := ⟨2, ![16384, 128]⟩
abbrev S16384x256 : Shape := ⟨2, ![16384, 256]⟩
abbrev S128x8x64 : Shape := ⟨3, ![128, 8, 64]⟩
abbrev S8x128x64 : Shape := ⟨3, ![8, 128, 64]⟩
abbrev S64x256x256 : Shape := ⟨3, ![64, 256, 256]⟩
abbrev S16384x512 : Shape := ⟨2, ![16384, 512]⟩
abbrev S8x512x256 : Shape := ⟨3, ![8, 512, 256]⟩
abbrev S512x512 : Shape := ⟨2, ![512, 512]⟩
abbrev S16x256x128 : Shape := ⟨3, ![16, 256, 128]⟩
abbrev S16x256x256 : Shape := ⟨3, ![16, 256, 256]⟩
abbrev S1x256x256 : Shape := ⟨3, ![1, 256, 256]⟩
abbrev S256x256 : Shape := ⟨2, ![256, 256]⟩
abbrev S512x256 : Shape := ⟨2, ![512, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S1x128x64 : Shape := ⟨3, ![1, 128, 64]⟩
abbrev S128x64 : Shape := ⟨2, ![128, 64]⟩
abbrev S256x64 : Shape := ⟨2, ![256, 64]⟩

abbrev nBuf : Space → Nat
  | .hbm => 36
  | .vmem => 9
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x32, .f32⟩
  | .hbm, ⟨2, _⟩ => ⟨S1x16384x160, .f32⟩
  | .hbm, ⟨3, _⟩ => ⟨S128x512, .f32⟩
  | .hbm, ⟨4, _⟩ => ⟨S16384x8x128, .f32⟩
  | .hbm, ⟨5, _⟩ => ⟨S8x16384x128, .f32⟩
  | .hbm, ⟨6, _⟩ => ⟨S_, .f32⟩
  | .hbm, ⟨7, _⟩ => ⟨S8x16384x128, .f32⟩
  | .hbm, ⟨8, _⟩ => ⟨S8x16384x128, .f32⟩
  | .hbm, ⟨9, _⟩ => ⟨S8x16384x128, .bf16⟩
  | .hbm, ⟨10, _⟩ => ⟨S16384x8x32, .f32⟩
  | .hbm, ⟨11, _⟩ => ⟨S8x16384x32, .f32⟩
  | .hbm, ⟨12, _⟩ => ⟨S_, .f32⟩
  | .hbm, ⟨13, _⟩ => ⟨S8x16384x32, .f32⟩
  | .hbm, ⟨14, _⟩ => ⟨S8x16384x32, .f32⟩
  | .hbm, ⟨15, _⟩ => ⟨S8x16384x32, .bf16⟩
  | .hbm, ⟨16, _⟩ => ⟨S_, .bf16⟩
  | .hbm, ⟨17, _⟩ => ⟨S8x16384x96, .bf16⟩
  | .hbm, ⟨18, _⟩ => ⟨S8x16384x256, .bf16⟩
  | .hbm, ⟨19, _⟩ => ⟨S16384x160, .f32⟩
  | .hbm, ⟨20, _⟩ => ⟨S16384x160, .bf16⟩
  | .hbm, ⟨21, _⟩ => ⟨S16384x32, .bf16⟩
  | .hbm, ⟨22, _⟩ => ⟨S_, .bf16⟩
  | .hbm, ⟨23, _⟩ => ⟨S16384x96, .bf16⟩
  | .hbm, ⟨24, _⟩ => ⟨S16384x128, .bf16⟩
  | .hbm, ⟨25, _⟩ => ⟨S16384x256, .bf16⟩
  | .hbm, ⟨26, _⟩ => ⟨S128x8x64, .f32⟩
  | .hbm, ⟨27, _⟩ => ⟨S8x128x64, .f32⟩
  | .hbm, ⟨28, _⟩ => ⟨S8x128x64, .bf16⟩
  | .hbm, ⟨29, _⟩ => ⟨S64x256x256, .bf16⟩
  | .hbm, ⟨30, _⟩ => ⟨S64x256x256, .bf16⟩
  | .hbm, ⟨31, _⟩ => ⟨S16384x128, .bf16⟩
  | .hbm, ⟨32, _⟩ => ⟨S_, .bf16⟩
  | .hbm, ⟨33, _⟩ => ⟨S16384x128, .bf16⟩
  | .hbm, ⟨34, _⟩ => ⟨S16384x256, .bf16⟩
  | .hbm, ⟨35, _⟩ => ⟨S16384x512, .f32⟩
  | .local _ .vmem, ⟨0, _⟩ => ⟨S8x512x256, .bf16⟩
  | .local _ .vmem, ⟨1, _⟩ => ⟨S8x512x256, .bf16⟩
  | .local _ .vmem, ⟨2, _⟩ => ⟨S64x256x256, .bf16⟩
  | .local _ .vmem, ⟨3, _⟩ => ⟨S16384x256, .bf16⟩
  | .local _ .vmem, ⟨4, _⟩ => ⟨S8x128x64, .bf16⟩
  | .local _ .vmem, ⟨5, _⟩ => ⟨S512x512, .f32⟩
  | .local _ .vmem, ⟨6, _⟩ => ⟨S512x512, .f32⟩
  | .local _ .vmem, ⟨7, _⟩ => ⟨S16x256x128, .f32⟩
  | .local _ .vmem, ⟨8, _⟩ => ⟨S16x256x256, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

@[reducible] def k0_t1_loop (i : grid0.Coords) : Scf.Loop 32 :=
  let c0_i32_6 : BitVec 32 := 0#32
  let arg0 : BitVec 32 := BitVec.ofNat 32 (i 0).val
  let v8 : BitVec 32 := Scalar.subi arg0 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_7 : BitVec 32 := 1#32
  ⟨c0_i32_6, v12, c1_i32_7⟩
def k0_off1 (i : grid0.Coords) (k0_t1 : Fin (k0_t1_loop i).trips) (c0_i32_429 : BitVec 32) : Fin 3 → Nat :=
  let c2_i32_428 : BitVec 32 := 2#32
  let c0_i32_6 : BitVec 32 := 0#32
  let c1_i32_7 : BitVec 32 := 1#32
  let arg8 : BitVec 32 := Scf.iv c0_i32_6 c1_i32_7 k0_t1
  let v778 : BitVec 32 := Scalar.muli c2_i32_428 arg8
  let v779 : BitVec 32 := Scalar.addi v778 c0_i32_429
  let v780 : Index := Scalar.indexCast v779
  let c0_430 : Index := 0#32
  let c0_431 : Index := 0#32
  ![v780.toNat, 0, 0]
def k0_mult1 (i : grid0.Coords) (k0_t1 : Fin (k0_t1_loop i).trips) : BitVec 32 :=
  let c2_i32_428 : BitVec 32 := 2#32
  let c0_i32_6 : BitVec 32 := 0#32
  let c1_i32_7 : BitVec 32 := 1#32
  let arg8 : BitVec 32 := Scf.iv c0_i32_6 c1_i32_7 k0_t1
  let v778 : BitVec 32 := Scalar.muli c2_i32_428 arg8
  let c256_i32 : BitVec 32 := 256#32
  let v787 : BitVec 32 := Scalar.muli v778 c256_i32
  v787
def k0_off2 (i : grid0.Coords) (k0_t1 : Fin (k0_t1_loop i).trips) : Fin 2 → Nat :=
  let c2_i32_428 : BitVec 32 := 2#32
  let c0_i32_6 : BitVec 32 := 0#32
  let c1_i32_7 : BitVec 32 := 1#32
  let arg8 : BitVec 32 := Scf.iv c0_i32_6 c1_i32_7 k0_t1
  let v778 : BitVec 32 := Scalar.muli c2_i32_428 arg8
  let c256_i32 : BitVec 32 := 256#32
  let v787 : BitVec 32 := Scalar.muli v778 c256_i32
  let v788 : BitVec 32 := v787
  let v789 : Index := Scalar.indexCast v788
  let c0_435 : Index := 0#32
  ![v789.toNat, 0]
@[reducible] def k0_t2_loop (i : grid0.Coords) : Scf.Loop 32 :=
  let c0_i32_6 : BitVec 32 := 0#32
  let arg0 : BitVec 32 := BitVec.ofNat 32 (i 0).val
  let v8 : BitVec 32 := Scalar.subi arg0 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let v9 : BitVec 32 := Scalar.addi c0_i32_6 v8
  let c1_i32_8 : BitVec 32 := 1#32
  ⟨v12, v9, c1_i32_8⟩
def k0_off3 (i : grid0.Coords) (k0_t2 : Fin (k0_t2_loop i).trips) (c0_i32_429 : BitVec 32) : Fin 3 → Nat :=
  let c2_i32_428 : BitVec 32 := 2#32
  let c0_i32_6 : BitVec 32 := 0#32
  let arg0 : BitVec 32 := BitVec.ofNat 32 (i 0).val
  let v8 : BitVec 32 := Scalar.subi arg0 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg8 : BitVec 32 := Scf.iv v12 c1_i32_8 k0_t2
  let v778 : BitVec 32 := Scalar.muli c2_i32_428 arg8
  let v779 : BitVec 32 := Scalar.addi v778 c0_i32_429
  let v780 : Index := Scalar.indexCast v779
  let c0_430 : Index := 0#32
  let c0_431 : Index := 0#32
  ![v780.toNat, 0, 0]
def k0_mult2 (i : grid0.Coords) (k0_t2 : Fin (k0_t2_loop i).trips) : BitVec 32 :=
  let c2_i32_428 : BitVec 32 := 2#32
  let c0_i32_6 : BitVec 32 := 0#32
  let arg0 : BitVec 32 := BitVec.ofNat 32 (i 0).val
  let v8 : BitVec 32 := Scalar.subi arg0 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg8 : BitVec 32 := Scf.iv v12 c1_i32_8 k0_t2
  let v778 : BitVec 32 := Scalar.muli c2_i32_428 arg8
  let c256_i32 : BitVec 32 := 256#32
  let v787 : BitVec 32 := Scalar.muli v778 c256_i32
  v787
def k0_off4 (i : grid0.Coords) (k0_t2 : Fin (k0_t2_loop i).trips) : Fin 2 → Nat :=
  let c2_i32_428 : BitVec 32 := 2#32
  let c0_i32_6 : BitVec 32 := 0#32
  let arg0 : BitVec 32 := BitVec.ofNat 32 (i 0).val
  let v8 : BitVec 32 := Scalar.subi arg0 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg8 : BitVec 32 := Scf.iv v12 c1_i32_8 k0_t2
  let v778 : BitVec 32 := Scalar.muli c2_i32_428 arg8
  let c256_i32 : BitVec 32 := 256#32
  let v787 : BitVec 32 := Scalar.muli v778 c256_i32
  let v788 : BitVec 32 := v787
  let v789 : Index := Scalar.indexCast v788
  let c0_435 : Index := 0#32
  ![v789.toNat, 0]
def k0_off5 (i : grid0.Coords) : Fin 3 → Nat :=
  let c2_i32 : BitVec 32 := 2#32
  let arg0 : BitVec 32 := BitVec.ofNat 32 (i 0).val
  let v16 : BitVec 32 := Scalar.muli c2_i32 arg0
  let v17 : Index := Scalar.indexCast v16
  let c0_9 : Index := 0#32
  let c0_10 : Index := 0#32
  ![v17.toNat, 0, 0]
def k0_off6 (i : grid0.Coords) : Fin 3 → Nat :=
  let c2_i32_11 : BitVec 32 := 2#32
  let arg0 : BitVec 32 := BitVec.ofNat 32 (i 0).val
  let v20 : BitVec 32 := Scalar.muli c2_i32_11 arg0
  let c1_i32_12 : BitVec 32 := 1#32
  let v21 : BitVec 32 := Scalar.addi v20 c1_i32_12
  let v22 : Index := Scalar.indexCast v21
  let c0_13 : Index := 0#32
  let c0_14 : Index := 0#32
  ![v22.toNat, 0, 0]
def k0_mult3 (i : grid0.Coords) : BitVec 32 :=
  let arg0 : BitVec 32 := BitVec.ofNat 32 (i 0).val
  let c512_i32 : BitVec 32 := 512#32
  let v25 : BitVec 32 := Scalar.muli arg0 c512_i32
  v25
def k0_off7 (i : grid0.Coords) : Fin 2 → Nat :=
  let arg0 : BitVec 32 := BitVec.ofNat 32 (i 0).val
  let c512_i32 : BitVec 32 := 512#32
  let v25 : BitVec 32 := Scalar.muli arg0 c512_i32
  let v26 : BitVec 32 := v25
  let v27 : Index := Scalar.indexCast v26
  let c0_15 : Index := 0#32
  ![v27.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x16384x8x128 : Shape := ⟨4, ![1, 16384, 8, 128]⟩
abbrev S1x16384x8x32 : Shape := ⟨4, ![1, 16384, 8, 32]⟩
abbrev S1x16384x160 : Shape := ⟨3, ![1, 16384, 160]⟩
abbrev S128x512 : Shape := ⟨2, ![128, 512]⟩
abbrev S16384 : Shape := ⟨1, ![16384]⟩
abbrev S1x16384x128 : Shape := ⟨3, ![1, 16384, 128]⟩
abbrev S1x16384x32 : Shape := ⟨3, ![1, 16384, 32]⟩
abbrev S1x16384x8x16384 : Shape := ⟨4, ![1, 16384, 8, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S1x16384x1x16384 : Shape := ⟨4, ![1, 16384, 1, 16384]⟩
abbrev S1x16384x8 : Shape := ⟨3, ![1, 16384, 8]⟩
abbrev S1x16384x8x1 : Shape := ⟨4, ![1, 16384, 8, 1]⟩
abbrev S128x8x64 : Shape := ⟨3, ![128, 8, 64]⟩
abbrev S8x64x1x16384 : Shape := ⟨4, ![8, 64, 1, 16384]⟩
abbrev S1x16384x8x64 : Shape := ⟨4, ![1, 16384, 8, 64]⟩
abbrev S16384x512 : Shape := ⟨2, ![16384, 512]⟩

abbrev nBuf : Space → Nat
  | .hbm => 57
  | .vmem => 0
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x32, .f32⟩
  | .hbm, ⟨2, _⟩ => ⟨S1x16384x160, .f32⟩
  | .hbm, ⟨3, _⟩ => ⟨S128x512, .f32⟩
  | .hbm, ⟨4, _⟩ => ⟨S16384, .i32⟩
  | .hbm, ⟨5, _⟩ => ⟨S16384, .i32⟩
  | .hbm, ⟨6, _⟩ => ⟨S1x16384x128, .f32⟩
  | .hbm, ⟨7, _⟩ => ⟨S1x16384x32, .f32⟩
  | .hbm, ⟨8, _⟩ => ⟨S1x16384x8x16384, .f32⟩
  | .hbm, ⟨9, _⟩ => ⟨S1x16384x8x16384, .f32⟩
  | .hbm, ⟨10, _⟩ => ⟨S1x16384x8x16384, .f32⟩
  | .hbm, ⟨11, _⟩ => ⟨S_, .f32⟩
  | .hbm, ⟨12, _⟩ => ⟨S1x16384x8x16384, .f32⟩
  | .hbm, ⟨13, _⟩ => ⟨S1x16384x8x16384, .f32⟩
  | .hbm, ⟨14, _⟩ => ⟨S1x16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S1x16384x1x16384, .i1⟩
  | .hbm, ⟨20, _⟩ => ⟨S_, .f32⟩
  | .hbm, ⟨21, _⟩ => ⟨S_, .f32⟩
  | .hbm, ⟨22, _⟩ => ⟨S1x16384x8x16384, .i1⟩
  | .hbm, ⟨23, _⟩ => ⟨S1x16384x8x16384, .f32⟩
  | .hbm, ⟨24, _⟩ => ⟨S1x16384x8x16384, .f32⟩
  | .hbm, ⟨25, _⟩ => ⟨S_, .f32⟩
  | .hbm, ⟨26, _⟩ => ⟨S1x16384x8, .f32⟩
  | .hbm, ⟨27, _⟩ => ⟨S1x16384x8x1, .f32⟩
  | .hbm, ⟨28, _⟩ => ⟨S1x16384x8x1, .f32⟩
  | .hbm, ⟨29, _⟩ => ⟨S_, .f32⟩
  | .hbm, ⟨30, _⟩ => ⟨S1x16384x8x1, .f32⟩
  | .hbm, ⟨31, _⟩ => ⟨S1x16384x8x1, .i1⟩
  | .hbm, ⟨32, _⟩ => ⟨S_, .f32⟩
  | .hbm, ⟨33, _⟩ => ⟨S_, .f32⟩
  | .hbm, ⟨34, _⟩ => ⟨S1x16384x8x1, .f32⟩
  | .hbm, ⟨35, _⟩ => ⟨S1x16384x8x1, .f32⟩
  | .hbm, ⟨36, _⟩ => ⟨S1x16384x8x16384, .f32⟩
  | .hbm, ⟨37, _⟩ => ⟨S1x16384x8x16384, .f32⟩
  | .hbm, ⟨38, _⟩ => ⟨S1x16384x8x16384, .f32⟩
  | .hbm, ⟨39, _⟩ => ⟨S_, .f32⟩
  | .hbm, ⟨40, _⟩ => ⟨S_, .f32⟩
  | .hbm, ⟨41, _⟩ => ⟨S1x16384x8x16384, .i1⟩
  | .hbm, ⟨42, _⟩ => ⟨S1x16384x8x16384, .f32⟩
  | .hbm, ⟨43, _⟩ => ⟨S1x16384x8x16384, .f32⟩
  | .hbm, ⟨44, _⟩ => ⟨S_, .f32⟩
  | .hbm, ⟨45, _⟩ => ⟨S1x16384x8, .f32⟩
  | .hbm, ⟨46, _⟩ => ⟨S1x16384x8x1, .f32⟩
  | .hbm, ⟨47, _⟩ => ⟨S_, .f32⟩
  | .hbm, ⟨48, _⟩ => ⟨S1x16384x8x1, .f32⟩
  | .hbm, ⟨49, _⟩ => ⟨S1x16384x8x1, .f32⟩
  | .hbm, ⟨50, _⟩ => ⟨S1x16384x8x16384, .f32⟩
  | .hbm, ⟨51, _⟩ => ⟨S1x16384x8x16384, .f32⟩
  | .hbm, ⟨52, _⟩ => ⟨S1x16384x8x128, .f32⟩
  | .hbm, ⟨53, _⟩ => ⟨S128x8x64, .f32⟩
  | .hbm, ⟨54, _⟩ => ⟨S8x64x1x16384, .f32⟩
  | .hbm, ⟨55, _⟩ => ⟨S1x16384x8x64, .f32⟩
  | .hbm, ⟨56, _⟩ => ⟨S16384x512, .f32⟩
  | _, _ => ⟨S1x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proj.lean ====
abbrev S1x16384x1024 : Shape := ⟨3, ![1, 16384, 1024]⟩
abbrev S1024 : Shape := ⟨1, ![1024]⟩
abbrev S1024x8760 : Shape := ⟨2, ![1024, 8760]⟩
abbrev S1024x512 : Shape := ⟨2, ![1024, 512]⟩
abbrev S1024x128 : Shape := ⟨2, ![1024, 128]⟩
abbrev S1024x24 : Shape := ⟨2, ![1024, 24]⟩
abbrev S1024x256 : Shape := ⟨2, ![1024, 256]⟩
abbrev S1024x32 : Shape := ⟨2, ![1024, 32]⟩
abbrev S1024x2048 : Shape := ⟨2, ![1024, 2048]⟩
abbrev S1024x4096 : Shape := ⟨2, ![1024, 4096]⟩
abbrev S1024x8x3 : Shape := ⟨3, ![1024, 8, 3]⟩
abbrev S1024x3x8 : Shape := ⟨3, ![1024, 3, 8]⟩
abbrev S1024x16 : Shape := ⟨2, ![1024, 16]⟩
abbrev S_ : Shape := ⟨0, ![]⟩
abbrev S1024x40 : Shape := ⟨2, ![1024, 40]⟩
abbrev S1024x2688 : Shape := ⟨2, ![1024, 2688]⟩
abbrev S16384x1024 : Shape := ⟨2, ![16384, 1024]⟩
abbrev S1x1024 : Shape := ⟨2, ![1, 1024]⟩
abbrev S16384x2688 : Shape := ⟨2, ![16384, 2688]⟩
abbrev S512x1024 : Shape := ⟨2, ![512, 1024]⟩
abbrev S512x2688 : Shape := ⟨2, ![512, 2688]⟩
abbrev S512 : Shape := ⟨1, ![512]⟩
abbrev S512x1 : Shape := ⟨2, ![512, 1]⟩

abbrev nBuf : Space → Nat
  | .hbm => 30
  | .vmem => 6
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x8760, .f32⟩
  | .hbm, ⟨3, _⟩ => ⟨S1024x512, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x24, .f32⟩
  | .hbm, ⟨8, _⟩ => ⟨S1024x256, .f32⟩
  | .hbm, ⟨9, _⟩ => ⟨S1024x128, .f32⟩
  | .hbm, ⟨10, _⟩ => ⟨S1024x32, .f32⟩
  | .hbm, ⟨11, _⟩ => ⟨S1024x512, .f32⟩
  | .hbm, ⟨12, _⟩ => ⟨S1024x256, .f32⟩
  | .hbm, ⟨13, _⟩ => ⟨S1024x512, .f32⟩
  | .hbm, ⟨14, _⟩ => ⟨S1024x2048, .f32⟩
  | .hbm, ⟨15, _⟩ => ⟨S1024x4096, .f32⟩
  | .hbm, ⟨16, _⟩ => ⟨S1024x8x3, .f32⟩
  | .hbm, ⟨17, _⟩ => ⟨S1024x3x8, .f32⟩
  | .hbm, ⟨18, _⟩ => ⟨S1024x24, .f32⟩
  | .hbm, ⟨19, _⟩ => ⟨S1024x16, .f32⟩
  | .hbm, ⟨20, _⟩ => ⟨S1024x16, .f32⟩
  | .hbm, ⟨21, _⟩ => ⟨S1024x32, .f32⟩
  | .hbm, ⟨22, _⟩ => ⟨S_, .f32⟩
  | .hbm, ⟨23, _⟩ => ⟨S1024x40, .f32⟩
  | .hbm, ⟨24, _⟩ => ⟨S1024x128, .f32⟩
  | .hbm, ⟨25, _⟩ => ⟨S1024x2688, .f32⟩
  | .hbm, ⟨26, _⟩ => ⟨S16384x1024, .f32⟩
  | .hbm, ⟨27, _⟩ => ⟨S1024x2688, .bf16⟩
  | .hbm, ⟨28, _⟩ => ⟨S1x1024, .f32⟩
  | .hbm, ⟨29, _⟩ => ⟨S16384x2688, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x2688, .f32⟩
  | .local _ .vmem, ⟨5, _⟩ => ⟨S512x2688, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjPlainIdeal.lean ====
abbrev S1x16384x1024 : Shape := ⟨3, ![1, 16384, 1024]⟩
abbrev S1024 : Shape := ⟨1, ![1024]⟩
abbrev S1024x8760 : Shape := ⟨2, ![1024, 8760]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x8760 : Shape := ⟨3, ![1, 16384, 8760]⟩
abbrev S1x16384x512 : Shape := ⟨3, ![1, 16384, 512]⟩
abbrev S1x16384x128 : Shape := ⟨3, ![1, 16384, 128]⟩
abbrev S1x16384x24 : Shape := ⟨3, ![1, 16384, 24]⟩
abbrev S1x16384x256 : Shape := ⟨3, ![1, 16384, 256]⟩
abbrev S1x16384x32 : Shape := ⟨3, ![1, 16384, 32]⟩
abbrev S1x16384x2048 : Shape := ⟨3, ![1, 16384, 2048]⟩
abbrev S1x16384x4096 : Shape := ⟨3, ![1, 16384, 4096]⟩
abbrev S1x16384x8 : Shape := ⟨3, ![1, 16384, 8]⟩
abbrev S1x16384x16 : Shape := ⟨3, ![1, 16384, 16]⟩
abbrev S1x16384x40 : Shape := ⟨3, ![1, 16384, 40]⟩
abbrev S1x16384x2688 : Shape := ⟨3, ![1, 16384, 2688]⟩
abbrev S16384x2688 : Shape := ⟨2, ![16384, 2688]⟩

abbrev nBuf : Space → Nat
  | .hbm => 42
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x8760, .f32⟩
  | .hbm, ⟨3, _⟩ => ⟨S1x16384x1024, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x1024, .f32⟩
  | .hbm, ⟨15, _⟩ => ⟨S1x16384x1024, .f32⟩
  | .hbm, ⟨16, _⟩ => ⟨S1x1x1024, .f32⟩
  | .hbm, ⟨17, _⟩ => ⟨S1x16384x1024, .f32⟩
  | .hbm, ⟨18, _⟩ => ⟨S1x16384x1024, .f32⟩
  | .hbm, ⟨19, _⟩ => ⟨S1x16384x8760, .f32⟩
  | .hbm, ⟨20, _⟩ => ⟨S1x16384x512, .f32⟩
  | .hbm, ⟨21, _⟩ => ⟨S1x16384x128, .f32⟩
  | .hbm, ⟨22, _⟩ => ⟨S1x16384x128, .f32⟩
  | .hbm, ⟨23, _⟩ => ⟨S1x16384x128, .f32⟩
  | .hbm, ⟨24, _⟩ => ⟨S1x16384x24, .f32⟩
  | .hbm, ⟨25, _⟩ => ⟨S1x16384x256, .f32⟩
  | .hbm, ⟨26, _⟩ => ⟨S1x16384x128, .f32⟩
  | .hbm, ⟨27, _⟩ => ⟨S1x16384x32, .f32⟩
  | .hbm, ⟨28, _⟩ => ⟨S1x16384x512, .f32⟩
  | .hbm, ⟨29, _⟩ => ⟨S1x16384x256, .f32⟩
  | .hbm, ⟨30, _⟩ => ⟨S1x16384x512, .f32⟩
  | .hbm, ⟨31, _⟩ => ⟨S1x16384x2048, .f32⟩
  | .hbm, ⟨32, _⟩ => ⟨S1x16384x4096, .f32⟩
  | .hbm, ⟨33, _⟩ => ⟨S1x16384x8, .f32⟩
  | .hbm, ⟨34, _⟩ => ⟨S1x16384x8, .f32⟩
  | .hbm, ⟨35, _⟩ => ⟨S1x16384x8, .f32⟩
  | .hbm, ⟨36, _⟩ => ⟨S1x16384x16, .f32⟩
  | .hbm, ⟨37, _⟩ => ⟨S1x16384x16, .f32⟩
  | .hbm, ⟨38, _⟩ => ⟨S_, .f32⟩
  | .hbm, ⟨39, _⟩ => ⟨S1x16384x40, .f32⟩
  | .hbm, ⟨40, _⟩ => ⟨S1x16384x2688, .f32⟩
  | .hbm, ⟨41, _⟩ => ⟨S16384x2688, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Gate.lean ====
abbrev S1x16384x1024 : Shape := ⟨3, ![1, 16384, 1024]⟩
abbrev S1024 : Shape := ⟨1, ![1024]⟩
abbrev S1024x8760 : Shape := ⟨2, ![1024, 8760]⟩
abbrev S1024x512 : Shape := ⟨2, ![1024, 512]⟩
abbrev S1024x128 : Shape := ⟨2, ![1024, 128]⟩
abbrev S1024x24 : Shape := ⟨2, ![1024, 24]⟩
abbrev S1024x256 : Shape := ⟨2, ![1024, 256]⟩
abbrev S1024x32 : Shape := ⟨2, ![1024, 32]⟩
abbrev S1024x2048 : Shape := ⟨2, ![1024, 2048]⟩
abbrev S1024x4096 : Shape := ⟨2, ![1024, 4096]⟩
abbrev S1024x6144 : Shape := ⟨2, ![1024, 6144]⟩
abbrev S16384x1024 : Shape := ⟨2, ![16384, 1024]⟩
abbrev S1x1024 : Shape := ⟨2, ![1, 1024]⟩
abbrev S16384x6144 : Shape := ⟨2, ![16384, 6144]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 7
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x8760, .f32⟩
  | .hbm, ⟨3, _⟩ => ⟨S1024x512, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x24, .f32⟩
  | .hbm, ⟨8, _⟩ => ⟨S1024x256, .f32⟩
  | .hbm, ⟨9, _⟩ => ⟨S1024x128, .f32⟩
  | .hbm, ⟨10, _⟩ => ⟨S1024x32, .f32⟩
  | .hbm, ⟨11, _⟩ => ⟨S1024x512, .f32⟩
  | .hbm, ⟨12, _⟩ => ⟨S1024x256, .f32⟩
  | .hbm, ⟨13, _⟩ => ⟨S1024x512, .f32⟩
  | .hbm, ⟨14, _⟩ => ⟨S1024x2048, .f32⟩
  | .hbm, ⟨15, _⟩ => ⟨S1024x4096, .f32⟩
  | .hbm, ⟨16, _⟩ => ⟨S1024x6144, .f32⟩
  | .hbm, ⟨17, _⟩ => ⟨S16384x1024, .f32⟩
  | .hbm, ⟨18, _⟩ => ⟨S1024x6144, .bf16⟩
  | .hbm, ⟨19, _⟩ => ⟨S1x1024, .f32⟩
  | .hbm, ⟨20, _⟩ => ⟨S16384x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S512x2048, .bf16⟩
  | .local _ .vmem, ⟨6, _⟩ => ⟨S512x2048, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatePlainIdeal.lean ====
abbrev S1x16384x1024 : Shape := ⟨3, ![1, 16384, 1024]⟩
abbrev S1024 : Shape := ⟨1, ![1024]⟩
abbrev S1024x8760 : Shape := ⟨2, ![1024, 8760]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x8760 : Shape := ⟨3, ![1, 16384, 8760]⟩
abbrev S1x16384x512 : Shape := ⟨3, ![1, 16384, 512]⟩
abbrev S1x16384x128 : Shape := ⟨3, ![1, 16384, 128]⟩
abbrev S1x16384x24 : Shape := ⟨3, ![1, 16384, 24]⟩
abbrev S1x16384x256 : Shape := ⟨3, ![1, 16384, 256]⟩
abbrev S1x16384x32 : Shape := ⟨3, ![1, 16384, 32]⟩
abbrev S1x16384x2048 : Shape := ⟨3, ![1, 16384, 2048]⟩
abbrev S1x16384x4096 : Shape := ⟨3, ![1, 16384, 4096]⟩
abbrev S1x16384x6144 : Shape := ⟨3, ![1, 16384, 6144]⟩
abbrev S16384x6144 : Shape := ⟨2, ![16384, 6144]⟩

abbrev nBuf : Space → Nat
  | .hbm => 36
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x8760, .f32⟩
  | .hbm, ⟨3, _⟩ => ⟨S1x16384x1024, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x1024, .f32⟩
  | .hbm, ⟨15, _⟩ => ⟨S1x16384x1024, .f32⟩
  | .hbm, ⟨16, _⟩ => ⟨S1x1x1024, .f32⟩
  | .hbm, ⟨17, _⟩ => ⟨S1x16384x1024, .f32⟩
  | .hbm, ⟨18, _⟩ => ⟨S1x16384x1024, .f32⟩
  | .hbm, ⟨19, _⟩ => ⟨S1x16384x8760, .f32⟩
  | .hbm, ⟨20, _⟩ => ⟨S1x16384x512, .f32⟩
  | .hbm, ⟨21, _⟩ => ⟨S1x16384x128, .f32⟩
  | .hbm, ⟨22, _⟩ => ⟨S1x16384x128, .f32⟩
  | .hbm, ⟨23, _⟩ => ⟨S1x16384x128, .f32⟩
  | .hbm, ⟨24, _⟩ => ⟨S1x16384x24, .f32⟩
  | .hbm, ⟨25, _⟩ => ⟨S1x16384x256, .f32⟩
  | .hbm, ⟨26, _⟩ => ⟨S1x16384x128, .f32⟩
  | .hbm, ⟨27, _⟩ => ⟨S1x16384x32, .f32⟩
  | .hbm, ⟨28, _⟩ => ⟨S1x16384x512, .f32⟩
  | .hbm, ⟨29, _⟩ => ⟨S1x16384x256, .f32⟩
  | .hbm, ⟨30, _⟩ => ⟨S1x16384x512, .f32⟩
  | .hbm, ⟨31, _⟩ => ⟨S1x16384x2048, .f32⟩
  | .hbm, ⟨32, _⟩ => ⟨S1x16384x4096, .f32⟩
  | .hbm, ⟨33, _⟩ => ⟨S1x16384x6144, .f32⟩
  | .hbm, ⟨34, _⟩ => ⟨S16384x6144, .f32⟩
  | .hbm, ⟨35, _⟩ => ⟨S16384x6144, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Memory.lean ====
abbrev S1x256x1024 : Shape := ⟨3, ![1, 256, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 4
  | .smem => 0
  | _ => 0

abbrev bufTy : (tb : Table) → Fin (tcTables nBuf tb) → BufTy
  | .hbm, ⟨0, _⟩ => ⟨S1x256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S1024x1024, .bf16⟩
  | .hbm, ⟨5, _⟩ => ⟨S1x1024, .f32⟩
  | .hbm, ⟨6, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== MemoryPlainIdeal.lean ====
abbrev S1x256x1024 : Shape := ⟨3, ![1, 256, 1024]⟩
abbrev S1024 : Shape := ⟨1, ![1024]⟩
abbrev S1024x1024 : Shape := ⟨2, ![1024, 1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S256x1024 : Shape := ⟨2, ![256, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024, .f32⟩
  | .hbm, ⟨2, _⟩ => ⟨S1024x1024, .f32⟩
  | .hbm, ⟨3, _⟩ => ⟨S1x256x1024, .f32⟩
  | .hbm, ⟨4, _⟩ => ⟨S_, .f32⟩
  | .hbm, ⟨5, _⟩ => ⟨S1x256, .f32⟩
  | .hbm, ⟨6, _⟩ => ⟨S1x256x1, .f32⟩
  | .hbm, ⟨7, _⟩ => ⟨S_, .f32⟩
  | .hbm, ⟨8, _⟩ => ⟨S1x256x1, .f32⟩
  | .hbm, ⟨9, _⟩ => ⟨S1x256x1, .f32⟩
  | .hbm, ⟨10, _⟩ => ⟨S_, .f32⟩
  | .hbm, ⟨11, _⟩ => ⟨S1x256x1, .f32⟩
  | .hbm, ⟨12, _⟩ => ⟨S1x256x1, .f32⟩
  | .hbm, ⟨13, _⟩ => ⟨S1x256x1, .f32⟩
  | .hbm, ⟨14, _⟩ => ⟨S1x256x1024, .f32⟩
  | .hbm, ⟨15, _⟩ => ⟨S1x256x1024, .f32⟩
  | .hbm, ⟨16, _⟩ => ⟨S1x1x1024, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Diff.lean ====
abbrev S16384x2688 : Shape := ⟨2, ![16384, 2688]⟩
abbrev S32x12 : Shape := ⟨2, ![32, 12]⟩
abbrev S64 : Shape := ⟨1, ![64]⟩
abbrev S128 : Shape := ⟨1, ![128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S1x2x256x256 : Shape := ⟨4, ![1, 2, 256, 256]⟩
abbrev S32x4 : Shape := ⟨2, ![32, 4]⟩
abbrev S32x4x1x1x1 : Shape := ⟨5, ![32, 4, 1, 1, 1]⟩
abbrev S1x4x1x1x1 : Shape := ⟨5, ![1, 4, 1, 1, 1]⟩
abbrev S4x1x1x1 : Shape := ⟨4, ![4, 1, 1, 1]⟩
abbrev S4x2x256x256 : Shape := ⟨4, ![4, 2, 256, 256]⟩
abbrev S1x64 : Shape := ⟨2, ![1, 64]⟩
abbrev S4x64 : Shape := ⟨2, ![4, 64]⟩
abbrev S16384x256 : Shape := ⟨2, ![16384, 256]⟩
abbrev S16384x128 : Shape := ⟨2, ![16384, 128]⟩
abbrev S64x256x128 : Shape := ⟨3, ![64, 256, 128]⟩
abbrev S64x128x256 : Shape := ⟨3, ![64, 128, 256]⟩
abbrev S1x128 : Shape := ⟨2, ![1, 128]⟩
abbrev S16384x512 : Shape := ⟨2, ![16384, 512]⟩
abbrev S512x512 : Shape := ⟨2, ![512, 512]⟩
abbrev S16x256x128 : Shape := ⟨3, ![16, 256, 128]⟩
abbrev S16x256x256 : Shape := ⟨3, ![16, 256, 256]⟩
abbrev S256x512 : Shape := ⟨2, ![256, 512]⟩
abbrev S256x128 : Shape := ⟨2, ![256, 128]⟩
abbrev S2048x128 : Shape := ⟨2, ![2048, 128]⟩
abbrev S1x256x128 : Shape := ⟨3, ![1, 256, 128]⟩
abbrev S1x128x256 : Shape := ⟨3, ![1, 128, 256]⟩
abbrev S128x256 : Shape := ⟨2, ![128, 256]⟩
abbrev S512x256 : Shape := ⟨2, ![512, 256]⟩
abbrev S1x1x256x256 : Shape := ⟨4, ![1, 1, 256, 256]⟩
abbrev S1 : Shape := ⟨1, ![1]⟩
abbrev S1x1 : Shape := ⟨2, ![1, 1]⟩

abbrev nBuf : Space → Nat
  | .hbm => 301
  | .vmem => 12
  | .smem => 0
  | _ => 0

abbrev hbmTy0_0 (i : Nat) : BufTy := match i % 128 with
  | 0 => ⟨S16384x2688, .f32⟩
  | 1 => ⟨S32x12, .f32⟩
  | 2 => ⟨S64, .f32⟩
  | 3 => ⟨S64, .f32⟩
  | 4 => ⟨S64, .f32⟩
  | 5 => ⟨S64, .f32⟩
  | 6 => ⟨S128, .f32⟩
  | 7 => ⟨S256, .i32⟩
  | 8 => ⟨S256x1, .i32⟩
  | 9 => ⟨S256, .i32⟩
  | 10 => ⟨S1x256, .i32⟩
  | 11 => ⟨S256x256, .i32⟩
  | 12 => ⟨S256x256, .i32⟩
  | 13 => ⟨S256x256, .i32⟩
  | 14 => ⟨S256, .i32⟩
  | 15 => ⟨S256x1, .i32⟩
  | 16 => ⟨S_, .i32⟩
  | 17 => ⟨S256x1, .i32⟩
  | 18 => ⟨S256x1, .i32⟩
  | 19 => ⟨S256, .i32⟩
  | 20 => ⟨S1x256, .i32⟩
  | 21 => ⟨S256x256, .i32⟩
  | 22 => ⟨S256x256, .i32⟩
  | 23 => ⟨S256x256, .i32⟩
  | 24 => ⟨S1x256x256, .i32⟩
  | 25 => ⟨S1x256x256, .i32⟩
  | 26 => ⟨S2x256x256, .i32⟩
  | 27 => ⟨S1x2x256x256, .i32⟩
  | 28 => ⟨S32x4, .f32⟩
  | 29 => ⟨S32x4x1x1x1, .f32⟩
  | 30 => ⟨S1x4x1x1x1, .f32⟩
  | 31 => ⟨S4x1x1x1, .f32⟩
  | 32 => ⟨S4x2x256x256, .f32⟩
  | 33 => ⟨S_, .i32⟩
  | 34 => ⟨S1x2x256x256, .i32⟩
  | 35 => ⟨S1x2x256x256, .i1⟩
  | 36 => ⟨S1x4x1x1x1, .f32⟩
  | 37 => ⟨S4x1x1x1, .f32⟩
  | 38 => ⟨S4x2x256x256, .i1⟩
  | 39 => ⟨S4x2x256x256, .f32⟩
  | 40 => ⟨S4x2x256x256, .f32⟩
  | 41 => ⟨S_, .i32⟩
  | 42 => ⟨S1x2x256x256, .i32⟩
  | 43 => ⟨S1x2x256x256, .i1⟩
  | 44 => ⟨S1x4x1x1x1, .f32⟩
  | 45 => ⟨S4x1x1x1, .f32⟩
  | 46 => ⟨S4x2x256x256, .i1⟩
  | 47 => ⟨S4x2x256x256, .f32⟩
  | 48 => ⟨S4x2x256x256, .f32⟩
  | 49 => ⟨S_, .i32⟩
  | 50 => ⟨S1x2x256x256, .i32⟩
  | 51 => ⟨S1x2x256x256, .i1⟩
  | 52 => ⟨S1x4x1x1x1, .f32⟩
  | 53 => ⟨S4x1x1x1, .f32⟩
  | 54 => ⟨S4x2x256x256, .i1⟩
  | 55 => ⟨S4x2x256x256, .f32⟩
  | 56 => ⟨S4x2x256x256, .f32⟩
  | 57 => ⟨S_, .i32⟩
  | 58 => ⟨S1x2x256x256, .i32⟩
  | 59 => ⟨S1x2x256x256, .i1⟩
  | 60 => ⟨S1x4x1x1x1, .f32⟩
  | 61 => ⟨S4x1x1x1, .f32⟩
  | 62 => ⟨S4x2x256x256, .i1⟩
  | 63 => ⟨S4x2x256x256, .f32⟩
  | 64 => ⟨S4x2x256x256, .f32⟩
  | 65 => ⟨S_, .i32⟩
  | 66 => ⟨S1x2x256x256, .i32⟩
  | 67 => ⟨S1x2x256x256, .i1⟩
  | 68 => ⟨S1x4x1x1x1, .f32⟩
  | 69 => ⟨S4x1x1x1, .f32⟩
  | 70 => ⟨S4x2x256x256, .i1⟩
  | 71 => ⟨S4x2x256x256, .f32⟩
  | 72 => ⟨S4x2x256x256, .f32⟩
  | 73 => ⟨S_, .i32⟩
  | 74 => ⟨S1x2x256x256, .i32⟩
  | 75 => ⟨S1x2x256x256, .i1⟩
  | 76 => ⟨S1x4x1x1x1, .f32⟩
  | 77 => ⟨S4x1x1x1, .f32⟩
  | 78 => ⟨S4x2x256x256, .i1⟩
  | 79 => ⟨S4x2x256x256, .f32⟩
  | 80 => ⟨S4x2x256x256, .f32⟩
  | 81 => ⟨S_, .i32⟩
  | 82 => ⟨S1x2x256x256, .i32⟩
  | 83 => ⟨S1x2x256x256, .i1⟩
  | 84 => ⟨S1x4x1x1x1, .f32⟩
  | 85 => ⟨S4x1x1x1, .f32⟩
  | 86 => ⟨S4x2x256x256, .i1⟩
  | 87 => ⟨S4x2x256x256, .f32⟩
  | 88 => ⟨S4x2x256x256, .f32⟩
  | 89 => ⟨S_, .i32⟩
  | 90 => ⟨S1x2x256x256, .i32⟩
  | 91 => ⟨S1x2x256x256, .i1⟩
  | 92 => ⟨S1x4x1x1x1, .f32⟩
  | 93 => ⟨S4x1x1x1, .f32⟩
  | 94 => ⟨S4x2x256x256, .i1⟩
  | 95 => ⟨S4x2x256x256, .f32⟩
  | 96 => ⟨S4x2x256x256, .f32⟩
  | 97 => ⟨S_, .i32⟩
  | 98 => ⟨S1x2x256x256, .i32⟩
  | 99 => ⟨S1x2x256x256, .i1⟩
  | 100 => ⟨S1x4x1x1x1, .f32⟩
  | 101 => ⟨S4x1x1x1, .f32⟩
  | 102 => ⟨S4x2x256x256, .i1⟩
  | 103 => ⟨S4x2x256x256, .f32⟩
  | 104 => ⟨S4x2x256x256, .f32⟩
  | 105 => ⟨S_, .i32⟩
  | 106 => ⟨S1x2x256x256, .i32⟩
  | 107 => ⟨S1x2x256x256, .i1⟩
  | 108 => ⟨S1x4x1x1x1, .f32⟩
  | 109 => ⟨S4x1x1x1, .f32⟩
  | 110 => ⟨S4x2x256x256, .i1⟩
  | 111 => ⟨S4x2x256x256, .f32⟩
  | 112 => ⟨S4x2x256x256, .f32⟩
  | 113 => ⟨S_, .i32⟩
  | 114 => ⟨S1x2x256x256, .i32⟩
  | 115 => ⟨S1x2x256x256, .i1⟩
  | 116 => ⟨S1x4x1x1x1, .f32⟩
  | 117 => ⟨S4x1x1x1, .f32⟩
  | 118 => ⟨S4x2x256x256, .i1⟩
  | 119 => ⟨S4x2x256x256, .f32⟩
  | 120 => ⟨S4x2x256x256, .f32⟩
  | 121 => ⟨S_, .i32⟩
  | 122 => ⟨S1x2x256x256, .i32⟩
  | 123 => ⟨S1x2x256x256, .i1⟩
  | 124 => ⟨S1x4x1x1x1, .f32⟩
  | 125 => ⟨S4x1x1x1, .f32⟩
  | 126 => ⟨S4x2x256x256, .i1⟩
  | 127 => ⟨S4x2x256x256, .f32⟩
  | _ => ⟨S16384x2688, .f32⟩

abbrev hbmTy0_1 (i : Nat) : BufTy := match i % 128 with
  | 0 => ⟨S4x2x256x256, .f32⟩
  | 1 => ⟨S_, .i32⟩
  | 2 => ⟨S1x2x256x256, .i32⟩
  | 3 => ⟨S1x2x256x256, .i1⟩
  | 4 => ⟨S1x4x1x1x1, .f32⟩
  | 5 => ⟨S4x1x1x1, .f32⟩
  | 6 => ⟨S4x2x256x256, .i1⟩
  | 7 => ⟨S4x2x256x256, .f32⟩
  | 8 => ⟨S4x2x256x256, .f32⟩
  | 9 => ⟨S_, .i32⟩
  | 10 => ⟨S1x2x256x256, .i32⟩
  | 11 => ⟨S1x2x256x256, .i1⟩
  | 12 => ⟨S1x4x1x1x1, .f32⟩
  | 13 => ⟨S4x1x1x1, .f32⟩
  | 14 => ⟨S4x2x256x256, .i1⟩
  | 15 => ⟨S4x2x256x256, .f32⟩
  | 16 => ⟨S4x2x256x256, .f32⟩
  | 17 => ⟨S_, .i32⟩
  | 18 => ⟨S1x2x256x256, .i32⟩
  | 19 => ⟨S1x2x256x256, .i1⟩
  | 20 => ⟨S1x4x1x1x1, .f32⟩
  | 21 => ⟨S4x1x1x1, .f32⟩
  | 22 => ⟨S4x2x256x256, .i1⟩
  | 23 => ⟨S4x2x256x256, .f32⟩
  | 24 => ⟨S4x2x256x256, .f32⟩
  | 25 => ⟨S_, .i32⟩
  | 26 => ⟨S1x2x256x256, .i32⟩
  | 27 => ⟨S1x2x256x256, .i1⟩
  | 28 => ⟨S1x4x1x1x1, .f32⟩
  | 29 => ⟨S4x1x1x1, .f32⟩
  | 30 => ⟨S4x2x256x256, .i1⟩
  | 31 => ⟨S4x2x256x256, .f32⟩
  | 32 => ⟨S4x2x256x256, .f32⟩
  | 33 => ⟨S_, .i32⟩
  | 34 => ⟨S1x2x256x256, .i32⟩
  | 35 => ⟨S1x2x256x256, .i1⟩
  | 36 => ⟨S1x4x1x1x1, .f32⟩
  | 37 => ⟨S4x1x1x1, .f32⟩
  | 38 => ⟨S4x2x256x256, .i1⟩
  | 39 => ⟨S4x2x256x256, .f32⟩
  | 40 => ⟨S4x2x256x256, .f32⟩
  | 41 => ⟨S_, .i32⟩
  | 42 => ⟨S1x2x256x256, .i32⟩
  | 43 => ⟨S1x2x256x256, .i1⟩
  | 44 => ⟨S1x4x1x1x1, .f32⟩
  | 45 => ⟨S4x1x1x1, .f32⟩
  | 46 => ⟨S4x2x256x256, .i1⟩
  | 47 => ⟨S4x2x256x256, .f32⟩
  | 48 => ⟨S4x2x256x256, .f32⟩
  | 49 => ⟨S_, .i32⟩
  | 50 => ⟨S1x2x256x256, .i32⟩
  | 51 => ⟨S1x2x256x256, .i1⟩
  | 52 => ⟨S1x4x1x1x1, .f32⟩
  | 53 => ⟨S4x1x1x1, .f32⟩
  | 54 => ⟨S4x2x256x256, .i1⟩
  | 55 => ⟨S4x2x256x256, .f32⟩
  | 56 => ⟨S4x2x256x256, .f32⟩
  | 57 => ⟨S_, .i32⟩
  | 58 => ⟨S1x2x256x256, .i32⟩
  | 59 => ⟨S1x2x256x256, .i1⟩
  | 60 => ⟨S1x4x1x1x1, .f32⟩
  | 61 => ⟨S4x1x1x1, .f32⟩
  | 62 => ⟨S4x2x256x256, .i1⟩
  | 63 => ⟨S4x2x256x256, .f32⟩
  | 64 => ⟨S4x2x256x256, .f32⟩
  | 65 => ⟨S_, .i32⟩
  | 66 => ⟨S1x2x256x256, .i32⟩
  | 67 => ⟨S1x2x256x256, .i1⟩
  | 68 => ⟨S1x4x1x1x1, .f32⟩
  | 69 => ⟨S4x1x1x1, .f32⟩
  | 70 => ⟨S4x2x256x256, .i1⟩
  | 71 => ⟨S4x2x256x256, .f32⟩
  | 72 => ⟨S4x2x256x256, .f32⟩
  | 73 => ⟨S_, .i32⟩
  | 74 => ⟨S1x2x256x256, .i32⟩
  | 75 => ⟨S1x2x256x256, .i1⟩
  | 76 => ⟨S1x4x1x1x1, .f32⟩
  | 77 => ⟨S4x1x1x1, .f32⟩
  | 78 => ⟨S4x2x256x256, .i1⟩
  | 79 => ⟨S4x2x256x256, .f32⟩
  | 80 => ⟨S4x2x256x256, .f32⟩
  | 81 => ⟨S_, .i32⟩
  | 82 => ⟨S1x2x256x256, .i32⟩
  | 83 => ⟨S1x2x256x256, .i1⟩
  | 84 => ⟨S1x4x1x1x1, .f32⟩
  | 85 => ⟨S4x1x1x1, .f32⟩
  | 86 => ⟨S4x2x256x256, .i1⟩
  | 87 => ⟨S4x2x256x256, .f32⟩
  | 88 => ⟨S4x2x256x256, .f32⟩
  | 89 => ⟨S_, .i32⟩
  | 90 => ⟨S1x2x256x256, .i32⟩
  | 91 => ⟨S1x2x256x256, .i1⟩
  | 92 => ⟨S1x4x1x1x1, .f32⟩
  | 93 => ⟨S4x1x1x1, .f32⟩
  | 94 => ⟨S4x2x256x256, .i1⟩
  | 95 => ⟨S4x2x256x256, .f32⟩
  | 96 => ⟨S4x2x256x256, .f32⟩
  | 97 => ⟨S_, .i32⟩
  | 98 => ⟨S1x2x256x256, .i32⟩
  | 99 => ⟨S1x2x256x256, .i1⟩
  | 100 => ⟨S1x4x1x1x1, .f32⟩
  | 101 => ⟨S4x1x1x1, .f32⟩
  | 102 => ⟨S4x2x256x256, .i1⟩
  | 103 => ⟨S4x2x256x256, .f32⟩
  | 104 => ⟨S4x2x256x256, .f32⟩
  | 105 => ⟨S_, .i32⟩
  | 106 => ⟨S1x2x256x256, .i32⟩
  | 107 => ⟨S1x2x256x256, .i1⟩
  | 108 => ⟨S1x4x1x1x1, .f32⟩
  | 109 => ⟨S4x1x1x1, .f32⟩
  | 110 => ⟨S4x2x256x256, .i1⟩
  | 111 => ⟨S4x2x256x256, .f32⟩
  | 112 => ⟨S4x2x256x256, .f32⟩
  | 113 => ⟨S_, .i32⟩
  | 114 => ⟨S1x2x256x256, .i32⟩
  | 115 => ⟨S1x2x256x256, .i1⟩
  | 116 => ⟨S1x4x1x1x1, .f32⟩
  | 117 => ⟨S4x1x1x1, .f32⟩
  | 118 => ⟨S4x2x256x256, .i1⟩
  | 119 => ⟨S4x2x256x256, .f32⟩
  | 120 => ⟨S4x2x256x256, .f32⟩
  | 121 => ⟨S_, .i32⟩
  | 122 => ⟨S1x2x256x256, .i32⟩
  | 123 => ⟨S1x2x256x256, .i1⟩
  | 124 => ⟨S1x4x1x1x1, .f32⟩
  | 125 => ⟨S4x1x1x1, .f32⟩
  | 126 => ⟨S4x2x256x256, .i1⟩
  | 127 => ⟨S4x2x256x256, .f32⟩
  | _ => ⟨S16384x2688, .f32⟩

abbrev hbmTy0_2 (i : Nat) : BufTy := match i % 128 with
  | 0 => ⟨S4x2x256x256, .f32⟩
  | 1 => ⟨S_, .i32⟩
  | 2 => ⟨S1x2x256x256, .i32⟩
  | 3 => ⟨S1x2x256x256, .i1⟩
  | 4 => ⟨S1x4x1x1x1, .f32⟩
  | 5 => ⟨S4x1x1x1, .f32⟩
  | 6 => ⟨S4x2x256x256, .i1⟩
  | 7 => ⟨S4x2x256x256, .f32⟩
  | 8 => ⟨S4x2x256x256, .f32⟩
  | 9 => ⟨S_, .i32⟩
  | 10 => ⟨S1x2x256x256, .i32⟩
  | 11 => ⟨S1x2x256x256, .i1⟩
  | 12 => ⟨S1x4x1x1x1, .f32⟩
  | 13 => ⟨S4x1x1x1, .f32⟩
  | 14 => ⟨S4x2x256x256, .i1⟩
  | 15 => ⟨S4x2x256x256, .f32⟩
  | 16 => ⟨S4x2x256x256, .f32⟩
  | 17 => ⟨S_, .i32⟩
  | 18 => ⟨S1x2x256x256, .i32⟩
  | 19 => ⟨S1x2x256x256, .i1⟩
  | 20 => ⟨S1x4x1x1x1, .f32⟩
  | 21 => ⟨S4x1x1x1, .f32⟩
  | 22 => ⟨S4x2x256x256, .i1⟩
  | 23 => ⟨S4x2x256x256, .f32⟩
  | 24 => ⟨S4x2x256x256, .f32⟩
  | 25 => ⟨S1x4x1x1x1, .f32⟩
  | 26 => ⟨S4x1x1x1, .f32⟩
  | 27 => ⟨S4x2x256x256, .f32⟩
  | 28 => ⟨S4x2x256x256, .f32⟩
  | 29 => ⟨S1x64, .f32⟩
  | 30 => ⟨S1x64, .f32⟩
  | 31 => ⟨S1x64, .f32⟩
  | 32 => ⟨S1x64, .f32⟩
  | 33 => ⟨S4x64, .f32⟩
  | 34 => ⟨S16384x256, .f32⟩
  | 35 => ⟨S16384x256, .bf16⟩
  | 36 => ⟨S16384x128, .bf16⟩
  | 37 => ⟨S64x256x128, .bf16⟩
  | 38 => ⟨S64x128x256, .bf16⟩
  | 39 => ⟨S16384x128, .bf16⟩
  | 40 => ⟨S_, .bf16⟩
  | 41 => ⟨S16384x128, .bf16⟩
  | 42 => ⟨S16384x256, .bf16⟩
  | 43 => ⟨S1x128, .f32⟩
  | 44 => ⟨S16384x512, .f32⟩
  | _ => ⟨S16384x2688, .f32⟩

abbrev hbmTy (i : Nat) : BufTy := match i / 128 with
  | 0 => hbmTy0_0 i
  | 1 => hbmTy0_1 i
  | 2 => hbmTy0_2 i
  | _ => ⟨S16384x2688, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S64x128x256, .bf16⟩
  | .local _ .vmem, ⟨3, _⟩ => ⟨S16384x256, .bf16⟩
  | .local _ .vmem, ⟨4, _⟩ => ⟨S4x2x256x256, .f32⟩
  | .local _ .vmem, ⟨5, _⟩ => ⟨S4x64, .f32⟩
  | .local _ .vmem, ⟨6, _⟩ => ⟨S1x128, .f32⟩
  | .local _ .vmem, ⟨7, _⟩ => ⟨S512x512, .f32⟩
  | .local _ .vmem, ⟨8, _⟩ => ⟨S512x512, .f32⟩
  | .local _ .vmem, ⟨9, _⟩ => ⟨S16x256x128, .bf16⟩
  | .local _ .vmem, ⟨10, _⟩ => ⟨S16x256x128, .f32⟩
  | .local _ .vmem, ⟨11, _⟩ => ⟨S16x256x256, .f32⟩
  | _, _ => ⟨S16384x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_v1 : Ref sig .tc := ⟨.hbm, 39, rfl⟩
abbrev main_v29 : Ref sig .tc := ⟨.hbm, 40, rfl⟩
abbrev main_c_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call1_v0 : Ref sig .tc := ⟨.hbm, 46, rfl⟩
abbrev main_call1_v1 : Ref sig .tc := ⟨.hbm, 47, rfl⟩
abbrev main_v34 : Ref sig .tc := ⟨.hbm, 48, rfl⟩
abbrev main_c_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call2_v0 : Ref sig .tc := ⟨.hbm, 54, rfl⟩
abbrev main_call2_v1 : Ref sig .tc := ⟨.hbm, 55, rfl⟩
abbrev main_v39 : Ref sig .tc := ⟨.hbm, 56, rfl⟩
abbrev main_c_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call3_v0 : Ref sig .tc := ⟨.hbm, 62, rfl⟩
abbrev main_call3_v1 : Ref sig .tc := ⟨.hbm, 63, rfl⟩
abbrev main_v44 : Ref sig .tc := ⟨.hbm, 64, rfl⟩
abbrev main_c_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call4_v0 : Ref sig .tc := ⟨.hbm, 70, rfl⟩
abbrev main_call4_v1 : Ref sig .tc := ⟨.hbm, 71, rfl⟩
abbrev main_v49 : Ref sig .tc := ⟨.hbm, 72, rfl⟩
abbrev main_c_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call5_v0 : Ref sig .tc := ⟨.hbm, 78, rfl⟩
abbrev main_call5_v1 : Ref sig .tc := ⟨.hbm, 79, rfl⟩
abbrev main_v54 : Ref sig .tc := ⟨.hbm, 80, rfl⟩
abbrev main_c_6 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call6_v0 : Ref sig .tc := ⟨.hbm, 86, rfl⟩
abbrev main_call6_v1 : Ref sig .tc := ⟨.hbm, 87, rfl⟩
abbrev main_v59 : Ref sig .tc := ⟨.hbm, 88, rfl⟩
abbrev main_c_7 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call7_v0 : Ref sig .tc := ⟨.hbm, 94, rfl⟩
abbrev main_call7_v1 : Ref sig .tc := ⟨.hbm, 95, rfl⟩
abbrev main_v64 : Ref sig .tc := ⟨.hbm, 96, rfl⟩
abbrev main_c_8 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call8_v0 : Ref sig .tc := ⟨.hbm, 102, rfl⟩
abbrev main_call8_v1 : Ref sig .tc := ⟨.hbm, 103, rfl⟩
abbrev main_v69 : Ref sig .tc := ⟨.hbm, 104, rfl⟩
abbrev main_c_9 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call9_v0 : Ref sig .tc := ⟨.hbm, 110, rfl⟩
abbrev main_call9_v1 : Ref sig .tc := ⟨.hbm, 111, rfl⟩
abbrev main_v74 : Ref sig .tc := ⟨.hbm, 112, rfl⟩
abbrev main_c_10 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call10_v0 : Ref sig .tc := ⟨.hbm, 118, rfl⟩
abbrev main_call10_v1 : Ref sig .tc := ⟨.hbm, 119, rfl⟩
abbrev main_v79 : Ref sig .tc := ⟨.hbm, 120, rfl⟩
abbrev main_c_11 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_call11_v0 : Ref sig .tc := ⟨.hbm, 126, rfl⟩
abbrev main_call11_v1 : Ref sig .tc := ⟨.hbm, 127, rfl⟩
abbrev main_v84 : Ref sig .tc := ⟨.hbm, 128, rfl⟩
abbrev main_c_12 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_call12_v0 : Ref sig .tc := ⟨.hbm, 134, rfl⟩
abbrev main_call12_v1 : Ref sig .tc := ⟨.hbm, 135, rfl⟩
abbrev main_v89 : Ref sig .tc := ⟨.hbm, 136, rfl⟩
abbrev main_c_13 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_call13_v0 : Ref sig .tc := ⟨.hbm, 142, rfl⟩
abbrev main_call13_v1 : Ref sig .tc := ⟨.hbm, 143, rfl⟩
abbrev main_v94 : Ref sig .tc := ⟨.hbm, 144, rfl⟩
abbrev main_c_14 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call14_v0 : Ref sig .tc := ⟨.hbm, 150, rfl⟩
abbrev main_call14_v1 : Ref sig .tc := ⟨.hbm, 151, rfl⟩
abbrev main_v99 : Ref sig .tc := ⟨.hbm, 152, rfl⟩
abbrev main_c_15 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_call15_v0 : Ref sig .tc := ⟨.hbm, 158, rfl⟩
abbrev main_call15_v1 : Ref sig .tc := ⟨.hbm, 159, rfl⟩
abbrev main_v104 : Ref sig .tc := ⟨.hbm, 160, rfl⟩
abbrev main_c_16 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_call16_v0 : Ref sig .tc := ⟨.hbm, 166, rfl⟩
abbrev main_call16_v1 : Ref sig .tc := ⟨.hbm, 167, rfl⟩
abbrev main_v109 : Ref sig .tc := ⟨.hbm, 168, rfl⟩
abbrev main_c_17 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_call17_v0 : Ref sig .tc := ⟨.hbm, 174, rfl⟩
abbrev main_call17_v1 : Ref sig .tc := ⟨.hbm, 175, rfl⟩
abbrev main_v114 : Ref sig .tc := ⟨.hbm, 176, rfl⟩
abbrev main_c_18 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_call18_v0 : Ref sig .tc := ⟨.hbm, 182, rfl⟩
abbrev main_call18_v1 : Ref sig .tc := ⟨.hbm, 183, rfl⟩
abbrev main_v119 : Ref sig .tc := ⟨.hbm, 184, rfl⟩
abbrev main_c_19 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_call19_v0 : Ref sig .tc := ⟨.hbm, 190, rfl⟩
abbrev main_call19_v1 : Ref sig .tc := ⟨.hbm, 191, rfl⟩
abbrev main_v124 : Ref sig .tc := ⟨.hbm, 192, rfl⟩
abbrev main_c_20 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_call20_v0 : Ref sig .tc := ⟨.hbm, 198, rfl⟩
abbrev main_call20_v1 : Ref sig .tc := ⟨.hbm, 199, rfl⟩
abbrev main_v129 : Ref sig .tc := ⟨.hbm, 200, rfl⟩
abbrev main_c_21 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_call21_v0 : Ref sig .tc := ⟨.hbm, 206, rfl⟩
abbrev main_call21_v1 : Ref sig .tc := ⟨.hbm, 207, rfl⟩
abbrev main_v134 : Ref sig .tc := ⟨.hbm, 208, rfl⟩
abbrev main_c_22 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_call22_v0 : Ref sig .tc := ⟨.hbm, 214, rfl⟩
abbrev main_call22_v1 : Ref sig .tc := ⟨.hbm, 215, rfl⟩
abbrev main_v139 : Ref sig .tc := ⟨.hbm, 216, rfl⟩
abbrev main_c_23 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_call23_v0 : Ref sig .tc := ⟨.hbm, 222, rfl⟩
abbrev main_call23_v1 : Ref sig .tc := ⟨.hbm, 223, rfl⟩
abbrev main_v144 : Ref sig .tc := ⟨.hbm, 224, rfl⟩
abbrev main_c_24 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_call24_v0 : Ref sig .tc := ⟨.hbm, 230, rfl⟩
abbrev main_call24_v1 : Ref sig .tc := ⟨.hbm, 231, rfl⟩
abbrev main_v149 : Ref sig .tc := ⟨.hbm, 232, rfl⟩
abbrev main_c_25 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_call25_v0 : Ref sig .tc := ⟨.hbm, 238, rfl⟩
abbrev main_call25_v1 : Ref sig .tc := ⟨.hbm, 239, rfl⟩
abbrev main_v154 : Ref sig .tc := ⟨.hbm, 240, rfl⟩
abbrev main_c_26 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_call26_v0 : Ref sig .tc := ⟨.hbm, 246, rfl⟩
abbrev main_call26_v1 : Ref sig .tc := ⟨.hbm, 247, rfl⟩
abbrev main_v159 : Ref sig .tc := ⟨.hbm, 248, rfl⟩
abbrev main_c_27 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_call27_v0 : Ref sig .tc := ⟨.hbm, 254, rfl⟩
abbrev main_call27_v1 : Ref sig .tc := ⟨.hbm, 255, rfl⟩
abbrev main_v164 : Ref sig .tc := ⟨.hbm, 256, rfl⟩
abbrev main_c_28 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_call28_v0 : Ref sig .tc := ⟨.hbm, 262, rfl⟩
abbrev main_call28_v1 : Ref sig .tc := ⟨.hbm, 263, rfl⟩
abbrev main_v169 : Ref sig .tc := ⟨.hbm, 264, rfl⟩
abbrev main_c_29 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_call29_v0 : Ref sig .tc := ⟨.hbm, 270, rfl⟩
abbrev main_call29_v1 : Ref sig .tc := ⟨.hbm, 271, rfl⟩
abbrev main_v174 : Ref sig .tc := ⟨.hbm, 272, rfl⟩
abbrev main_c_30 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_call30_v0 : Ref sig .tc := ⟨.hbm, 278, rfl⟩
abbrev main_call30_v1 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_cst : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

@[reducible] def k0_t1_loop (i : grid0.Coords) : Scf.Loop 32 :=
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let c1_i32_78 : BitVec 32 := 1#32
  ⟨c0_i32_76, v184, c1_i32_78⟩
def k0_off1 (i : grid0.Coords) (k0_t1 : Fin (k0_t1_loop i).trips) : Fin 3 → Nat :=
  let c2_i32_588 : BitVec 32 := 2#32
  let c0_i32_76 : BitVec 32 := 0#32
  let c1_i32_78 : BitVec 32 := 1#32
  let arg11 : BitVec 32 := Scf.iv c0_i32_76 c1_i32_78 k0_t1
  let v1116 : BitVec 32 := Scalar.muli c2_i32_588 arg11
  let v1117 : Index := Scalar.indexCast v1116
  let c0_589 : Index := 0#32
  let c0_590 : Index := 0#32
  ![v1117.toNat, 0, 0]
def k0_off2 (i : grid0.Coords) (k0_t1 : Fin (k0_t1_loop i).trips) : Fin 3 → Nat :=
  let c2_i32_591 : BitVec 32 := 2#32
  let c0_i32_76 : BitVec 32 := 0#32
  let c1_i32_78 : BitVec 32 := 1#32
  let arg11 : BitVec 32 := Scf.iv c0_i32_76 c1_i32_78 k0_t1
  let v1120 : BitVec 32 := Scalar.muli c2_i32_591 arg11
  let c1_i32_592 : BitVec 32 := 1#32
  let v1121 : BitVec 32 := Scalar.addi v1120 c1_i32_592
  let v1122 : Index := Scalar.indexCast v1121
  let c0_593 : Index := 0#32
  let c0_594 : Index := 0#32
  ![v1122.toNat, 0, 0]
def k0_mult1 (i : grid0.Coords) (k0_t1 : Fin (k0_t1_loop i).trips) : BitVec 32 :=
  let c0_i32_76 : BitVec 32 := 0#32
  let c1_i32_78 : BitVec 32 := 1#32
  let arg11 : BitVec 32 := Scf.iv c0_i32_76 c1_i32_78 k0_t1
  let c512_i32_595 : BitVec 32 := 512#32
  let v1125 : BitVec 32 := Scalar.muli arg11 c512_i32_595
  v1125
def k0_off3 (i : grid0.Coords) (k0_t1 : Fin (k0_t1_loop i).trips) : Fin 2 → Nat :=
  let c0_i32_76 : BitVec 32 := 0#32
  let c1_i32_78 : BitVec 32 := 1#32
  let arg11 : BitVec 32 := Scf.iv c0_i32_76 c1_i32_78 k0_t1
  let c512_i32_595 : BitVec 32 := 512#32
  let v1125 : BitVec 32 := Scalar.muli arg11 c512_i32_595
  let v1126 : BitVec 32 := v1125
  let v1127 : Index := Scalar.indexCast v1126
  let c0_596 : Index := 0#32
  ![v1127.toNat, 0]
@[reducible] def k0_t2_loop (i : grid0.Coords) : Scf.Loop 32 :=
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let v181 : BitVec 32 := Scalar.addi c0_i32_76 v180
  let c1_i32_79 : BitVec 32 := 1#32
  ⟨v184, v181, c1_i32_79⟩
def k0_off4 (i : grid0.Coords) (k0_t2 : Fin (k0_t2_loop i).trips) : Fin 3 → Nat :=
  let c2_i32_588 : BitVec 32 := 2#32
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let c1_i32_79 : BitVec 32 := 1#32
  let arg11 : BitVec 32 := Scf.iv v184 c1_i32_79 k0_t2
  let v1116 : BitVec 32 := Scalar.muli c2_i32_588 arg11
  let v1117 : Index := Scalar.indexCast v1116
  let c0_589 : Index := 0#32
  let c0_590 : Index := 0#32
  ![v1117.toNat, 0, 0]
def k0_off5 (i : grid0.Coords) (k0_t2 : Fin (k0_t2_loop i).trips) : Fin 3 → Nat :=
  let c2_i32_591 : BitVec 32 := 2#32
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let c1_i32_79 : BitVec 32 := 1#32
  let arg11 : BitVec 32 := Scf.iv v184 c1_i32_79 k0_t2
  let v1120 : BitVec 32 := Scalar.muli c2_i32_591 arg11
  let c1_i32_592 : BitVec 32 := 1#32
  let v1121 : BitVec 32 := Scalar.addi v1120 c1_i32_592
  let v1122 : Index := Scalar.indexCast v1121
  let c0_593 : Index := 0#32
  let c0_594 : Index := 0#32
  ![v1122.toNat, 0, 0]
def k0_mult2 (i : grid0.Coords) (k0_t2 : Fin (k0_t2_loop i).trips) : BitVec 32 :=
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let c1_i32_79 : BitVec 32 := 1#32
  let arg11 : BitVec 32 := Scf.iv v184 c1_i32_79 k0_t2
  let c512_i32_595 : BitVec 32 := 512#32
  let v1125 : BitVec 32 := Scalar.muli arg11 c512_i32_595
  v1125
def k0_off6 (i : grid0.Coords) (k0_t2 : Fin (k0_t2_loop i).trips) : Fin 2 → Nat :=
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let c1_i32_79 : BitVec 32 := 1#32
  let arg11 : BitVec 32 := Scf.iv v184 c1_i32_79 k0_t2
  let c512_i32_595 : BitVec 32 := 512#32
  let v1125 : BitVec 32 := Scalar.muli arg11 c512_i32_595
  let v1126 : BitVec 32 := v1125
  let v1127 : Index := Scalar.indexCast v1126
  let c0_596 : Index := 0#32
  ![v1127.toNat, 0]
def k0_cond1 (i : grid0.Coords) : BitVec 1 :=
  let arg0 : BitVec 32 := BitVec.ofNat 32 (i 0).val
  let c1_i32_80 : BitVec 32 := 1#32
  let v185 : BitVec 1 := Scalar.cmpi .sge arg0 c1_i32_80
  let v186 : BitVec 32 := Scalar.extui v185
  let c0_i32_81 : BitVec 32 := 0#32
  let v187 : BitVec 1 := Scalar.cmpi .ne v186 c0_i32_81
  v187

def k0_off7 (i : grid0.Coords) : Fin 3 → Nat :=
  let c2_i32_589 : BitVec 32 := 2#32
  let arg0 : BitVec 32 := BitVec.ofNat 32 (i 0).val
  let c1_i32_588 : BitVec 32 := 1#32
  let v1116 : BitVec 32 := Scalar.subi arg0 c1_i32_588
  let v1117 : BitVec 32 := Scalar.muli c2_i32_589 v1116
  let v1118 : Index := Scalar.indexCast v1117
  let c0_590 : Index := 0#32
  let c0_591 : Index := 0#32
  ![v1118.toNat, 0, 0]
def k0_off8 (i : grid0.Coords) : Fin 3 → Nat :=
  let c2_i32_592 : BitVec 32 := 2#32
  let arg0 : BitVec 32 := BitVec.ofNat 32 (i 0).val
  let c1_i32_588 : BitVec 32 := 1#32
  let v1116 : BitVec 32 := Scalar.subi arg0 c1_i32_588
  let v1121 : BitVec 32 := Scalar.muli c2_i32_592 v1116
  let c1_i32_593 : BitVec 32 := 1#32
  let v1122 : BitVec 32 := Scalar.addi v1121 c1_i32_593
  let v1123 : Index := Scalar.indexCast v1122
  let c0_594 : Index := 0#32
  let c0_595 : Index := 0#32
  ![v1123.toNat, 0, 0]
def k0_mult3 (i : grid0.Coords) : BitVec 32 :=
  let arg0 : BitVec 32 := BitVec.ofNat 32 (i 0).val
  let c1_i32_588 : BitVec 32 := 1#32
  let v1116 : BitVec 32 := Scalar.subi arg0 c1_i32_588
  let c512_i32_596 : BitVec 32 := 512#32
  let v1126 : BitVec 32 := Scalar.muli v1116 c512_i32_596
  v1126
def k0_off9 (i : grid0.Coords) : Fin 2 → Nat :=
  let arg0 : BitVec 32 := BitVec.ofNat 32 (i 0).val
  let c1_i32_588 : BitVec 32 := 1#32
  let v1116 : BitVec 32 := Scalar.subi arg0 c1_i32_588
  let c512_i32_596 : BitVec 32 := 512#32
  let v1126 : BitVec 32 := Scalar.muli v1116 c512_i32_596
  let v1127 : BitVec 32 := v1126
  let v1128 : Index := Scalar.indexCast v1127
  let c0_597 : Index := 0#32
  ![v1128.toNat, 0]
def k0_off10 (i : grid0.Coords) : Fin 3 → Nat :=
  let c2_i32 : BitVec 32 := 2#32
  let arg0 : BitVec 32 := BitVec.ofNat 32 (i 0).val
  let v191 : BitVec 32 := Scalar.muli c2_i32 arg0
  let v192 : Index := Scalar.indexCast v191
  let c0_82 : Index := 0#32
  let c0_83 : Index := 0#32
  ![v192.toNat, 0, 0]
def k0_off11 (i : grid0.Coords) : Fin 3 → Nat :=
  let c2_i32_84 : BitVec 32 := 2#32
  let arg0 : BitVec 32 := BitVec.ofNat 32 (i 0).val
  let v195 : BitVec 32 := Scalar.muli c2_i32_84 arg0
  let c1_i32_85 : BitVec 32 := 1#32
  let v196 : BitVec 32 := Scalar.addi v195 c1_i32_85
  let v197 : Index := Scalar.indexCast v196
  let c0_86 : Index := 0#32
  let c0_87 : Index := 0#32
  ![v197.toNat, 0, 0]
def k0_mult4 (i : grid0.Coords) : BitVec 32 :=
  let arg0 : BitVec 32 := BitVec.ofNat 32 (i 0).val
  let c512_i32 : BitVec 32 := 512#32
  let v200 : BitVec 32 := Scalar.muli arg0 c512_i32
  v200
def k0_off12 (i : grid0.Coords) : Fin 2 → Nat :=
  let arg0 : BitVec 32 := BitVec.ofNat 32 (i 0).val
  let c512_i32 : BitVec 32 := 512#32
  let v200 : BitVec 32 := Scalar.muli arg0 c512_i32
  let v201 : BitVec 32 := v200
  let v202 : Index := Scalar.indexCast v201
  let c0_88 : Index := 0#32
  ![v202.toNat, 0]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DiffIdeal.lean ====
variable {F : FTy → Type} [FloatOps F] [Named F]
def κ : String → Option EReal := fun
  | "mask" => some ⊥
  | _ => none
-- ==== DiffPlainIdeal.lean ====
abbrev S16384x2688 : Shape := ⟨2, ![16384, 2688]⟩
abbrev S32x12 : Shape := ⟨2, ![32, 12]⟩
abbrev S64 : Shape := ⟨1, ![64]⟩
abbrev S128 : Shape := ⟨1, ![128]⟩
abbrev S16384 : Shape := ⟨1, ![16384]⟩
abbrev S16384x512 : Shape := ⟨2, ![16384, 512]⟩
abbrev S1x16384x4x128 : Shape := ⟨4, ![1, 16384, 4, 128]⟩
abbrev S16384x256 : Shape := ⟨2, ![16384, 256]⟩
abbrev S1x16384x1x256 : Shape := ⟨4, ![1, 16384, 1, 256]⟩
abbrev S_ : Shape := ⟨0, ![]⟩
abbrev S1x16384x1x4x128 : Shape := ⟨5, ![1, 16384, 1, 4, 128]⟩
abbrev S32x4 : Shape := ⟨2, ![32, 4]⟩
abbrev S32x1x4 : Shape := ⟨3, ![32, 1, 4]⟩
abbrev S16384x1 : Shape := ⟨2, ![16384, 1]⟩
abbrev S1x16384 : Shape := ⟨2, ![1, 16384]⟩
abbrev S16384x16384 : Shape := ⟨2, ![16384, 16384]⟩
abbrev S16384x16384x1 : Shape := ⟨3, ![16384, 16384, 1]⟩
abbrev S16384x16384x1x4 : Shape := ⟨4, ![16384, 16384, 1, 4]⟩
abbrev S16384x1x4x16384 : Shape := ⟨4, ![16384, 1, 4, 16384]⟩
abbrev S1x16384x1x1x16384 : Shape := ⟨5, ![1, 16384, 1, 1, 16384]⟩
abbrev S1x16384x1x4x64 : Shape := ⟨5, ![1, 16384, 1, 4, 64]⟩
abbrev S1x16384x1x64 : Shape := ⟨4, ![1, 16384, 1, 64]⟩
abbrev S1x1x16384x16384x4 : Shape := ⟨5, ![1, 1, 16384, 16384, 4]⟩
abbrev S1x16384x1x4x16384 : Shape := ⟨5, ![1, 16384, 1, 4, 16384]⟩
abbrev S1x16384x1x4 : Shape := ⟨4, ![1, 16384, 1, 4]⟩
abbrev S1x16384x1x4x1 : Shape := ⟨5, ![1, 16384, 1, 4, 1]⟩
abbrev S1x16384x1x128 : Shape := ⟨4, ![1, 16384, 1, 128]⟩
abbrev S1x1x128x16384x4 : Shape := ⟨5, ![1, 1, 128, 16384, 4]⟩
abbrev S1x1x1x1x128 : Shape := ⟨5, ![1, 1, 1, 1, 128]⟩

abbrev nBuf : Space → Nat
  | .hbm => 180
  | .vmem => 0
  | .smem => 0
  | _ => 0

abbrev hbmTy0_0 (i : Nat) : BufTy := match i % 128 with
  | 0 => ⟨S16384x2688, .f32⟩
  | 1 => ⟨S32x12, .f32⟩
  | 2 => ⟨S64, .f32⟩
  | 3 => ⟨S64, .f32⟩
  | 4 => ⟨S64, .f32⟩
  | 5 => ⟨S64, .f32⟩
  | 6 => ⟨S128, .f32⟩
  | 7 => ⟨S16384, .i32⟩
  | 8 => ⟨S16384x512, .f32⟩
  | 9 => ⟨S1x16384x4x128, .f32⟩
  | 10 => ⟨S16384x256, .f32⟩
  | 11 => ⟨S1x16384x1x256, .f32⟩
  | 12 => ⟨S64, .f32⟩
  | 13 => ⟨S_, .f32⟩
  | 14 => ⟨S_, .f32⟩
  | 15 => ⟨S_, .f32⟩
  | 16 => ⟨S64, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1x16384x1x4x128, .f32⟩
  | 24 => ⟨S_, .f32⟩
  | 25 => ⟨S1x16384x1x4x128, .f32⟩
  | 26 => ⟨S1x16384x1x4x128, .f32⟩
  | 27 => ⟨S32x4, .f32⟩
  | 28 => ⟨S32x1x4, .f32⟩
  | 29 => ⟨S16384x1, .i32⟩
  | 30 => ⟨S1x16384, .i32⟩
  | 31 => ⟨S16384x16384, .i32⟩
  | 32 => ⟨S16384x16384, .i32⟩
  | 33 => ⟨S16384x16384, .i32⟩
  | 34 => ⟨S_, .i32⟩
  | 35 => ⟨S16384x16384, .i32⟩
  | 36 => ⟨S16384x16384, .i32⟩
  | 37 => ⟨S_, .i32⟩
  | 38 => ⟨S16384x16384, .i32⟩
  | 39 => ⟨S16384x16384, .i32⟩
  | 40 => ⟨S16384x16384, .f32⟩
  | 41 => ⟨S_, .f32⟩
  | 42 => ⟨S16384x16384, .f32⟩
  | 43 => ⟨S16384x16384, .f32⟩
  | 44 => ⟨S16384x16384, .f32⟩
  | 45 => ⟨S_, .f32⟩
  | 46 => ⟨S16384x16384, .f32⟩
  | 47 => ⟨S16384x16384, .f32⟩
  | 48 => ⟨S_, .f32⟩
  | 49 => ⟨S16384x16384, .f32⟩
  | 50 => ⟨S16384x16384, .f32⟩
  | 51 => ⟨S16384x16384, .i32⟩
  | 52 => ⟨S_, .i32⟩
  | 53 => ⟨S16384x16384, .i32⟩
  | 54 => ⟨S16384x16384, .i32⟩
  | 55 => ⟨S_, .i32⟩
  | 56 => ⟨S16384x16384, .i32⟩
  | 57 => ⟨S16384x16384, .i1⟩
  | 58 => ⟨S_, .i32⟩
  | 59 => ⟨S16384x16384, .i32⟩
  | 60 => ⟨S16384x16384, .i32⟩
  | 61 => ⟨S16384x16384, .i32⟩
  | 62 => ⟨S_, .i32⟩
  | 63 => ⟨S16384x16384, .i32⟩
  | 64 => ⟨S16384x16384, .i1⟩
  | 65 => ⟨S_, .i32⟩
  | 66 => ⟨S16384x16384, .i32⟩
  | 67 => ⟨S16384x16384, .i32⟩
  | 68 => ⟨S16384x16384, .i32⟩
  | 69 => ⟨S16384x16384x1, .i32⟩
  | 70 => ⟨S16384x16384x1x4, .f32⟩
  | 71 => ⟨S16384x1x4x16384, .f32⟩
  | 72 => ⟨S1x16384, .i32⟩
  | 73 => ⟨S16384x1, .i32⟩
  | 74 => ⟨S16384x16384, .i32⟩
  | 75 => ⟨S16384x16384, .i32⟩
  | 76 => ⟨S16384x16384, .i1⟩
  | 77 => ⟨S1x16384x1x1x16384, .i1⟩
  | 78 => ⟨S1x16384x1x4x64, .f32⟩
  | 79 => ⟨S1x16384x1x64, .f32⟩
  | 80 => ⟨S1x1x16384x16384x4, .f32⟩
  | 81 => ⟨S1x16384x1x4x16384, .f32⟩
  | 82 => ⟨S1x16384x1x4x16384, .f32⟩
  | 83 => ⟨S1x16384x1x4x16384, .f32⟩
  | 84 => ⟨S1x16384x1x4x64, .f32⟩
  | 85 => ⟨S1x16384x1x64, .f32⟩
  | 86 => ⟨S1x1x16384x16384x4, .f32⟩
  | 87 => ⟨S1x16384x1x4x16384, .f32⟩
  | 88 => ⟨S1x16384x1x4x16384, .f32⟩
  | 89 => ⟨S1x16384x1x4x16384, .f32⟩
  | 90 => ⟨S_, .f32⟩
  | 91 => ⟨S_, .f32⟩
  | 92 => ⟨S1x16384x1x4x16384, .i1⟩
  | 93 => ⟨S1x16384x1x4x16384, .f32⟩
  | 94 => ⟨S1x16384x1x4x16384, .f32⟩
  | 95 => ⟨S_, .f32⟩
  | 96 => ⟨S1x16384x1x4, .f32⟩
  | 97 => ⟨S1x16384x1x4x1, .f32⟩
  | 98 => ⟨S1x16384x1x4x1, .f32⟩
  | 99 => ⟨S_, .f32⟩
  | 100 => ⟨S1x16384x1x4x1, .f32⟩
  | 101 => ⟨S1x16384x1x4x1, .i1⟩
  | 102 => ⟨S_, .f32⟩
  | 103 => ⟨S_, .f32⟩
  | 104 => ⟨S1x16384x1x4x1, .f32⟩
  | 105 => ⟨S1x16384x1x4x1, .f32⟩
  | 106 => ⟨S1x16384x1x4x16384, .f32⟩
  | 107 => ⟨S1x16384x1x4x16384, .f32⟩
  | 108 => ⟨S1x16384x1x4x16384, .f32⟩
  | 109 => ⟨S_, .f32⟩
  | 110 => ⟨S_, .f32⟩
  | 111 => ⟨S1x16384x1x4x16384, .i1⟩
  | 112 => ⟨S1x16384x1x4x16384, .f32⟩
  | 113 => ⟨S1x16384x1x4x16384, .f32⟩
  | 114 => ⟨S_, .f32⟩
  | 115 => ⟨S1x16384x1x4, .f32⟩
  | 116 => ⟨S1x16384x1x4x1, .f32⟩
  | 117 => ⟨S_, .f32⟩
  | 118 => ⟨S1x16384x1x4x1, .f32⟩
  | 119 => ⟨S1x16384x1x4x1, .f32⟩
  | 120 => ⟨S1x16384x1x4x16384, .f32⟩
  | 121 => ⟨S1x16384x1x4x16384, .f32⟩
  | 122 => ⟨S_, .f32⟩
  | 123 => ⟨S_, .f32⟩
  | 124 => ⟨S1x16384x1x4x16384, .i1⟩
  | 125 => ⟨S1x16384x1x4x16384, .f32⟩
  | 126 => ⟨S1x16384x1x4x16384, .f32⟩
  | 127 => ⟨S_, .f32⟩
  | _ => ⟨S16384x2688, .f32⟩

abbrev hbmTy0_1 (i : Nat) : BufTy := match i % 128 with
  | 0 => ⟨S1x16384x1x4, .f32⟩
  | 1 => ⟨S1x16384x1x4x1, .f32⟩
  | 2 => ⟨S1x16384x1x4x1, .f32⟩
  | 3 => ⟨S_, .f32⟩
  | 4 => ⟨S1x16384x1x4x1, .f32⟩
  | 5 => ⟨S1x16384x1x4x1, .i1⟩
  | 6 => ⟨S_, .f32⟩
  | 7 => ⟨S_, .f32⟩
  | 8 => ⟨S1x16384x1x4x1, .f32⟩
  | 9 => ⟨S1x16384x1x4x1, .f32⟩
  | 10 => ⟨S1x16384x1x4x16384, .f32⟩
  | 11 => ⟨S1x16384x1x4x16384, .f32⟩
  | 12 => ⟨S1x16384x1x4x16384, .f32⟩
  | 13 => ⟨S_, .f32⟩
  | 14 => ⟨S_, .f32⟩
  | 15 => ⟨S1x16384x1x4x16384, .i1⟩
  | 16 => ⟨S1x16384x1x4x16384, .f32⟩
  | 17 => ⟨S1x16384x1x4x16384, .f32⟩
  | 18 => ⟨S_, .f32⟩
  | 19 => ⟨S1x16384x1x4, .f32⟩
  | 20 => ⟨S1x16384x1x4x1, .f32⟩
  | 21 => ⟨S_, .f32⟩
  | 22 => ⟨S1x16384x1x4x1, .f32⟩
  | 23 => ⟨S1x16384x1x4x1, .f32⟩
  | 24 => ⟨S1x16384x1x4x16384, .f32⟩
  | 25 => ⟨S1x16384x1x4x16384, .f32⟩
  | 26 => ⟨S1x16384x1x4x16384, .f32⟩
  | 27 => ⟨S1x16384x1x4x16384, .f32⟩
  | 28 => ⟨S1x16384x1x4x16384, .f32⟩
  | 29 => ⟨S1x16384x1x128, .f32⟩
  | 30 => ⟨S1x1x128x16384x4, .f32⟩
  | 31 => ⟨S1x16384x1x4x128, .f32⟩
  | 32 => ⟨S1x16384x1x4x128, .f32⟩
  | 33 => ⟨S_, .f32⟩
  | 34 => ⟨S1x16384x1x4, .f32⟩
  | 35 => ⟨S1x16384x1x4x1, .f32⟩
  | 36 => ⟨S_, .f32⟩
  | 37 => ⟨S1x16384x1x4x1, .f32⟩
  | 38 => ⟨S1x16384x1x4x1, .f32⟩
  | 39 => ⟨S_, .f32⟩
  | 40 => ⟨S1x16384x1x4x1, .f32⟩
  | 41 => ⟨S1x16384x1x4x1, .f32⟩
  | 42 => ⟨S1x16384x1x4x1, .f32⟩
  | 43 => ⟨S1x16384x1x4x128, .f32⟩
  | 44 => ⟨S1x16384x1x4x128, .f32⟩
  | 45 => ⟨S1x1x1x1x128, .f32⟩
  | 46 => ⟨S1x16384x1x4x128, .f32⟩
  | 47 => ⟨S1x16384x1x4x128, .f32⟩
  | 48 => ⟨S_, .f32⟩
  | 49 => ⟨S1x16384x1x4x128, .f32⟩
  | 50 => ⟨S1x16384x1x4x128, .f32⟩
  | 51 => ⟨S16384x512, .f32⟩
  | _ => ⟨S16384x2688, .f32⟩

abbrev hbmTy (i : Nat) : BufTy := match i / 128 with
  | 0 => hbmTy0_0 i
  | 1 => hbmTy0_1 i
  | _ => ⟨S16384x2688, .f32⟩

abbrev bufTy : (tb : Table) → Fin (tcTables nBuf tb) → BufTy
  | .hbm, ⟨i, _⟩ => hbmTy i
  | _, _ => ⟨S16384x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_call2_v0 : Ref sig .tc := ⟨.hbm, 103, rfl⟩
abbrev main_call2_v1 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_cst_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_19 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v86 : Ref sig .tc := ⟨.hbm, 126, rfl⟩
abbrev main_cst_20 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_21 : Ref sig .tc := ⟨.hbm, 131, rfl⟩
abbrev main_v90 : Ref sig .tc := ⟨.hbm, 132, rfl⟩
abbrev main_v91 : Ref sig .tc := ⟨.hbm, 133, rfl⟩
abbrev main_cst_22 : Ref sig .tc := ⟨.hbm, 134, rfl⟩
abbrev main_call5_v0 : Ref sig .tc := ⟨.hbm, 135, rfl⟩
abbrev main_call5_v1 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_23 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_v96 : Ref sig .tc := ⟨.hbm, 145, rfl⟩
abbrev main_cst_24 : Ref sig .tc := ⟨.hbm, 146, rfl⟩
abbrev main_v97 : Ref sig .tc := ⟨.hbm, 147, rfl⟩
abbrev main_v98 : Ref sig .tc := ⟨.hbm, 148, rfl⟩
abbrev main_cst_25 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_26 : Ref sig .tc := ⟨.hbm, 161, rfl⟩
abbrev main_v110 : Ref sig .tc := ⟨.hbm, 162, rfl⟩
abbrev main_v111 : Ref sig .tc := ⟨.hbm, 163, rfl⟩
abbrev main_cst_27 : Ref sig .tc := ⟨.hbm, 164, rfl⟩
abbrev main_v112 : Ref sig .tc := ⟨.hbm, 165, rfl⟩
abbrev main_v113 : Ref sig .tc := ⟨.hbm, 166, rfl⟩
abbrev main_cst_28 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_29 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩

abbrev nD : Nat := 1
abbrev τ : Topo := Topo.v7x

variable {F : FTy → Type} [FloatOps F]
-- ==== Late.lean ====
abbrev S16384x2688 : Shape := ⟨2, ![16384, 2688]⟩
abbrev S32x12 : Shape := ⟨2, ![32, 12]⟩
abbrev S64 : Shape := ⟨1, ![64]⟩
abbrev S128 : Shape := ⟨1, ![128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S1x2x256x256 : Shape := ⟨4, ![1, 2, 256, 256]⟩
abbrev S32x4 : Shape := ⟨2, ![32, 4]⟩
abbrev S32x4x1x1x1 : Shape := ⟨5, ![32, 4, 1, 1, 1]⟩
abbrev S1x4x1x1x1 : Shape := ⟨5, ![1, 4, 1, 1, 1]⟩
abbrev S4x1x1x1 : Shape := ⟨4, ![4, 1, 1, 1]⟩
abbrev S4x2x256x256 : Shape := ⟨4, ![4, 2, 256, 256]⟩
abbrev S1x64 : Shape := ⟨2, ![1, 64]⟩
abbrev S4x64 : Shape := ⟨2, ![4, 64]⟩
abbrev S16384x256 : Shape := ⟨2, ![16384, 256]⟩
abbrev S16384x128 : Shape := ⟨2, ![16384, 128]⟩
abbrev S64x256x128 : Shape := ⟨3, ![64, 256, 128]⟩
abbrev S64x128x256 : Shape := ⟨3, ![64, 128, 256]⟩
abbrev S1x128 : Shape := ⟨2, ![1, 128]⟩
abbrev S16384x512 : Shape := ⟨2, ![16384, 512]⟩
abbrev S512x512 : Shape := ⟨2, ![512, 512]⟩
abbrev S16x256x128 : Shape := ⟨3, ![16, 256, 128]⟩
abbrev S16x256x256 : Shape := ⟨3, ![16, 256, 256]⟩
abbrev S256x512 : Shape := ⟨2, ![256, 512]⟩
abbrev S256x128 : Shape := ⟨2, ![256, 128]⟩
abbrev S2048x128 : Shape := ⟨2, ![2048, 128]⟩
abbrev S1x256x128 : Shape := ⟨3, ![1, 256, 128]⟩
abbrev S1x128x256 : Shape := ⟨3, ![1, 128, 256]⟩
abbrev S128x256 : Shape := ⟨2, ![128, 256]⟩
abbrev S512x256 : Shape := ⟨2, ![512, 256]⟩
abbrev S1x1x256x256 : Shape := ⟨4, ![1, 1, 256, 256]⟩
abbrev S1 : Shape := ⟨1, ![1]⟩
abbrev S1x1 : Shape := ⟨2, ![1, 1]⟩

abbrev nBuf : Space → Nat
  | .hbm => 301
  | .vmem => 12
  | .smem => 0
  | _ => 0

abbrev hbmTy0_0 (i : Nat) : BufTy := match i % 128 with
  | 0 => ⟨S16384x2688, .f32⟩
  | 1 => ⟨S32x12, .f32⟩
  | 2 => ⟨S64, .f32⟩
  | 3 => ⟨S64, .f32⟩
  | 4 => ⟨S64, .f32⟩
  | 5 => ⟨S64, .f32⟩
  | 6 => ⟨S128, .f32⟩
  | 7 => ⟨S256, .i32⟩
  | 8 => ⟨S256x1, .i32⟩
  | 9 => ⟨S256, .i32⟩
  | 10 => ⟨S1x256, .i32⟩
  | 11 => ⟨S256x256, .i32⟩
  | 12 => ⟨S256x256, .i32⟩
  | 13 => ⟨S256x256, .i32⟩
  | 14 => ⟨S256, .i32⟩
  | 15 => ⟨S256x1, .i32⟩
  | 16 => ⟨S_, .i32⟩
  | 17 => ⟨S256x1, .i32⟩
  | 18 => ⟨S256x1, .i32⟩
  | 19 => ⟨S256, .i32⟩
  | 20 => ⟨S1x256, .i32⟩
  | 21 => ⟨S256x256, .i32⟩
  | 22 => ⟨S256x256, .i32⟩
  | 23 => ⟨S256x256, .i32⟩
  | 24 => ⟨S1x256x256, .i32⟩
  | 25 => ⟨S1x256x256, .i32⟩
  | 26 => ⟨S2x256x256, .i32⟩
  | 27 => ⟨S1x2x256x256, .i32⟩
  | 28 => ⟨S32x4, .f32⟩
  | 29 => ⟨S32x4x1x1x1, .f32⟩
  | 30 => ⟨S1x4x1x1x1, .f32⟩
  | 31 => ⟨S4x1x1x1, .f32⟩
  | 32 => ⟨S4x2x256x256, .f32⟩
  | 33 => ⟨S_, .i32⟩
  | 34 => ⟨S1x2x256x256, .i32⟩
  | 35 => ⟨S1x2x256x256, .i1⟩
  | 36 => ⟨S1x4x1x1x1, .f32⟩
  | 37 => ⟨S4x1x1x1, .f32⟩
  | 38 => ⟨S4x2x256x256, .i1⟩
  | 39 => ⟨S4x2x256x256, .f32⟩
  | 40 => ⟨S4x2x256x256, .f32⟩
  | 41 => ⟨S_, .i32⟩
  | 42 => ⟨S1x2x256x256, .i32⟩
  | 43 => ⟨S1x2x256x256, .i1⟩
  | 44 => ⟨S1x4x1x1x1, .f32⟩
  | 45 => ⟨S4x1x1x1, .f32⟩
  | 46 => ⟨S4x2x256x256, .i1⟩
  | 47 => ⟨S4x2x256x256, .f32⟩
  | 48 => ⟨S4x2x256x256, .f32⟩
  | 49 => ⟨S_, .i32⟩
  | 50 => ⟨S1x2x256x256, .i32⟩
  | 51 => ⟨S1x2x256x256, .i1⟩
  | 52 => ⟨S1x4x1x1x1, .f32⟩
  | 53 => ⟨S4x1x1x1, .f32⟩
  | 54 => ⟨S4x2x256x256, .i1⟩
  | 55 => ⟨S4x2x256x256, .f32⟩
  | 56 => ⟨S4x2x256x256, .f32⟩
  | 57 => ⟨S_, .i32⟩
  | 58 => ⟨S1x2x256x256, .i32⟩
  | 59 => ⟨S1x2x256x256, .i1⟩
  | 60 => ⟨S1x4x1x1x1, .f32⟩
  | 61 => ⟨S4x1x1x1, .f32⟩
  | 62 => ⟨S4x2x256x256, .i1⟩
  | 63 => ⟨S4x2x256x256, .f32⟩
  | 64 => ⟨S4x2x256x256, .f32⟩
  | 65 => ⟨S_, .i32⟩
  | 66 => ⟨S1x2x256x256, .i32⟩
  | 67 => ⟨S1x2x256x256, .i1⟩
  | 68 => ⟨S1x4x1x1x1, .f32⟩
  | 69 => ⟨S4x1x1x1, .f32⟩
  | 70 => ⟨S4x2x256x256, .i1⟩
  | 71 => ⟨S4x2x256x256, .f32⟩
  | 72 => ⟨S4x2x256x256, .f32⟩
  | 73 => ⟨S_, .i32⟩
  | 74 => ⟨S1x2x256x256, .i32⟩
  | 75 => ⟨S1x2x256x256, .i1⟩
  | 76 => ⟨S1x4x1x1x1, .f32⟩
  | 77 => ⟨S4x1x1x1, .f32⟩
  | 78 => ⟨S4x2x256x256, .i1⟩
  | 79 => ⟨S4x2x256x256, .f32⟩
  | 80 => ⟨S4x2x256x256, .f32⟩
  | 81 => ⟨S_, .i32⟩
  | 82 => ⟨S1x2x256x256, .i32⟩
  | 83 => ⟨S1x2x256x256, .i1⟩
  | 84 => ⟨S1x4x1x1x1, .f32⟩
  | 85 => ⟨S4x1x1x1, .f32⟩
  | 86 => ⟨S4x2x256x256, .i1⟩
  | 87 => ⟨S4x2x256x256, .f32⟩
  | 88 => ⟨S4x2x256x256, .f32⟩
  | 89 => ⟨S_, .i32⟩
  | 90 => ⟨S1x2x256x256, .i32⟩
  | 91 => ⟨S1x2x256x256, .i1⟩
  | 92 => ⟨S1x4x1x1x1, .f32⟩
  | 93 => ⟨S4x1x1x1, .f32⟩
  | 94 => ⟨S4x2x256x256, .i1⟩
  | 95 => ⟨S4x2x256x256, .f32⟩
  | 96 => ⟨S4x2x256x256, .f32⟩
  | 97 => ⟨S_, .i32⟩
  | 98 => ⟨S1x2x256x256, .i32⟩
  | 99 => ⟨S1x2x256x256, .i1⟩
  | 100 => ⟨S1x4x1x1x1, .f32⟩
  | 101 => ⟨S4x1x1x1, .f32⟩
  | 102 => ⟨S4x2x256x256, .i1⟩
  | 103 => ⟨S4x2x256x256, .f32⟩
  | 104 => ⟨S4x2x256x256, .f32⟩
  | 105 => ⟨S_, .i32⟩
  | 106 => ⟨S1x2x256x256, .i32⟩
  | 107 => ⟨S1x2x256x256, .i1⟩
  | 108 => ⟨S1x4x1x1x1, .f32⟩
  | 109 => ⟨S4x1x1x1, .f32⟩
  | 110 => ⟨S4x2x256x256, .i1⟩
  | 111 => ⟨S4x2x256x256, .f32⟩
  | 112 => ⟨S4x2x256x256, .f32⟩
  | 113 => ⟨S_, .i32⟩
  | 114 => ⟨S1x2x256x256, .i32⟩
  | 115 => ⟨S1x2x256x256, .i1⟩
  | 116 => ⟨S1x4x1x1x1, .f32⟩
  | 117 => ⟨S4x1x1x1, .f32⟩
  | 118 => ⟨S4x2x256x256, .i1⟩
  | 119 => ⟨S4x2x256x256, .f32⟩
  | 120 => ⟨S4x2x256x256, .f32⟩
  | 121 => ⟨S_, .i32⟩
  | 122 => ⟨S1x2x256x256, .i32⟩
  | 123 => ⟨S1x2x256x256, .i1⟩
  | 124 => ⟨S1x4x1x1x1, .f32⟩
  | 125 => ⟨S4x1x1x1, .f32⟩
  | 126 => ⟨S4x2x256x256, .i1⟩
  | 127 => ⟨S4x2x256x256, .f32⟩
  | _ => ⟨S16384x2688, .f32⟩

abbrev hbmTy0_1 (i : Nat) : BufTy := match i % 128 with
  | 0 => ⟨S4x2x256x256, .f32⟩
  | 1 => ⟨S_, .i32⟩
  | 2 => ⟨S1x2x256x256, .i32⟩
  | 3 => ⟨S1x2x256x256, .i1⟩
  | 4 => ⟨S1x4x1x1x1, .f32⟩
  | 5 => ⟨S4x1x1x1, .f32⟩
  | 6 => ⟨S4x2x256x256, .i1⟩
  | 7 => ⟨S4x2x256x256, .f32⟩
  | 8 => ⟨S4x2x256x256, .f32⟩
  | 9 => ⟨S_, .i32⟩
  | 10 => ⟨S1x2x256x256, .i32⟩
  | 11 => ⟨S1x2x256x256, .i1⟩
  | 12 => ⟨S1x4x1x1x1, .f32⟩
  | 13 => ⟨S4x1x1x1, .f32⟩
  | 14 => ⟨S4x2x256x256, .i1⟩
  | 15 => ⟨S4x2x256x256, .f32⟩
  | 16 => ⟨S4x2x256x256, .f32⟩
  | 17 => ⟨S_, .i32⟩
  | 18 => ⟨S1x2x256x256, .i32⟩
  | 19 => ⟨S1x2x256x256, .i1⟩
  | 20 => ⟨S1x4x1x1x1, .f32⟩
  | 21 => ⟨S4x1x1x1, .f32⟩
  | 22 => ⟨S4x2x256x256, .i1⟩
  | 23 => ⟨S4x2x256x256, .f32⟩
  | 24 => ⟨S4x2x256x256, .f32⟩
  | 25 => ⟨S_, .i32⟩
  | 26 => ⟨S1x2x256x256, .i32⟩
  | 27 => ⟨S1x2x256x256, .i1⟩
  | 28 => ⟨S1x4x1x1x1, .f32⟩
  | 29 => ⟨S4x1x1x1, .f32⟩
  | 30 => ⟨S4x2x256x256, .i1⟩
  | 31 => ⟨S4x2x256x256, .f32⟩
  | 32 => ⟨S4x2x256x256, .f32⟩
  | 33 => ⟨S_, .i32⟩
  | 34 => ⟨S1x2x256x256, .i32⟩
  | 35 => ⟨S1x2x256x256, .i1⟩
  | 36 => ⟨S1x4x1x1x1, .f32⟩
  | 37 => ⟨S4x1x1x1, .f32⟩
  | 38 => ⟨S4x2x256x256, .i1⟩
  | 39 => ⟨S4x2x256x256, .f32⟩
  | 40 => ⟨S4x2x256x256, .f32⟩
  | 41 => ⟨S_, .i32⟩
  | 42 => ⟨S1x2x256x256, .i32⟩
  | 43 => ⟨S1x2x256x256, .i1⟩
  | 44 => ⟨S1x4x1x1x1, .f32⟩
  | 45 => ⟨S4x1x1x1, .f32⟩
  | 46 => ⟨S4x2x256x256, .i1⟩
  | 47 => ⟨S4x2x256x256, .f32⟩
  | 48 => ⟨S4x2x256x256, .f32⟩
  | 49 => ⟨S_, .i32⟩
  | 50 => ⟨S1x2x256x256, .i32⟩
  | 51 => ⟨S1x2x256x256, .i1⟩
  | 52 => ⟨S1x4x1x1x1, .f32⟩
  | 53 => ⟨S4x1x1x1, .f32⟩
  | 54 => ⟨S4x2x256x256, .i1⟩
  | 55 => ⟨S4x2x256x256, .f32⟩
  | 56 => ⟨S4x2x256x256, .f32⟩
  | 57 => ⟨S_, .i32⟩
  | 58 => ⟨S1x2x256x256, .i32⟩
  | 59 => ⟨S1x2x256x256, .i1⟩
  | 60 => ⟨S1x4x1x1x1, .f32⟩
  | 61 => ⟨S4x1x1x1, .f32⟩
  | 62 => ⟨S4x2x256x256, .i1⟩
  | 63 => ⟨S4x2x256x256, .f32⟩
  | 64 => ⟨S4x2x256x256, .f32⟩
  | 65 => ⟨S_, .i32⟩
  | 66 => ⟨S1x2x256x256, .i32⟩
  | 67 => ⟨S1x2x256x256, .i1⟩
  | 68 => ⟨S1x4x1x1x1, .f32⟩
  | 69 => ⟨S4x1x1x1, .f32⟩
  | 70 => ⟨S4x2x256x256, .i1⟩
  | 71 => ⟨S4x2x256x256, .f32⟩
  | 72 => ⟨S4x2x256x256, .f32⟩
  | 73 => ⟨S_, .i32⟩
  | 74 => ⟨S1x2x256x256, .i32⟩
  | 75 => ⟨S1x2x256x256, .i1⟩
  | 76 => ⟨S1x4x1x1x1, .f32⟩
  | 77 => ⟨S4x1x1x1, .f32⟩
  | 78 => ⟨S4x2x256x256, .i1⟩
  | 79 => ⟨S4x2x256x256, .f32⟩
  | 80 => ⟨S4x2x256x256, .f32⟩
  | 81 => ⟨S_, .i32⟩
  | 82 => ⟨S1x2x256x256, .i32⟩
  | 83 => ⟨S1x2x256x256, .i1⟩
  | 84 => ⟨S1x4x1x1x1, .f32⟩
  | 85 => ⟨S4x1x1x1, .f32⟩
  | 86 => ⟨S4x2x256x256, .i1⟩
  | 87 => ⟨S4x2x256x256, .f32⟩
  | 88 => ⟨S4x2x256x256, .f32⟩
  | 89 => ⟨S_, .i32⟩
  | 90 => ⟨S1x2x256x256, .i32⟩
  | 91 => ⟨S1x2x256x256, .i1⟩
  | 92 => ⟨S1x4x1x1x1, .f32⟩
  | 93 => ⟨S4x1x1x1, .f32⟩
  | 94 => ⟨S4x2x256x256, .i1⟩
  | 95 => ⟨S4x2x256x256, .f32⟩
  | 96 => ⟨S4x2x256x256, .f32⟩
  | 97 => ⟨S_, .i32⟩
  | 98 => ⟨S1x2x256x256, .i32⟩
  | 99 => ⟨S1x2x256x256, .i1⟩
  | 100 => ⟨S1x4x1x1x1, .f32⟩
  | 101 => ⟨S4x1x1x1, .f32⟩
  | 102 => ⟨S4x2x256x256, .i1⟩
  | 103 => ⟨S4x2x256x256, .f32⟩
  | 104 => ⟨S4x2x256x256, .f32⟩
  | 105 => ⟨S_, .i32⟩
  | 106 => ⟨S1x2x256x256, .i32⟩
  | 107 => ⟨S1x2x256x256, .i1⟩
  | 108 => ⟨S1x4x1x1x1, .f32⟩
  | 109 => ⟨S4x1x1x1, .f32⟩
  | 110 => ⟨S4x2x256x256, .i1⟩
  | 111 => ⟨S4x2x256x256, .f32⟩
  | 112 => ⟨S4x2x256x256, .f32⟩
  | 113 => ⟨S_, .i32⟩
  | 114 => ⟨S1x2x256x256, .i32⟩
  | 115 => ⟨S1x2x256x256, .i1⟩
  | 116 => ⟨S1x4x1x1x1, .f32⟩
  | 117 => ⟨S4x1x1x1, .f32⟩
  | 118 => ⟨S4x2x256x256, .i1⟩
  | 119 => ⟨S4x2x256x256, .f32⟩
  | 120 => ⟨S4x2x256x256, .f32⟩
  | 121 => ⟨S_, .i32⟩
  | 122 => ⟨S1x2x256x256, .i32⟩
  | 123 => ⟨S1x2x256x256, .i1⟩
  | 124 => ⟨S1x4x1x1x1, .f32⟩
  | 125 => ⟨S4x1x1x1, .f32⟩
  | 126 => ⟨S4x2x256x256, .i1⟩
  | 127 => ⟨S4x2x256x256, .f32⟩
  | _ => ⟨S16384x2688, .f32⟩

abbrev hbmTy0_2 (i : Nat) : BufTy := match i % 128 with
  | 0 => ⟨S4x2x256x256, .f32⟩
  | 1 => ⟨S_, .i32⟩
  | 2 => ⟨S1x2x256x256, .i32⟩
  | 3 => ⟨S1x2x256x256, .i1⟩
  | 4 => ⟨S1x4x1x1x1, .f32⟩
  | 5 => ⟨S4x1x1x1, .f32⟩
  | 6 => ⟨S4x2x256x256, .i1⟩
  | 7 => ⟨S4x2x256x256, .f32⟩
  | 8 => ⟨S4x2x256x256, .f32⟩
  | 9 => ⟨S_, .i32⟩
  | 10 => ⟨S1x2x256x256, .i32⟩
  | 11 => ⟨S1x2x256x256, .i1⟩
  | 12 => ⟨S1x4x1x1x1, .f32⟩
  | 13 => ⟨S4x1x1x1, .f32⟩
  | 14 => ⟨S4x2x256x256, .i1⟩
  | 15 => ⟨S4x2x256x256, .f32⟩
  | 16 => ⟨S4x2x256x256, .f32⟩
  | 17 => ⟨S_, .i32⟩
  | 18 => ⟨S1x2x256x256, .i32⟩
  | 19 => ⟨S1x2x256x256, .i1⟩
  | 20 => ⟨S1x4x1x1x1, .f32⟩
  | 21 => ⟨S4x1x1x1, .f32⟩
  | 22 => ⟨S4x2x256x256, .i1⟩
  | 23 => ⟨S4x2x256x256, .f32⟩
  | 24 => ⟨S4x2x256x256, .f32⟩
  | 25 => ⟨S1x4x1x1x1, .f32⟩
  | 26 => ⟨S4x1x1x1, .f32⟩
  | 27 => ⟨S4x2x256x256, .f32⟩
  | 28 => ⟨S4x2x256x256, .f32⟩
  | 29 => ⟨S1x64, .f32⟩
  | 30 => ⟨S1x64, .f32⟩
  | 31 => ⟨S1x64, .f32⟩
  | 32 => ⟨S1x64, .f32⟩
  | 33 => ⟨S4x64, .f32⟩
  | 34 => ⟨S16384x256, .f32⟩
  | 35 => ⟨S16384x256, .bf16⟩
  | 36 => ⟨S16384x128, .bf16⟩
  | 37 => ⟨S64x256x128, .bf16⟩
  | 38 => ⟨S64x128x256, .bf16⟩
  | 39 => ⟨S16384x128, .bf16⟩
  | 40 => ⟨S_, .bf16⟩
  | 41 => ⟨S16384x128, .bf16⟩
  | 42 => ⟨S16384x256, .bf16⟩
  | 43 => ⟨S1x128, .f32⟩
  | 44 => ⟨S16384x512, .f32⟩
  | _ => ⟨S16384x2688, .f32⟩

abbrev hbmTy (i : Nat) : BufTy := match i / 128 with
  | 0 => hbmTy0_0 i
  | 1 => hbmTy0_1 i
  | 2 => hbmTy0_2 i
  | _ => ⟨S16384x2688, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S64x128x256, .bf16⟩
  | .local _ .vmem, ⟨3, _⟩ => ⟨S16384x256, .bf16⟩
  | .local _ .vmem, ⟨4, _⟩ => ⟨S4x2x256x256, .f32⟩
  | .local _ .vmem, ⟨5, _⟩ => ⟨S4x64, .f32⟩
  | .local _ .vmem, ⟨6, _⟩ => ⟨S1x128, .f32⟩
  | .local _ .vmem, ⟨7, _⟩ => ⟨S512x512, .f32⟩
  | .local _ .vmem, ⟨8, _⟩ => ⟨S512x512, .f32⟩
  | .local _ .vmem, ⟨9, _⟩ => ⟨S16x256x128, .bf16⟩
  | .local _ .vmem, ⟨10, _⟩ => ⟨S16x256x128, .f32⟩
  | .local _ .vmem, ⟨11, _⟩ => ⟨S16x256x256, .f32⟩
  | _, _ => ⟨S16384x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_v1 : Ref sig .tc := ⟨.hbm, 39, rfl⟩
abbrev main_v29 : Ref sig .tc := ⟨.hbm, 40, rfl⟩
abbrev main_c_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call1_v0 : Ref sig .tc := ⟨.hbm, 46, rfl⟩
abbrev main_call1_v1 : Ref sig .tc := ⟨.hbm, 47, rfl⟩
abbrev main_v34 : Ref sig .tc := ⟨.hbm, 48, rfl⟩
abbrev main_c_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call2_v0 : Ref sig .tc := ⟨.hbm, 54, rfl⟩
abbrev main_call2_v1 : Ref sig .tc := ⟨.hbm, 55, rfl⟩
abbrev main_v39 : Ref sig .tc := ⟨.hbm, 56, rfl⟩
abbrev main_c_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call3_v0 : Ref sig .tc := ⟨.hbm, 62, rfl⟩
abbrev main_call3_v1 : Ref sig .tc := ⟨.hbm, 63, rfl⟩
abbrev main_v44 : Ref sig .tc := ⟨.hbm, 64, rfl⟩
abbrev main_c_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call4_v0 : Ref sig .tc := ⟨.hbm, 70, rfl⟩
abbrev main_call4_v1 : Ref sig .tc := ⟨.hbm, 71, rfl⟩
abbrev main_v49 : Ref sig .tc := ⟨.hbm, 72, rfl⟩
abbrev main_c_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call5_v0 : Ref sig .tc := ⟨.hbm, 78, rfl⟩
abbrev main_call5_v1 : Ref sig .tc := ⟨.hbm, 79, rfl⟩
abbrev main_v54 : Ref sig .tc := ⟨.hbm, 80, rfl⟩
abbrev main_c_6 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call6_v0 : Ref sig .tc := ⟨.hbm, 86, rfl⟩
abbrev main_call6_v1 : Ref sig .tc := ⟨.hbm, 87, rfl⟩
abbrev main_v59 : Ref sig .tc := ⟨.hbm, 88, rfl⟩
abbrev main_c_7 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call7_v0 : Ref sig .tc := ⟨.hbm, 94, rfl⟩
abbrev main_call7_v1 : Ref sig .tc := ⟨.hbm, 95, rfl⟩
abbrev main_v64 : Ref sig .tc := ⟨.hbm, 96, rfl⟩
abbrev main_c_8 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call8_v0 : Ref sig .tc := ⟨.hbm, 102, rfl⟩
abbrev main_call8_v1 : Ref sig .tc := ⟨.hbm, 103, rfl⟩
abbrev main_v69 : Ref sig .tc := ⟨.hbm, 104, rfl⟩
abbrev main_c_9 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call9_v0 : Ref sig .tc := ⟨.hbm, 110, rfl⟩
abbrev main_call9_v1 : Ref sig .tc := ⟨.hbm, 111, rfl⟩
abbrev main_v74 : Ref sig .tc := ⟨.hbm, 112, rfl⟩
abbrev main_c_10 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call10_v0 : Ref sig .tc := ⟨.hbm, 118, rfl⟩
abbrev main_call10_v1 : Ref sig .tc := ⟨.hbm, 119, rfl⟩
abbrev main_v79 : Ref sig .tc := ⟨.hbm, 120, rfl⟩
abbrev main_c_11 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_call11_v0 : Ref sig .tc := ⟨.hbm, 126, rfl⟩
abbrev main_call11_v1 : Ref sig .tc := ⟨.hbm, 127, rfl⟩
abbrev main_v84 : Ref sig .tc := ⟨.hbm, 128, rfl⟩
abbrev main_c_12 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_call12_v0 : Ref sig .tc := ⟨.hbm, 134, rfl⟩
abbrev main_call12_v1 : Ref sig .tc := ⟨.hbm, 135, rfl⟩
abbrev main_v89 : Ref sig .tc := ⟨.hbm, 136, rfl⟩
abbrev main_c_13 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_call13_v0 : Ref sig .tc := ⟨.hbm, 142, rfl⟩
abbrev main_call13_v1 : Ref sig .tc := ⟨.hbm, 143, rfl⟩
abbrev main_v94 : Ref sig .tc := ⟨.hbm, 144, rfl⟩
abbrev main_c_14 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call14_v0 : Ref sig .tc := ⟨.hbm, 150, rfl⟩
abbrev main_call14_v1 : Ref sig .tc := ⟨.hbm, 151, rfl⟩
abbrev main_v99 : Ref sig .tc := ⟨.hbm, 152, rfl⟩
abbrev main_c_15 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_call15_v0 : Ref sig .tc := ⟨.hbm, 158, rfl⟩
abbrev main_call15_v1 : Ref sig .tc := ⟨.hbm, 159, rfl⟩
abbrev main_v104 : Ref sig .tc := ⟨.hbm, 160, rfl⟩
abbrev main_c_16 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_call16_v0 : Ref sig .tc := ⟨.hbm, 166, rfl⟩
abbrev main_call16_v1 : Ref sig .tc := ⟨.hbm, 167, rfl⟩
abbrev main_v109 : Ref sig .tc := ⟨.hbm, 168, rfl⟩
abbrev main_c_17 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_call17_v0 : Ref sig .tc := ⟨.hbm, 174, rfl⟩
abbrev main_call17_v1 : Ref sig .tc := ⟨.hbm, 175, rfl⟩
abbrev main_v114 : Ref sig .tc := ⟨.hbm, 176, rfl⟩
abbrev main_c_18 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_call18_v0 : Ref sig .tc := ⟨.hbm, 182, rfl⟩
abbrev main_call18_v1 : Ref sig .tc := ⟨.hbm, 183, rfl⟩
abbrev main_v119 : Ref sig .tc := ⟨.hbm, 184, rfl⟩
abbrev main_c_19 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_call19_v0 : Ref sig .tc := ⟨.hbm, 190, rfl⟩
abbrev main_call19_v1 : Ref sig .tc := ⟨.hbm, 191, rfl⟩
abbrev main_v124 : Ref sig .tc := ⟨.hbm, 192, rfl⟩
abbrev main_c_20 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_call20_v0 : Ref sig .tc := ⟨.hbm, 198, rfl⟩
abbrev main_call20_v1 : Ref sig .tc := ⟨.hbm, 199, rfl⟩
abbrev main_v129 : Ref sig .tc := ⟨.hbm, 200, rfl⟩
abbrev main_c_21 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_call21_v0 : Ref sig .tc := ⟨.hbm, 206, rfl⟩
abbrev main_call21_v1 : Ref sig .tc := ⟨.hbm, 207, rfl⟩
abbrev main_v134 : Ref sig .tc := ⟨.hbm, 208, rfl⟩
abbrev main_c_22 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_call22_v0 : Ref sig .tc := ⟨.hbm, 214, rfl⟩
abbrev main_call22_v1 : Ref sig .tc := ⟨.hbm, 215, rfl⟩
abbrev main_v139 : Ref sig .tc := ⟨.hbm, 216, rfl⟩
abbrev main_c_23 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_call23_v0 : Ref sig .tc := ⟨.hbm, 222, rfl⟩
abbrev main_call23_v1 : Ref sig .tc := ⟨.hbm, 223, rfl⟩
abbrev main_v144 : Ref sig .tc := ⟨.hbm, 224, rfl⟩
abbrev main_c_24 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_call24_v0 : Ref sig .tc := ⟨.hbm, 230, rfl⟩
abbrev main_call24_v1 : Ref sig .tc := ⟨.hbm, 231, rfl⟩
abbrev main_v149 : Ref sig .tc := ⟨.hbm, 232, rfl⟩
abbrev main_c_25 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_call25_v0 : Ref sig .tc := ⟨.hbm, 238, rfl⟩
abbrev main_call25_v1 : Ref sig .tc := ⟨.hbm, 239, rfl⟩
abbrev main_v154 : Ref sig .tc := ⟨.hbm, 240, rfl⟩
abbrev main_c_26 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_call26_v0 : Ref sig .tc := ⟨.hbm, 246, rfl⟩
abbrev main_call26_v1 : Ref sig .tc := ⟨.hbm, 247, rfl⟩
abbrev main_v159 : Ref sig .tc := ⟨.hbm, 248, rfl⟩
abbrev main_c_27 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_call27_v0 : Ref sig .tc := ⟨.hbm, 254, rfl⟩
abbrev main_call27_v1 : Ref sig .tc := ⟨.hbm, 255, rfl⟩
abbrev main_v164 : Ref sig .tc := ⟨.hbm, 256, rfl⟩
abbrev main_c_28 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_call28_v0 : Ref sig .tc := ⟨.hbm, 262, rfl⟩
abbrev main_call28_v1 : Ref sig .tc := ⟨.hbm, 263, rfl⟩
abbrev main_v169 : Ref sig .tc := ⟨.hbm, 264, rfl⟩
abbrev main_c_29 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_call29_v0 : Ref sig .tc := ⟨.hbm, 270, rfl⟩
abbrev main_call29_v1 : Ref sig .tc := ⟨.hbm, 271, rfl⟩
abbrev main_v174 : Ref sig .tc := ⟨.hbm, 272, rfl⟩
abbrev main_c_30 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_call30_v0 : Ref sig .tc := ⟨.hbm, 278, rfl⟩
abbrev main_call30_v1 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_cst : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

@[reducible] def k0_t1_loop (i : grid0.Coords) : Scf.Loop 32 :=
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let c1_i32_78 : BitVec 32 := 1#32
  ⟨c0_i32_76, v184, c1_i32_78⟩
def k0_off1 (i : grid0.Coords) (k0_t1 : Fin (k0_t1_loop i).trips) : Fin 3 → Nat :=
  let c2_i32_588 : BitVec 32 := 2#32
  let c0_i32_76 : BitVec 32 := 0#32
  let c1_i32_78 : BitVec 32 := 1#32
  let arg11 : BitVec 32 := Scf.iv c0_i32_76 c1_i32_78 k0_t1
  let v1116 : BitVec 32 := Scalar.muli c2_i32_588 arg11
  let v1117 : Index := Scalar.indexCast v1116
  let c0_589 : Index := 0#32
  let c0_590 : Index := 0#32
  ![v1117.toNat, 0, 0]
def k0_off2 (i : grid0.Coords) (k0_t1 : Fin (k0_t1_loop i).trips) : Fin 3 → Nat :=
  let c2_i32_591 : BitVec 32 := 2#32
  let c0_i32_76 : BitVec 32 := 0#32
  let c1_i32_78 : BitVec 32 := 1#32
  let arg11 : BitVec 32 := Scf.iv c0_i32_76 c1_i32_78 k0_t1
  let v1120 : BitVec 32 := Scalar.muli c2_i32_591 arg11
  let c1_i32_592 : BitVec 32 := 1#32
  let v1121 : BitVec 32 := Scalar.addi v1120 c1_i32_592
  let v1122 : Index := Scalar.indexCast v1121
  let c0_593 : Index := 0#32
  let c0_594 : Index := 0#32
  ![v1122.toNat, 0, 0]
def k0_mult1 (i : grid0.Coords) (k0_t1 : Fin (k0_t1_loop i).trips) : BitVec 32 :=
  let c0_i32_76 : BitVec 32 := 0#32
  let c1_i32_78 : BitVec 32 := 1#32
  let arg11 : BitVec 32 := Scf.iv c0_i32_76 c1_i32_78 k0_t1
  let c512_i32_595 : BitVec 32 := 512#32
  let v1125 : BitVec 32 := Scalar.muli arg11 c512_i32_595
  v1125
def k0_off3 (i : grid0.Coords) (k0_t1 : Fin (k0_t1_loop i).trips) : Fin 2 → Nat :=
  let c0_i32_76 : BitVec 32 := 0#32
  let c1_i32_78 : BitVec 32 := 1#32
  let arg11 : BitVec 32 := Scf.iv c0_i32_76 c1_i32_78 k0_t1
  let c512_i32_595 : BitVec 32 := 512#32
  let v1125 : BitVec 32 := Scalar.muli arg11 c512_i32_595
  let v1126 : BitVec 32 := v1125
  let v1127 : Index := Scalar.indexCast v1126
  let c0_596 : Index := 0#32
  ![v1127.toNat, 0]
@[reducible] def k0_t2_loop (i : grid0.Coords) : Scf.Loop 32 :=
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let v181 : BitVec 32 := Scalar.addi c0_i32_76 v180
  let c1_i32_79 : BitVec 32 := 1#32
  ⟨v184, v181, c1_i32_79⟩
def k0_off4 (i : grid0.Coords) (k0_t2 : Fin (k0_t2_loop i).trips) : Fin 3 → Nat :=
  let c2_i32_588 : BitVec 32 := 2#32
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let c1_i32_79 : BitVec 32 := 1#32
  let arg11 : BitVec 32 := Scf.iv v184 c1_i32_79 k0_t2
  let v1116 : BitVec 32 := Scalar.muli c2_i32_588 arg11
  let v1117 : Index := Scalar.indexCast v1116
  let c0_589 : Index := 0#32
  let c0_590 : Index := 0#32
  ![v1117.toNat, 0, 0]
def k0_off5 (i : grid0.Coords) (k0_t2 : Fin (k0_t2_loop i).trips) : Fin 3 → Nat :=
  let c2_i32_591 : BitVec 32 := 2#32
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let c1_i32_79 : BitVec 32 := 1#32
  let arg11 : BitVec 32 := Scf.iv v184 c1_i32_79 k0_t2
  let v1120 : BitVec 32 := Scalar.muli c2_i32_591 arg11
  let c1_i32_592 : BitVec 32 := 1#32
  let v1121 : BitVec 32 := Scalar.addi v1120 c1_i32_592
  let v1122 : Index := Scalar.indexCast v1121
  let c0_593 : Index := 0#32
  let c0_594 : Index := 0#32
  ![v1122.toNat, 0, 0]
def k0_mult2 (i : grid0.Coords) (k0_t2 : Fin (k0_t2_loop i).trips) : BitVec 32 :=
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let c1_i32_79 : BitVec 32 := 1#32
  let arg11 : BitVec 32 := Scf.iv v184 c1_i32_79 k0_t2
  let c512_i32_595 : BitVec 32 := 512#32
  let v1125 : BitVec 32 := Scalar.muli arg11 c512_i32_595
  v1125
def k0_off6 (i : grid0.Coords) (k0_t2 : Fin (k0_t2_loop i).trips) : Fin 2 → Nat :=
  let c0_i32_76 : BitVec 32 := 0#32
  let arg0 : BitVec 32 := BitVec.ofNat 32 (i 0).val
  let c1_i32 : BitVec 32 := 1#32
  let v178 : BitVec 32 := Scalar.subi arg0 c1_i32
  let c0_i32 : BitVec 32 := 0#32
  let v179 : BitVec 32 := Scalar.maxsi v178 c0_i32
  let v180 : BitVec 32 := Scalar.subi v179 c0_i32_76
  let c1_i32_77 : BitVec 32 := 1#32
  let v182 : BitVec 32 := Scalar.divsi v180 c1_i32_77
  let v183 : BitVec 32 := Scalar.muli v182 c1_i32_77
  let v184 : BitVec 32 := Scalar.addi c0_i32_76 v183
  let c1_i32_79 : BitVec 32 := 1#32
  let arg11 : BitVec 32 := Scf.iv v184 c1_i32_79 k0_t2
  let c512_i32_595 : BitVec 32 := 512#32
  let v1125 : BitVec 32 := Scalar.muli arg11 c512_i32_595
  let v1126 : BitVec 32 := v1125
  let v1127 : Index := Scalar.indexCast v1126
  let c0_596 : Index := 0#32
  ![v1127.toNat, 0]
def k0_cond1 (i : grid0.Coords) : BitVec 1 :=
  let arg0 : BitVec 32 := BitVec.ofNat 32 (i 0).val
  let c1_i32_80 : BitVec 32 := 1#32
  let v185 : BitVec 1 := Scalar.cmpi .sge arg0 c1_i32_80
  let v186 : BitVec 32 := Scalar.extui v185
  let c0_i32_81 : BitVec 32 := 0#32
  let v187 : BitVec 1 := Scalar.cmpi .ne v186 c0_i32_81
  v187

def k0_off7 (i : grid0.Coords) : Fin 3 → Nat :=
  let c2_i32_589 : BitVec 32 := 2#32
  let arg0 : BitVec 32 := BitVec.ofNat 32 (i 0).val
  let c1_i32_588 : BitVec 32 := 1#32
  let v1116 : BitVec 32 := Scalar.subi arg0 c1_i32_588
  let v1117 : BitVec 32 := Scalar.muli c2_i32_589 v1116
  let v1118 : Index := Scalar.indexCast v1117
  let c0_590 : Index := 0#32
  let c0_591 : Index := 0#32
  ![v1118.toNat, 0, 0]
def k0_off8 (i : grid0.Coords) : Fin 3 → Nat :=
  let c2_i32_592 : BitVec 32 := 2#32
  let arg0 : BitVec 32 := BitVec.ofNat 32 (i 0).val
  let c1_i32_588 : BitVec 32 := 1#32
  let v1116 : BitVec 32 := Scalar.subi arg0 c1_i32_588
  let v1121 : BitVec 32 := Scalar.muli c2_i32_592 v1116
  let c1_i32_593 : BitVec 32 := 1#32
  let v1122 : BitVec 32 := Scalar.addi v1121 c1_i32_593
  let v1123 : Index := Scalar.indexCast v1122
  let c0_594 : Index := 0#32
  let c0_595 : Index := 0#32
  ![v1123.toNat, 0, 0]
def k0_mult3 (i : grid0.Coords) : BitVec 32 :=
  let arg0 : BitVec 32 := BitVec.ofNat 32 (i 0).val
  let c1_i32_588 : BitVec 32 := 1#32
  let v1116 : BitVec 32 := Scalar.subi arg0 c1_i32_588
  let c512_i32_596 : BitVec 32 := 512#32
  let v1126 : BitVec 32 := Scalar.muli v1116 c512_i32_596
  v1126
def k0_off9 (i : grid0.Coords) : Fin 2 → Nat :=
  let arg0 : BitVec 32 := BitVec.ofNat 32 (i 0).val
  let c1_i32_588 : BitVec 32 := 1#32
  let v1116 : BitVec 32 := Scalar.subi arg0 c1_i32_588
  let c512_i32_596 : BitVec 32 := 512#32
  let v1126 : BitVec 32 := Scalar.muli v1116 c512_i32_596
  let v1127 : BitVec 32 := v1126
  let v1128 : Index := Scalar.indexCast v1127
  let c0_597 : Index := 0#32
  ![v1128.toNat, 0]
def k0_off10 (i : grid0.Coords) : Fin 3 → Nat :=
  let c2_i32 : BitVec 32 := 2#32
  let arg0 : BitVec 32 := BitVec.ofNat 32 (i 0).val
  let v191 : BitVec 32 := Scalar.muli c2_i32 arg0
  let v192 : Index := Scalar.indexCast v191
  let c0_82 : Index := 0#32
  let c0_83 : Index := 0#32
  ![v192.toNat, 0, 0]
def k0_off11 (i : grid0.Coords) : Fin 3 → Nat :=
  let c2_i32_84 : BitVec 32 := 2#32
  let arg0 : BitVec 32 := BitVec.ofNat 32 (i 0).val
  let v195 : BitVec 32 := Scalar.muli c2_i32_84 arg0
  let c1_i32_85 : BitVec 32 := 1#32
  let v196 : BitVec 32 := Scalar.addi v195 c1_i32_85
  let v197 : Index := Scalar.indexCast v196
  let c0_86 : Index := 0#32
  let c0_87 : Index := 0#32
  ![v197.toNat, 0, 0]
def k0_mult4 (i : grid0.Coords) : BitVec 32 :=
  let arg0 : BitVec 32 := BitVec.ofNat 32 (i 0).val
  let c512_i32 : BitVec 32 := 512#32
  let v200 : BitVec 32 := Scalar.muli arg0 c512_i32
  v200
def k0_off12 (i : grid0.Coords) : Fin 2 → Nat :=
  let arg0 : BitVec 32 := BitVec.ofNat 32 (i 0).val
  let c512_i32 : BitVec 32 := 512#32
  let v200 : BitVec 32 := Scalar.muli arg0 c512_i32
  let v201 : BitVec 32 := v200
  let v202 : Index := Scalar.indexCast v201
  let c0_88 : Index := 0#32
  ![v202.toNat, 0]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LateIdeal.lean ====
variable {F : FTy → Type} [FloatOps F] [Named F]
def κ : String → Option EReal := fun
  | "mask" => some ⊥
  | _ => none
-- ==== LatePlainIdeal.lean ====
abbrev S16384x2688 : Shape := ⟨2, ![16384, 2688]⟩
abbrev S32x12 : Shape := ⟨2, ![32, 12]⟩
abbrev S64 : Shape := ⟨1, ![64]⟩
abbrev S128 : Shape := ⟨1, ![128]⟩
abbrev S16384 : Shape := ⟨1, ![16384]⟩
abbrev S16384x512 : Shape := ⟨2, ![16384, 512]⟩
abbrev S1x16384x4x128 : Shape := ⟨4, ![1, 16384, 4, 128]⟩
abbrev S16384x256 : Shape := ⟨2, ![16384, 256]⟩
abbrev S1x16384x1x256 : Shape := ⟨4, ![1, 16384, 1, 256]⟩
abbrev S_ : Shape := ⟨0, ![]⟩
abbrev S1x16384x1x4x128 : Shape := ⟨5, ![1, 16384, 1, 4, 128]⟩
abbrev S32x4 : Shape := ⟨2, ![32, 4]⟩
abbrev S32x1x4 : Shape := ⟨3, ![32, 1, 4]⟩
abbrev S16384x1 : Shape := ⟨2, ![16384, 1]⟩
abbrev S1x16384 : Shape := ⟨2, ![1, 16384]⟩
abbrev S16384x16384 : Shape := ⟨2, ![16384, 16384]⟩
abbrev S16384x16384x1 : Shape := ⟨3, ![16384, 16384, 1]⟩
abbrev S16384x16384x1x4 : Shape := ⟨4, ![16384, 16384, 1, 4]⟩
abbrev S16384x1x4x16384 : Shape := ⟨4, ![16384, 1, 4, 16384]⟩
abbrev S1x16384x1x1x16384 : Shape := ⟨5, ![1, 16384, 1, 1, 16384]⟩
abbrev S1x16384x1x4x64 : Shape := ⟨5, ![1, 16384, 1, 4, 64]⟩
abbrev S1x16384x1x64 : Shape := ⟨4, ![1, 16384, 1, 64]⟩
abbrev S1x1x16384x16384x4 : Shape := ⟨5, ![1, 1, 16384, 16384, 4]⟩
abbrev S1x16384x1x4x16384 : Shape := ⟨5, ![1, 16384, 1, 4, 16384]⟩
abbrev S1x16384x1x4 : Shape := ⟨4, ![1, 16384, 1, 4]⟩
abbrev S1x16384x1x4x1 : Shape := ⟨5, ![1, 16384, 1, 4, 1]⟩
abbrev S1x16384x1x128 : Shape := ⟨4, ![1, 16384, 1, 128]⟩
abbrev S1x1x128x16384x4 : Shape := ⟨5, ![1, 1, 128, 16384, 4]⟩
abbrev S1x1x1x1x128 : Shape := ⟨5, ![1, 1, 1, 1, 128]⟩

abbrev nBuf : Space → Nat
  | .hbm => 180
  | .vmem => 0
  | .smem => 0
  | _ => 0

abbrev hbmTy0_0 (i : Nat) : BufTy := match i % 128 with
  | 0 => ⟨S16384x2688, .f32⟩
  | 1 => ⟨S32x12, .f32⟩
  | 2 => ⟨S64, .f32⟩
  | 3 => ⟨S64, .f32⟩
  | 4 => ⟨S64, .f32⟩
  | 5 => ⟨S64, .f32⟩
  | 6 => ⟨S128, .f32⟩
  | 7 => ⟨S16384, .i32⟩
  | 8 => ⟨S16384x512, .f32⟩
  | 9 => ⟨S1x16384x4x128, .f32⟩
  | 10 => ⟨S16384x256, .f32⟩
  | 11 => ⟨S1x16384x1x256, .f32⟩
  | 12 => ⟨S64, .f32⟩
  | 13 => ⟨S_, .f32⟩
  | 14 => ⟨S_, .f32⟩
  | 15 => ⟨S_, .f32⟩
  | 16 => ⟨S64, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1x16384x1x4x128, .f32⟩
  | 24 => ⟨S_, .f32⟩
  | 25 => ⟨S1x16384x1x4x128, .f32⟩
  | 26 => ⟨S1x16384x1x4x128, .f32⟩
  | 27 => ⟨S32x4, .f32⟩
  | 28 => ⟨S32x1x4, .f32⟩
  | 29 => ⟨S16384x1, .i32⟩
  | 30 => ⟨S1x16384, .i32⟩
  | 31 => ⟨S16384x16384, .i32⟩
  | 32 => ⟨S16384x16384, .i32⟩
  | 33 => ⟨S16384x16384, .i32⟩
  | 34 => ⟨S_, .i32⟩
  | 35 => ⟨S16384x16384, .i32⟩
  | 36 => ⟨S16384x16384, .i32⟩
  | 37 => ⟨S_, .i32⟩
  | 38 => ⟨S16384x16384, .i32⟩
  | 39 => ⟨S16384x16384, .i32⟩
  | 40 => ⟨S16384x16384, .f32⟩
  | 41 => ⟨S_, .f32⟩
  | 42 => ⟨S16384x16384, .f32⟩
  | 43 => ⟨S16384x16384, .f32⟩
  | 44 => ⟨S16384x16384, .f32⟩
  | 45 => ⟨S_, .f32⟩
  | 46 => ⟨S16384x16384, .f32⟩
  | 47 => ⟨S16384x16384, .f32⟩
  | 48 => ⟨S_, .f32⟩
  | 49 => ⟨S16384x16384, .f32⟩
  | 50 => ⟨S16384x16384, .f32⟩
  | 51 => ⟨S16384x16384, .i32⟩
  | 52 => ⟨S_, .i32⟩
  | 53 => ⟨S16384x16384, .i32⟩
  | 54 => ⟨S16384x16384, .i32⟩
  | 55 => ⟨S_, .i32⟩
  | 56 => ⟨S16384x16384, .i32⟩
  | 57 => ⟨S16384x16384, .i1⟩
  | 58 => ⟨S_, .i32⟩
  | 59 => ⟨S16384x16384, .i32⟩
  | 60 => ⟨S16384x16384, .i32⟩
  | 61 => ⟨S16384x16384, .i32⟩
  | 62 => ⟨S_, .i32⟩
  | 63 => ⟨S16384x16384, .i32⟩
  | 64 => ⟨S16384x16384, .i1⟩
  | 65 => ⟨S_, .i32⟩
  | 66 => ⟨S16384x16384, .i32⟩
  | 67 => ⟨S16384x16384, .i32⟩
  | 68 => ⟨S16384x16384, .i32⟩
  | 69 => ⟨S16384x16384x1, .i32⟩
  | 70 => ⟨S16384x16384x1x4, .f32⟩
  | 71 => ⟨S16384x1x4x16384, .f32⟩
  | 72 => ⟨S1x16384, .i32⟩
  | 73 => ⟨S16384x1, .i32⟩
  | 74 => ⟨S16384x16384, .i32⟩
  | 75 => ⟨S16384x16384, .i32⟩
  | 76 => ⟨S16384x16384, .i1⟩
  | 77 => ⟨S1x16384x1x1x16384, .i1⟩
  | 78 => ⟨S1x16384x1x4x64, .f32⟩
  | 79 => ⟨S1x16384x1x64, .f32⟩
  | 80 => ⟨S1x1x16384x16384x4, .f32⟩
  | 81 => ⟨S1x16384x1x4x16384, .f32⟩
  | 82 => ⟨S1x16384x1x4x16384, .f32⟩
  | 83 => ⟨S1x16384x1x4x16384, .f32⟩
  | 84 => ⟨S1x16384x1x4x64, .f32⟩
  | 85 => ⟨S1x16384x1x64, .f32⟩
  | 86 => ⟨S1x1x16384x16384x4, .f32⟩
  | 87 => ⟨S1x16384x1x4x16384, .f32⟩
  | 88 => ⟨S1x16384x1x4x16384, .f32⟩
  | 89 => ⟨S1x16384x1x4x16384, .f32⟩
  | 90 => ⟨S_, .f32⟩
  | 91 => ⟨S_, .f32⟩
  | 92 => ⟨S1x16384x1x4x16384, .i1⟩
  | 93 => ⟨S1x16384x1x4x16384, .f32⟩
  | 94 => ⟨S1x16384x1x4x16384, .f32⟩
  | 95 => ⟨S_, .f32⟩
  | 96 => ⟨S1x16384x1x4, .f32⟩
  | 97 => ⟨S1x16384x1x4x1, .f32⟩
  | 98 => ⟨S1x16384x1x4x1, .f32⟩
  | 99 => ⟨S_, .f32⟩
  | 100 => ⟨S1x16384x1x4x1, .f32⟩
  | 101 => ⟨S1x16384x1x4x1, .i1⟩
  | 102 => ⟨S_, .f32⟩
  | 103 => ⟨S_, .f32⟩
  | 104 => ⟨S1x16384x1x4x1, .f32⟩
  | 105 => ⟨S1x16384x1x4x1, .f32⟩
  | 106 => ⟨S1x16384x1x4x16384, .f32⟩
  | 107 => ⟨S1x16384x1x4x16384, .f32⟩
  | 108 => ⟨S1x16384x1x4x16384, .f32⟩
  | 109 => ⟨S_, .f32⟩
  | 110 => ⟨S_, .f32⟩
  | 111 => ⟨S1x16384x1x4x16384, .i1⟩
  | 112 => ⟨S1x16384x1x4x16384, .f32⟩
  | 113 => ⟨S1x16384x1x4x16384, .f32⟩
  | 114 => ⟨S_, .f32⟩
  | 115 => ⟨S1x16384x1x4, .f32⟩
  | 116 => ⟨S1x16384x1x4x1, .f32⟩
  | 117 => ⟨S_, .f32⟩
  | 118 => ⟨S1x16384x1x4x1, .f32⟩
  | 119 => ⟨S1x16384x1x4x1, .f32⟩
  | 120 => ⟨S1x16384x1x4x16384, .f32⟩
  | 121 => ⟨S1x16384x1x4x16384, .f32⟩
  | 122 => ⟨S_, .f32⟩
  | 123 => ⟨S_, .f32⟩
  | 124 => ⟨S1x16384x1x4x16384, .i1⟩
  | 125 => ⟨S1x16384x1x4x16384, .f32⟩
  | 126 => ⟨S1x16384x1x4x16384, .f32⟩
  | 127 => ⟨S_, .f32⟩
  | _ => ⟨S16384x2688, .f32⟩

abbrev hbmTy0_1 (i : Nat) : BufTy := match i % 128 with
  | 0 => ⟨S1x16384x1x4, .f32⟩
  | 1 => ⟨S1x16384x1x4x1, .f32⟩
  | 2 => ⟨S1x16384x1x4x1, .f32⟩
  | 3 => ⟨S_, .f32⟩
  | 4 => ⟨S1x16384x1x4x1, .f32⟩
  | 5 => ⟨S1x16384x1x4x1, .i1⟩
  | 6 => ⟨S_, .f32⟩
  | 7 => ⟨S_, .f32⟩
  | 8 => ⟨S1x16384x1x4x1, .f32⟩
  | 9 => ⟨S1x16384x1x4x1, .f32⟩
  | 10 => ⟨S1x16384x1x4x16384, .f32⟩
  | 11 => ⟨S1x16384x1x4x16384, .f32⟩
  | 12 => ⟨S1x16384x1x4x16384, .f32⟩
  | 13 => ⟨S_, .f32⟩
  | 14 => ⟨S_, .f32⟩
  | 15 => ⟨S1x16384x1x4x16384, .i1⟩
  | 16 => ⟨S1x16384x1x4x16384, .f32⟩
  | 17 => ⟨S1x16384x1x4x16384, .f32⟩
  | 18 => ⟨S_, .f32⟩
  | 19 => ⟨S1x16384x1x4, .f32⟩
  | 20 => ⟨S1x16384x1x4x1, .f32⟩
  | 21 => ⟨S_, .f32⟩
  | 22 => ⟨S1x16384x1x4x1, .f32⟩
  | 23 => ⟨S1x16384x1x4x1, .f32⟩
  | 24 => ⟨S1x16384x1x4x16384, .f32⟩
  | 25 => ⟨S1x16384x1x4x16384, .f32⟩
  | 26 => ⟨S1x16384x1x4x16384, .f32⟩
  | 27 => ⟨S1x16384x1x4x16384, .f32⟩
  | 28 => ⟨S1x16384x1x4x16384, .f32⟩
  | 29 => ⟨S1x16384x1x128, .f32⟩
  | 30 => ⟨S1x1x128x16384x4, .f32⟩
  | 31 => ⟨S1x16384x1x4x128, .f32⟩
  | 32 => ⟨S1x16384x1x4x128, .f32⟩
  | 33 => ⟨S_, .f32⟩
  | 34 => ⟨S1x16384x1x4, .f32⟩
  | 35 => ⟨S1x16384x1x4x1, .f32⟩
  | 36 => ⟨S_, .f32⟩
  | 37 => ⟨S1x16384x1x4x1, .f32⟩
  | 38 => ⟨S1x16384x1x4x1, .f32⟩
  | 39 => ⟨S_, .f32⟩
  | 40 => ⟨S1x16384x1x4x1, .f32⟩
  | 41 => ⟨S1x16384x1x4x1, .f32⟩
  | 42 => ⟨S1x16384x1x4x1, .f32⟩
  | 43 => ⟨S1x16384x1x4x128, .f32⟩
  | 44 => ⟨S1x16384x1x4x128, .f32⟩
  | 45 => ⟨S1x1x1x1x128, .f32⟩
  | 46 => ⟨S1x16384x1x4x128, .f32⟩
  | 47 => ⟨S1x16384x1x4x128, .f32⟩
  | 48 => ⟨S_, .f32⟩
  | 49 => ⟨S1x16384x1x4x128, .f32⟩
  | 50 => ⟨S1x16384x1x4x128, .f32⟩
  | 51 => ⟨S16384x512, .f32⟩
  | _ => ⟨S16384x2688, .f32⟩

abbrev hbmTy (i : Nat) : BufTy := match i / 128 with
  | 0 => hbmTy0_0 i
  | 1 => hbmTy0_1 i
  | _ => ⟨S16384x2688, .f32⟩

abbrev bufTy : (tb : Table) → Fin (tcTables nBuf tb) → BufTy
  | .hbm, ⟨i, _⟩ => hbmTy i
  | _, _ => ⟨S16384x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_call2_v0 : Ref sig .tc := ⟨.hbm, 103, rfl⟩
abbrev main_call2_v1 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_cst_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_19 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v86 : Ref sig .tc := ⟨.hbm, 126, rfl⟩
abbrev main_cst_20 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_21 : Ref sig .tc := ⟨.hbm, 131, rfl⟩
abbrev main_v90 : Ref sig .tc := ⟨.hbm, 132, rfl⟩
abbrev main_v91 : Ref sig .tc := ⟨.hbm, 133, rfl⟩
abbrev main_cst_22 : Ref sig .tc := ⟨.hbm, 134, rfl⟩
abbrev main_call5_v0 : Ref sig .tc := ⟨.hbm, 135, rfl⟩
abbrev main_call5_v1 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_23 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_v96 : Ref sig .tc := ⟨.hbm, 145, rfl⟩
abbrev main_cst_24 : Ref sig .tc := ⟨.hbm, 146, rfl⟩
abbrev main_v97 : Ref sig .tc := ⟨.hbm, 147, rfl⟩
abbrev main_v98 : Ref sig .tc := ⟨.hbm, 148, rfl⟩
abbrev main_cst_25 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_26 : Ref sig .tc := ⟨.hbm, 161, rfl⟩
abbrev main_v110 : Ref sig .tc := ⟨.hbm, 162, rfl⟩
abbrev main_v111 : Ref sig .tc := ⟨.hbm, 163, rfl⟩
abbrev main_cst_27 : Ref sig .tc := ⟨.hbm, 164, rfl⟩
abbrev main_v112 : Ref sig .tc := ⟨.hbm, 165, rfl⟩
abbrev main_v113 : Ref sig .tc := ⟨.hbm, 166, rfl⟩
abbrev main_cst_28 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_29 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩

abbrev nD : Nat := 1
abbrev τ : Topo := Topo.v7x

variable {F : FTy → Type} [FloatOps F]
-- ==== Proof.Host.lean ====
module

public import proofs.«01_k».proof.Proof.Gen.KernelIdeal.Value
public import Idealize.ShloMosaic.Lib.Pointwise
public import Idealize.ShloMosaic.Lib.StableHlo.ReadAt
public import Idealize.ShloMosaic.Lib.Pipeline.ValueKit

@[expose] public section

set_option maxRecDepth 16384

noncomputable section

/-! # The kernel's arguments

The host packs queries and keys into rows of 256 columns: 32 of the rotary part, 96 zeros, 128 of the latent part. -/

namespace Cert.KernelIdeal.Host

open Idealize.ShloMosaic Idealize.ShloMosaic.TcCoe Cert.KernelIdeal Cert.KernelIdeal.Gen

variable (m : (ℓ : Loc nD τ sig) → Buf (Elt Ideal) ℓ) (c : Dev nD)

/-- The latent queries. -/
abbrev qLat : FVec Ideal S1x16384x8x128 .f32 := m ((c : Thread nD τ).loc main_arg0)
/-- The rotary queries. -/
abbrev qRope : FVec Ideal S1x16384x8x32 .f32 := m ((c : Thread nD τ).loc main_arg1)
/-- The latent rows: 128 latent columns, then 32 rotary ones. -/
abbrev latent : FVec Ideal S1x16384x160 .f32 := m ((c : Thread nD τ).loc main_arg2)
/-- The value projection. -/
abbrev wUv : FVec Ideal S128x512 .f32 := m ((c : Thread nD τ).loc main_arg3)

/-- The factor on the scores. -/
def scale : EReal := Ideal.ofBits .f32 0x3DD105EC#32

theorem q_entry (h : Fin 8) (t : Fin 16384) (d : Fin 256) :
    (V m c main_v11 : FVec Ideal S8x16384x256 .bf16) (ix3 h t d)
      = if hd : (d : ℕ) < 32 then qRope m c (ix4 0 t h ⟨d, hd⟩) * scale
        else if hd' : (d : ℕ) < 128 then 0 else qLat m c (ix4 0 t h ⟨d - 128, by omega⟩) * scale := by
  have e : V m c main_v11 = StableHlo.after hostOps0 (fun b => m (c, b)) (Proc.devRef .tc main_v11) := rfl
  rw [e]
  after_reads_at
  by_cases hd : (d : ℕ) < 32
  · rw [dif_pos hd, dif_pos hd]
    after_reads_at
    rfl
  · rw [dif_neg hd, dif_neg hd]
    by_cases hd' : (d : ℕ) < 128
    · rw [dif_pos (by omega), dif_pos hd']
      after_reads_at
    · rw [dif_neg (by omega), dif_neg hd']
      after_reads_at
      simp only [show (d : ℕ) - 32 - 96 = d - 128 by omega]
      rfl

theorem k_entry (T : Fin 64) (d t : Fin 256) :
    (V m c main_v22 : FVec Ideal S64x256x256 .bf16) (ix3 T d t)
      = if hd : (d : ℕ) < 32 then latent m c (ix3 0 ⟨256 * (T : ℕ) + t, by omega⟩ ⟨128 + d, by omega⟩)
        else if hd' : (d : ℕ) < 128 then 0 else latent m c (ix3 0 ⟨256 * (T : ℕ) + t, by omega⟩ ⟨d - 128, by omega⟩) := by
  have e : V m c main_v22 = StableHlo.after hostOps0 (fun b => m (c, b)) (Proc.devRef .tc main_v22) := rfl
  rw [e]
  after_reads_at
  by_cases hd : (d : ℕ) < 32
  · rw [dif_pos hd, dif_pos hd]
    after_reads_at
    simp only [Nat.mul_comm (T : ℕ) 256]
  · rw [dif_neg hd, dif_neg hd]
    by_cases hd' : (d : ℕ) < 128
    · rw [dif_pos (by omega), dif_pos hd']
      after_reads_at
    · rw [dif_neg (by omega), dif_neg hd']
      after_reads_at
      simp only [show (d : ℕ) - 32 - 96 = d - 128 by omega, Nat.mul_comm (T : ℕ) 256]

theorem v_entry (y : Fin 16384) (d : Fin 256) :
    (V m c main_v25 : FVec Ideal S16384x256 .bf16) (ix2 y d)
      = if hd : (d : ℕ) < 128 then latent m c (ix3 0 y ⟨d, by omega⟩) else 1 := by
  have e : V m c main_v25 = StableHlo.after hostOps0 (fun b => m (c, b)) (Proc.devRef .tc main_v25) := rfl
  rw [e]
  after_reads_at

theorem w_entry (h : Fin 8) (x : Fin 128) (d : Fin 64) :
    (V m c main_v20 : FVec Ideal S8x128x64 .bf16) (ix3 h x d) = wUv m c (ix2 x ⟨64 * (h : ℕ) + d, by omega⟩) := by
  have e : V m c main_v20 = StableHlo.after hostOps0 (fun b => m (c, b)) (Proc.devRef .tc main_v20) := rfl
  rw [e]
  after_reads_at
  simp only [Nat.mul_comm (h : ℕ) 64]

/-! ## The blocks of a grid point -/

theorem index0 : ∀ t : Fin cfg0.N, win0_0.index t = ![0, (grid0.coords t 0 : ℕ), 0] :=
  (by decide +kernel : ∀ t : Fin grid0.N, win0_0.index t = ![0, (grid0.coords t 0 : ℕ), 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0, 0] :=
  (by decide +kernel : ∀ t : Fin grid0.N, win0_3.index t = ![0, 0, 0])
theorem index4 : ∀ t : Fin cfg0.N, win0_4.index t = ![(grid0.coords t 0 : ℕ), 0] :=
  (by decide +kernel : ∀ t : Fin grid0.N, win0_4.index t = ![(grid0.coords t 0 : ℕ), 0])

theorem block0 (t : Fin cfg0.N) (h : Fin 8) (r : Fin 512) (d : Fin 256) (T : Fin 16384) (hT : (T : ℕ) = 512 * (grid0.coords t 0 : ℕ) + r) :
    (iblk m c 0 t : Vec Ideal S8x512x256 .bf16) (ix3 h r d) = (V m c main_v11 : FVec Ideal S8x16384x256 .bf16) (ix3 h T d) := by
  blk_simp [iblk]
  congr 1
  blk_ext [index0]

theorem block1 (t : Fin cfg0.N) : (iblk m c 1 t : Vec Ideal S64x256x256 .bf16) = V m c main_v22 := by
  funext y
  blk_simp [iblk]
  congr 1
  blk_ext [index1]

theorem block2 (t : Fin cfg0.N) : (iblk m c 2 t : Vec Ideal S16384x256 .bf16) = V m c main_v25 := by
  funext y
  blk_simp [iblk]
  congr 1
  blk_ext [index2]

theorem block3 (t : Fin cfg0.N) : (iblk m c 3 t : Vec Ideal S8x128x64 .bf16) = V m c main_v20 := by
  funext y
  blk_simp [iblk]
  congr 1
  blk_ext [index3]

end Cert.KernelIdeal.Host

end
-- ==== Proof.Step.lean ====
module

public import proofs.«01_k».proof.Proof.Gen.KernelIdeal.Value

@[expose] public section

set_option maxRecDepth 16384

noncomputable section

/-! # One step of the online softmax

The kernel keeps, for each of two row blocks and eight heads, one slot of running row maxima and one slot of weighted
sums. Every tile step has the same text in every slot. This file writes that text once and shows that the stores found
by the run are these functions applied slot by slot. -/

namespace Cert.KernelIdeal.Step

open Idealize.ShloMosaic Idealize.ShloMosaic.TcCoe Cert.KernelIdeal.Gen

variable {F : FTy → Type} [FloatOps F] [Named F]

/-- The scores of one query block against one key tile. -/
def score (q k : Vec F S1x256x256 .bf16) : FVec F S256x256 .f32 :=
  matmul dot_S256x256_S256x256_S256x256_1_0_0_1_n_n none (shapeCast S256x256 q shapeCasts_S1x256x256_S256x256 : FVec F S256x256 .bf16)
    (shapeCast S256x256 k shapeCasts_S1x256x256_S256x256 : FVec F S256x256 .bf16) (constant S256x256 .f32 0x00000000#32)

/-- Which entries of a tile on the diagonal are visible: the key's column is not after the query's row. -/
def causal : IVec S256x256 1 :=
  cmpi .sle (iota .tc S256x256 32 [1] iota_S256x256_d1_w32) (iota .tc S256x256 32 [0] iota_S256x256_d0_w32)

/-- The scores of a diagonal tile, with the mask's value where the key is not visible. -/
def masked (s : FVec F S256x256 .f32) : FVec F S256x256 .f32 :=
  select causal s (broadcast S256x256 (Named.named κ "mask" 0xF149F2CA#32 : F .f32))

/-- The left half of the columns. -/
def lo (s : FVec F S256x256 .f32) : FVec F S256x128 .f32 := extractStridedSlice S256x128 ![0, 0] s slices_S256x256_o0_0_S256x128

/-- The right half of the columns. -/
def hi (s : FVec F S256x256 .f32) : FVec F S256x128 .f32 := extractStridedSlice S256x128 ![0, 128] s slices_S256x256_o0_128_S256x128

/-- The running maximum joined with the row maximum of a block of scores. -/
def joinMax (m : Vec F S1x256x128 .f32) (s : FVec F S256x128 .f32) : FVec F S256x128 .f32 :=
  maximumf (shapeCast S256x128 m shapeCasts_S1x256x128_S256x128 : FVec F S256x128 .f32)
    (broadcastTo S256x128 (shapeCast S256x1 (multiReduction .maximumf [1] S256 s 0xFF800000#32 reduces_S256x128_S256 (.inl rfl) rfl : FVec F S256 .f32)
      shapeCasts_S256_S256x1 : FVec F S256x1 .f32) broadcasts_S256x1_S256x128)

/-- The new running maximum after one tile. -/
def max1 (s : FVec F S256x256 .f32) (m : Vec F S1x256x128 .f32) : FVec F S256x128 .f32 := joinMax m (maximumf (lo s) (hi s))

/-- The new running maximum after two tiles. -/
def max2 (s t : FVec F S256x256 .f32) (m : Vec F S1x256x128 .f32) : FVec F S256x128 .f32 :=
  joinMax m (maximumf (maximumf (maximumf (lo s) (hi s)) (lo t)) (hi t))

/-- Two copies side by side. -/
def twice (x : FVec F S256x128 .f32) : FVec F S256x256 .f32 :=
  concatenate S256x256 1 [⟨S256x128, x⟩, ⟨S256x128, x⟩] concatenates_S256x128_S256x128_S256x256_d1

/-- The weights of a tile relative to the new running maximum. -/
def weight (s : FVec F S256x256 .f32) (mu : FVec F S256x128 .f32) : FVec F S256x256 .bf16 :=
  truncf .bf16 (exp (subf s (twice mu))) bitsLt_bf16_f32

/-- The old weighted sums, rescaled to the new running maximum. -/
def rescale (m : Vec F S1x256x128 .f32) (mu : FVec F S256x128 .f32) (a : Vec F S1x256x256 .f32) : FVec F S256x256 .f32 :=
  mulf (twice (exp (subf (shapeCast S256x128 m shapeCasts_S1x256x128_S256x128) mu)))
    (shapeCast S256x256 a shapeCasts_S1x256x256_S256x256 : FVec F S256x256 .f32)

/-- The new weighted sums after one tile. -/
def sum1 (s : FVec F S256x256 .f32) (v : FVec F S256x256 .bf16) (mu : FVec F S256x128 .f32) (m : Vec F S1x256x128 .f32)
    (a : Vec F S1x256x256 .f32) : FVec F S256x256 .f32 :=
  addf (rescale m mu a)
    (matmul dot_S256x256_S256x256_S256x256_1_0_0_1_n_n none (weight s mu) v (constant S256x256 .f32 0x00000000#32))

/-- The new weighted sums after two tiles. -/
def sum2 (s t : FVec F S256x256 .f32) (v : FVec F S512x256 .bf16) (mu : FVec F S256x128 .f32) (m : Vec F S1x256x128 .f32)
    (a : Vec F S1x256x256 .f32) : FVec F S256x256 .f32 :=
  addf (rescale m mu a)
    (matmul dot_S256x512_S512x256_S256x256_1_0_0_1_n_n none
      (concatenate S256x512 1 [⟨S256x256, weight s mu⟩, ⟨S256x256, weight t mu⟩] concatenates_S256x256_S256x256_S256x512_d1 : FVec F S256x512 .bf16)
      v (constant S256x256 .f32 0x00000000#32))

/-- A row of maxima as a slot's block. -/
def wrapM (x : FVec F S256x128 .f32) : FVec F S1x256x128 .f32 := shapeCast S1x256x128 x shapeCasts_S256x128_S1x256x128

/-- Weighted sums as a slot's block. -/
def wrapA (x : FVec F S256x256 .f32) : FVec F S1x256x256 .f32 := shapeCast S1x256x256 x shapeCasts_S256x256_S1x256x256

/-- The values of two tiles, as one block of rows. -/
def valueRows (v : Vec F S512x256 .bf16) : FVec F S512x256 .bf16 := shapeCast S512x256 v shapeCasts_S512x256_S512x256

/-- The first tile's values. -/
def firstRows (v : FVec F S512x256 .bf16) : FVec F S256x256 .bf16 :=
  extractStridedSlice S256x256 ![0, 0] v slices_S512x256_o0_0_S256x256

/-- One head of the output: the weighted sums over the total weight, through the value projection. -/
def headOut (a : Vec F S1x256x256 .f32) (w : Vec F S1x128x64 .bf16) : FVec F S256x64 .f32 :=
  matmul dot_S256x128_S128x64_S256x64_1_0_0_1_n_n none
    (truncf .bf16 (divf (lo (shapeCast S256x256 a shapeCasts_S1x256x256_S256x256)) (hi (shapeCast S256x256 a shapeCasts_S1x256x256_S256x256))) bitsLt_bf16_f32)
    (shapeCast S128x64 w shapeCasts_S1x128x64_S128x64 : FVec F S128x64 .bf16) (constant S256x64 .f32 0x00000000#32)

/-- Eight heads side by side. -/
def heads (f : Fin 8 → FVec F S256x64 .f32) : FVec F S256x512 .f32 :=
  concatenate S256x512 1 [⟨S256x64, f 0⟩, ⟨S256x64, f 1⟩, ⟨S256x64, f 2⟩, ⟨S256x64, f 3⟩, ⟨S256x64, f 4⟩, ⟨S256x64, f 5⟩, ⟨S256x64, f 6⟩, ⟨S256x64, f 7⟩]
    concatenates_S256x64_S256x64_S256x64_S256x64_S256x64_S256x64_S256x64_S256x64_S256x512_d1

/-! ## The slots -/

/-- The slots, the last first: the order in which a list of stores names them. -/
def slots : List (Fin 16) := [15, 14, 13, 12, 11, 10, 9, 8, 7, 6, 5, 4, 3, 2, 1, 0]

theorem slotM_inb (n : Fin 16) : ∀ a, (![(n : ℕ), 0, 0] : Fin 3 → ℕ) a + S1x256x128.size a ≤ S16x256x128.size a := by
  have := n.isLt
  intro a; fin_cases a <;> simp

theorem slotA_inb (n : Fin 16) : ∀ a, (![(n : ℕ), 0, 0] : Fin 3 → ℕ) a + S1x256x256.size a ≤ S16x256x256.size a := by
  have := n.isLt
  intro a; fin_cases a <;> simp

theorem slotQ_inb (n : Fin 16) : ∀ a, (![(n : ℕ) % 8, 256 * ((n : ℕ) / 8), 0] : Fin 3 → ℕ) a + S1x256x256.size a ≤ S8x512x256.size a := by
  have := n.isLt
  intro a; fin_cases a <;> simp <;> omega

/-- Slot `n` of the running maxima. -/
abbrev slotM (n : Fin 16) : Rect S16x256x128 := Rect.unit (s := S16x256x128) ![(n : ℕ), 0, 0] S1x256x128.size (slotM_inb n)

/-- Slot `n` of the weighted sums. -/
abbrev slotA (n : Fin 16) : Rect S16x256x256 := Rect.unit (s := S16x256x256) ![(n : ℕ), 0, 0] S1x256x256.size (slotA_inb n)

/-- The queries of slot `n`: head `n % 8`, rows of block `n / 8`. -/
abbrev slotQ (n : Fin 16) : Rect S8x512x256 :=
  Rect.unit (s := S8x512x256) ![(n : ℕ) % 8, 256 * ((n : ℕ) / 8), 0] S1x256x256.size (slotQ_inb n)

/-! ## One trip of the loop over pairs of key tiles -/

section trip
variable (c : Dev nD) (i : grid0.Coords)
  (arg1 : Memref sig .tc .vmem S8x512x256 .bf16) (harg1 : arg1.IsWhole)
  (arg2 : Memref sig .tc .vmem S64x256x256 .bf16) (harg2 : arg2.IsWhole)
  (arg3 : Memref sig .tc .vmem S16384x256 .bf16) (harg3 : arg3.IsWhole)
  (arg4 : Memref sig .tc .vmem S8x128x64 .bf16) (harg4 : arg4.IsWhole)
  (arg5 : Memref sig .tc .vmem S512x512 .f32) (harg5 : arg5.IsWhole)
  (arg6 : Memref sig .tc .vmem S16x256x128 .f32) (harg6 : arg6.IsWhole)
  (arg7 : Memref sig .tc .vmem S16x256x256 .f32) (harg7 : arg7.IsWhole)

/-- What a trip stores into the running maxima, from the maxima it finds. -/
def tripM (X1 : Vec F S8x512x256 .bf16) (k0 k1 : Vec F S1x256x256 .bf16) (M : Vec F S16x256x128 .f32) (n : Fin 16) : FVec F S256x128 .f32 :=
  max2 (score (View.ld X1 (slotQ n)) k0) (score (View.ld X1 (slotQ n)) k1) (View.ld M (slotM n))

/-- What a trip stores into the weighted sums, from the maxima and sums it finds. -/
def tripA (X1 : Vec F S8x512x256 .bf16) (k0 k1 : Vec F S1x256x256 .bf16) (v : Vec F S512x256 .bf16)
    (M : Vec F S16x256x128 .f32) (A : Vec F S16x256x256 .f32) (n : Fin 16) : FVec F S256x256 .f32 :=
  sum2 (score (View.ld X1 (slotQ n)) k0) (score (View.ld X1 (slotQ n)) k1) (valueRows v) (tripM X1 k0 k1 M n)
    (View.ld M (slotM n)) (View.ld A (slotA n))

variable (X1 : BufTy.Contents (Elt F) arg1.view.ty) (X2 : BufTy.Contents (Elt F) arg2.view.ty)
  (X3 : BufTy.Contents (Elt F) arg3.view.ty) (k : Fin (k0_t1_loop i).trips)
  (f6 : BufTy.Contents (Elt F) arg6.view.ty) (f7 : BufTy.Contents (Elt F) arg7.view.ty)

/-- The first key tile of trip `k`. -/
def key0 (x1 : Vec F S64x256x256 .bf16) : Vec F S1x256x256 .bf16 :=
  View.ld x1 (Rect.unit (s := S64x256x256) (k0_off1 i k 0#32) S1x256x256.size (Cert.KernelIdeal.Facts₀.k0_off1_inb i k 0))

/-- The second key tile of trip `k`. -/
def key1 (x1 : Vec F S64x256x256 .bf16) : Vec F S1x256x256 .bf16 :=
  View.ld x1 (Rect.unit (s := S64x256x256) (k0_off1 i k 1#32) S1x256x256.size (Cert.KernelIdeal.Facts₀.k0_off1_inb i k 1))

/-- The value rows of trip `k`. -/
def vals (x2 : Vec F S16384x256 .bf16) : Vec F S512x256 .bf16 :=
  View.ld x2 (Rect.unit (s := S16384x256) (k0_off2 i k) S512x256.size (Cert.KernelIdeal.Facts₀.k0_off2_inb i k))

/-- The stores of one trip into the running maxima, slot by slot. -/
theorem trip_L6 : (trip_k0_t1 (F := F) Variants.none c none i arg1 harg1 arg2 harg2 arg3 harg3 arg4 harg4 arg5 harg5 arg6 harg6 arg7 harg7 X1 X2 X3 k).1 f6 f7
    = slots.map (fun n => ⟨slotM n, wrapM (tripM (arg1.view.read (Elt F) X1) (key0 i k (arg2.view.read (Elt F) X2)) (key1 i k (arg2.view.read (Elt F) X2))
        (arg6.view.read (Elt F) f6) n)⟩) := by
  unfold trip_k0_t1
  dsimp only
  sl_unfold_words
  rfl

/-- The stores of one trip into the weighted sums, slot by slot. -/
theorem trip_L7 : (trip_k0_t1 (F := F) Variants.none c none i arg1 harg1 arg2 harg2 arg3 harg3 arg4 harg4 arg5 harg5 arg6 harg6 arg7 harg7 X1 X2 X3 k).2.1 f6 f7
    = slots.map (fun n => ⟨slotA n, wrapA (tripA (arg1.view.read (Elt F) X1) (key0 i k (arg2.view.read (Elt F) X2)) (key1 i k (arg2.view.read (Elt F) X2))
        (vals i k (arg3.view.read (Elt F) X3)) (arg6.view.read (Elt F) f6) (arg7.view.read (Elt F) f7) n)⟩) := by
  unfold trip_k0_t1
  dsimp only
  sl_unfold_words
  rfl

end trip

/-! ## The tiles on the diagonal, and the output -/

section diag
variable (c : Dev nD) (i : grid0.Coords)
  (arg1 : Memref sig .tc .vmem S8x512x256 .bf16) (harg1 : arg1.IsWhole)
  (arg2 : Memref sig .tc .vmem S64x256x256 .bf16) (harg2 : arg2.IsWhole)
  (arg3 : Memref sig .tc .vmem S16384x256 .bf16) (harg3 : arg3.IsWhole)
  (arg4 : Memref sig .tc .vmem S8x128x64 .bf16) (harg4 : arg4.IsWhole)
  (arg5 : Memref sig .tc .vmem S512x512 .f32) (harg5 : arg5.IsWhole)
  (arg6 : Memref sig .tc .vmem S16x256x128 .f32) (harg6 : arg6.IsWhole)
  (arg7 : Memref sig .tc .vmem S16x256x256 .f32) (harg7 : arg7.IsWhole)
  (x0 : Vec F S8x512x256 .bf16) (x1 : Vec F S64x256x256 .bf16) (x2 : Vec F S16384x256 .bf16) (x3 : Vec F S8x128x64 .bf16)

/-- The first key tile on the diagonal. -/
def dkey0 : Vec F S1x256x256 .bf16 :=
  View.ld (arg2.view.read (Elt F) (harg2.unread x1)) (Rect.unit (s := S64x256x256) (k0_off5 i) S1x256x256.size (Cert.KernelIdeal.Facts₀.k0_off5_inb i))

/-- The second key tile on the diagonal. -/
def dkey1 : Vec F S1x256x256 .bf16 :=
  View.ld (arg2.view.read (Elt F) (harg2.unread x1)) (Rect.unit (s := S64x256x256) (k0_off6 i) S1x256x256.size (Cert.KernelIdeal.Facts₀.k0_off6_inb i))

/-- The value rows of the diagonal's tiles. -/
def dvals : Vec F S512x256 .bf16 :=
  View.ld (arg3.view.read (Elt F) (harg3.unread x2)) (Rect.unit (s := S16384x256) (k0_off7 i) S512x256.size (Cert.KernelIdeal.Facts₀.k0_off7_inb i))

/-- The queries of a slot. -/
def dquery (n : Fin 16) : Vec F S1x256x256 .bf16 := View.ld (arg1.view.read (Elt F) (harg1.unread x0)) (slotQ n)

/-- The stores made so far into the maxima and into the sums. -/
abbrev Stores (F : FTy → Type) := List (View.Piece (Elt F) S16x256x128 .f32) × List (View.Piece (Elt F) S16x256x256 .f32)

/-- The diagonal step of a slot in the first block: one masked tile. -/
def diag0 (q k : Vec F S1x256x256 .bf16) (v : Vec F S512x256 .bf16) (n : Fin 16) (p : Stores F) : Stores F :=
  let m := arg6.view.readCov p.1 (slotM n).toLoadRect
  let a := arg7.view.readCov p.2 (slotA n).toLoadRect
  let mu := max1 (masked (score q k)) m
  (⟨slotM n, wrapM mu⟩ :: p.1, ⟨slotA n, wrapA (sum1 (masked (score q k)) (firstRows (valueRows v)) mu m a)⟩ :: p.2)

/-- The diagonal step of a slot in the second block: a full tile and a masked one. -/
def diag1 (q k l : Vec F S1x256x256 .bf16) (v : Vec F S512x256 .bf16) (n : Fin 16) (p : Stores F) : Stores F :=
  let m := arg6.view.readCov p.1 (slotM n).toLoadRect
  let a := arg7.view.readCov p.2 (slotA n).toLoadRect
  let mu := max2 (score q k) (masked (score q l)) m
  (⟨slotM n, wrapM mu⟩ :: p.1, ⟨slotA n, wrapA (sum2 (score q k) (masked (score q l)) (valueRows v) mu m a)⟩ :: p.2)

/-- The maxima's and the sums' first contents: the mask's value, and zero. -/
def fill : Stores F :=
  ([⟨Rect.unit (s := S16x256x128) ![0, 0, 0] S16x256x128.size Cert.KernelIdeal.Facts₀.inb_S16x256x128_S16x256x128_0_0_0,
      broadcast S16x256x128 (Named.named κ "mask" 0xF149F2CA#32 : F .f32)⟩],
   [⟨Rect.unit (s := S16x256x256) ![0, 0, 0] S16x256x256.size Cert.KernelIdeal.Facts₀.inb_S16x256x256_S16x256x256_0_0_0,
      broadcast S16x256x256 (Scalar.ofBits .f32 0x00000000#32 : F .f32)⟩])

/-- The stores of the first loop, over all pairs of tiles before the diagonal. -/
def loop1 : Stores F :=
  pb_k0_t1 (F := F) Variants.none c none i arg1 harg1 arg2 harg2 arg3 harg3 arg4 harg4 arg5 harg5 arg6 harg6 arg7 harg7
    (harg1.unread x0) (harg2.unread x1) (harg3.unread x2)
    (arg6.view.writes (Elt F) arg6.view.junk fill.1) (arg7.view.writes (Elt F) arg7.view.junk fill.2)
    (Scf.trips (k0_t1_loop i).lb (k0_t1_loop i).ub (k0_t1_loop i).st)

/-- The stores of the second loop, which takes the pairs the first one left. -/
def loop2 : Stores F :=
  pb_k0_t2 (F := F) Variants.none c none i arg1 harg1 arg2 harg2 arg3 harg3 arg4 harg4 arg5 harg5 arg6 harg6 arg7 harg7
    (Scalar.addi 0#32 (Scalar.muli (Scalar.divsi (Scalar.subi (BitVec.ofNat 32 (i 0).val) 0#32) 1#32) 1#32))
    (harg1.unread x0) (harg2.unread x1) (harg3.unread x2)
    (arg6.view.writes (Elt F) arg6.view.junk ((loop1 c i arg1 harg1 arg2 harg2 arg3 harg3 arg4 harg4 arg5 harg5 arg6 harg6 arg7 harg7 x0 x1 x2).1 ++ fill.1))
    (arg7.view.writes (Elt F) arg7.view.junk ((loop1 c i arg1 harg1 arg2 harg2 arg3 harg3 arg4 harg4 arg5 harg5 arg6 harg6 arg7 harg7 x0 x1 x2).2 ++ fill.2))
    (Scf.trips (k0_t2_loop i).lb (k0_t2_loop i).ub (k0_t2_loop i).st)

/-- The stores before the diagonal. -/
def before : Stores F :=
  ((loop2 c i arg1 harg1 arg2 harg2 arg3 harg3 arg4 harg4 arg5 harg5 arg6 harg6 arg7 harg7 x0 x1 x2).1 ++
    ((loop1 c i arg1 harg1 arg2 harg2 arg3 harg3 arg4 harg4 arg5 harg5 arg6 harg6 arg7 harg7 x0 x1 x2).1 ++ fill.1),
   (loop2 c i arg1 harg1 arg2 harg2 arg3 harg3 arg4 harg4 arg5 harg5 arg6 harg6 arg7 harg7 x0 x1 x2).2 ++
    ((loop1 c i arg1 harg1 arg2 harg2 arg3 harg3 arg4 harg4 arg5 harg5 arg6 harg6 arg7 harg7 x0 x1 x2).2 ++ fill.2))

/-- The stores after the diagonal's tiles. -/
def after : Stores F :=
  List.foldr (fun n => diag1 arg6 arg7 (dquery arg1 harg1 x0 n) (dkey0 i arg2 harg2 x1) (dkey1 i arg2 harg2 x1) (dvals i arg3 harg3 x2) n)
    (List.foldr (fun n => diag0 arg6 arg7 (dquery arg1 harg1 x0 n) (dkey0 i arg2 harg2 x1) (dvals i arg3 harg3 x2) n)
      (before c i arg1 harg1 arg2 harg2 arg3 harg3 arg4 harg4 arg5 harg5 arg6 harg6 arg7 harg7 x0 x1 x2) [7, 6, 5, 4, 3, 2, 1, 0])
    [15, 14, 13, 12, 11, 10, 9, 8]

theorem slotW_inb (h : Fin 8) : ∀ a, (![(h : ℕ), 0, 0] : Fin 3 → ℕ) a + S1x128x64.size a ≤ S8x128x64.size a := by
  have := h.isLt
  intro a; fin_cases a <;> simp

/-- One head's output of one block of rows. -/
def outHead (p : Stores F) (u : Fin 2) (h : Fin 8) : FVec F S256x64 .f32 :=
  headOut (arg7.view.readCov p.2 (slotA ⟨8 * u + h, by omega⟩).toLoadRect)
    (View.ld (arg4.view.read (Elt F) (harg4.unread x3)) (Rect.unit (s := S8x128x64) ![(h : ℕ), 0, 0] S1x128x64.size (slotW_inb h)))

/-- The stores of the run into the output. -/
theorem run_pieces :
    (kernelRun0_A (F := F) c i arg1 harg1 arg2 harg2 arg3 harg3 arg4 harg4 arg5 harg5 arg6 harg6 arg7 harg7 x0 x1 x2 x3).1
    = [⟨Rect.unit (s := S512x512) ![256, 0] S256x512.size Cert.KernelIdeal.Facts₀.inb_S512x512_S256x512_256_0,
          heads (outHead arg4 harg4 arg7 x3 (after c i arg1 harg1 arg2 harg2 arg3 harg3 arg4 harg4 arg5 harg5 arg6 harg6 arg7 harg7 x0 x1 x2) 1)⟩,
       ⟨Rect.unit (s := S512x512) ![0, 0] S256x512.size Cert.KernelIdeal.Facts₀.inb_S512x512_S256x512_0_0,
          heads (outHead arg4 harg4 arg7 x3 (after c i arg1 harg1 arg2 harg2 arg3 harg3 arg4 harg4 arg5 harg5 arg6 harg6 arg7 harg7 x0 x1 x2) 0)⟩] := by
  unfold kernelRun0_A
  dsimp only
  rfl

end diag

end Cert.KernelIdeal.Step

end
-- ==== Proof.Slots.lean ====
module

public import proofs.«01_k».proof.Proof.Step

@[expose] public section

set_option maxRecDepth 16384

noncomputable section

/-! # One slot at a time

A store into one slot leaves the other slots alone. So what a slot holds at the end is found by following that slot
alone through the loop and the diagonal. -/

namespace Cert.KernelIdeal.Slots

open Idealize.ShloMosaic Idealize.ShloMosaic.TcCoe Cert.KernelIdeal.Gen Cert.KernelIdeal.Step

variable {F : FTy → Type} [FloatOps F] [Named F]

/-! ## Reading a slot back from a list of stores -/

/-- Two different slots of the maxima do not meet. -/
theorem slotM_not_mem {a n : Fin 16} (h : a ≠ n) (x : (slotM n).shape.Idx) : (slotM n).idx x ∉ (slotM a).set := by
  intro hm
  rw [Rect.mem_set_unit] at hm
  have h0 := hm 0
  have hx : (x 0 : ℕ) < 1 := (x 0).isLt
  simp [LoadRect.idx, Rect.unit] at h0
  apply h
  apply Fin.ext
  omega

/-- Two different slots of the sums do not meet. -/
theorem slotA_not_mem {a n : Fin 16} (h : a ≠ n) (x : (slotA n).shape.Idx) : (slotA n).idx x ∉ (slotA a).set := by
  intro hm
  rw [Rect.mem_set_unit] at hm
  have h0 := hm 0
  have hx : (x 0 : ℕ) < 1 := (x 0).isLt
  simp [LoadRect.idx, Rect.unit] at h0
  apply h
  apply Fin.ext
  omega

/-- A slot of the maxima, read after one more store. -/
theorem readM_cons (a n : Fin 16) (w : FVec F S1x256x128 .f32) (L : List (View.Piece (Elt F) S16x256x128 .f32)) :
    View.ld (View.canon (⟨slotM a, w⟩ :: L)) (slotM n) = if a = n then w else View.ld (View.canon L) (slotM n) := by
  split
  · subst a
    funext x
    exact View.canon_cons_emb (slotM n) w L x
  · next h =>
    funext x
    exact View.canon_cons_of_not_mem _ L (slotM_not_mem h x)

/-- A slot of the sums, read after one more store. -/
theorem readA_cons (a n : Fin 16) (w : FVec F S1x256x256 .f32) (L : List (View.Piece (Elt F) S16x256x256 .f32)) :
    View.ld (View.canon (⟨slotA a, w⟩ :: L)) (slotA n) = if a = n then w else View.ld (View.canon L) (slotA n) := by
  split
  · subst a
    funext x
    exact View.canon_cons_emb (slotA n) w L x
  · next h =>
    funext x
    exact View.canon_cons_of_not_mem _ L (slotA_not_mem h x)

/-- A slot of the maxima, read after a pass over some slots. -/
theorem readM_map (l : List (Fin 16)) (w : Fin 16 → FVec F S1x256x128 .f32) (L : List (View.Piece (Elt F) S16x256x128 .f32)) (n : Fin 16) :
    View.ld (View.canon ((l.map fun a => (⟨slotM a, w a⟩ : View.Piece (Elt F) S16x256x128 .f32)) ++ L)) (slotM n)
      = if n ∈ l then w n else View.ld (View.canon L) (slotM n) := by
  induction l with
  | nil => simp
  | cons a l ih =>
    rw [List.map_cons, List.cons_append, readM_cons, ih]
    by_cases h : a = n
    · subst h; simp
    · simp [h, Ne.symm h]

/-- A slot of the sums, read after a pass over some slots. -/
theorem readA_map (l : List (Fin 16)) (w : Fin 16 → FVec F S1x256x256 .f32) (L : List (View.Piece (Elt F) S16x256x256 .f32)) (n : Fin 16) :
    View.ld (View.canon ((l.map fun a => (⟨slotA a, w a⟩ : View.Piece (Elt F) S16x256x256 .f32)) ++ L)) (slotA n)
      = if n ∈ l then w n else View.ld (View.canon L) (slotA n) := by
  induction l with
  | nil => simp
  | cons a l ih =>
    rw [List.map_cons, List.cons_append, readA_cons, ih]
    by_cases h : a = n
    · subst h; simp
    · simp [h, Ne.symm h]

/-! ## What a slot holds -/

/-- A slot's running maxima and weighted sums. -/
abbrev State (F : FTy → Type) := Vec F S1x256x128 .f32 × Vec F S1x256x256 .f32

/-- What a list of stores leaves in slot `n`. -/
def held (p : Stores F) (n : Fin 16) : State F := (View.ld (View.canon p.1) (slotM n), View.ld (View.canon p.2) (slotA n))

/-- The first contents. -/
def start : State F := (fun _ => (Named.named κ "mask" 0xF149F2CA#32 : F .f32), fun _ => (Scalar.ofBits .f32 0x00000000#32 : F .f32))

/-- Two full tiles. -/
def pairStep (q k l : Vec F S1x256x256 .bf16) (v : Vec F S512x256 .bf16) (p : State F) : State F :=
  (wrapM (max2 (score q k) (score q l) p.1),
   wrapA (sum2 (score q k) (score q l) (valueRows v) (max2 (score q k) (score q l) p.1) p.1 p.2))

/-- The diagonal's tile of the first block. -/
def lastStep0 (q k : Vec F S1x256x256 .bf16) (v : Vec F S512x256 .bf16) (p : State F) : State F :=
  (wrapM (max1 (masked (score q k)) p.1),
   wrapA (sum1 (masked (score q k)) (firstRows (valueRows v)) (max1 (masked (score q k)) p.1) p.1 p.2))

/-- The diagonal's tiles of the second block. -/
def lastStep1 (q k l : Vec F S1x256x256 .bf16) (v : Vec F S512x256 .bf16) (p : State F) : State F :=
  (wrapM (max2 (score q k) (masked (score q l)) p.1),
   wrapA (sum2 (score q k) (masked (score q l)) (valueRows v) (max2 (score q k) (masked (score q l)) p.1) p.1 p.2))

/-- The fill, read at a slot. -/
theorem held_fill (n : Fin 16) : held (fill : Stores F) n = start := by
  unfold held fill start
  refine Prod.ext ?_ ?_ <;> dsimp only
  · rw [View.canon_cons_unit_zero (by funext a; fin_cases a <;> rfl)]; rfl
  · rw [View.canon_cons_unit_zero (by funext a; fin_cases a <;> rfl)]; rfl

/-- One step of a pass over distinct slots: the step's slot moves, the others stay. -/
theorem held_foldr (f : Fin 16 → Stores F → Stores F) (g : Fin 16 → State F → State F)
    (hf : ∀ a n p, held (f a p) n = if a = n then g n (held p n) else held p n) (l : List (Fin 16)) (hl : l.Nodup) (p : Stores F) (n : Fin 16) :
    held (l.foldr f p) n = if n ∈ l then g n (held p n) else held p n := by
  induction l with
  | nil => simp
  | cons a l ih =>
    rw [List.nodup_cons] at hl
    rw [List.foldr_cons, hf, ih hl.2]
    by_cases h : a = n
    · subst h; simp [hl.1]
    · simp [h, Ne.symm h]

section
variable (arg6 : Memref sig .tc .vmem S16x256x128 .f32) (arg7 : Memref sig .tc .vmem S16x256x256 .f32)

/-- The first block's diagonal step, read at any slot. -/
theorem held_diag0 (q k : Vec F S1x256x256 .bf16) (v : Vec F S512x256 .bf16) (a n : Fin 16) (p : Stores F) :
    held (diag0 arg6 arg7 q k v a p) n = if a = n then lastStep0 q k v (held p a) else held p n := by
  unfold held diag0 lastStep0
  dsimp only
  rw [readM_cons, readA_cons, View.readCov_eq_canon', View.readCov_eq_canon']
  split <;> rfl

/-- The second block's diagonal step, read at any slot. -/
theorem held_diag1 (q k l : Vec F S1x256x256 .bf16) (v : Vec F S512x256 .bf16) (a n : Fin 16) (p : Stores F) :
    held (diag1 arg6 arg7 q k l v a p) n = if a = n then lastStep1 q k l v (held p a) else held p n := by
  unfold held diag1 lastStep1
  dsimp only
  rw [readM_cons, readA_cons, View.readCov_eq_canon', View.readCov_eq_canon']
  split <;> rfl

end

section run
variable (c : Dev nD) (i : grid0.Coords)
  (arg1 : Memref sig .tc .vmem S8x512x256 .bf16) (harg1 : arg1.IsWhole)
  (arg2 : Memref sig .tc .vmem S64x256x256 .bf16) (harg2 : arg2.IsWhole)
  (arg3 : Memref sig .tc .vmem S16384x256 .bf16) (harg3 : arg3.IsWhole)
  (arg4 : Memref sig .tc .vmem S8x128x64 .bf16) (harg4 : arg4.IsWhole)
  (arg5 : Memref sig .tc .vmem S512x512 .f32) (harg5 : arg5.IsWhole)
  (arg6 : Memref sig .tc .vmem S16x256x128 .f32) (harg6 : arg6.IsWhole)
  (arg7 : Memref sig .tc .vmem S16x256x256 .f32) (harg7 : arg7.IsWhole)
  (x0 : Vec F S8x512x256 .bf16) (x1 : Vec F S64x256x256 .bf16) (x2 : Vec F S16384x256 .bf16) (x3 : Vec F S8x128x64 .bf16)

/-- What slot `n` holds after `k` trips. -/
def loopState (n : Fin 16) : ℕ → State F
  | 0 => start
  | k + 1 => if h : k < (k0_t1_loop i).trips then
      pairStep (View.ld x0 (slotQ n)) (key0 i ⟨k, h⟩ x1) (key1 i ⟨k, h⟩ x1) (vals i ⟨k, h⟩ x2) (loopState n k)
    else loopState n k

/-- Every slot is among the slots. -/
theorem mem_slots : ∀ n : Fin 16, n ∈ slots := by decide

/-- The stores of the first `k` trips. -/
def firstTrips (k : ℕ) : Stores F :=
  pb_k0_t1 (F := F) Variants.none c none i arg1 harg1 arg2 harg2 arg3 harg3 arg4 harg4 arg5 harg5 arg6 harg6 arg7 harg7
    (harg1.unread x0) (harg2.unread x1) (harg3.unread x2)
    (arg6.view.writes (Elt F) arg6.view.junk fill.1) (arg7.view.writes (Elt F) arg7.view.junk fill.2) k

/-- After `k` trips slot `n` holds `loopState n k`. -/
theorem held_firstTrips (n : Fin 16) (k : ℕ) (hk : k ≤ (k0_t1_loop i).trips) :
    held ((firstTrips c i arg1 harg1 arg2 harg2 arg3 harg3 arg4 harg4 arg5 harg5 arg6 harg6 arg7 harg7 x0 x1 x2 k).1 ++ fill.1,
      (firstTrips c i arg1 harg1 arg2 harg2 arg3 harg3 arg4 harg4 arg5 harg5 arg6 harg6 arg7 harg7 x0 x1 x2 k).2 ++ fill.2) n
      = loopState i x0 x1 x2 n k := by
  induction k with
  | zero => exact held_fill n
  | succ k ih =>
    have hk' : k < (k0_t1_loop i).trips := hk
    specialize ih hk'.le
    have hs : firstTrips c i arg1 harg1 arg2 harg2 arg3 harg3 arg4 harg4 arg5 harg5 arg6 harg6 arg7 harg7 x0 x1 x2 (k + 1) = _ :=
      pb_k0_t1_succ (F := F) Variants.none c none i arg1 harg1 arg2 harg2 arg3 harg3 arg4 harg4 arg5 harg5 arg6 harg6 arg7 harg7
        (harg1.unread x0) (harg2.unread x1) (harg3.unread x2)
        (arg6.view.writes (Elt F) arg6.view.junk fill.1) (arg7.view.writes (Elt F) arg7.view.junk fill.2) ⟨k, hk'⟩
    rw [hs]
    unfold tripL_k0_t1
    dsimp only
    rw [trip_L6, trip_L7, List.append_assoc, List.append_assoc, ← View.writes_append, ← View.writes_append,
      View.read_writes_junk_eq_canon, View.read_writes_junk_eq_canon, harg1.read_unread, harg2.read_unread, harg3.read_unread,
      loopState, dif_pos hk', ← ih]
    unfold held
    dsimp only
    rw [readM_map, readA_map, if_pos (mem_slots n), if_pos (mem_slots n)]
    rfl

/-- The second loop makes no trips. -/
theorem loop2_trips : ∀ i : grid0.Coords, Scf.trips (k0_t2_loop i).lb (k0_t2_loop i).ub (k0_t2_loop i).st = 0 := by
  decide +kernel

/-- What slot `n` holds before the diagonal. -/
theorem held_before (n : Fin 16) :
    held (before c i arg1 harg1 arg2 harg2 arg3 harg3 arg4 harg4 arg5 harg5 arg6 harg6 arg7 harg7 x0 x1 x2) n
      = loopState i x0 x1 x2 n (k0_t1_loop i).trips := by
  rw [← held_firstTrips c i arg1 harg1 arg2 harg2 arg3 harg3 arg4 harg4 arg5 harg5 arg6 harg6 arg7 harg7 x0 x1 x2 n _ le_rfl]
  unfold before loop2
  rw [loop2_trips]
  rfl

/-- What slot `n` holds at the end. -/
def endState (n : Fin 16) : State F :=
  if n ∈ ([15, 14, 13, 12, 11, 10, 9, 8] : List (Fin 16)) then
    lastStep1 (View.ld x0 (slotQ n)) (dkey0 i arg2 harg2 x1) (dkey1 i arg2 harg2 x1) (dvals i arg3 harg3 x2) (loopState i x0 x1 x2 n (k0_t1_loop i).trips)
  else lastStep0 (View.ld x0 (slotQ n)) (dkey0 i arg2 harg2 x1) (dvals i arg3 harg3 x2) (loopState i x0 x1 x2 n (k0_t1_loop i).trips)

/-- What slot `n` holds after the diagonal. -/
theorem held_after (n : Fin 16) :
    held (after c i arg1 harg1 arg2 harg2 arg3 harg3 arg4 harg4 arg5 harg5 arg6 harg6 arg7 harg7 x0 x1 x2) n
      = endState i arg2 harg2 arg3 harg3 x0 x1 x2 n := by
  unfold after endState
  rw [held_foldr _ (fun n => lastStep1 (dquery arg1 harg1 x0 n) (dkey0 i arg2 harg2 x1) (dkey1 i arg2 harg2 x1) (dvals i arg3 harg3 x2))
      (fun a n p => by rw [held_diag1]; by_cases h : a = n <;> simp [h]) _ (by decide),
    held_foldr _ (fun n => lastStep0 (dquery arg1 harg1 x0 n) (dkey0 i arg2 harg2 x1) (dvals i arg3 harg3 x2))
      (fun a n p => by rw [held_diag0]; by_cases h : a = n <;> simp [h]) _ (by decide), held_before]
  unfold dquery
  rw [harg1.read_unread]
  by_cases h : n ∈ ([15, 14, 13, 12, 11, 10, 9, 8] : List (Fin 16))
  · rw [if_pos h, if_pos h, if_neg (by revert n; decide)]
  · rw [if_neg h, if_neg h, if_pos (by revert n; decide)]

end run

end Cert.KernelIdeal.Slots

end
-- ==== Proof.Softmax.lean ====
module

public import proofs.«01_k».proof.Proof.Slots
public import Idealize.ShloMosaic.Lib.Pointwise

@[expose] public section

set_option maxRecDepth 16384

noncomputable section

/-! # The online softmax, over the reals

A row of the kernel keeps a running maximum and weighted sums relative to it. Which real number the running maximum is
does not matter: the sums relative to one reference point are the sums relative to another up to a factor, and the last
division removes the factor. -/

namespace Cert.Softmax

open Idealize.ShloMosaic

/-- A finite sum of real numbers, taken in the extended reals. -/
theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A maximum of extended reals none of which is `+∞` and one of which is not `−∞` is a real number. -/
theorem fold_max_real {ι : Type} [Fintype ι] (f : ι → EReal) (ht : ∀ x, f x < ⊤) (x₀ : ι) (hb : ⊥ < f x₀) :
    ∃ T : ℝ, Finset.fold max (⊥ : EReal) f Finset.univ = T := by
  have h1 : Finset.fold max (⊥ : EReal) f Finset.univ < ⊤ := (Finset.fold_max_lt _).2 ⟨bot_lt_top, fun x _ => ht x⟩
  have h2 : ⊥ < Finset.fold max (⊥ : EReal) f Finset.univ := (Finset.lt_fold_max _).2 (.inr ⟨x₀, Finset.mem_univ _, hb⟩)
  exact ⟨_, (EReal.coe_toReal h1.ne h2.ne').symm⟩

/-- A row's state after the first `K` keys, with scores `s` and values `v`: nothing yet, or sums relative to some real
number. -/
def Row (K : ℕ) (s : ℕ → ℝ) (v : ℕ → Fin 256 → ℝ) (m : EReal) (A : Fin 256 → EReal) : Prop :=
  (K = 0 ∧ m = ⊥ ∧ ∀ c, A c = 0) ∨
    ∃ μ : ℝ, m = μ ∧ ∀ c, A c = ((∑ t ∈ Finset.range K, Real.exp (s t - μ) * v t c : ℝ) : EReal)

/-- A sum over the visible ones of `W` keys. -/
theorem sum_visible {W n : ℕ} (hn : n ≤ W) (f : ℕ → ℝ) :
    ∑ j : Fin W, (if (j : ℕ) < n then f j else 0) = ∑ j ∈ Finset.range n, f j := by
  rw [Fin.sum_univ_eq_sum_range (fun j => if j < n then f j else 0) W, ← Finset.sum_filter]
  congr 1
  ext j
  simp only [Finset.mem_filter, Finset.mem_range]
  omega

/-- One step: `W` keys of which the first `n` are visible. -/
theorem Row.step {K : ℕ} {s : ℕ → ℝ} {v : ℕ → Fin 256 → ℝ} {m : EReal} {A : Fin 256 → EReal} (h : Row K s v m A)
    {W n : ℕ} (hn : n ≤ W) (σ : Fin W → EReal) (hσ : ∀ j, σ j = if (j : ℕ) < n then ((s (K + j) : ℝ) : EReal) else ⊥)
    (w : Fin W → Fin 256 → EReal) (hw : ∀ j c, w j c = ((v (K + j) c : ℝ) : EReal)) (T : ℝ) :
    Row (K + n) s v (max m (T : EReal))
      (fun c => Ideal.exp (m - max m (T : EReal)) * A c + ∑ j, Ideal.exp (σ j - max m (T : EReal)) * w j c) := by
  have hsum : ∀ (μ : ℝ) (c : Fin 256), ∑ j, Ideal.exp (σ j - (μ : EReal)) * w j c
      = ((∑ j ∈ Finset.range n, Real.exp (s (K + j) - μ) * v (K + j) c : ℝ) : EReal) := by
    intro μ c
    rw [← sum_visible hn (fun j => Real.exp (s (K + j) - μ) * v (K + j) c), ← coe_sum]
    refine Finset.sum_congr rfl fun j _ => ?_
    rw [hσ, hw]
    split
    · rw [← EReal.coe_sub, Ideal.exp_coe, ← EReal.coe_mul]
    · rw [EReal.bot_sub, Ideal.exp_bot, zero_mul, EReal.coe_zero]
  right
  rcases h with ⟨rfl, rfl, hA⟩ | ⟨μ, rfl, hA⟩
  · refine ⟨T, max_eq_right bot_le, fun c => ?_⟩
    dsimp only
    rw [max_eq_right bot_le, hA, mul_zero, zero_add, hsum]
    simp only [zero_add]
  · have hmax : max (μ : EReal) (T : EReal) = ((max μ T : ℝ) : EReal) := (EReal.coe_strictMono.monotone.map_max).symm
    refine ⟨max μ T, hmax, fun c => ?_⟩
    dsimp only
    rw [hmax, hsum, hA, ← EReal.coe_sub, Ideal.exp_coe, ← EReal.coe_mul, ← EReal.coe_add, Finset.sum_range_add,
      Finset.mul_sum]
    congr 2
    refine Finset.sum_congr rfl fun t _ => ?_
    rw [← mul_assoc, ← Real.exp_add]
    congr 2
    ring

/-- The softmax-weighted mean of the first `K` values. -/
def soft (K : ℕ) (s : ℕ → ℝ) (v : ℕ → ℝ) : ℝ :=
  (∑ t ∈ Finset.range K, Real.exp (s t) * v t) / ∑ t ∈ Finset.range K, Real.exp (s t)

/-- The mean does not depend on the number subtracted from every score. -/
theorem soft_shift (K : ℕ) (s : ℕ → ℝ) (v : ℕ → ℝ) (μ : ℝ) :
    (∑ t ∈ Finset.range K, Real.exp (s t - μ) * v t) / ∑ t ∈ Finset.range K, Real.exp (s t - μ) = soft K s v := by
  unfold soft
  have h : ∀ f : ℕ → ℝ, ∑ t ∈ Finset.range K, Real.exp (s t - μ) * f t = Real.exp (-μ) * ∑ t ∈ Finset.range K, Real.exp (s t) * f t := by
    intro f
    rw [Finset.mul_sum]
    refine Finset.sum_congr rfl fun t _ => ?_
    rw [← mul_assoc, ← Real.exp_add]
    congr 2
    ring
  have h1 := h (fun _ => 1)
  simp only [mul_one] at h1
  rw [h, h1, mul_div_mul_left _ _ (Real.exp_pos _).ne']

/-- A nonempty sum of exponentials is positive. -/
theorem sum_exp_pos {K : ℕ} (hK : 0 < K) (f : ℕ → ℝ) : 0 < ∑ t ∈ Finset.range K, Real.exp (f t) :=
  Finset.sum_pos (fun _ _ => Real.exp_pos _) ⟨0, Finset.mem_range.2 hK⟩

/-- The last division: sums over the total weight are the softmax-weighted mean. -/
theorem Row.finish {K : ℕ} {s : ℕ → ℝ} {v : ℕ → Fin 256 → ℝ} {m : EReal} {A : Fin 256 → EReal} (h : Row K s v m A)
    (hK : 0 < K) (c d : Fin 256) (hd : ∀ t, v t d = 1) : Ideal.div (A c) (A d) = ((soft K s (fun t => v t c) : ℝ) : EReal) := by
  rcases h with ⟨rfl, -, -⟩ | ⟨μ, -, hA⟩
  · exact absurd hK (lt_irrefl _)
  · rw [hA, hA]
    simp only [hd, mul_one]
    rw [Ideal.div_coe (sum_exp_pos hK _).ne', ← EReal.coe_mul, mul_one_div, soft_shift]

end Cert.Softmax

end
-- ==== Proof.Rows.lean ====
module

public import proofs.«01_k».proof.Proof.Softmax
public import Idealize.ShloMosaic.Lib.WordCmp

@[expose] public section

set_option maxRecDepth 16384

noncomputable section

/-! # A slot's step, row by row, over the extended reals -/

namespace Cert.KernelIdeal.Rows

open Idealize.ShloMosaic Idealize.ShloMosaic.TcCoe Cert.KernelIdeal.Gen Cert.KernelIdeal.Step Cert.KernelIdeal.Slots Cert.Softmax

/-- The mask's value is `−∞`. -/
theorem mask_bot : Named.named (F := Ideal) κ "mask" (φ := .f32) 0xF149F2CA#32 = ⊥ :=
  IdealRules.named_const.ideal_named_scalar _ _ _ _ rfl

/-- The row maximum starts at `−∞`. -/
theorem neg_inf : Ideal.ofBits .f32 0xFF800000#32 = ⊥ := by
  simp [Ideal.ofBits, Ideal.ieee, -EReal.coe_mul]

/-- A score is the product of a query row and a key column. -/
theorem score_at (q k : Vec Ideal S1x256x256 .bf16) (r t : Fin 256) :
    score (F := Ideal) q k (ix2 r t) = ∑ x : Fin 256, q (ix3 0 r x) * k (ix3 0 x t) := by
  pointwise [score]

/-- A masked score keeps the keys up to the query's row. -/
theorem masked_at (s : FVec Ideal S256x256 .f32) (r t : Fin 256) :
    masked (F := Ideal) s (ix2 r t) = if (t : ℕ) ≤ r then s (ix2 r t) else ⊥ := by
  have ht : (t : ℕ) < 2 ^ (32 - 1) := lt_trans t.isLt (by norm_num)
  have hr : (r : ℕ) < 2 ^ (32 - 1) := lt_trans r.isLt (by norm_num)
  pointwise [masked, causal]
  rw [mask_bot, WordCmp.cmpi_sle_ofNat ht hr]
  by_cases h : (t : ℕ) ≤ r <;> simp [h, Scalar.select]

/-- A slot's row `r` after `K` keys: one running maximum in every lane, and the sums relative to it. -/
def RowAt (K : ℕ) (s : ℕ → ℝ) (v : ℕ → Fin 256 → ℝ) (r : Fin 256) (p : State Ideal) : Prop :=
  ∃ m : EReal, (∀ l : Fin 128, p.1 (ix3 0 r l) = m) ∧ Row K s v m (fun c => p.2 (ix3 0 r c))

/-- The first contents: no key yet. -/
theorem rowAt_start (s : ℕ → ℝ) (v : ℕ → Fin 256 → ℝ) (r : Fin 256) : RowAt 0 s v r start := by
  refine ⟨⊥, fun l => mask_bot, .inl ⟨rfl, rfl, fun c => ?_⟩⟩
  exact Ideal.ofBits_zero_f32

/-- The new maximum of one tile is the old one joined with a real number. -/
theorem max1_at (s : FVec Ideal S256x256 .f32) (m : Vec Ideal S1x256x128 .f32) (r : Fin 256)
    (ht : ∀ t, s (ix2 r t) < ⊤) (hb : ⊥ < s (ix2 r 0)) :
    ∃ T : ℝ, ∀ l : Fin 128, max1 (F := Ideal) s m (ix2 r l) = max (m (ix3 0 r l)) (T : EReal) := by
  obtain ⟨T, hT⟩ := fold_max_real (fun x : Fin 128 => max (s (ix2 r ⟨(x : ℕ), by omega⟩)) (s (ix2 r ⟨128 + (x : ℕ), by omega⟩)))
    (fun x => max_lt (ht _) (ht _)) 0 (lt_max_of_lt_left hb)
  refine ⟨T, fun l => ?_⟩
  pointwise [max1, joinMax, lo, hi]
  rw [neg_inf, hT]

/-- The new maximum of two tiles is the old one joined with a real number. -/
theorem max2_at (s t : FVec Ideal S256x256 .f32) (m : Vec Ideal S1x256x128 .f32) (r : Fin 256)
    (hs : ∀ x, s (ix2 r x) < ⊤) (ht : ∀ x, t (ix2 r x) < ⊤) (hb : ⊥ < s (ix2 r 0)) :
    ∃ T : ℝ, ∀ l : Fin 128, max2 (F := Ideal) s t m (ix2 r l) = max (m (ix3 0 r l)) (T : EReal) := by
  obtain ⟨T, hT⟩ := fold_max_real (fun x : Fin 128 => max (max (max (s (ix2 r ⟨(x : ℕ), by omega⟩)) (s (ix2 r ⟨128 + (x : ℕ), by omega⟩)))
      (t (ix2 r ⟨(x : ℕ), by omega⟩))) (t (ix2 r ⟨128 + (x : ℕ), by omega⟩)))
    (fun x => max_lt (max_lt (max_lt (hs _) (hs _)) (ht _)) (ht _)) 0 (lt_max_of_lt_left (lt_max_of_lt_left (lt_max_of_lt_left hb)))
  refine ⟨T, fun l => ?_⟩
  pointwise [max2, joinMax, lo, hi]
  rw [neg_inf, hT]

/-- A weight, where a row's maxima agree in every lane. -/
theorem weight_at (s : FVec Ideal S256x256 .f32) (mu : FVec Ideal S256x128 .f32) (r t : Fin 256) (N : EReal) (hmu : ∀ l, mu (ix2 r l) = N) :
    weight (F := Ideal) s mu (ix2 r t) = Ideal.exp (s (ix2 r t) - N) := by
  pointwise [twice, weight]
  simp only [hmu, dite_eq_ite, ite_self]

/-- The new sums of one tile, where a row's maxima agree in every lane. -/
theorem sum1_at (s : FVec Ideal S256x256 .f32) (v : FVec Ideal S256x256 .bf16) (mu : FVec Ideal S256x128 .f32) (m : Vec Ideal S1x256x128 .f32)
    (a : Vec Ideal S1x256x256 .f32) (r c : Fin 256) (M N : EReal) (hm : ∀ l, m (ix3 0 r l) = M) (hmu : ∀ l, mu (ix2 r l) = N) :
    wrapA (F := Ideal) (sum1 (F := Ideal) s v mu m a) (ix3 0 r c)
      = Ideal.exp (M - N) * a (ix3 0 r c) + ∑ j : Fin 256, Ideal.exp (s (ix2 r j) - N) * v (ix2 j c) := by
  pointwise [wrapA, sum1, rescale, twice]
  simp only [hm, hmu, weight_at s mu r _ N hmu, dite_eq_ite, ite_self]

/-- The new sums of two tiles, where a row's maxima agree in every lane. -/
theorem sum2_at (s t : FVec Ideal S256x256 .f32) (v : FVec Ideal S512x256 .bf16) (mu : FVec Ideal S256x128 .f32) (m : Vec Ideal S1x256x128 .f32)
    (a : Vec Ideal S1x256x256 .f32) (r c : Fin 256) (M N : EReal) (hm : ∀ l, m (ix3 0 r l) = M) (hmu : ∀ l, mu (ix2 r l) = N) :
    wrapA (F := Ideal) (sum2 (F := Ideal) s t v mu m a) (ix3 0 r c)
      = Ideal.exp (M - N) * a (ix3 0 r c)
        + ∑ j : Fin 512, Ideal.exp ((if h : (j : ℕ) < 256 then s (ix2 r ⟨j, h⟩) else t (ix2 r ⟨(j : ℕ) - 256, by omega⟩)) - N) * v (ix2 j c) := by
  pointwise [wrapA, sum2, rescale, twice]
  simp only [hm, hmu, weight_at s mu r _ N hmu, weight_at t mu r _ N hmu, dite_eq_ite, ite_self]

/-- A row of maxima read back from its slot. -/
theorem wrapM_at (x : FVec Ideal S256x128 .f32) (r : Fin 256) (l : Fin 128) : wrapM (F := Ideal) x (ix3 0 r l) = x (ix2 r l) := by
  pointwise [wrapM]

section steps
variable {K : ℕ} {s : ℕ → ℝ} {v : ℕ → Fin 256 → ℝ} {r : Fin 256} {p : State Ideal}

/-- Two tiles of scores, the second possibly masked from column `n` on. -/
theorem rowAt_two (h : RowAt K s v r p) (σ τ : FVec Ideal S256x256 .f32) (w : Vec Ideal S512x256 .bf16) (n : ℕ) (hn : n ≤ 256)
    (hσ : ∀ t : Fin 256, σ (ix2 r t) = ((s (K + t) : ℝ) : EReal))
    (hτ : ∀ t : Fin 256, τ (ix2 r t) = if (t : ℕ) < n then ((s (K + (256 + t)) : ℝ) : EReal) else ⊥)
    (hw : ∀ (x : Fin 512) c, w (ix2 x c) = ((v (K + x) c : ℝ) : EReal)) :
    RowAt (K + (256 + n)) s v r (wrapM (max2 σ τ p.1), wrapA (sum2 σ τ (valueRows w) (max2 σ τ p.1) p.1 p.2)) := by
  obtain ⟨m, hm, hrow⟩ := h
  obtain ⟨T, hT⟩ := max2_at σ τ p.1 r (fun x => by rw [hσ]; exact EReal.coe_lt_top _)
    (fun x => by rw [hτ]; split; exacts [EReal.coe_lt_top _, bot_lt_top]) (by rw [hσ]; exact EReal.bot_lt_coe _)
  refine ⟨max m (T : EReal), fun l => by dsimp only; rw [wrapM_at, hT, hm], ?_⟩
  have key := hrow.step (W := 512) (n := 256 + n) (by omega)
    (fun j => if h : (j : ℕ) < 256 then σ (ix2 r ⟨j, h⟩) else τ (ix2 r ⟨(j : ℕ) - 256, by omega⟩))
    (fun j => by
      by_cases h : (j : ℕ) < 256
      · rw [dif_pos h, hσ, if_pos (by omega)]
      · rw [dif_neg h, hτ]
        have e : 256 + ((j : ℕ) - 256) = j := by omega
        simp only [e]
        by_cases h' : (j : ℕ) < 256 + n
        · rw [if_pos h', if_pos (by omega)]
        · rw [if_neg h', if_neg (by omega)])
    (fun j c => valueRows w (ix2 j c)) (fun j c => by rw [← hw]; pointwise [valueRows]) T
  convert key using 2 with c
  exact sum2_at σ τ (valueRows w) _ p.1 p.2 r c m _ hm (fun l => by rw [hT, hm])

/-- One tile of scores, masked from column `n` on. -/
theorem rowAt_one (h : RowAt K s v r p) (σ : FVec Ideal S256x256 .f32) (w : Vec Ideal S512x256 .bf16) (n : ℕ) (h0 : 0 < n) (hn : n ≤ 256)
    (hσ : ∀ t : Fin 256, σ (ix2 r t) = if (t : ℕ) < n then ((s (K + t) : ℝ) : EReal) else ⊥)
    (hw : ∀ (x : Fin 512) c, w (ix2 x c) = ((v (K + x) c : ℝ) : EReal)) :
    RowAt (K + n) s v r (wrapM (max1 σ p.1), wrapA (sum1 σ (firstRows (valueRows w)) (max1 σ p.1) p.1 p.2)) := by
  obtain ⟨m, hm, hrow⟩ := h
  obtain ⟨T, hT⟩ := max1_at σ p.1 r (fun x => by rw [hσ]; split; exacts [EReal.coe_lt_top _, bot_lt_top])
    (by rw [hσ, if_pos (by simpa using h0)]; exact EReal.bot_lt_coe _)
  refine ⟨max m (T : EReal), fun l => by dsimp only; rw [wrapM_at, hT, hm], ?_⟩
  have key := hrow.step (W := 256) (n := n) hn (fun j => σ (ix2 r j)) hσ
    (fun j c => firstRows (valueRows w) (ix2 j c)) (fun j c => by
      rw [← hw ⟨j, by omega⟩ c]; pointwise [firstRows, valueRows]) T
  convert key using 2 with c
  exact sum1_at σ (firstRows (valueRows w)) _ p.1 p.2 r c m _ hm (fun l => by rw [hT, hm])

end steps

end Cert.KernelIdeal.Rows

end
-- ==== Proof.Loop.lean ====
module

public import proofs.«01_k».proof.Proof.Rows

@[expose] public section

set_option maxRecDepth 16384

noncomputable section

/-! # The whole run of one grid point

Grid point `i` owns the query rows `512 i … 512 i + 511`. Its loop takes the keys before `512 i`, two tiles at a time,
and the diagonal's tiles take the rest: after them row `q` has seen the keys `0 … q`. -/

namespace Cert.KernelIdeal.Loop

open Idealize.ShloMosaic Idealize.ShloMosaic.TcCoe Cert.KernelIdeal.Gen Cert.KernelIdeal.Step Cert.KernelIdeal.Slots
  Cert.KernelIdeal.Rows Cert.Softmax

/-! ## Where the loads are -/

theorem trips_eq : ∀ i : grid0.Coords, (k0_t1_loop i).trips = (i 0 : ℕ) := by decide +kernel

theorem off1_0 : ∀ (i : grid0.Coords) (k : Fin (k0_t1_loop i).trips), k0_off1 i k 0#32 = ![2 * (k : ℕ), 0, 0] := by decide +kernel

theorem off1_1 : ∀ (i : grid0.Coords) (k : Fin (k0_t1_loop i).trips), k0_off1 i k 1#32 = ![2 * (k : ℕ) + 1, 0, 0] := by decide +kernel

theorem off2 : ∀ (i : grid0.Coords) (k : Fin (k0_t1_loop i).trips), k0_off2 i k = ![512 * (k : ℕ), 0] := by decide +kernel

theorem off5 : ∀ i : grid0.Coords, k0_off5 i = ![2 * (i 0 : ℕ), 0, 0] := by decide +kernel

theorem off6 : ∀ i : grid0.Coords, k0_off6 i = ![2 * (i 0 : ℕ) + 1, 0, 0] := by decide +kernel

theorem off7 : ∀ i : grid0.Coords, k0_off7 i = ![512 * (i 0 : ℕ), 0] := by decide +kernel

/-- A key tile read at an index, wherever the tile starts. -/
theorem keyTile_at (x1 : Vec Ideal S64x256x256 .bf16) (off : Fin 3 → ℕ) (inb) (T : Fin 64) (h : off = ![(T : ℕ), 0, 0]) (d t : Fin 256) :
    View.ld x1 (Rect.unit (s := S64x256x256) off S1x256x256.size inb) (ix3 0 d t) = x1 (ix3 T d t) := by
  subst h
  pointwise

/-- Value rows read at an index, wherever they start. -/
theorem valueTile_at (x2 : Vec Ideal S16384x256 .bf16) (off : Fin 2 → ℕ) (inb) (b : ℕ) (h : off = ![b, 0]) (x : Fin 512) (c : Fin 256)
    (hb : b + 512 ≤ 16384) :
    View.ld x2 (Rect.unit (s := S16384x256) off S512x256.size inb) (ix2 x c) = x2 (ix2 ⟨b + x, by omega⟩ c) := by
  subst h
  pointwise

/-- A slot's queries read at an index. -/
theorem query_at (x0 : Vec Ideal S8x512x256 .bf16) (n : Fin 16) (r d : Fin 256) :
    View.ld x0 (slotQ n) (ix3 0 r d) = x0 (ix3 ⟨(n : ℕ) % 8, by omega⟩ ⟨256 * ((n : ℕ) / 8) + r, by omega⟩ d) := by
  pointwise

section run
variable (i : grid0.Coords) (x0 : Vec Ideal S8x512x256 .bf16) (x1 : Vec Ideal S64x256x256 .bf16) (x2 : Vec Ideal S16384x256 .bf16)
  (n : Fin 16) (r : Fin 256) (s : ℕ → ℝ) (v : ℕ → Fin 256 → ℝ)

/-- The row's scores against all keys are the real numbers `s`, and the value rows are the real numbers `v`. -/
structure Reals : Prop where
  scores : ∀ (T : Fin 64) (t : Fin 256),
    ∑ d : Fin 256, x0 (ix3 ⟨(n : ℕ) % 8, by omega⟩ ⟨256 * ((n : ℕ) / 8) + r, by omega⟩ d) * x1 (ix3 T d t)
      = ((s (256 * T + t) : ℝ) : EReal)
  value : ∀ (y : Fin 16384) (c : Fin 256), x2 (ix2 y c) = ((v y c : ℝ) : EReal)

variable {x0 x1 x2 n r s v}

/-- A tile's scores. -/
theorem Reals.tile (R : Reals x0 x1 x2 n r s v) (off : Fin 3 → ℕ) (inb) (T : Fin 64) (h : off = ![(T : ℕ), 0, 0]) (t : Fin 256) :
    score (F := Ideal) (View.ld x0 (slotQ n)) (View.ld x1 (Rect.unit (s := S64x256x256) off S1x256x256.size inb)) (ix2 r t)
      = ((s (256 * T + t) : ℝ) : EReal) := by
  rw [score_at, ← R.scores]
  refine Finset.sum_congr rfl fun d _ => ?_
  rw [query_at, keyTile_at x1 off inb T h]

/-- After `k` trips the row has seen the keys before `512 k`. -/
theorem rowAt_loop (R : Reals x0 x1 x2 n r s v) (k : ℕ) (hk : k ≤ (k0_t1_loop i).trips) :
    RowAt (512 * k) s v r (loopState i x0 x1 x2 n k) := by
  induction k with
  | zero => exact rowAt_start s v r
  | succ k ih =>
    have hk' : k < (k0_t1_loop i).trips := hk
    have hi : (i 0 : ℕ) < 32 := (i 0).isLt
    have hki : k < (i 0 : ℕ) := by rw [← trips_eq]; exact hk'
    rw [loopState, dif_pos hk']
    have e : 512 * (k + 1) = 512 * k + (256 + 256) := by omega
    rw [e]
    refine rowAt_two (ih hk'.le) _ _ _ 256 le_rfl (fun t => ?_) (fun t => ?_) (fun x c => ?_)
    · unfold key0
      rw [R.tile _ _ ⟨2 * k, by omega⟩ (off1_0 i ⟨k, hk'⟩)]
      congr 2; dsimp only; omega
    · unfold key1
      rw [R.tile _ _ ⟨2 * k + 1, by omega⟩ (off1_1 i ⟨k, hk'⟩), if_pos t.isLt]
      congr 2; dsimp only; omega
    · unfold vals
      rw [valueTile_at x2 _ _ (512 * k) (off2 i ⟨k, hk'⟩) x c (by omega), R.value]

section ends
variable (arg2 : Memref sig .tc .vmem S64x256x256 .bf16) (harg2 : arg2.IsWhole)
  (arg3 : Memref sig .tc .vmem S16384x256 .bf16) (harg3 : arg3.IsWhole)

/-- After the diagonal the row has seen every key up to itself. -/
theorem rowAt_end (R : Reals x0 x1 x2 n r s v) :
    RowAt (512 * (i 0 : ℕ) + 256 * ((n : ℕ) / 8) + r + 1) s v r (endState i arg2 harg2 arg3 harg3 x0 x1 x2 n) := by
  have hi : (i 0 : ℕ) < 32 := (i 0).isLt
  have h := rowAt_loop i R (k0_t1_loop i).trips le_rfl
  rw [trips_eq i] at h
  have hw : ∀ (x : Fin 512) c, dvals (F := Ideal) i arg3 harg3 x2 (ix2 x c) = ((v (512 * (i 0 : ℕ) + x) c : ℝ) : EReal) := by
    intro x c
    unfold dvals
    rw [harg3.read_unread, valueTile_at x2 _ _ (512 * (i 0 : ℕ)) (off7 i) x c (by omega), R.value]
  have h0 : ∀ t : Fin 256, score (F := Ideal) (View.ld x0 (slotQ n)) (dkey0 i arg2 harg2 x1) (ix2 r t)
      = ((s (512 * (i 0 : ℕ) + t) : ℝ) : EReal) := by
    intro t
    unfold dkey0
    rw [harg2.read_unread, R.tile _ _ ⟨2 * (i 0 : ℕ), by omega⟩ (off5 i)]
    congr 2; dsimp only; omega
  have h1 : ∀ t : Fin 256, score (F := Ideal) (View.ld x0 (slotQ n)) (dkey1 i arg2 harg2 x1) (ix2 r t)
      = ((s (512 * (i 0 : ℕ) + (256 + t)) : ℝ) : EReal) := by
    intro t
    unfold dkey1
    rw [harg2.read_unread, R.tile _ _ ⟨2 * (i 0 : ℕ) + 1, by omega⟩ (off6 i)]
    congr 2; dsimp only; omega
  unfold endState
  split
  · next hn =>
    have hn' : (n : ℕ) / 8 = 1 := by revert hn; clear * -; revert n; decide
    have e : 512 * (i 0 : ℕ) + 256 * ((n : ℕ) / 8) + r + 1 = 512 * (i 0 : ℕ) + (256 + (r + 1)) := by omega
    rw [e, trips_eq i]
    refine rowAt_two h _ _ _ (r + 1) (by omega) h0 (fun t => ?_) hw
    rw [masked_at, h1]
    simp only [Nat.lt_succ_iff]
  · next hn =>
    have hn' : (n : ℕ) / 8 = 0 := by revert hn; clear * -; revert n; decide
    have e : 512 * (i 0 : ℕ) + 256 * ((n : ℕ) / 8) + r + 1 = 512 * (i 0 : ℕ) + (r + 1) := by omega
    rw [e, trips_eq i]
    refine rowAt_one h _ _ (r + 1) (by omega) (by omega) (fun t => ?_) hw
    rw [masked_at, h0]
    simp only [Nat.lt_succ_iff]

end ends
end run

/-! ## The output block -/

/-- Eight heads side by side, read at an index. -/
theorem heads_at (f : Fin 8 → FVec Ideal S256x64 .f32) (r : Fin 256) (h : Fin 8) (e : Fin 64) :
    heads (F := Ideal) f (ix2 r ⟨64 * (h : ℕ) + e, by omega⟩) = f h (ix2 r e) := by
  pointwise [heads]
  have he := e.isLt
  fin_vals h with hh
  all_goals
    simp only [hh]
    repeat (first | rw [dif_pos (by omega)] | rw [dif_neg (by omega)])
    congr 2
    · exact Fin.ext hh.symm
    · apply Fin.ext; dsimp only; omega

/-- A head's output, read at an index. -/
theorem headOut_at (a : Vec Ideal S1x256x256 .f32) (w : Vec Ideal S1x128x64 .bf16) (r : Fin 256) (e : Fin 64) :
    headOut (F := Ideal) a w (ix2 r e)
      = ∑ x : Fin 128, Ideal.div (a (ix3 0 r ⟨x, by omega⟩)) (a (ix3 0 r ⟨128 + x, by omega⟩)) * w (ix3 0 x e) := by
  pointwise [headOut, lo, hi]

/-- Reading a slot's accumulators back. -/
theorem slot_read (arg7 : Memref sig .tc .vmem S16x256x256 .f32) (p : Stores Ideal) (n : Fin 16) :
    arg7.view.readCov p.2 (slotA n).toLoadRect = (held p n).2 := by
  rw [View.readCov_eq_canon']
  rfl

section out
variable (c : Dev nD) (i : grid0.Coords)
  (arg1 : Memref sig .tc .vmem S8x512x256 .bf16) (harg1 : arg1.IsWhole)
  (arg2 : Memref sig .tc .vmem S64x256x256 .bf16) (harg2 : arg2.IsWhole)
  (arg3 : Memref sig .tc .vmem S16384x256 .bf16) (harg3 : arg3.IsWhole)
  (arg4 : Memref sig .tc .vmem S8x128x64 .bf16) (harg4 : arg4.IsWhole)
  (arg5 : Memref sig .tc .vmem S512x512 .f32) (harg5 : arg5.IsWhole)
  (arg6 : Memref sig .tc .vmem S16x256x128 .f32) (harg6 : arg6.IsWhole)
  (arg7 : Memref sig .tc .vmem S16x256x256 .f32) (harg7 : arg7.IsWhole)
  (x0 : Vec Ideal S8x512x256 .bf16) (x1 : Vec Ideal S64x256x256 .bf16) (x2 : Vec Ideal S16384x256 .bf16) (x3 : Vec Ideal S8x128x64 .bf16)

/-- The output block at head `h`, feature `e` of row `256 u + r`: the softmax-weighted mean of the values, through the
    head's value projection. -/
theorem out_at (u : Fin 2) (r : Fin 256) (h : Fin 8) (e : Fin 64) (s : ℕ → ℝ) (v : ℕ → Fin 256 → ℝ)
    (R : Reals x0 x1 x2 ⟨8 * (u : ℕ) + h, by omega⟩ r s v) (hone : ∀ t (x : Fin 128), v t ⟨128 + x, by omega⟩ = 1) :
    out0_A_4 (F := Ideal) c i arg1 harg1 arg2 harg2 arg3 harg3 arg4 harg4 arg5 harg5 arg6 harg6 arg7 harg7 x0 x1 x2 x3
        (ix2 ⟨256 * (u : ℕ) + r, by omega⟩ ⟨64 * (h : ℕ) + e, by omega⟩)
      = ∑ x : Fin 128, ((soft (512 * (i 0 : ℕ) + 256 * u + r + 1) s (fun t => v t ⟨x, by omega⟩) : ℝ) : EReal) * x3 (ix3 h x e) := by
  have hhead : ∀ (u : Fin 2) (R : Reals x0 x1 x2 ⟨8 * (u : ℕ) + h, by omega⟩ r s v),
      heads (outHead (F := Ideal) arg4 harg4 arg7 x3 (after c i arg1 harg1 arg2 harg2 arg3 harg3 arg4 harg4 arg5 harg5 arg6 harg6 arg7 harg7 x0 x1 x2) u)
        (ix2 r ⟨64 * (h : ℕ) + e, by omega⟩)
      = ∑ x : Fin 128, ((soft (512 * (i 0 : ℕ) + 256 * u + r + 1) s (fun t => v t ⟨x, by omega⟩) : ℝ) : EReal) * x3 (ix3 h x e) := by
    intro u R
    have hh := h.isLt
    have hend := held_after c i arg1 harg1 arg2 harg2 arg3 harg3 arg4 harg4 arg5 harg5 arg6 harg6 arg7 harg7 x0 x1 x2 ⟨8 * (u : ℕ) + h, by omega⟩
    obtain ⟨m, -, hrow⟩ := rowAt_end i arg2 harg2 arg3 harg3 R
    rw [heads_at]
    unfold outHead
    rw [slot_read, hend, headOut_at]
    refine Finset.sum_congr rfl fun x _ => ?_
    have hu : (8 * (u : ℕ) + h) / 8 = u := by omega
    have hfin := hrow.finish (by omega) ⟨x, by omega⟩ ⟨128 + x, by omega⟩ (fun t => hone t x)
    simp only [hu] at hfin
    rw [hfin, harg4.read_unread]
    congr 1
    pointwise
  unfold out0_A_4
  rw [View.read_writes_eq_canon _ _ _ (cover0_A_4 c i arg1 harg1 arg2 harg2 arg3 harg3 arg4 harg4 arg5 harg5 arg6 harg6 arg7 harg7 x0 x1 x2 x3), run_pieces]
  have hu2 := u.isLt
  obtain rfl | rfl : u = 0 ∨ u = 1 := by omega
  · rw [View.canon_cons_of_not_mem]
    · rw [← hhead 0 R]
      refine Eq.trans ?_ (View.canon_cons_emb (Rect.unit (s := S512x512) ![0, 0] S256x512.size Cert.KernelIdeal.Facts₀.inb_S512x512_S256x512_0_0) _ []
        (ix2 r ⟨64 * (h : ℕ) + e, by omega⟩))
      congr 1
      funext a; fin_cases a <;> exact Fin.ext (by simp [Rect.emb, LoadRect.idx, Rect.unit, ix2])
    · intro hm
      rw [Rect.mem_set_unit] at hm
      have := hm 0
      simp [ix2] at this
      omega
  · rw [← hhead 1 R]
    refine Eq.trans (congrArg (View.canon _) ?_) (View.canon_cons_emb (Rect.unit (s := S512x512) ![256, 0] S256x512.size
      Cert.KernelIdeal.Facts₀.inb_S512x512_S256x512_256_0) _ _ (ix2 r ⟨64 * (h : ℕ) + e, by omega⟩))
    funext a; fin_cases a <;> exact Fin.ext (by simp [Rect.emb, LoadRect.idx, Rect.unit, ix2])

end out

end Cert.KernelIdeal.Loop

end
-- ==== Proof.Attn.lean ====
module

public import proofs.«01_k».proof.Proof.Softmax

@[expose] public section

noncomputable section

/-! # Causal latent attention in real numbers

Queries, latent rows and the value projection as functions of their coordinates. A latent row has 128 latent columns, which
are its value too, and 32 rotary ones. -/

namespace Cert.Attn

open Idealize.ShloMosaic Cert.Softmax

/-- The factor on the scores. -/
def factor : ℝ := (Ideal.ofBits .f32 0x3DD105EC#32).toReal

theorem factor_eq : Ideal.ofBits .f32 0x3DD105EC#32 = ((factor : ℝ) : EReal) := by
  have h : Ideal.ofBits .f32 0x3DD105EC#32 ≠ ⊤ ∧ Ideal.ofBits .f32 0x3DD105EC#32 ≠ ⊥ := by
    simp [Ideal.ofBits, Ideal.ieee, -EReal.coe_mul]
  exact (EReal.coe_toReal h.1 h.2).symm

/-- Comparing the absolute value with `+∞` asks whether the number is finite. -/
theorem below_inf (x : EReal) :
    FloatOps.cmpf (F := Ideal) (φ := .f32) .olt (FloatOps.hostAbsf (F := Ideal) (φ := .f32) x) (FloatOps.ofBits .f32 0x7F800000#32) = 1#1
      ↔ x ≠ ⊤ ∧ x ≠ ⊥ := by
  have e : Ideal.ofBits .f32 0x7F800000#32 = (⊤ : EReal) := by simp [Ideal.ofBits, Ideal.ieee]
  show Ideal.cmp .olt (max x (-x)) (Ideal.ofBits .f32 0x7F800000#32) = 1#1 ↔ _
  rw [e]
  induction x <;> simp [Ideal.cmp]
  rw [← EReal.coe_neg, decide_eq_true (EReal.coe_lt_top _)]
  rfl

/-- A sum over 256 packed columns: 32, then 96, then 128. -/
theorem sum_packed {M : Type} [AddCommMonoid M] (f : Fin 256 → M) :
    ∑ d, f d = (∑ e : Fin 32, f ⟨e, by omega⟩) + ((∑ z : Fin 96, f ⟨32 + z, by omega⟩) + ∑ x : Fin 128, f ⟨128 + x, by omega⟩) := by
  rw [show ∑ d, f d = ∑ d : Fin (32 + (96 + 128)), f d from rfl, Fin.sum_univ_add, Fin.sum_univ_add]
  refine congrArg₂ (· + ·) rfl (congrArg₂ (· + ·) rfl (Finset.sum_congr rfl fun x _ => congrArg f (Fin.ext ?_)))
  simp
  omega

variable (Q : Fin 16384 → Fin 8 → Fin 128 → ℝ) (R : Fin 16384 → Fin 8 → Fin 32 → ℝ) (L : Fin 16384 → Fin 160 → ℝ)
  (W : Fin 128 → Fin 512 → EReal)

/-- The product of a query with a latent row. -/
def dots (q : Fin 16384) (h : Fin 8) (t : Fin 16384) : ℝ :=
  ∑ x : Fin 128, Q q h x * L t ⟨x, by omega⟩ + ∑ e : Fin 32, R q h e * L t ⟨128 + e, by omega⟩

/-- The score of a key. -/
def score (q : Fin 16384) (h : Fin 8) (t : ℕ) : ℝ := if ht : t < 16384 then dots Q R L q h ⟨t, ht⟩ * factor else 0

/-- A key's value. -/
def value (t : ℕ) (x : Fin 128) : ℝ := if ht : t < 16384 then L ⟨t, ht⟩ ⟨x, by omega⟩ else 0

/-- The output of query `q` in head `h`, feature `e`: it sees the keys `0 … q`. -/
def out (q : Fin 16384) (h : Fin 8) (e : Fin 64) : EReal :=
  ∑ x : Fin 128, ((soft ((q : ℕ) + 1) (score Q R L q h) (fun t => value L t x) : ℝ) : EReal) * W x ⟨64 * (h : ℕ) + e, by omega⟩

/-- The whole output: head by head, 64 features each. -/
def table (q : Fin 16384) (b : Fin 512) : EReal := out Q R L W q ⟨(b : ℕ) / 64, by omega⟩ ⟨(b : ℕ) % 64, by omega⟩

end Cert.Attn

end
-- ==== Proof.Meaning.lean ====
module

public import proofs.«01_k».proof.Proof.Host
public import proofs.«01_k».proof.Proof.Loop
public import proofs.«01_k».proof.Proof.Attn

@[expose] public section

set_option maxRecDepth 16384

noncomputable section

/-! # What the kernel computes -/

namespace Cert.KernelIdeal.Meaning

open Idealize.ShloMosaic Idealize.ShloMosaic.TcCoe Cert.KernelIdeal Cert.KernelIdeal.Gen Cert.KernelIdeal.Host Cert.Softmax Cert.Attn
open Idealize.ShloMosaic.Pipeline (Dat)

variable (m : (ℓ : Loc nD τ sig) → Buf (Elt Ideal) ℓ) (c : Dev nD)
  (Q : Fin 16384 → Fin 8 → Fin 128 → ℝ) (R : Fin 16384 → Fin 8 → Fin 32 → ℝ) (L : Fin 16384 → Fin 160 → ℝ)

/-- The arguments are real numbers. -/
structure Reals : Prop where
  q : ∀ t h x, qLat m c (ix4 0 t h x) = ((Q t h x : ℝ) : EReal)
  r : ∀ t h e, qRope m c (ix4 0 t h e) = ((R t h e : ℝ) : EReal)
  l : ∀ t j, latent m c (ix3 0 t j) = ((L t j : ℝ) : EReal)

variable {m c Q R L}

/-- The packed queries. -/
def packedQ (m : (ℓ : Loc nD τ sig) → Buf (Elt Ideal) ℓ) (c : Dev nD) : FVec Ideal S8x16384x256 .bf16 := V m c main_v11
/-- The packed keys, in tiles. -/
def packedK (m : (ℓ : Loc nD τ sig) → Buf (Elt Ideal) ℓ) (c : Dev nD) : FVec Ideal S64x256x256 .bf16 := V m c main_v22

/-- The product of a packed query with a packed key is the score. -/
theorem packed_score (H : Reals m c Q R L) (q : Fin 16384) (h : Fin 8) (T : Fin 64) (t : Fin 256) :
    ∑ d : Fin 256, packedQ m c (ix3 h q d) * packedK m c (ix3 T d t)
      = ((score Q R L q h (256 * (T : ℕ) + t) : ℝ) : EReal) := by
  have ht : 256 * (T : ℕ) + t < 16384 := by omega
  have hQ : ∀ d, packedQ m c (ix3 h q d) = _ := fun d => q_entry m c h q d
  have hK : ∀ d, packedK m c (ix3 T d t) = _ := fun d => k_entry m c T d t
  simp only [hQ, hK]
  rw [sum_packed]
  have h1 : ∀ e : Fin 32, (e : ℕ) < 32 := fun e => e.isLt
  have h2 : ∀ z : Fin 96, ¬ 32 + (z : ℕ) < 32 := fun z => by omega
  have h3 : ∀ z : Fin 96, 32 + (z : ℕ) < 128 := fun z => by omega
  have h4 : ∀ x : Fin 128, ¬ 128 + (x : ℕ) < 32 := fun x => by omega
  have h5 : ∀ x : Fin 128, ¬ 128 + (x : ℕ) < 128 := fun x => by omega
  simp only [h1, h2, h3, h4, h5, dif_pos, dif_neg, not_false_eq_true, H.q, H.r, H.l, Host.scale, factor_eq, mul_zero, Finset.sum_const_zero,
    zero_add, ← EReal.coe_mul, coe_sum, ← EReal.coe_add, Nat.add_sub_cancel_left]
  refine congrArg Real.toEReal ?_
  rw [score, dif_pos ht, dots, add_mul, Finset.sum_mul, Finset.sum_mul, add_comm]
  congr 1
  · exact Finset.sum_congr rfl fun x _ => by ring
  · exact Finset.sum_congr rfl fun x _ => by ring

/-- The value rows: the latent columns, then ones. -/
def wide (L : Fin 16384 → Fin 160 → ℝ) (t : ℕ) (d : Fin 256) : ℝ := if hd : (d : ℕ) < 128 then value L t ⟨d, hd⟩ else 1

/-- What grid point `t` writes at a coordinate of its block. -/
theorem block_at (H : Reals m c Q R L) (t : Fin cfg0.N) (u : Fin 2) (r : Fin 256) (h : Fin 8) (e : Fin 64) (q : Fin 16384)
    (hq : (q : ℕ) = 512 * (grid0.coords t 0 : ℕ) + (256 * (u : ℕ) + r)) :
    out0_A_4 (F := Ideal) c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) (iblk m c 0 t) (iblk m c 1 t) (iblk m c 2 t) (iblk m c 3 t)
        (ix2 ⟨256 * (u : ℕ) + r, by omega⟩ ⟨64 * (h : ℕ) + e, by omega⟩)
      = out Q R L (fun x j => wUv m c (ix2 x j)) q h e := by
  have hu : (8 * (u : ℕ) + h) / 8 = u := by omega
  have hh : (8 * (u : ℕ) + h) % 8 = h := by omega
  rw [Loop.out_at c (grid0.coords t) _ (hs0_0 t) _ (hs0_1 t) _ (hs0_2 t) _ (hs0_3 t) _ (hs0_4 t) _ _ _ _ _ _ _ _ u r h e (score Q R L q h) (wide L)
    ⟨fun T k => ?_, fun y d => ?_⟩ (fun t x => ?_)]
  · unfold out
    refine Finset.sum_congr rfl fun x _ => ?_
    rw [block3, w_entry]
    have hK : 512 * (grid0.coords t 0 : ℕ) + 256 * (u : ℕ) + r + 1 = (q : ℕ) + 1 := by omega
    rw [hK]
    have hw : ∀ t, wide L t ⟨x, by omega⟩ = value L t x := fun t => dif_pos x.isLt
    simp only [hw]
  · rw [block1, ← packed_score H]
    refine Finset.sum_congr rfl fun d _ => ?_
    rw [block0 m c t _ _ d q (by rw [hq]; dsimp only; rw [hu])]
    exact congrArg₂ (· * ·) (congrArg (fun h => packedQ m c (ix3 h q d)) (Fin.ext hh)) rfl
  · rw [block2, v_entry]
    unfold wide
    split
    · rw [H.l, value, dif_pos y.isLt]
    · rfl
  · exact dif_neg (by simp)

/-- What grid point `t` writes at row `a`, column `b` of its block. -/
theorem point_at (H : Reals m c Q R L) (t : Fin cfg0.N) (a b : Fin 512) (q : Fin 16384) (hq : (q : ℕ) = 512 * (grid0.coords t 0 : ℕ) + a) :
    outsAt0 (F := Ideal) m c t (ix2 a b) = table Q R L (fun x j => wUv m c (ix2 x j)) q b := by
  have e := block_at H t ⟨(a : ℕ) / 256, by omega⟩ ⟨(a : ℕ) % 256, by omega⟩ ⟨(b : ℕ) / 64, by omega⟩ ⟨(b : ℕ) % 64, by omega⟩ q
    (by dsimp only; omega)
  unfold table
  rw [← e]
  unfold outsAt0
  congr 1
  congr 1
  · exact Fin.ext (by dsimp only; omega)
  · exact Fin.ext (by dsimp only; omega)

theorem covers : (win0_4).Covers := by decide +kernel

/-- The kernel's result array. -/
theorem result (H : Reals m c Q R L) :
    (Gen.dats m 0 c).arrAt 4 cfg0.N = fun i : S16384x512.Idx => table Q R L (fun x j => wUv m c (ix2 x j)) (i 0) (i 1) := by
  refine (Gen.dats m 0 c).arrAt_eq_of_covers 4 _ covers fun t hf y => ?_
  obtain ⟨a, b, rfl⟩ : ∃ a b : Fin 512, y = (ix2 a b : S512x512.Idx) :=
    ⟨y 0, y 1, by funext a; match a with | ⟨0, _⟩ => rfl | ⟨1, _⟩ => rfl⟩
  have e0 : ((win0_4.blk t).view.emb (ix2 a b : S512x512.Idx) 0 : ℕ) = 512 * (grid0.coords t 0 : ℕ) + a := by
    blk_simp [index4]
    rw [Nat.mul_comm]
  have e1 : (win0_4.blk t).view.emb (ix2 a b : S512x512.Idx) 1 = b := Fin.ext (by
    blk_simp [index4])
  blk_simp
  rw [after0_4]
  rw [point_at H t a b ⟨512 * (grid0.coords t 0 : ℕ) + a, e0 ▸ Fin.isLt _⟩ rfl]
  exact (congrArg₂ (table Q R L fun x j => wUv m c (ix2 x j)) (Fin.ext e0) e1).symm

end Cert.KernelIdeal.Meaning

end
-- ==== Proof.Ref.lean ====
module

public import proofs.«01_k».proof.Proof.Gen.ReferenceIdeal.Read
public import proofs.«01_k».proof.Proof.Attn
public import Idealize.ShloMosaic.Lib.Pointwise
public import Idealize.ShloMosaic.Lib.WordCmp

@[expose] public section

set_option maxRecDepth 16384

noncomputable section

/-! # What the reference computes

One softmax per query and head, over all keys with the later ones masked. -/

namespace Cert.ReferenceIdeal.Meaning

open Idealize.ShloMosaic Idealize.ShloMosaic.TcCoe Cert.ReferenceIdeal Cert.ReferenceIdeal.Gen Cert.ReferenceIdeal.Read Cert.Softmax Cert.Attn

variable (x0 : FVec Ideal S1x16384x8x128 .f32) (x1 : FVec Ideal S1x16384x8x32 .f32) (x2 : FVec Ideal S1x16384x160 .f32)
  (x3 : FVec Ideal S128x512 .f32)
  (Q : Fin 16384 → Fin 8 → Fin 128 → ℝ) (R : Fin 16384 → Fin 8 → Fin 32 → ℝ) (L : Fin 16384 → Fin 160 → ℝ)

/-- The arguments are real numbers. -/
structure Reals : Prop where
  q : ∀ t h x, x0 (ix4 0 t h x) = ((Q t h x : ℝ) : EReal)
  r : ∀ t h e, x1 (ix4 0 t h e) = ((R t h e : ℝ) : EReal)
  l : ∀ t j, x2 (ix3 0 t j) = ((L t j : ℝ) : EReal)

variable {x0 x1 x2 Q R L}

/-- The scaled scores. -/
theorem score_at (H : Reals x0 x1 x2 Q R L) (q : Fin 16384) (h : Fin 8) (t : Fin 16384) :
    val_main_v8 (F := Ideal) x0 x1 x2 (ix4 0 q h t) = ((score Q R L q h t : ℝ) : EReal) := by
  pointwise [val_main_v8, val_main_v7, val_main_cst, val_main_v6, val_main_v5, val_main_v4, val_main_v3, val_main_v2]
  simp only [H.q, H.r, H.l, factor_eq, ← EReal.coe_mul, coe_sum, ← EReal.coe_add, score, dif_pos t.isLt, dots]

/-- A query sees itself and the keys before it. -/
theorem mask_at (q : Fin 16384) (t : Fin 16384) :
    val_main_v14 (F := Ideal) (ix4 0 q 0 t) = BitVec.ofBool (decide ((t : ℕ) ≤ q)) := by
  pointwise [val_main_v14, val_main_v13, val_main_v12, val_main_v11, val_main_v10, val_main_v9, val_main_v1, val_main_v0]
  exact WordCmp.cmpi_sle_ofNat (by omega) (by omega)

theorem neg_inf : Ideal.ofBits .f32 0xFF800000#32 = (⊥ : EReal) := by simp [Ideal.ofBits, Ideal.ieee]

/-- The scores of the later keys are `−∞`. -/
theorem masked_at (H : Reals x0 x1 x2 Q R L) (q : Fin 16384) (h : Fin 8) (t : Fin 16384) :
    val_main_v15 (F := Ideal) x0 x1 x2 (ix4 0 q h t) = if (t : ℕ) ≤ q then ((score Q R L q h t : ℝ) : EReal) else ⊥ := by
  pointwise [val_main_v15, val_main_call0_v1, val_main_call0_v2, val_main_call0_v0, val_main_cst_0]
  rw [score_at H, mask_at]
  by_cases hm : (t : ℕ) ≤ q
  · rw [if_pos hm, decide_eq_true hm]; rfl
  · rw [if_neg hm, decide_eq_false hm]; exact neg_inf

/-- The row's maximum is a real number, and one of its keys attains it. -/
theorem max_at (H : Reals x0 x1 x2 Q R L) (q : Fin 16384) (h : Fin 8) :
    ∃ M : ℝ, val_main_v16 (F := Ideal) x0 x1 x2 (ix3 0 q h) = ((M : ℝ) : EReal) ∧ ∃ t : ℕ, t < (q : ℕ) + 1 ∧ M ≤ score Q R L q h t := by
  have e : val_main_v16 (F := Ideal) x0 x1 x2 (ix3 0 q h)
      = Finset.fold max (⊥ : EReal) (fun t : Fin 16384 => if (t : ℕ) ≤ q then ((score Q R L q h t : ℝ) : EReal) else ⊥) Finset.univ := by
    pointwise [val_main_v16, val_main_cst_1]
    simp only [masked_at H, neg_inf]
  obtain ⟨M, hM⟩ := fold_max_real (fun t : Fin 16384 => if (t : ℕ) ≤ q then ((score Q R L q h t : ℝ) : EReal) else ⊥)
    (fun t => by split; exacts [EReal.coe_lt_top _, bot_lt_top]) q (by simp)
  refine ⟨M, e.trans hM, ?_⟩
  obtain hb | ⟨t, -, ht⟩ := (Finset.le_fold_max (M : EReal)).1 hM.ge
  · exact absurd hb (by simp)
  · split at ht
    · next hq => exact ⟨t, by omega, EReal.coe_le_coe_iff.1 ht⟩
    · exact absurd ht (by simp)

/-- The maximum, kept because it is finite. -/
theorem top_at (M : ℝ) (q : Fin 16384) (h : Fin 8) (hM : val_main_v16 (F := Ideal) x0 x1 x2 (ix3 0 q h) = ((M : ℝ) : EReal)) :
    val_main_v21 (F := Ideal) x0 x1 x2 (ix4 0 q h 0) = ((M : ℝ) : EReal) := by
  have h17 : val_main_v17 (F := Ideal) x0 x1 x2 (ix4 0 q h 0) = ((M : ℝ) : EReal) := by
    rw [val_main_v17_apply, ← hM]
    refine congrArg (val_main_v16 (F := Ideal) x0 x1 x2) (funext fun a => ?_)
    match a with
    | ⟨0, _⟩ => rfl
    | ⟨1, _⟩ => rfl
    | ⟨2, _⟩ => rfl
  rw [val_main_v21_apply, val_main_v20_apply, val_main_v18_apply, val_main_v19_apply, val_main_cst_2_apply, h17]
  have hc : (FloatOps.cmpf (F := Ideal) (φ := .f32) .olt (FloatOps.hostAbsf (F := Ideal) (φ := .f32) ((M : ℝ) : EReal)) (FloatOps.ofBits .f32 0x7F800000#32)) = 1#1 :=
    (below_inf _).2 ⟨EReal.coe_ne_top _, EReal.coe_ne_bot _⟩
  rw [hc]
  rfl

/-- A key's weight. -/
theorem weight_at (H : Reals x0 x1 x2 Q R L) (M : ℝ) (q : Fin 16384) (h : Fin 8) (t : Fin 16384)
    (hM : val_main_v16 (F := Ideal) x0 x1 x2 (ix3 0 q h) = ((M : ℝ) : EReal)) :
    val_main_v25 (F := Ideal) x0 x1 x2 (ix4 0 q h t)
      = ((if (t : ℕ) < (q : ℕ) + 1 then Real.exp (score Q R L q h t - M) else 0 : ℝ) : EReal) := by
  pointwise [val_main_v25, val_main_v24, val_main_v23, val_main_v22, val_main_call2_v2, val_main_call2_v1, val_main_call2_v0, val_main_cst_4]
  rw [masked_at H, mask_at, top_at M q h hM]
  by_cases hm : (t : ℕ) ≤ q
  · rw [if_pos hm, if_pos (by omega), decide_eq_true hm, ← EReal.coe_sub]
    exact Ideal.exp_coe _
  · rw [if_neg hm, if_neg (by omega), decide_eq_false hm]
    exact Ideal.ofBits_zero_f32

theorem tiny_le : Ideal.ofBits .f32 0x00800000#32 ≤ (1 : EReal) := by
  rw [← EReal.coe_one]
  simp [Ideal.ofBits, Ideal.ieee, -EReal.coe_mul]
  rw [← EReal.coe_one, EReal.coe_le_coe_iff]
  norm_num

/-- The row's total weight: the guard against division by nothing does nothing. -/
theorem total_at (H : Reals x0 x1 x2 Q R L) (M : ℝ) (q : Fin 16384) (h : Fin 8)
    (hM : val_main_v16 (F := Ideal) x0 x1 x2 (ix3 0 q h) = ((M : ℝ) : EReal)) (ha : ∃ t : ℕ, t < (q : ℕ) + 1 ∧ M ≤ score Q R L q h t) :
    val_main_v29 (F := Ideal) x0 x1 x2 (ix4 0 q h 0)
      = ((∑ t ∈ Finset.range ((q : ℕ) + 1), Real.exp (score Q R L q h t - M) : ℝ) : EReal) := by
  pointwise [val_main_v29, val_main_v28, val_main_v27, val_main_v26, val_main_cst_6, val_main_cst_5]
  simp only [weight_at H M q h _ hM]
  rw [coe_sum, sum_visible (by omega) (fun t => Real.exp (score Q R L q h t - M))]
  refine max_eq_left (le_trans tiny_le ?_)
  obtain ⟨t, ht, hle⟩ := ha
  rw [← EReal.coe_one, EReal.coe_le_coe_iff]
  refine le_trans (Real.one_le_exp (by linarith : 0 ≤ score Q R L q h t - M)) ?_
  exact Finset.single_le_sum (f := fun t => Real.exp (score Q R L q h t - M)) (fun _ _ => (Real.exp_pos _).le) (Finset.mem_range.2 ht)

/-- The softmax-weighted mean of the latent rows. -/
theorem mean_at (H : Reals x0 x1 x2 Q R L) (q : Fin 16384) (h : Fin 8) (x : Fin 128) :
    val_main_v32 (F := Ideal) x0 x1 x2 (ix4 0 q h x)
      = ((soft ((q : ℕ) + 1) (score Q R L q h) (fun t => value L t x) : ℝ) : EReal) := by
  obtain ⟨M, hM, ha⟩ := max_at H q h
  have hpos := sum_exp_pos (K := (q : ℕ) + 1) (by omega) (fun t => score Q R L q h t - M)
  have ht := total_at H M q h hM ha
  have hv : ∀ t : Fin 16384, L t ⟨x, by omega⟩ = value L t x := fun t => by rw [value, dif_pos t.isLt]
  pointwise [val_main_v32, val_main_v2, val_main_v31, val_main_v30]
  simp only [ht, weight_at H M q h _ hM, Ideal.div_coe hpos.ne', H.l, ← EReal.coe_mul, coe_sum, hv]
  refine congrArg Real.toEReal ?_
  rw [← soft_shift _ _ _ M, Finset.sum_div,
    ← sum_visible (W := 16384) (by omega) (fun t => Real.exp (score Q R L q h t - M) * value L t x / ∑ t ∈ Finset.range ((q : ℕ) + 1), Real.exp (score Q R L q h t - M))]
  refine Finset.sum_congr rfl fun t _ => ?_
  split
  · ring
  · ring

/-- The reference's result. -/
theorem out_at (H : Reals x0 x1 x2 Q R L) (q : Fin 16384) (h : Fin 8) (e : Fin 64) :
    val_main_v36 (F := Ideal) x0 x1 x2 x3 (ix2 q ⟨64 * (h : ℕ) + e, by omega⟩) = out Q R L (fun x j => x3 (ix2 x j)) q h e := by
  pointwise [val_main_v36, val_main_v35, val_main_v34, val_main_v33]
  unfold out
  refine Finset.sum_congr rfl fun x _ => ?_
  rw [mean_at H, mul_comm]
  simp only [Nat.mul_comm (h : ℕ) 64]

/-- The reference's result array. -/
theorem result (H : Reals x0 x1 x2 Q R L) :
    val_main_v36 (F := Ideal) x0 x1 x2 x3
      = fun i : S16384x512.Idx => table Q R L (fun x j => x3 (ix2 x j)) (i 0) (i 1) := by
  funext i
  obtain ⟨q, b, rfl⟩ : ∃ (q : Fin 16384) (b : Fin 512), i = ix2 q b := ⟨i 0, i 1, by funext a; match a with | ⟨0, _⟩ => rfl | ⟨1, _⟩ => rfl⟩
  rw [show (ix2 q b : S16384x512.Idx) = ix2 q ⟨64 * ((b : ℕ) / 64) + (b : ℕ) % 64, by omega⟩ from congrArg (ix2 q) (Fin.ext (by dsimp only; omega))]
  refine (out_at (x3 := x3) H q ⟨(b : ℕ) / 64, by omega⟩ ⟨(b : ℕ) % 64, by omega⟩).trans ?_
  exact congrArg (table Q R L (fun x j => x3 (ix2 x j)) q) (Fin.ext (by dsimp only; omega) : b = ⟨64 * ((b : ℕ) / 64) + (b : ℕ) % 64, by omega⟩)

end Cert.ReferenceIdeal.Meaning

end
-- ==== Proof.Rms.lean ====
module

public import Idealize.ShloMosaic.PureOps.Ideal
public import Idealize.ShloMosaic.Lib.Pointwise

@[expose] public section

noncomputable section

/-! # A normalised row times a weight column -/

namespace Cert.Rms

open Idealize.ShloMosaic

/-- A row divided by the root of its mean square, scaled entry by entry, times a column. -/
def feature (x g w : Fin 1024 → EReal) : EReal :=
  ∑ k : Fin 1024, x k * Ideal.rsqrt (Ideal.div (∑ j : Fin 1024, x j * x j) (Ideal.ofBits .f32 0x44800000#32) + Ideal.ofBits .f32 0x358637BD#32) * g k * w k

/-- The column of the input projection that comes at a place of its columns in the order the later calls read them: queries of the
    sparse, differential and memory attention, the latent query, the differential keys and values, the three sparse
    caches, the latent row, the gates by kind, the rotary key, the rotary key with its halves swapped, nothing. -/
def source (j : Fin 2688) : Option (Fin 8760) :=
  if h0 : (j : ℕ) < 512 then some ⟨j, by omega⟩
  else if h1 : (j : ℕ) < 1024 then some ⟨1336 + (j - 512), by omega⟩
  else if h2 : (j : ℕ) < 1536 then some ⟨2104 + (j - 1024), by omega⟩
  else if h3 : (j : ℕ) < 1792 then some ⟨920 + (j - 1536), by omega⟩
  else if h4 : (j : ℕ) < 2048 then some ⟨1848 + (j - 1792), by omega⟩
  else if h5 : (j : ℕ) < 2176 then some ⟨512 + (j - 2048), by omega⟩
  else if h6 : (j : ℕ) < 2304 then some ⟨640 + (j - 2176), by omega⟩
  else if h7 : (j : ℕ) < 2432 then some ⟨768 + (j - 2304), by omega⟩
  else if h8 : (j : ℕ) < 2560 then some ⟨1176 + (j - 2432), by omega⟩
  else if h9 : (j : ℕ) < 2584 then some ⟨896 + (3 * ((j - 2560) % 8) + (j - 2560) / 8), by omega⟩
  else if h10 : (j : ℕ) < 2616 then some ⟨1304 + (j - 2584), by omega⟩
  else if h11 : (j : ℕ) < 2632 then some ⟨1304 + 16 + (j - 2616), by omega⟩
  else if h12 : (j : ℕ) < 2648 then some ⟨1304 + (j - 2632), by omega⟩
  else none

/-- The entries of a row of the input projection (or of its result) in that order, zeros where there is nothing. -/
def packed (w : Fin 8760 → EReal) (j : Fin 2688) : EReal := (source j).elim 0 w

theorem packed_some (w : Fin 8760 → EReal) (j : Fin 2688) (n : Fin 8760) (h : source j = some n) : packed w j = w n := by
  unfold packed; rw [h]; rfl

/-- A choice equals a value when both its branches do. -/
theorem dite_eq_of {α : Type} {p : Prop} [Decidable p] {f : p → α} {g : ¬p → α} {r : α} (hg : ∀ h, g h = r) (hf : ∀ h, f h = r) :
    dite p f g = r := by
  by_cases h : p
  · rw [dif_pos h]; exact hf h
  · rw [dif_neg h]; exact hg h

/-- The columns in that order, range by range. -/
theorem source_eq (j : Fin 2688) (n : Fin 8760)
    (h : (0 ≤ (j : ℕ) ∧ (j : ℕ) < 512 ∧ (n : ℕ) = j)
      ∨ (512 ≤ (j : ℕ) ∧ (j : ℕ) < 1024 ∧ (n : ℕ) = 1336 + (j - 512))
      ∨ (1024 ≤ (j : ℕ) ∧ (j : ℕ) < 1536 ∧ (n : ℕ) = 2104 + (j - 1024))
      ∨ (1536 ≤ (j : ℕ) ∧ (j : ℕ) < 1792 ∧ (n : ℕ) = 920 + (j - 1536))
      ∨ (1792 ≤ (j : ℕ) ∧ (j : ℕ) < 2048 ∧ (n : ℕ) = 1848 + (j - 1792))
      ∨ (2048 ≤ (j : ℕ) ∧ (j : ℕ) < 2176 ∧ (n : ℕ) = 512 + (j - 2048))
      ∨ (2176 ≤ (j : ℕ) ∧ (j : ℕ) < 2304 ∧ (n : ℕ) = 640 + (j - 2176))
      ∨ (2304 ≤ (j : ℕ) ∧ (j : ℕ) < 2432 ∧ (n : ℕ) = 768 + (j - 2304))
      ∨ (2432 ≤ (j : ℕ) ∧ (j : ℕ) < 2560 ∧ (n : ℕ) = 1176 + (j - 2432))
      ∨ (2560 ≤ (j : ℕ) ∧ (j : ℕ) < 2584 ∧ (n : ℕ) = 896 + (3 * ((j - 2560) % 8) + (j - 2560) / 8))
      ∨ (2584 ≤ (j : ℕ) ∧ (j : ℕ) < 2616 ∧ (n : ℕ) = 1304 + (j - 2584))
      ∨ (2616 ≤ (j : ℕ) ∧ (j : ℕ) < 2632 ∧ (n : ℕ) = 1304 + 16 + (j - 2616))
      ∨ (2632 ≤ (j : ℕ) ∧ (j : ℕ) < 2648 ∧ (n : ℕ) = 1304 + (j - 2632))) : source j = some n := by
  unfold source
  iterate 13 refine dite_eq_of (fun h => ?_) fun h => ?_
  · omega
  all_goals exact congrArg some (Fin.ext (by dsimp only; omega))

theorem source_at0 (j : Fin 2688) (n : Fin 8760) (h : 0 ≤ (j : ℕ) ∧ (j : ℕ) < 512 ∧ (n : ℕ) = j) : source j = some n :=
  source_eq j n (.inl h)
theorem source_at1 (j : Fin 2688) (n : Fin 8760) (h : 512 ≤ (j : ℕ) ∧ (j : ℕ) < 1024 ∧ (n : ℕ) = 1336 + (j - 512)) : source j = some n :=
  source_eq j n (.inr (.inl h))
theorem source_at2 (j : Fin 2688) (n : Fin 8760) (h : 1024 ≤ (j : ℕ) ∧ (j : ℕ) < 1536 ∧ (n : ℕ) = 2104 + (j - 1024)) : source j = some n :=
  source_eq j n (.inr (.inr (.inl h)))
theorem source_at3 (j : Fin 2688) (n : Fin 8760) (h : 1536 ≤ (j : ℕ) ∧ (j : ℕ) < 1792 ∧ (n : ℕ) = 920 + (j - 1536)) : source j = some n :=
  source_eq j n (.inr (.inr (.inr (.inl h))))
theorem source_at4 (j : Fin 2688) (n : Fin 8760) (h : 1792 ≤ (j : ℕ) ∧ (j : ℕ) < 2048 ∧ (n : ℕ) = 1848 + (j - 1792)) : source j = some n :=
  source_eq j n (.inr (.inr (.inr (.inr (.inl h)))))
theorem source_at5 (j : Fin 2688) (n : Fin 8760) (h : 2048 ≤ (j : ℕ) ∧ (j : ℕ) < 2176 ∧ (n : ℕ) = 512 + (j - 2048)) : source j = some n :=
  source_eq j n (.inr (.inr (.inr (.inr (.inr (.inl h))))))
theorem source_at6 (j : Fin 2688) (n : Fin 8760) (h : 2176 ≤ (j : ℕ) ∧ (j : ℕ) < 2304 ∧ (n : ℕ) = 640 + (j - 2176)) : source j = some n :=
  source_eq j n (.inr (.inr (.inr (.inr (.inr (.inr (.inl h)))))))
theorem source_at7 (j : Fin 2688) (n : Fin 8760) (h : 2304 ≤ (j : ℕ) ∧ (j : ℕ) < 2432 ∧ (n : ℕ) = 768 + (j - 2304)) : source j = some n :=
  source_eq j n (.inr (.inr (.inr (.inr (.inr (.inr (.inr (.inl h))))))))
theorem source_at8 (j : Fin 2688) (n : Fin 8760) (h : 2432 ≤ (j : ℕ) ∧ (j : ℕ) < 2560 ∧ (n : ℕ) = 1176 + (j - 2432)) : source j = some n :=
  source_eq j n (.inr (.inr (.inr (.inr (.inr (.inr (.inr (.inr (.inl h)))))))))
theorem source_at9 (j : Fin 2688) (n : Fin 8760) (h : 2560 ≤ (j : ℕ) ∧ (j : ℕ) < 2584 ∧ (n : ℕ) = 896 + (3 * ((j - 2560) % 8) + (j - 2560) / 8)) : source j = some n :=
  source_eq j n (.inr (.inr (.inr (.inr (.inr (.inr (.inr (.inr (.inr (.inl h))))))))))
theorem source_at10 (j : Fin 2688) (n : Fin 8760) (h : 2584 ≤ (j : ℕ) ∧ (j : ℕ) < 2616 ∧ (n : ℕ) = 1304 + (j - 2584)) : source j = some n :=
  source_eq j n (.inr (.inr (.inr (.inr (.inr (.inr (.inr (.inr (.inr (.inr (.inl h)))))))))))
theorem source_at11 (j : Fin 2688) (n : Fin 8760) (h : 2616 ≤ (j : ℕ) ∧ (j : ℕ) < 2632 ∧ (n : ℕ) = 1304 + 16 + (j - 2616)) : source j = some n :=
  source_eq j n (.inr (.inr (.inr (.inr (.inr (.inr (.inr (.inr (.inr (.inr (.inr (.inl h))))))))))))
theorem source_at12 (j : Fin 2688) (n : Fin 8760) (h : 2632 ≤ (j : ℕ) ∧ (j : ℕ) < 2648 ∧ (n : ℕ) = 1304 + (j - 2632)) : source j = some n :=
  source_eq j n (.inr (.inr (.inr (.inr (.inr (.inr (.inr (.inr (.inr (.inr (.inr (.inr h))))))))))))

theorem eq_packed {w : Fin 8760 → EReal} {j : Fin 2688} {v : EReal} {n : Fin 8760} (hv : v = w n) (h : source j = some n) :
    v = packed w j := hv.trans (packed_some w j n h).symm

theorem packed_none (w : Fin 8760 → EReal) (j : Fin 2688) (h : 2648 ≤ (j : ℕ)) : packed w j = 0 := by
  have e : source j = none := by
    unfold source
    iterate 13 rw [dif_neg (by omega)]
  unfold packed; rw [e]; rfl

/-- The column of the input projection that a column of the gates is: the merge's gates first, then the mixer's. -/
def gateSource (j : Fin 6144) : Fin 8760 := if h : (j : ℕ) < 4096 then ⟨4664 + j, by omega⟩ else ⟨2616 + (j - 4096), by omega⟩

/-- Taking features and putting them side by side commute. -/
theorem feature_packed (x g : Fin 1024 → EReal) (w : Fin 1024 → Fin 8760 → EReal) (j : Fin 2688) :
    feature x g (fun k => packed (w k) j) = packed (fun c => feature x g fun k => w k c) j := by
  unfold packed
  generalize source j = o
  cases o with
  | some c => rfl
  | none => simp [feature]

end Cert.Rms

end
-- ==== Proof.Proj.lean ====
module

public import proofs.«01_k».proof.Proof.Gen.ProjIdeal.Value
public import proofs.«01_k».proof.Proof.Gen.ProjPlainIdeal.Read
public import proofs.«01_k».proof.Proof.Rms
public import Idealize.ShloMosaic.Lib.StableHlo.ReadAt
public import Idealize.ShloMosaic.Lib.Pipeline.ValueKit

@[expose] public section

set_option maxRecDepth 16384

noncomputable section

namespace Cert.ProjIdeal.Meaning

open Idealize.ShloMosaic Idealize.ShloMosaic.TcCoe Cert.ProjIdeal Cert.ProjIdeal.Gen Cert.Rms
open Idealize.ShloMosaic.Pipeline (Dat)

/-- What the kernel writes in its block: every row's features. -/
theorem out_at (x : Vec Ideal S512x1024 .f32) (g : Vec Ideal S1x1024 .f32) (w : Vec Ideal S1024x2688 .bf16) (i : Fin 512) (j : Fin 2688) :
    out0_3 (F := Ideal) x g w (ix2 i j) = feature (fun k => x (ix2 i k)) (fun k => g (ix2 0 k)) (fun k => w (ix2 k j)) := by
  unfold out0_3
  rw [View.canon_cons_unit_lit _ _ _ (by decide), View.ld_unit_lit _ _ (by decide), View.ld_unit_lit _ _ (by decide), View.ld_unit_lit _ _ (by decide)]
  unfold k0_pay1
  pointwise []
  rfl

variable (m : (ℓ : Loc nD τ sig) → Buf (Elt Ideal) ℓ) (c : Dev nD)

/-- The prompt's rows. -/
abbrev rows : FVec Ideal S1x16384x1024 .f32 := m ((c.tc : Thread nD τ).loc main_arg0)
/-- The norm's gains. -/
abbrev gains : FVec Ideal S1024 .f32 := m ((c.tc : Thread nD τ).loc main_arg1)
/-- The input projection. -/
abbrev weights : FVec Ideal S1024x8760 .f32 := m ((c.tc : Thread nD τ).loc main_arg2)

theorem rows_entry (i : Fin 16384) (k : Fin 1024) : (V m c main_v22 : FVec Ideal S16384x1024 .f32) (ix2 i k) = rows m c (ix3 0 i k) := by
  rw [show V m c main_v22 = StableHlo.after hostOps0 (fun b => m (c, b)) (Proc.devRef .tc main_v22) from rfl]
  after_reads_at
theorem gains_entry (k : Fin 1024) : (V m c main_v24 : FVec Ideal S1x1024 .f32) (ix2 0 k) = gains m c (ix1 k) := by
  rw [show V m c main_v24 = StableHlo.after hostOps0 (fun b => m (c, b)) (Proc.devRef .tc main_v24) from rfl]
  after_reads_at
theorem weights_entry (k : Fin 1024) (j : Fin 2688) : (V m c main_v23 : FVec Ideal S1024x2688 .bf16) (ix2 k j) = packed (fun s => weights m c (ix2 k s)) j := by
  rw [show V m c main_v23 = StableHlo.after hostOps0 (fun b => m (c, b)) (Proc.devRef .tc main_v23) from rfl]
  after_reads_at
  iterate 9 (refine dite_eq_of ?_ ?_; intro h)
  · after_reads_at
    iterate 3 (refine dite_eq_of ?_ ?_; intro h)
    · after_reads_at
      rw [packed_none _ _ (by omega)]
    · intro h
      after_reads_at
      refine dite_eq_of ?_ ?_
      · intro h
        exact eq_packed rfl (source_at12 _ _ ⟨by omega, by omega, by dsimp only; omega⟩)
      · intro h
        exact eq_packed rfl (source_at11 _ _ ⟨by omega, by omega, by dsimp only; omega⟩)
    · intro h
      after_reads_at
      exact eq_packed rfl (source_at10 _ _ ⟨by omega, by omega, by dsimp only; omega⟩)
    · intro h
      after_reads_at
      exact eq_packed rfl (source_at9 _ _ ⟨by omega, by omega, by dsimp only; omega⟩)
  · intro h
    after_reads_at
    exact eq_packed rfl (source_at8 _ _ ⟨by omega, by omega, by dsimp only; omega⟩)
  · intro h
    after_reads_at
    exact eq_packed rfl (source_at7 _ _ ⟨by omega, by omega, by dsimp only; omega⟩)
  · intro h
    after_reads_at
    exact eq_packed rfl (source_at6 _ _ ⟨by omega, by omega, by dsimp only; omega⟩)
  · intro h
    after_reads_at
    exact eq_packed rfl (source_at5 _ _ ⟨by omega, by omega, by dsimp only; omega⟩)
  · intro h
    after_reads_at
    exact eq_packed rfl (source_at4 _ _ ⟨by omega, by omega, by dsimp only; omega⟩)
  · intro h
    after_reads_at
    exact eq_packed rfl (source_at3 _ _ ⟨by omega, by omega, by dsimp only; omega⟩)
  · intro h
    after_reads_at
    exact eq_packed rfl (source_at2 _ _ ⟨by omega, by omega, by dsimp only; omega⟩)
  · intro h
    after_reads_at
    exact eq_packed rfl (source_at1 _ _ ⟨by omega, by omega, rfl⟩)
  · intro h
    after_reads_at
    exact eq_packed rfl (source_at0 _ _ ⟨by omega, by omega, rfl⟩)

theorem index0 : ∀ t : Fin cfg0.N, win0_0.index t = ![(t : ℕ), 0] := (by decide +kernel : ∀ t : Fin grid0.N, win0_0.index t = ![(t : ℕ), 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![(t : ℕ), 0] := (by decide +kernel : ∀ t : Fin grid0.N, win0_3.index t = ![(t : ℕ), 0])

/-- The row of the array that a row of a block is. -/
def rowOf (t : Fin cfg0.N) (a : Fin 512) : Fin 16384 := ⟨(t : ℕ) * 512 + a, by have h : (t : ℕ) < 32 := t.2; omega⟩
/-- The column of the array that a column of a block is. -/
def colOf (t : Fin cfg0.N) (b : Fin 2688) : Fin 2688 := ⟨0 * 2688 + b, by have h : (t : ℕ) < 32 := t.2; omega⟩

theorem block0 (t : Fin cfg0.N) (a : Fin 512) (k : Fin 1024) :
    (iblk m c 0 t : Vec Ideal S512x1024 .f32) (ix2 a k) = (V m c main_v22 : FVec Ideal S16384x1024 .f32) (ix2 (rowOf t a) k) := by
  blk_simp [iblk]
  congr 1
  blk_ext [index0, rowOf]
theorem block1 (t : Fin cfg0.N) (k : Fin 1024) :
    (iblk m c 1 t : Vec Ideal S1x1024 .f32) (ix2 0 k) = (V m c main_v24 : FVec Ideal S1x1024 .f32) (ix2 0 k) := by
  blk_simp [iblk]
  congr 1
  blk_ext [index1]
theorem block2 (t : Fin cfg0.N) (k : Fin 1024) (b : Fin 2688) :
    (iblk m c 2 t : Vec Ideal S1024x2688 .bf16) (ix2 k b) = (V m c main_v23 : FVec Ideal S1024x2688 .bf16) (ix2 k (colOf t b)) := by
  blk_simp [iblk]
  congr 1
  blk_ext [index2, colOf]

theorem covers : (win0_3).Covers := by decide +kernel

/-- The kernel's result array. -/
theorem result : (Gen.dats m 0 c).arrAt 3 cfg0.N
    = fun i : S16384x2688.Idx => packed (fun s => feature (fun k => rows m c (ix3 0 (i 0) k)) (fun k => gains m c (ix1 k)) (fun k => weights m c (ix2 k s))) (i 1) := by
  refine (Gen.dats m 0 c).arrAt_eq_of_covers 3 _ covers fun t hf y => ?_
  obtain ⟨a, b, rfl⟩ : ∃ (a : Fin 512) (b : Fin 2688), y = (ix2 a b : S512x2688.Idx) :=
    ⟨y 0, y 1, by funext a; match a with | ⟨0, _⟩ => rfl | ⟨1, _⟩ => rfl⟩
  have e0 : (win0_3.blk t).view.emb (ix2 a b : S512x2688.Idx) 0 = rowOf t a := Fin.ext (by blk_simp [index3, rowOf])
  have e1 : (win0_3.blk t).view.emb (ix2 a b : S512x2688.Idx) 1 = colOf t b := Fin.ext (by blk_simp [index3, colOf])
  blk_simp
  rw [after0_3]
  refine (out_at _ _ _ a b).trans ?_
  refine Eq.trans ?_ (congrArg₂ (fun (i : Fin 16384) (j : Fin 2688) => packed (fun s => feature (fun k => rows m c (ix3 0 i k)) (fun k => gains m c (ix1 k)) (fun k => weights m c (ix2 k s))) j) e0 e1).symm
  have h0 := fun k => (block0 m c t a k).trans (rows_entry m c (rowOf t a) k)
  have h1 := fun k => (block1 m c t k).trans (gains_entry m c k)
  have h2 := fun k => (block2 m c t k b).trans (weights_entry m c k (colOf t b))
  simp only [h0, h1, h2]
  try rw [feature_packed]

end Cert.ProjIdeal.Meaning

namespace Cert.ProjPlainIdeal.Meaning

open Idealize.ShloMosaic Idealize.ShloMosaic.TcCoe Cert.ProjPlainIdeal Cert.ProjPlainIdeal.Gen Cert.ProjPlainIdeal.Read Cert.Rms

/-- The reference's result array. -/
theorem result (x0 : FVec Ideal S1x16384x1024 .f32) (x1 : FVec Ideal S1024 .f32) (x2 : FVec Ideal S1024x8760 .f32) :
    val_main_v34 (F := Ideal) x0 x1 x2
      = fun i : S16384x2688.Idx => packed (fun s => feature (fun k => x0 (ix3 0 (i 0) k)) (fun k => x1 (ix1 k)) (fun k => x2 (ix2 k s))) (i 1) := by
  funext i
  obtain ⟨a, b, rfl⟩ : ∃ (a : Fin 16384) (b : Fin 2688), i = (ix2 a b : S16384x2688.Idx) :=
    ⟨i 0, i 1, by funext a; match a with | ⟨0, _⟩ => rfl | ⟨1, _⟩ => rfl⟩
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  iterate 15 (refine dite_eq_of ?_ ?_; intro h)
  · rw [packed_none _ _ (by omega)]; exact Ideal.ofBits_zero .f32
  · intro h
    exact eq_packed rfl (source_at12 _ _ ⟨by omega, by omega, by dsimp only; omega⟩)
  · intro h
    exact eq_packed rfl (source_at11 _ _ ⟨by omega, by omega, by dsimp only; omega⟩)
  · intro h
    exact eq_packed rfl (source_at10 _ _ ⟨by omega, by omega, by dsimp only; omega⟩)
  · intro h
    exact eq_packed rfl (source_at9 _ _ ⟨by omega, by omega, by dsimp only; omega⟩)
  · intro h
    exact eq_packed rfl (source_at9 _ _ ⟨by omega, by omega, by dsimp only; omega⟩)
  · intro h
    exact eq_packed rfl (source_at9 _ _ ⟨by omega, by omega, by dsimp only; omega⟩)
  · intro h
    exact eq_packed rfl (source_at8 _ _ ⟨by omega, by omega, by dsimp only; omega⟩)
  · intro h
    exact eq_packed rfl (source_at7 _ _ ⟨by omega, by omega, by dsimp only; omega⟩)
  · intro h
    exact eq_packed rfl (source_at6 _ _ ⟨by omega, by omega, by dsimp only; omega⟩)
  · intro h
    exact eq_packed rfl (source_at5 _ _ ⟨by omega, by omega, by dsimp only; omega⟩)
  · intro h
    exact eq_packed rfl (source_at4 _ _ ⟨by omega, by omega, by dsimp only; omega⟩)
  · intro h
    exact eq_packed rfl (source_at3 _ _ ⟨by omega, by omega, by dsimp only; omega⟩)
  · intro h
    exact eq_packed rfl (source_at2 _ _ ⟨by omega, by omega, by dsimp only; omega⟩)
  · intro h
    exact eq_packed rfl (source_at1 _ _ ⟨by omega, by omega, rfl⟩)
  · intro h
    exact eq_packed rfl (source_at0 _ _ ⟨by omega, by omega, rfl⟩)

end Cert.ProjPlainIdeal.Meaning

end
-- ==== Proof.Gate.lean ====
module

public import proofs.«01_k».proof.Proof.Gen.GateIdeal.Value
public import proofs.«01_k».proof.Proof.Gen.GatePlainIdeal.Read
public import proofs.«01_k».proof.Proof.Rms
public import Idealize.ShloMosaic.Lib.StableHlo.ReadAt
public import Idealize.ShloMosaic.Lib.Pipeline.ValueKit

@[expose] public section

set_option maxRecDepth 16384

noncomputable section

namespace Cert.GateIdeal.Meaning

open Idealize.ShloMosaic Idealize.ShloMosaic.TcCoe Cert.GateIdeal Cert.GateIdeal.Gen Cert.Rms
open Idealize.ShloMosaic.Pipeline (Dat)

/-- What the kernel writes in its block: every row's features. -/
theorem out_at (x : Vec Ideal S512x1024 .f32) (g : Vec Ideal S1x1024 .f32) (w : Vec Ideal S1024x2048 .bf16) (i : Fin 512) (j : Fin 2048) :
    out0_3 (F := Ideal) x g w (ix2 i j) = feature (fun k => x (ix2 i k)) (fun k => g (ix2 0 k)) (fun k => w (ix2 k j)) := by
  unfold out0_3
  rw [View.canon_cons_unit_lit _ _ _ (by decide), View.ld_unit_lit _ _ (by decide), View.ld_unit_lit _ _ (by decide), View.ld_unit_lit _ _ (by decide)]
  unfold k0_pay1
  pointwise []
  rfl

variable (m : (ℓ : Loc nD τ sig) → Buf (Elt Ideal) ℓ) (c : Dev nD)

/-- The prompt's rows. -/
abbrev rows : FVec Ideal S1x16384x1024 .f32 := m ((c.tc : Thread nD τ).loc main_arg0)
/-- The norm's gains. -/
abbrev gains : FVec Ideal S1024 .f32 := m ((c.tc : Thread nD τ).loc main_arg1)
/-- The input projection. -/
abbrev weights : FVec Ideal S1024x8760 .f32 := m ((c.tc : Thread nD τ).loc main_arg2)

theorem rows_entry (i : Fin 16384) (k : Fin 1024) : (V m c main_v14 : FVec Ideal S16384x1024 .f32) (ix2 i k) = rows m c (ix3 0 i k) := by
  rw [show V m c main_v14 = StableHlo.after hostOps0 (fun b => m (c, b)) (Proc.devRef .tc main_v14) from rfl]
  after_reads_at
theorem gains_entry (k : Fin 1024) : (V m c main_v16 : FVec Ideal S1x1024 .f32) (ix2 0 k) = gains m c (ix1 k) := by
  rw [show V m c main_v16 = StableHlo.after hostOps0 (fun b => m (c, b)) (Proc.devRef .tc main_v16) from rfl]
  after_reads_at
theorem weights_entry (k : Fin 1024) (j : Fin 6144) : (V m c main_v15 : FVec Ideal S1024x6144 .bf16) (ix2 k j) = weights m c (ix2 k (gateSource j)) := by
  rw [show V m c main_v15 = StableHlo.after hostOps0 (fun b => m (c, b)) (Proc.devRef .tc main_v15) from rfl]
  after_reads_at
  by_cases h : (j : ℕ) < 4096
  · rw [dif_pos h]
    after_reads_at
    rw [gateSource, dif_pos h]
  · rw [dif_neg h]
    after_reads_at
    rw [gateSource, dif_neg h]

theorem index0 : ∀ t : Fin cfg0.N, win0_0.index t = ![(t : ℕ) % 32, 0] := (by decide +kernel : ∀ t : Fin grid0.N, win0_0.index t = ![(t : ℕ) % 32, 0])
theorem index1 : ∀ t : Fin cfg0.N, win0_1.index t = ![0, 0] := (by decide +kernel : ∀ t : Fin grid0.N, win0_1.index t = ![0, 0])
theorem index2 : ∀ t : Fin cfg0.N, win0_2.index t = ![0, (t : ℕ) / 32] := (by decide +kernel : ∀ t : Fin grid0.N, win0_2.index t = ![0, (t : ℕ) / 32])
theorem index3 : ∀ t : Fin cfg0.N, win0_3.index t = ![(t : ℕ) % 32, (t : ℕ) / 32] := (by decide +kernel : ∀ t : Fin grid0.N, win0_3.index t = ![(t : ℕ) % 32, (t : ℕ) / 32])

/-- The row of the array that a row of a block is. -/
def rowOf (t : Fin cfg0.N) (a : Fin 512) : Fin 16384 := ⟨(t : ℕ) % 32 * 512 + a, by have h : (t : ℕ) < 96 := t.2; omega⟩
/-- The column of the array that a column of a block is. -/
def colOf (t : Fin cfg0.N) (b : Fin 2048) : Fin 6144 := ⟨(t : ℕ) / 32 * 2048 + b, by have h : (t : ℕ) < 96 := t.2; omega⟩

theorem block0 (t : Fin cfg0.N) (a : Fin 512) (k : Fin 1024) :
    (iblk m c 0 t : Vec Ideal S512x1024 .f32) (ix2 a k) = (V m c main_v14 : FVec Ideal S16384x1024 .f32) (ix2 (rowOf t a) k) := by
  blk_simp [iblk]
  congr 1
  blk_ext [index0, rowOf]
theorem block1 (t : Fin cfg0.N) (k : Fin 1024) :
    (iblk m c 1 t : Vec Ideal S1x1024 .f32) (ix2 0 k) = (V m c main_v16 : FVec Ideal S1x1024 .f32) (ix2 0 k) := by
  blk_simp [iblk]
  congr 1
  blk_ext [index1]
theorem block2 (t : Fin cfg0.N) (k : Fin 1024) (b : Fin 2048) :
    (iblk m c 2 t : Vec Ideal S1024x2048 .bf16) (ix2 k b) = (V m c main_v15 : FVec Ideal S1024x6144 .bf16) (ix2 k (colOf t b)) := by
  blk_simp [iblk]
  congr 1
  blk_ext [index2, colOf]

theorem covers : (win0_3).Covers := by decide +kernel

/-- The kernel's result array. -/
theorem result : (Gen.dats m 0 c).arrAt 3 cfg0.N
    = fun i : S16384x6144.Idx => feature (fun k => rows m c (ix3 0 (i 0) k)) (fun k => gains m c (ix1 k)) (fun k => weights m c (ix2 k (gateSource (i 1)))) := by
  refine (Gen.dats m 0 c).arrAt_eq_of_covers 3 _ covers fun t hf y => ?_
  obtain ⟨a, b, rfl⟩ : ∃ (a : Fin 512) (b : Fin 2048), y = (ix2 a b : S512x2048.Idx) :=
    ⟨y 0, y 1, by funext a; match a with | ⟨0, _⟩ => rfl | ⟨1, _⟩ => rfl⟩
  have e0 : (win0_3.blk t).view.emb (ix2 a b : S512x2048.Idx) 0 = rowOf t a := Fin.ext (by blk_simp [index3, rowOf])
  have e1 : (win0_3.blk t).view.emb (ix2 a b : S512x2048.Idx) 1 = colOf t b := Fin.ext (by blk_simp [index3, colOf])
  blk_simp
  rw [after0_3]
  refine (out_at _ _ _ a b).trans ?_
  refine Eq.trans ?_ (congrArg₂ (fun (i : Fin 16384) (j : Fin 6144) => feature (fun k => rows m c (ix3 0 i k)) (fun k => gains m c (ix1 k)) (fun k => weights m c (ix2 k (gateSource j)))) e0 e1).symm
  have h0 := fun k => (block0 m c t a k).trans (rows_entry m c (rowOf t a) k)
  have h1 := fun k => (block1 m c t k).trans (gains_entry m c k)
  have h2 := fun k => (block2 m c t k b).trans (weights_entry m c k (colOf t b))
  simp only [h0, h1, h2]

end Cert.GateIdeal.Meaning

namespace Cert.GatePlainIdeal.Meaning

open Idealize.ShloMosaic Idealize.ShloMosaic.TcCoe Cert.GatePlainIdeal Cert.GatePlainIdeal.Gen Cert.GatePlainIdeal.Read Cert.Rms

/-- The reference's result array. -/
theorem result (x0 : FVec Ideal S1x16384x1024 .f32) (x1 : FVec Ideal S1024 .f32) (x2 : FVec Ideal S1024x8760 .f32) :
    val_main_v29 (F := Ideal) x0 x1 x2
      = fun i : S16384x6144.Idx => feature (fun k => x0 (ix3 0 (i 0) k)) (fun k => x1 (ix1 k)) (fun k => x2 (ix2 k (gateSource (i 1)))) := by
  funext i
  obtain ⟨a, b, rfl⟩ : ∃ (a : Fin 16384) (b : Fin 6144), i = (ix2 a b : S16384x6144.Idx) :=
    ⟨i 0, i 1, by funext a; match a with | ⟨0, _⟩ => rfl | ⟨1, _⟩ => rfl⟩
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold gateSource
  split_ifs <;> rfl

end Cert.GatePlainIdeal.Meaning

end
-- ==== Proof.Memory.lean ====
module

public import proofs.«01_k».proof.Proof.Gen.MemoryIdeal.Value
public import proofs.«01_k».proof.Proof.Gen.MemoryPlainIdeal.Read
public import proofs.«01_k».proof.Proof.Rms
public import Idealize.ShloMosaic.Lib.StableHlo.ReadAt
public import Idealize.ShloMosaic.Lib.Pipeline.ValueKit

@[expose] public section

set_option maxRecDepth 16384

noncomputable section

namespace Cert.MemoryIdeal.Meaning

open Idealize.ShloMosaic Idealize.ShloMosaic.TcCoe Cert.MemoryIdeal Cert.MemoryIdeal.Gen Cert.Rms
open Idealize.ShloMosaic.Pipeline (Dat)

/-- What the kernel writes in its block: every row's features. -/
theorem out_at (x : Vec Ideal S256x1024 .f32) (g : Vec Ideal S1x1024 .f32) (w : Vec Ideal S1024x1024 .bf16) (i : Fin 256) (j : Fin 1024) :
    out0_3 (F := Ideal) x g w (ix2 i j) = feature (fun k => x (ix2 i k)) (fun k => g (ix2 0 k)) (fun k => w (ix2 k j)) := by
  unfold out0_3
  rw [View.canon_cons_unit_lit _ _ _ (by decide), View.ld_unit_lit _ _ (by decide), View.ld_unit_lit _ _ (by decide), View.ld_unit_lit _ _ (by decide)]
  unfold k0_pay1
  pointwise []
  rfl

variable (m : (ℓ : Loc nD τ sig) → Buf (Elt Ideal) ℓ) (c : Dev nD)

/-- The memory rows. -/
abbrev rows : FVec Ideal S1x256x1024 .f32 := m ((c.tc : Thread nD τ).loc main_arg0)
/-- The norm's gains. -/
abbrev gains : FVec Ideal S1024 .f32 := m ((c.tc : Thread nD τ).loc main_arg1)
/-- The projection. -/
abbrev weights : FVec Ideal S1024x1024 .f32 := m ((c.tc : Thread nD τ).loc main_arg2)

theorem rows_entry (i : Fin 256) (k : Fin 1024) : (V m c main_v0 : FVec Ideal S256x1024 .f32) (ix2 i k) = rows m c (ix3 0 i k) := by
  rw [show V m c main_v0 = StableHlo.after hostOps0 (fun b => m (c, b)) (Proc.devRef .tc main_v0) from rfl]
  after_reads_at
theorem gains_entry (k : Fin 1024) : (V m c main_v2 : FVec Ideal S1x1024 .f32) (ix2 0 k) = gains m c (ix1 k) := by
  rw [show V m c main_v2 = StableHlo.after hostOps0 (fun b => m (c, b)) (Proc.devRef .tc main_v2) from rfl]
  after_reads_at
theorem weights_entry (k j : Fin 1024) : (V m c main_v1 : FVec Ideal S1024x1024 .bf16) (ix2 k j) = weights m c (ix2 k j) := by
  rw [show V m c main_v1 = StableHlo.after hostOps0 (fun b => m (c, b)) (Proc.devRef .tc main_v1) from rfl]
  after_reads_at

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])

theorem block0 (t : Fin cfg0.N) : (iblk m c 0 t : Vec Ideal S256x1024 .f32) = V m c main_v0 := by
  funext y
  blk_simp [iblk]
  congr 1
  blk_ext [index0]
theorem block1 (t : Fin cfg0.N) : (iblk m c 1 t : Vec Ideal S1x1024 .f32) = V m c main_v2 := by
  funext y
  blk_simp [iblk]
  congr 1
  blk_ext [index1]
theorem block2 (t : Fin cfg0.N) : (iblk m c 2 t : Vec Ideal S1024x1024 .bf16) = V m c main_v1 := by
  funext y
  blk_simp [iblk]
  congr 1
  blk_ext [index2]

theorem covers : (win0_3).Covers := by decide +kernel

/-- The kernel's result array. -/
theorem result : (Gen.dats m 0 c).arrAt 3 cfg0.N
    = fun i : S256x1024.Idx => feature (fun k => rows m c (ix3 0 (i 0) k)) (fun k => gains m c (ix1 k)) (fun k => weights m c (ix2 k (i 1))) := by
  refine (Gen.dats m 0 c).arrAt_eq_of_covers 3 _ covers fun t hf y => ?_
  obtain ⟨a, b, rfl⟩ : ∃ (a : Fin 256) (b : Fin 1024), y = (ix2 a b : S256x1024.Idx) :=
    ⟨y 0, y 1, by funext a; match a with | ⟨0, _⟩ => rfl | ⟨1, _⟩ => rfl⟩
  have e0 : (win0_3.blk t).view.emb (ix2 a b : S256x1024.Idx) 0 = a := Fin.ext (by blk_simp [index3])
  have e1 : (win0_3.blk t).view.emb (ix2 a b : S256x1024.Idx) 1 = b := Fin.ext (by blk_simp [index3])
  blk_simp
  rw [after0_3]
  refine (out_at _ _ _ a b).trans ?_
  rw [block0, block1, block2]
  refine Eq.trans ?_ (congrArg₂ (fun (i : Fin 256) (j : Fin 1024) => feature (fun k => rows m c (ix3 0 i k)) (fun k => gains m c (ix1 k)) (fun k => weights m c (ix2 k j))) e0 e1).symm
  have h0 := rows_entry m c a
  have h1 := gains_entry m c
  have h2 := fun k => weights_entry m c k b
  simp only [h0, h1, h2]

end Cert.MemoryIdeal.Meaning

namespace Cert.MemoryPlainIdeal.Meaning

open Idealize.ShloMosaic Idealize.ShloMosaic.TcCoe Cert.MemoryPlainIdeal Cert.MemoryPlainIdeal.Gen Cert.MemoryPlainIdeal.Read Cert.Rms

/-- The reference's result array. -/
theorem result (x0 : FVec Ideal S1x256x1024 .f32) (x1 : FVec Ideal S1024 .f32) (x2 : FVec Ideal S1024x1024 .f32) :
    val_main_v14 (F := Ideal) x0 x1 x2
      = fun i : S256x1024.Idx => feature (fun k => x0 (ix3 0 (i 0) k)) (fun k => x1 (ix1 k)) (fun k => x2 (ix2 k (i 1))) := by
  funext i
  obtain ⟨a, b, rfl⟩ : ∃ (a : Fin 256) (b : Fin 1024), i = (ix2 a b : S256x1024.Idx) :=
    ⟨i 0, i 1, by funext a; match a with | ⟨0, _⟩ => rfl | ⟨1, _⟩ => rfl⟩
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.MemoryPlainIdeal.Meaning

end
-- ==== Proof.Buckets.lean ====
module

public import proofs.«01_k».proof.Proof.Softmax
public import proofs.«01_k».proof.Proof.Attn

@[expose] public section

noncomputable section

/-! # The buckets of the relative distance

A bias depends on the distance of key and query through one of 32 buckets: the first sixteen are the distances
themselves, the others grow with the logarithm. The kernel knows the buckets by their first distances. -/

namespace Cert.Buckets

open Idealize.ShloMosaic

/-- The first distance of a bucket. -/
def thr (b : ℕ) : ℕ :=
  [0, 1, 2, 3, 4, 5, 6, 7, 8, 9, 10, 11, 12, 13, 14, 15, 16, 19, 21, 24, 27, 31, 35, 40, 46, 52, 59, 67, 77, 87, 99, 113].getD b 0

/-- The last bucket up to `b` whose first distance is not beyond `d`. -/
def upTo (d : ℕ) : ℕ → ℕ
  | 0 => 0
  | b + 1 => if thr (b + 1) ≤ d then b + 1 else upTo d b

/-- The bucket of a distance. -/
def bucket (d : ℕ) : ℕ := upTo d 31

theorem upTo_lt (d b : ℕ) : upTo d b ≤ b := by
  induction b with
  | zero => exact le_rfl
  | succ b ih => rw [upTo]; split <;> omega

/-- From distance 113 on every distance has the last bucket. -/
theorem bucket_far {d : ℕ} (h : 113 ≤ d) : bucket d = 31 := by
  unfold bucket upTo
  exact if_pos h

/-- The first sixteen buckets. -/
theorem bucket_near : ∀ {d : ℕ}, d < 16 → bucket d = d := by
  have h : ∀ d : Fin 16, bucket d = d := by decide
  exact fun {d} hd => h ⟨d, hd⟩

/-- A choice by first distances, the last bucket first, is the choice at the bucket. -/
theorem pick {α : Type} (f : ℕ → α) (d : ℕ) (g : ℕ → α) (h0 : g 0 = f 0)
    (hs : ∀ b, b < 31 → g (b + 1) = if thr (b + 1) ≤ d then f (b + 1) else g b) : g 31 = f (bucket d) := by
  have : ∀ b, b ≤ 31 → g b = f (upTo d b) := by
    intro b
    induction b with
    | zero => exact fun _ => h0
    | succ b ih =>
      intro hb
      rw [hs b hb, ih (by omega), upTo]
      split <;> rfl
  exact this 31 le_rfl

/-! ## The logarithm -/

/-- The divisor of the logarithm: the float next to `log 8`. -/
def width : ℝ := 8721810 / 4194304

theorem width_pos : 0 < width := by unfold width; norm_num

theorem width_near : |width - 3 * Real.log 2| < 1 / 100000 := by
  have h1 : (0.693147 : ℝ) < Real.log 2 := by
    rw [Real.lt_log_iff_exp_lt (by norm_num)]
    refine lt_of_le_of_lt (Real.exp_bound' (by norm_num) (by norm_num) (n := 12) (by norm_num)) ?_
    norm_num [Finset.sum_range_succ, Nat.factorial]
  have h2 : Real.log 2 < 0.693148 := by
    rw [Real.log_lt_iff_lt_exp (by norm_num)]
    refine lt_of_lt_of_le ?_ (Real.sum_le_exp_of_nonneg (by norm_num) 12)
    norm_num [Finset.sum_range_succ, Nat.factorial]
  unfold width
  rw [abs_lt]
  constructor <;> linarith

theorem log_ratio {x : ℝ} (hx : 0 < x) (k : ℕ) : Real.log ((x / 16) ^ 16 / 8 ^ k) = 16 * Real.log (x / 16) - k * (3 * Real.log 2) := by
  rw [Real.log_div (by positivity) (by positivity), Real.log_pow, Real.log_pow, show (8 : ℝ) = 2 ^ 3 by norm_num, Real.log_pow]
  push_cast
  ring

/-- A distance at which the logarithm has reached `k` steps. -/
theorem log_ge {x : ℝ} (hx : 0 < x) (k : ℕ) (hk : k ≤ 15) (h : 1.01 * 8 ^ k ≤ (x / 16) ^ 16) : (k : ℝ) ≤ Real.log (x / 16) * (1 / width) * 16 := by
  have h8 : (0 : ℝ) < 8 ^ k := by positivity
  have hr : (1.01 : ℝ) ≤ (x / 16) ^ 16 / 8 ^ k := by rw [le_div_iff₀ h8]; exact h
  have hl := Real.one_sub_inv_le_log_of_pos (show 0 < (x / 16) ^ 16 / 8 ^ k by positivity)
  have hi : ((x / 16) ^ 16 / 8 ^ k)⁻¹ ≤ (1.01 : ℝ)⁻¹ := inv_anti₀ (by norm_num) hr
  rw [log_ratio hx] at hl
  have hw := abs_lt.1 width_near
  have hk' : (k : ℝ) ≤ 15 := by exact_mod_cast hk
  have hk0 : (0 : ℝ) ≤ k := Nat.cast_nonneg k
  have : (k : ℝ) * width ≤ 16 * Real.log (x / 16) := by
    have : (k : ℝ) * (width - 3 * Real.log 2) ≤ 15 * (1 / 100000) := by
      refine le_trans (mul_le_mul_of_nonneg_left hw.2.le hk0) ?_
      nlinarith
    have hi' : (1.01 : ℝ)⁻¹ ≤ 0.995 := by norm_num
    nlinarith
  rw [mul_one_div, div_mul_eq_mul_div, le_div_iff₀ width_pos]
  linarith

/-- A distance at which the logarithm has not reached `k` steps. -/
theorem log_lt {x : ℝ} (hx : 0 < x) (k : ℕ) (hk : k ≤ 15) (h : (x / 16) ^ 16 ≤ 0.98 * 8 ^ k) : Real.log (x / 16) * (1 / width) * 16 < k := by
  have h8 : (0 : ℝ) < 8 ^ k := by positivity
  have hr : (x / 16) ^ 16 / 8 ^ k ≤ (0.98 : ℝ) := by rw [div_le_iff₀ h8]; exact h
  have hl := Real.log_le_sub_one_of_pos (show 0 < (x / 16) ^ 16 / 8 ^ k by positivity)
  rw [log_ratio hx] at hl
  have hw := abs_lt.1 width_near
  have hk' : (k : ℝ) ≤ 15 := by exact_mod_cast hk
  have hk0 : (0 : ℝ) ≤ k := Nat.cast_nonneg k
  have : 16 * Real.log (x / 16) < (k : ℝ) * width := by
    have : -(15 * (1 / 100000)) ≤ (k : ℝ) * (width - 3 * Real.log 2) := by
      refine le_trans ?_ (mul_le_mul_of_nonneg_left hw.1.le hk0)
      nlinarith
    nlinarith
  rw [mul_one_div, div_mul_eq_mul_div, div_lt_iff₀ width_pos]
  linarith

/-- The number of steps of the logarithm. -/
def steps (n : ℕ) : ℝ := Real.log ((n : ℝ) / 16) * (1 / width) * 16

theorem steps_ge : ∀ k : ℕ, k ≤ 15 → ∀ n : ℕ, thr (16 + k) ≤ n → 16 ≤ n → (k : ℝ) ≤ steps n := by
  intro k hk n hn h16
  have hn' : (thr (16 + k) : ℝ) ≤ n := by exact_mod_cast hn
  have h16' : (16 : ℝ) ≤ n := by exact_mod_cast h16
  rcases Nat.eq_zero_or_pos k with rfl | hpos
  · unfold steps
    have : 0 ≤ Real.log ((n : ℝ) / 16) := Real.log_nonneg (by linarith)
    have := width_pos
    push_cast
    positivity
  · refine log_ge (by linarith) k hk (le_trans ?_ (pow_le_pow_left₀ (by positivity) (div_le_div_of_nonneg_right hn' (by norm_num)) 16))
    clear * - hk hpos
    interval_cases k <;> norm_num [thr]

theorem steps_lt : ∀ k : ℕ, 1 ≤ k → k ≤ 15 → ∀ n : ℕ, 0 < n → n < thr (16 + k) → steps n < k := by
  intro k hpos hk n h0 hn
  have hn' : (n : ℝ) ≤ thr (16 + k) - 1 := by
    have : (n : ℝ) + 1 ≤ thr (16 + k) := by exact_mod_cast hn
    linarith
  have h0' : (0 : ℝ) < n := by exact_mod_cast h0
  refine log_lt h0' k hk (le_trans (pow_le_pow_left₀ (by positivity) (div_le_div_of_nonneg_right hn' (by norm_num)) 16) ?_)
  clear * - hk hpos
  interval_cases k <;> norm_num [thr]

/-- The steps of the logarithm, counted whole and bounded, are the bucket. -/
theorem bucket_log {n : ℕ} (h16 : 16 ≤ n) : min (16 + ⌊steps n⌋) 31 = (bucket n : ℤ) := by
  have : ∀ k : ℕ, k ≤ 15 → min (16 + ⌊steps n⌋) (16 + k) = (upTo n (16 + k) : ℤ) := by
    intro k
    induction k with
    | zero =>
      intro _
      have h0 := steps_ge 0 (by omega) n h16 h16
      have : 0 ≤ ⌊steps n⌋ := Int.floor_nonneg.2 (by simpa using h0)
      have e : upTo n (16 + 0) = 16 := by unfold upTo; exact if_pos h16
      rw [e]
      push_cast
      omega
    | succ k ih =>
      intro hk
      have ih := ih (by omega)
      rw [show 16 + (k + 1) = 16 + k + 1 from rfl, upTo]
      split
      · next h =>
        have : ((k + 1 : ℕ) : ℤ) ≤ ⌊steps n⌋ := Int.le_floor.2 (by exact_mod_cast steps_ge (k + 1) hk n h h16)
        push_cast at this ⊢
        omega
      · next h =>
        have : ⌊steps n⌋ < ((k + 1 : ℕ) : ℤ) := Int.floor_lt.2 (by exact_mod_cast steps_lt (k + 1) (by omega) hk n (by omega) (not_le.1 h))
        rw [← ih]
        push_cast at this ⊢
        omega
  exact this 15 le_rfl

end Cert.Buckets

end
-- ==== Proof.DiffModel.lean ====
module

public import proofs.«01_k».proof.Proof.Buckets

@[expose] public section

noncomputable section

/-! # Differential attention in real numbers

The prompt's features and the table of biases as functions of row and column. A head has two halves of 64 query columns;
each half attends on its own, and the result is the first half's mean less `lam` times the second's. -/

namespace Cert.DiffModel

open Idealize.ShloMosaic Cert.Softmax Cert.Buckets

variable (X : ℕ → ℕ → ℝ) (Y : ℕ → ℕ → ℝ)

/-- The product of half `p` of a query with the same half of a key. -/
def dots (p h q t : ℕ) : ℝ := ∑ d : Fin 64, X q (512 + (128 * h + (64 * p + d))) * (1 / 8) * X t (1792 + (64 * p + d))

/-- The score of a key: the product and the bias of the distance. -/
def score (p h q t : ℕ) : ℝ := dots X p h q t + Y (bucket (q - t)) (8 + h)

/-- A key's value. -/
def value (t x : ℕ) : ℝ := X t (1920 + x)

/-- The mean of the values of the keys `0 … q` that half `p` sees. -/
def mean (p h q x : ℕ) : ℝ := soft (q + 1) (score X Y p h q) (fun t => value X t x)

/-- The difference of the two halves' means. -/
def diff (lam : ℝ) (h q x : ℕ) : ℝ := mean X Y 0 h q x - lam * mean X Y 1 h q x

/-- A row of 128, divided by the root of its mean square, scaled entry by entry and by a constant. -/
def norm (o g : Fin 128 → EReal) (x : Fin 128) : EReal :=
  o x * Ideal.rsqrt (Ideal.div (∑ j : Fin 128, o j * o j) (Ideal.ofBits .f32 0x43000000#32) + Ideal.ofBits .f32 0x358637BD#32) * g x
    * Ideal.ofBits .f32 0x3F4CCCCD#32

/-- The weight of the second half, from the four vectors of lambda. -/
def lam (q1 k1 q2 k2 : Fin 64 → ℝ) : ℝ :=
  Real.exp (∑ d, q1 d * k1 d) - Real.exp (∑ d, q2 d * k2 d) + (Ideal.ofBits .f32 0x3E4CCCCD#32).toReal

theorem start_eq : Ideal.ofBits .f32 0x3E4CCCCD#32 = (((Ideal.ofBits .f32 0x3E4CCCCD#32).toReal : ℝ) : EReal) := by
  have h : Ideal.ofBits .f32 0x3E4CCCCD#32 ≠ ⊤ ∧ Ideal.ofBits .f32 0x3E4CCCCD#32 ≠ ⊥ := by
    simp [Ideal.ofBits, Ideal.ieee, -EReal.coe_mul]
  exact (EReal.coe_toReal h.1 h.2).symm

/-- The factor on the queries. -/
theorem eighth : Ideal.ofBits .f32 0x3E000000#32 = ((1 / 8 : ℝ) : EReal) := by
  simp [Ideal.ofBits, Ideal.ieee, -EReal.coe_mul]
  norm_num

/-- The whole result: head by head, 128 features each. -/
def table (l : ℝ) (g : Fin 128 → EReal) (q : Fin 16384) (b : Fin 512) : EReal :=
  norm (fun x => ((diff X Y l ((b : ℕ) / 128) q x : ℝ) : EReal)) g ⟨(b : ℕ) % 128, by omega⟩

end Cert.DiffModel

end
-- ==== Proof.DiffHost.lean ====
module

public import proofs.«01_k».proof.Proof.Gen.DiffIdeal.Value
public import proofs.«01_k».proof.Proof.DiffModel
public import Idealize.ShloMosaic.Lib.WordCmp
public import Idealize.ShloMosaic.Lib.StableHlo.ReadAt
public import Idealize.ShloMosaic.Lib.Pipeline.ValueKit

@[expose] public section

set_option maxRecDepth 16384

noncomputable section

/-! # The differential attention's arguments

The host cuts keys and values out of the features, and lays the table of biases out as two tiles per head: one for the
diagonal, one for the tile before it. -/

namespace Cert.DiffIdeal.Host

open Idealize.ShloMosaic Idealize.ShloMosaic.TcCoe Cert.DiffIdeal Cert.DiffIdeal.Gen Cert.Buckets

variable (m : (ℓ : Loc nD τ sig) → Buf (Elt Ideal) ℓ) (c : Dev nD)

/-- The features of the prompt. -/
abbrev features : FVec Ideal S16384x2688 .f32 := m ((c : Thread nD τ).loc main_arg0)
/-- The table of biases. -/
abbrev biases : FVec Ideal S32x12 .f32 := m ((c : Thread nD τ).loc main_arg1)
/-- The four vectors of lambda. -/
abbrev lq1 : FVec Ideal S64 .f32 := m ((c : Thread nD τ).loc main_arg2)
abbrev lk1 : FVec Ideal S64 .f32 := m ((c : Thread nD τ).loc main_arg3)
abbrev lq2 : FVec Ideal S64 .f32 := m ((c : Thread nD τ).loc main_arg4)
abbrev lk2 : FVec Ideal S64 .f32 := m ((c : Thread nD τ).loc main_arg5)
/-- The gains. -/
abbrev gains : FVec Ideal S128 .f32 := m ((c : Thread nD τ).loc main_arg6)

theorem k_entry (T : Fin 64) (d : Fin 128) (t : Fin 256) :
    (V m c main_v193 : FVec Ideal S64x128x256 .bf16) (ix3 T d t) = features m c (ix2 ⟨256 * (T : ℕ) + t, by omega⟩ ⟨1792 + d, by omega⟩) := by
  unfold V
  after_reads_at
  simp only [Nat.mul_comm (T : ℕ) 256]

theorem v_entry (y : Fin 16384) (d : Fin 256) :
    (V m c main_v196 : FVec Ideal S16384x256 .bf16) (ix2 y d)
      = if hd : (d : ℕ) < 128 then features m c (ix2 y ⟨1920 + d, by omega⟩) else 1 := by
  unfold V
  after_reads_at
  split
  · congr 2
    apply Fin.ext
    dsimp only
    omega
  · rfl

theorem g_entry (x : Fin 128) : (V m c main_v197 : FVec Ideal S1x128 .f32) (ix2 0 x) = gains m c (ix1 x) := by
  unfold V
  after_reads_at

theorem l_entry (d : Fin 64) :
    (V m c main_v188 : FVec Ideal S4x64 .f32) (ix2 0 d) = lq1 m c (ix1 d) ∧ (V m c main_v188 : FVec Ideal S4x64 .f32) (ix2 1 d) = lk1 m c (ix1 d)
      ∧ (V m c main_v188 : FVec Ideal S4x64 .f32) (ix2 2 d) = lq2 m c (ix1 d) ∧ (V m c main_v188 : FVec Ideal S4x64 .f32) (ix2 3 d) = lk2 m c (ix1 d) := by
  unfold V
  refine ⟨?_, ?_, ?_, ?_⟩
  all_goals
    after_reads_at
    after_reads_at

/-! ## The tiles of biases -/

/-- The host's choice by first distances, the distance a word. -/
def chain (w : BitVec 32) (f : ℕ → EReal) : ℕ → EReal
  | 0 => f 0
  | b + 1 => Scalar.select (α := EReal) (IntOp.cmpi .sge w (BitVec.ofNat 32 (thr (b + 1)))) (f (b + 1)) (chain w f b)

/-- The choice by a comparison of small words. -/
theorem choose (d b : ℕ) (hd : d < 512) (hb : b < 512) (x y : EReal) :
    Scalar.select (α := EReal) (IntOp.cmpi .sge (BitVec.ofNat 32 d) (BitVec.ofNat 32 b)) x y = if b ≤ d then x else y := by
  have h := WordCmp.cmpi_sge_ofNat (a := d) (b := b) (w := 32) (lt_trans hd (by norm_num)) (lt_trans hb (by norm_num))
  rw [h]
  by_cases h : b ≤ d <;> simp [h, Scalar.select]

theorem thr_small : ∀ b : Fin 31, thr ((b : ℕ) + 1) < 512 := by decide

/-- The host's choice is the one at the bucket. -/
theorem chain_eq {w : BitVec 32} {d : ℕ} (hw : w = BitVec.ofNat 32 d) (hd : d < 512) (f : ℕ → EReal) : chain w f 31 = f (bucket d) :=
  pick f d (chain w f) rfl fun b hb => by rw [chain, hw, choose d _ hd (thr_small ⟨b, hb⟩)]

/-- The difference of two small words. -/
theorem distance {r t : ℕ} (h : t ≤ r) (hr : r < 512) : IntOp.subi (BitVec.ofNat 32 r) (BitVec.ofNat 32 t) = BitVec.ofNat 32 (r - t) := by
  apply BitVec.eq_of_toNat_eq
  simp [IntOp.subi, BitVec.toNat_sub]
  omega

/-- The biases of a head by bucket. -/
def row (h : Fin 4) (b : ℕ) : EReal := biases m c (ix2 ⟨b % 32, by omega⟩ ⟨8 + h, by omega⟩)

set_option maxHeartbeats 8000000 in
/-- The diagonal's tile of biases, where the key is not beyond the query. -/
theorem t_entry0 (h : Fin 4) (r t : Fin 256) (ht : (t : ℕ) ≤ r) :
    (V m c main_v183 : FVec Ideal S4x2x256x256 .f32) (ix4 h 0 r t) = row m c h (bucket (r - t)) - row m c h 31 := by
  unfold V
  after_reads_at
  after_reads_at
  exact congrArg (· - row m c h 31) (chain_eq (distance ht (by omega)) (by omega) (row m c h))

set_option maxHeartbeats 8000000 in
/-- The tile of biases before the diagonal. -/
theorem t_entry1 (h : Fin 4) (r t : Fin 256) :
    (V m c main_v183 : FVec Ideal S4x2x256x256 .f32) (ix4 h 1 r t) = row m c h (bucket (256 + r - t)) - row m c h 31 := by
  have e : IntOp.subi (IntOp.addi (256#32) (BitVec.ofNat 32 r)) (BitVec.ofNat 32 t) = BitVec.ofNat 32 (256 + r - t) := by
    rw [show IntOp.addi (256#32) (BitVec.ofNat 32 r) = BitVec.ofNat 32 (256 + r) from WordCmp.addi_ofNat _ _]
    exact distance (by omega) (by omega)
  unfold V
  after_reads_at
  after_reads_at
  exact congrArg (· - row m c h 31) (chain_eq e (by omega) (row m c h))

/-! ## The blocks of a grid point -/

theorem index0 : ∀ t : Fin cfg0.N, win0_0.index t = ![(grid0.coords t 0 : ℕ), 1] :=
  (by decide +kernel : ∀ t : Fin grid0.N, win0_0.index t = ![(grid0.coords t 0 : ℕ), 1])
theorem index1 : ∀ t : Fin cfg0.N, win0_1.index t = ![0, 0, 0] := (by decide +kernel : ∀ t : Fin grid0.N, win0_1.index t = ![0, 0, 0])
theorem index2 : ∀ t : Fin cfg0.N, win0_2.index t = ![0, 0] := (by decide +kernel : ∀ t : Fin grid0.N, win0_2.index t = ![0, 0])
theorem index3 : ∀ t : Fin cfg0.N, win0_3.index t = ![0, 0, 0, 0] := (by decide +kernel : ∀ t : Fin grid0.N, win0_3.index t = ![0, 0, 0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![(grid0.coords t 0 : ℕ), 0] :=
  (by decide +kernel : ∀ t : Fin grid0.N, win0_6.index t = ![(grid0.coords t 0 : ℕ), 0])

theorem block0 (t : Fin cfg0.N) (a b : Fin 512) (T : Fin 16384) (hT : (T : ℕ) = 512 * (grid0.coords t 0 : ℕ) + a) :
    (X0_0 m c t : Vec Ideal S512x512 .f32) (ix2 a b) = features m c (ix2 T ⟨512 + b, by omega⟩) := by
  unfold X0_0 Pipeline.Window.fill
  rw [dif_pos (moved0_0 t _)]
  blk_simp [iblk]
  congr 1
  blk_ext [index0]

theorem block1 (t : Fin cfg0.N) : (iblk m c 1 t : Vec Ideal S64x128x256 .bf16) = V m c main_v193 := by
  funext y
  blk_simp [iblk]
  congr 1
  blk_ext [index1]

theorem block2 (t : Fin cfg0.N) : (iblk m c 2 t : Vec Ideal S16384x256 .bf16) = V m c main_v196 := by
  funext y
  blk_simp [iblk]
  congr 1
  blk_ext [index2]

theorem block3 (t : Fin cfg0.N) : (iblk m c 3 t : Vec Ideal S4x2x256x256 .f32) = V m c main_v183 := by
  funext y
  blk_simp [iblk]
  congr 1
  blk_ext [index3]

theorem block4 (t : Fin cfg0.N) : (iblk m c 4 t : Vec Ideal S4x64 .f32) = V m c main_v188 := by
  funext y
  blk_simp [iblk]
  congr 1
  blk_ext [index4]

theorem block5 (t : Fin cfg0.N) : (iblk m c 5 t : Vec Ideal S1x128 .f32) = V m c main_v197 := by
  funext y
  blk_simp [iblk]
  congr 1
  blk_ext [index5]

theorem covers : (win0_6).Covers := by decide +kernel

end Cert.DiffIdeal.Host

end
-- ==== Proof.DiffStep.lean ====
module

public import proofs.«01_k».proof.Proof.Gen.DiffIdeal.Value
public import proofs.«01_k».proof.Proof.Slots

@[expose] public section

set_option maxRecDepth 16384

noncomputable section

/-! # The differential attention's steps

The kernel keeps, for each of two row blocks, two softmaxes and four heads, one slot of queries, one of running row
maxima and one of weighted sums. Far key tiles add no bias; the tile before the diagonal and the diagonal's tiles add a
tile of biases. The joint steps on maxima and sums are those of `Step`. -/

namespace Cert.DiffIdeal.Step

open Idealize.ShloMosaic Idealize.ShloMosaic.TcCoe Cert.DiffIdeal.Gen
open Cert.KernelIdeal.Step (lo hi max1 max2 sum1 sum2 wrapM wrapA valueRows firstRows masked slots slotM slotA slotM_inb slotA_inb Stores fill)

variable {F : FTy → Type} [FloatOps F] [Named F]

/-- The scores of one query block against one key tile. -/
def score (q : Vec F S1x256x128 .bf16) (k : Vec F S1x128x256 .bf16) : FVec F S256x256 .f32 :=
  matmul dot_S256x128_S128x256_S256x256_1_0_0_1_n_n none (shapeCast S256x128 q shapeCasts_S1x256x128_S256x128 : FVec F S256x128 .bf16)
    (shapeCast S128x256 k shapeCasts_S1x128x256_S128x256 : FVec F S128x256 .bf16) (constant S256x256 .f32 0x00000000#32)

/-- Scores with a tile of biases added. -/
def biased (s : FVec F S256x256 .f32) (b : Vec F S1x1x256x256 .f32) : FVec F S256x256 .f32 :=
  addf s (shapeCast S256x256 b shapeCasts_S1x1x256x256_S256x256 : FVec F S256x256 .f32)

/-! ## The queries -/

/-- The lane of each entry of a query block. -/
def lane : IVec S256x128 32 := iota .tc S256x128 32 [1] iota_S256x128_d1_w32

/-- The queries, scaled. -/
def scaled (q : Vec F S256x512 .f32) : FVec F S256x512 .f32 :=
  mulf q (broadcast S256x512 (Scalar.ofBits .f32 0x3E000000#32 : F .f32))

/-- One head's queries for the first softmax: the lanes below 64. -/
def first (x : FVec F S256x128 .f32) : FVec F S256x128 .bf16 :=
  truncf .bf16 (select (cmpi .slt lane (broadcast S256x128 64#32)) x (broadcast S256x128 (Scalar.ofBits .f32 0x00000000#32 : F .f32))) bitsLt_bf16_f32

/-- One head's queries for the second softmax: the lanes from 64 on. -/
def second (x : FVec F S256x128 .f32) : FVec F S256x128 .bf16 :=
  truncf .bf16 (select (cmpi .sge lane (broadcast S256x128 64#32)) x (broadcast S256x128 (Scalar.ofBits .f32 0x00000000#32 : F .f32))) bitsLt_bf16_f32

/-- All eight query blocks of a block of rows, one below the other. -/
def packed (q : Vec F S256x512 .f32) : FVec F S2048x128 .bf16 :=
  concatenate S2048x128 0
    [⟨S256x128, first (extractStridedSlice S256x128 ![0, 0] (scaled q) slices_S256x512_o0_0_S256x128)⟩,
     ⟨S256x128, first (extractStridedSlice S256x128 ![0, 128] (scaled q) slices_S256x512_o0_128_S256x128)⟩,
     ⟨S256x128, first (extractStridedSlice S256x128 ![0, 256] (scaled q) slices_S256x512_o0_256_S256x128)⟩,
     ⟨S256x128, first (extractStridedSlice S256x128 ![0, 384] (scaled q) slices_S256x512_o0_384_S256x128)⟩,
     ⟨S256x128, second (extractStridedSlice S256x128 ![0, 0] (scaled q) slices_S256x512_o0_0_S256x128)⟩,
     ⟨S256x128, second (extractStridedSlice S256x128 ![0, 128] (scaled q) slices_S256x512_o0_128_S256x128)⟩,
     ⟨S256x128, second (extractStridedSlice S256x128 ![0, 256] (scaled q) slices_S256x512_o0_256_S256x128)⟩,
     ⟨S256x128, second (extractStridedSlice S256x128 ![0, 384] (scaled q) slices_S256x512_o0_384_S256x128)⟩]
    concatenates_S256x128_S256x128_S256x128_S256x128_S256x128_S256x128_S256x128_S256x128_S2048x128_d0

theorem block_slices (n : Fin 8) : S2048x128.Slices ![256 * (n : ℕ), 0] S256x128 := by
  revert n; decide

/-- Query block `n` of the eight, as a slot's block. -/
def staged (q : Vec F S256x512 .f32) (n : Fin 8) : FVec F S1x256x128 .bf16 :=
  shapeCast S1x256x128 (extractStridedSlice S256x128 ![256 * (n : ℕ), 0] (packed q) (block_slices n)) shapeCasts_S256x128_S1x256x128

theorem rows_inb (u : Fin 2) : ∀ a, (![256 * (u : ℕ), 0] : Fin 2 → ℕ) a + S256x512.size a ≤ S512x512.size a := by
  have := u.isLt
  intro a; fin_cases a <;> simp <;> omega

/-- A block of rows of the queries. -/
def queryRows (x0 : Vec F S512x512 .f32) (u : Fin 2) : Vec F S256x512 .f32 :=
  View.ld x0 (Rect.unit (s := S512x512) ![256 * (u : ℕ), 0] S256x512.size (rows_inb u))

/-- What slot `n` of the queries receives. -/
def slotQuery (x0 : Vec F S512x512 .f32) (n : Fin 16) : FVec F S1x256x128 .bf16 :=
  staged (queryRows x0 ⟨(n : ℕ) / 8, by omega⟩) ⟨(n : ℕ) % 8, by omega⟩

/-- The stores into the queries' slots. -/
def stage (x0 : Vec F S512x512 .f32) : List (View.Piece (Elt F) S16x256x128 .bf16) := slots.map fun n => ⟨slotM n, slotQuery x0 n⟩

/-! ## One trip of the loop over pairs of far key tiles -/

section trip
variable (c : Dev nD) (i : grid0.Coords)
  (arg1 : Memref sig .tc .vmem S512x512 .f32) (harg1 : arg1.IsWhole)
  (arg2 : Memref sig .tc .vmem S64x128x256 .bf16) (harg2 : arg2.IsWhole)
  (arg3 : Memref sig .tc .vmem S16384x256 .bf16) (harg3 : arg3.IsWhole)
  (arg4 : Memref sig .tc .vmem S4x2x256x256 .f32) (harg4 : arg4.IsWhole)
  (arg5 : Memref sig .tc .vmem S4x64 .f32) (harg5 : arg5.IsWhole)
  (arg6 : Memref sig .tc .vmem S1x128 .f32) (harg6 : arg6.IsWhole)
  (arg7 : Memref sig .tc .vmem S512x512 .f32) (harg7 : arg7.IsWhole)
  (arg8 : Memref sig .tc .vmem S16x256x128 .bf16) (harg8 : arg8.IsWhole)
  (arg9 : Memref sig .tc .vmem S16x256x128 .f32) (harg9 : arg9.IsWhole)
  (arg10 : Memref sig .tc .vmem S16x256x256 .f32) (harg10 : arg10.IsWhole)

/-- What a trip stores into the running maxima, from the maxima it finds. -/
def tripM (Q : Vec F S16x256x128 .bf16) (k0 k1 : Vec F S1x128x256 .bf16) (M : Vec F S16x256x128 .f32) (n : Fin 16) : FVec F S256x128 .f32 :=
  max2 (score (View.ld Q (slotM n)) k0) (score (View.ld Q (slotM n)) k1) (View.ld M (slotM n))

/-- What a trip stores into the weighted sums, from the maxima and sums it finds. -/
def tripA (Q : Vec F S16x256x128 .bf16) (k0 k1 : Vec F S1x128x256 .bf16) (v : Vec F S512x256 .bf16)
    (M : Vec F S16x256x128 .f32) (A : Vec F S16x256x256 .f32) (n : Fin 16) : FVec F S256x256 .f32 :=
  sum2 (score (View.ld Q (slotM n)) k0) (score (View.ld Q (slotM n)) k1) (valueRows v) (tripM Q k0 k1 M n)
    (View.ld M (slotM n)) (View.ld A (slotA n))

variable (w0 w1 w2 w3 : BitVec 32) (X2 : BufTy.Contents (Elt F) arg2.view.ty) (X3 : BufTy.Contents (Elt F) arg3.view.ty)
  (X8 : BufTy.Contents (Elt F) arg8.view.ty) (k : Fin (k0_t1_loop i).trips)
  (f9 : BufTy.Contents (Elt F) arg9.view.ty) (f10 : BufTy.Contents (Elt F) arg10.view.ty)

/-- The first key tile of trip `k`. -/
def key0 (x1 : Vec F S64x128x256 .bf16) : Vec F S1x128x256 .bf16 :=
  View.ld x1 (Rect.unit (s := S64x128x256) (k0_off1 i k) S1x128x256.size (Cert.DiffIdeal.Facts₀.k0_off1_inb i k))

/-- The second key tile of trip `k`. -/
def key1 (x1 : Vec F S64x128x256 .bf16) : Vec F S1x128x256 .bf16 :=
  View.ld x1 (Rect.unit (s := S64x128x256) (k0_off2 i k) S1x128x256.size (Cert.DiffIdeal.Facts₀.k0_off2_inb i k))

/-- The value rows of trip `k`. -/
def vals (x2 : Vec F S16384x256 .bf16) : Vec F S512x256 .bf16 :=
  View.ld x2 (Rect.unit (s := S16384x256) (k0_off3 i k) S512x256.size (Cert.DiffIdeal.Facts₀.k0_off3_inb i k))

/-- The stores of one trip into the running maxima, slot by slot. -/
theorem trip_maxima : (trip_k0_t1 (F := F) Variants.none c none i arg1 harg1 arg2 harg2 arg3 harg3 arg4 harg4 arg5 harg5 arg6 harg6 arg7 harg7 arg8 harg8 arg9 harg9 arg10 harg10 w0 w1 w2 w3 X2 X3 X8 k).1 f9 f10
    = slots.map (fun n => ⟨slotM n, wrapM (tripM (arg8.view.read (Elt F) X8) (key0 i k (arg2.view.read (Elt F) X2)) (key1 i k (arg2.view.read (Elt F) X2))
        (arg9.view.read (Elt F) f9) n)⟩) := by
  unfold trip_k0_t1
  dsimp only
  sl_unfold_words
  rfl

/-- The stores of one trip into the weighted sums, slot by slot. -/
theorem trip_sums : (trip_k0_t1 (F := F) Variants.none c none i arg1 harg1 arg2 harg2 arg3 harg3 arg4 harg4 arg5 harg5 arg6 harg6 arg7 harg7 arg8 harg8 arg9 harg9 arg10 harg10 w0 w1 w2 w3 X2 X3 X8 k).2.1 f9 f10
    = slots.map (fun n => ⟨slotA n, wrapA (tripA (arg8.view.read (Elt F) X8) (key0 i k (arg2.view.read (Elt F) X2)) (key1 i k (arg2.view.read (Elt F) X2))
        (vals i k (arg3.view.read (Elt F) X3)) (arg9.view.read (Elt F) f9) (arg10.view.read (Elt F) f10) n)⟩) := by
  unfold trip_k0_t1
  dsimp only
  sl_unfold_words
  rfl

end trip

/-! ## The nearest tiles, and the output -/

section near
variable (c : Dev nD) (i : grid0.Coords)
  (arg1 : Memref sig .tc .vmem S512x512 .f32) (harg1 : arg1.IsWhole)
  (arg2 : Memref sig .tc .vmem S64x128x256 .bf16) (harg2 : arg2.IsWhole)
  (arg3 : Memref sig .tc .vmem S16384x256 .bf16) (harg3 : arg3.IsWhole)
  (arg4 : Memref sig .tc .vmem S4x2x256x256 .f32) (harg4 : arg4.IsWhole)
  (arg5 : Memref sig .tc .vmem S4x64 .f32) (harg5 : arg5.IsWhole)
  (arg6 : Memref sig .tc .vmem S1x128 .f32) (harg6 : arg6.IsWhole)
  (arg7 : Memref sig .tc .vmem S512x512 .f32) (harg7 : arg7.IsWhole)
  (arg8 : Memref sig .tc .vmem S16x256x128 .bf16) (harg8 : arg8.IsWhole)
  (arg9 : Memref sig .tc .vmem S16x256x128 .f32) (harg9 : arg9.IsWhole)
  (arg10 : Memref sig .tc .vmem S16x256x256 .f32) (harg10 : arg10.IsWhole)
  (x0 : Vec F S512x512 .f32) (x1 : Vec F S64x128x256 .bf16) (x2 : Vec F S16384x256 .bf16) (x3 : Vec F S4x2x256x256 .f32)
  (x4 : Vec F S4x64 .f32) (x5 : Vec F S1x128 .f32)

/-- A key tile, wherever it starts. -/
def tile (off : Fin 3 → ℕ) (inb : ∀ a, off a + S1x128x256.size a ≤ S64x128x256.size a) : Vec F S1x128x256 .bf16 :=
  View.ld (arg2.view.read (Elt F) (harg2.unread x1)) (Rect.unit (s := S64x128x256) off S1x128x256.size inb)

/-- Value rows, wherever they start. -/
def rows (off : Fin 2 → ℕ) (inb : ∀ a, off a + S512x256.size a ≤ S16384x256.size a) : Vec F S512x256 .bf16 :=
  View.ld (arg3.view.read (Elt F) (harg3.unread x2)) (Rect.unit (s := S16384x256) off S512x256.size inb)

/-- The first key tile on the diagonal. -/
def dkey0 : Vec F S1x128x256 .bf16 := tile arg2 harg2 x1 (k0_off10 i) (Cert.DiffIdeal.Facts₀.k0_off10_inb i)

/-- The second key tile on the diagonal. -/
def dkey1 : Vec F S1x128x256 .bf16 := tile arg2 harg2 x1 (k0_off11 i) (Cert.DiffIdeal.Facts₀.k0_off11_inb i)

/-- The value rows of the diagonal's tiles. -/
def dvals : Vec F S512x256 .bf16 := rows arg3 harg3 x2 (k0_off12 i) (Cert.DiffIdeal.Facts₀.k0_off12_inb i)

/-- The first key tile of the pair before the diagonal. -/
def nkey0 (h : k0_cond1 i = 1#1) : Vec F S1x128x256 .bf16 := tile arg2 harg2 x1 (k0_off7 i) (Cert.DiffIdeal.Facts₀.k0_off7_inb i h)

/-- The second key tile of the pair before the diagonal. -/
def nkey1 (h : k0_cond1 i = 1#1) : Vec F S1x128x256 .bf16 := tile arg2 harg2 x1 (k0_off8 i) (Cert.DiffIdeal.Facts₀.k0_off8_inb i h)

/-- The value rows of the pair before the diagonal. -/
def nvals (h : k0_cond1 i = 1#1) : Vec F S512x256 .bf16 := rows arg3 harg3 x2 (k0_off9 i) (Cert.DiffIdeal.Facts₀.k0_off9_inb i h)

/-- The queries of a slot, as read back from their slot. -/
def dquery (n : Fin 16) : Vec F S1x256x128 .bf16 :=
  arg8.view.readCov (stage (arg1.view.read (Elt F) (harg1.unread x0))) (slotM n).toLoadRect

theorem bias_inb (n : Fin 16) (j : Fin 2) : ∀ a, (![(n : ℕ) % 4, (j : ℕ), 0, 0] : Fin 4 → ℕ) a + S1x1x256x256.size a ≤ S4x2x256x256.size a := by
  have := j.isLt
  intro a; fin_cases a <;> simp <;> omega

/-- A tile of biases of the slot's head. -/
def bias (n : Fin 16) (j : Fin 2) : Vec F S1x1x256x256 .f32 :=
  View.ld (arg4.view.read (Elt F) (harg4.unread x3)) (Rect.unit (s := S4x2x256x256) ![(n : ℕ) % 4, (j : ℕ), 0, 0] S1x1x256x256.size (bias_inb n j))

/-- A slot's step over one tile of scores. -/
def step1 (σ : FVec F S256x256 .f32) (v : Vec F S512x256 .bf16) (n : Fin 16) (p : Stores F) : Stores F :=
  let m := arg9.view.readCov p.1 (slotM n).toLoadRect
  let a := arg10.view.readCov p.2 (slotA n).toLoadRect
  (⟨slotM n, wrapM (max1 σ m)⟩ :: p.1, ⟨slotA n, wrapA (sum1 σ (firstRows (valueRows v)) (max1 σ m) m a)⟩ :: p.2)

/-- A slot's step over two tiles of scores. -/
def step2 (σ τ : FVec F S256x256 .f32) (v : Vec F S512x256 .bf16) (n : Fin 16) (p : Stores F) : Stores F :=
  let m := arg9.view.readCov p.1 (slotM n).toLoadRect
  let a := arg10.view.readCov p.2 (slotA n).toLoadRect
  (⟨slotM n, wrapM (max2 σ τ m)⟩ :: p.1, ⟨slotA n, wrapA (sum2 σ τ (valueRows v) (max2 σ τ m) m a)⟩ :: p.2)

/-- The stores of the first `k` trips over far tiles. -/
def trips (k : ℕ) : Stores F :=
  pb_k0_t1 (F := F) Variants.none c none i arg1 harg1 arg2 harg2 arg3 harg3 arg4 harg4 arg5 harg5 arg6 harg6 arg7 harg7 arg8 harg8 arg9 harg9 arg10 harg10
    (BitVec.ofNat 32 (i 0).val) 0#32 (Scalar.subi (Scalar.maxsi (Scalar.subi (BitVec.ofNat 32 (i 0).val) 1#32) 0#32) 0#32) 1#32
    (harg2.unread x1) (harg3.unread x2) (arg8.view.writes (Elt F) arg8.view.junk (stage (arg1.view.read (Elt F) (harg1.unread x0))))
    (arg9.view.writes (Elt F) arg9.view.junk fill.1) (arg10.view.writes (Elt F) arg10.view.junk fill.2) k

/-- The stores of the loop over far tiles. -/
def loop1 : Stores F := trips c i arg1 harg1 arg2 harg2 arg3 harg3 arg4 harg4 arg5 harg5 arg6 harg6 arg7 harg7 arg8 harg8 arg9 harg9 arg10 harg10 x0 x1 x2 (Scf.trips (k0_t1_loop i).lb (k0_t1_loop i).ub (k0_t1_loop i).st)

/-- The stores of the loop that takes the pairs the first one left. -/
def loop2 : Stores F :=
  pb_k0_t2 (F := F) Variants.none c none i arg1 harg1 arg2 harg2 arg3 harg3 arg4 harg4 arg5 harg5 arg6 harg6 arg7 harg7 arg8 harg8 arg9 harg9 arg10 harg10
    (BitVec.ofNat 32 (i 0).val) 0#32 (Scalar.subi (Scalar.maxsi (Scalar.subi (BitVec.ofNat 32 (i 0).val) 1#32) 0#32) 0#32) 1#32
    (Scalar.addi 0#32 (Scalar.muli (Scalar.divsi (Scalar.subi (Scalar.maxsi (Scalar.subi (BitVec.ofNat 32 (i 0).val) 1#32) 0#32) 0#32) 1#32) 1#32))
    (harg2.unread x1) (harg3.unread x2) (arg8.view.writes (Elt F) arg8.view.junk (stage (arg1.view.read (Elt F) (harg1.unread x0))))
    (arg9.view.writes (Elt F) arg9.view.junk ((loop1 c i arg1 harg1 arg2 harg2 arg3 harg3 arg4 harg4 arg5 harg5 arg6 harg6 arg7 harg7 arg8 harg8 arg9 harg9 arg10 harg10 x0 x1 x2).1 ++ fill.1))
    (arg10.view.writes (Elt F) arg10.view.junk ((loop1 c i arg1 harg1 arg2 harg2 arg3 harg3 arg4 harg4 arg5 harg5 arg6 harg6 arg7 harg7 arg8 harg8 arg9 harg9 arg10 harg10 x0 x1 x2).2 ++ fill.2))
    (Scf.trips (k0_t2_loop i).lb (k0_t2_loop i).ub (k0_t2_loop i).st)

/-- The stores over the far tiles. -/
def far : Stores F :=
  ((loop2 c i arg1 harg1 arg2 harg2 arg3 harg3 arg4 harg4 arg5 harg5 arg6 harg6 arg7 harg7 arg8 harg8 arg9 harg9 arg10 harg10 x0 x1 x2).1 ++ ((loop1 c i arg1 harg1 arg2 harg2 arg3 harg3 arg4 harg4 arg5 harg5 arg6 harg6 arg7 harg7 arg8 harg8 arg9 harg9 arg10 harg10 x0 x1 x2).1 ++ fill.1), (loop2 c i arg1 harg1 arg2 harg2 arg3 harg3 arg4 harg4 arg5 harg5 arg6 harg6 arg7 harg7 arg8 harg8 arg9 harg9 arg10 harg10 x0 x1 x2).2 ++ ((loop1 c i arg1 harg1 arg2 harg2 arg3 harg3 arg4 harg4 arg5 harg5 arg6 harg6 arg7 harg7 arg8 harg8 arg9 harg9 arg10 harg10 x0 x1 x2).2 ++ fill.2))

/-- The stores after the pair of tiles before the diagonal. -/
def nearStores (h : k0_cond1 i = 1#1) (p : Stores F) : Stores F :=
  List.foldr (fun n => step2 arg9 arg10 (score (dquery arg1 harg1 arg8 x0 n) (nkey0 i arg2 harg2 x1 h)) (score (dquery arg1 harg1 arg8 x0 n) (nkey1 i arg2 harg2 x1 h))
      (nvals i arg3 harg3 x2 h) n)
    (List.foldr (fun n => step2 arg9 arg10 (score (dquery arg1 harg1 arg8 x0 n) (nkey0 i arg2 harg2 x1 h))
        (biased (score (dquery arg1 harg1 arg8 x0 n) (nkey1 i arg2 harg2 x1 h)) (bias arg4 harg4 x3 n 1)) (nvals i arg3 harg3 x2 h) n)
      p [7, 6, 5, 4, 3, 2, 1, 0])
    [15, 14, 13, 12, 11, 10, 9, 8]

/-- The stores after the diagonal's tiles. -/
def diagStores (p : Stores F) : Stores F :=
  List.foldr (fun n => step2 arg9 arg10 (biased (score (dquery arg1 harg1 arg8 x0 n) (dkey0 i arg2 harg2 x1)) (bias arg4 harg4 x3 n 1))
      (masked (biased (score (dquery arg1 harg1 arg8 x0 n) (dkey1 i arg2 harg2 x1)) (bias arg4 harg4 x3 n 0))) (dvals i arg3 harg3 x2) n)
    (List.foldr (fun n => step1 arg9 arg10 (masked (biased (score (dquery arg1 harg1 arg8 x0 n) (dkey0 i arg2 harg2 x1)) (bias arg4 harg4 x3 n 0)))
        (dvals i arg3 harg3 x2) n)
      p [7, 6, 5, 4, 3, 2, 1, 0])
    [15, 14, 13, 12, 11, 10, 9, 8]

/-- The first softmax's mixing weight, from the four vectors. -/
def lamCell (l : Vec F S4x64 .f32) : FVec F S1x1 .f32 :=
  addf
    (subf
      (exp (shapeCast S1x1 (multiReduction .add [1] S1 (mulf (extractStridedSlice S1x64 ![0, 0] (shapeCast S4x64 l shapeCasts_S4x64_S4x64 : FVec F S4x64 .f32) slices_S4x64_o0_0_S1x64) (extractStridedSlice S1x64 ![1, 0] (shapeCast S4x64 l shapeCasts_S4x64_S4x64 : FVec F S4x64 .f32) slices_S4x64_o1_0_S1x64))
        0x00000000#32 reduces_S1x64_S1 (.inl rfl) rfl : FVec F S1 .f32) shapeCasts_S1_S1x1))
      (exp (shapeCast S1x1 (multiReduction .add [1] S1 (mulf (extractStridedSlice S1x64 ![2, 0] (shapeCast S4x64 l shapeCasts_S4x64_S4x64 : FVec F S4x64 .f32) slices_S4x64_o2_0_S1x64) (extractStridedSlice S1x64 ![3, 0] (shapeCast S4x64 l shapeCasts_S4x64_S4x64 : FVec F S4x64 .f32) slices_S4x64_o3_0_S1x64))
        0x00000000#32 reduces_S1x64_S1 (.inl rfl) rfl : FVec F S1 .f32) shapeCasts_S1_S1x1)))
    (broadcast S1x1 (Scalar.ofBits .f32 0x3E4CCCCD#32 : F .f32))

/-- The mean of one slot: its sums over its total weight. -/
def mean (a : Vec F S1x256x256 .f32) : FVec F S256x128 .f32 :=
  divf (lo (shapeCast S256x256 a shapeCasts_S1x256x256_S256x256)) (hi (shapeCast S256x256 a shapeCasts_S1x256x256_S256x256))

/-- The difference of the two means. -/
def mixed (l : FVec F S1x1 .f32) (a b : Vec F S1x256x256 .f32) : FVec F S256x128 .f32 :=
  subf (mean a) (mulf (broadcastTo S256x128 l broadcasts_S1x1_S256x128) (mean b))

/-- The root of the mean square of each row, inverted. -/
def scale (o : FVec F S256x128 .f32) : FVec F S256x1 .f32 :=
  rsqrt (addf (divf (shapeCast S256x1 (multiReduction .add [1] S256 (mulf o o) 0x00000000#32 reduces_S256x128_S256 (.inl rfl) rfl : FVec F S256 .f32) shapeCasts_S256_S256x1)
      (broadcast S256x1 (Scalar.ofBits .f32 0x43000000#32 : F .f32)))
    (broadcast S256x1 (Scalar.ofBits .f32 0x358637BD#32 : F .f32)))

/-- One head of the output. -/
def headOut (g : Vec F S1x128 .f32) (o : FVec F S256x128 .f32) : FVec F S256x128 .f32 :=
  mulf (mulf (mulf o (broadcastTo S256x128 (scale o) broadcasts_S256x1_S256x128))
      (broadcastTo S256x128 (shapeCast S1x128 g shapeCasts_S1x128_S1x128 : FVec F S1x128 .f32) broadcasts_S1x128_S256x128))
    (broadcast S256x128 (Scalar.ofBits .f32 0x3F4CCCCD#32 : F .f32))

/-- Four heads side by side. -/
def heads (f : Fin 4 → FVec F S256x128 .f32) : FVec F S256x512 .f32 :=
  concatenate S256x512 1 [⟨S256x128, f 0⟩, ⟨S256x128, f 1⟩, ⟨S256x128, f 2⟩, ⟨S256x128, f 3⟩] concatenates_S256x128_S256x128_S256x128_S256x128_S256x512_d1

/-- The four vectors as loaded. -/
def lamRows : Vec F S4x64 .f32 :=
  View.ld (arg5.view.read (Elt F) (harg5.unread x4)) (Rect.unit (s := S4x64) ![0, 0] S4x64.size (by intro a; fin_cases a <;> simp))

/-- The gain as loaded. -/
def gain : Vec F S1x128 .f32 :=
  View.ld (arg6.view.read (Elt F) (harg6.unread x5)) (Rect.unit (s := S1x128) ![0, 0] S1x128.size (by intro a; fin_cases a <;> simp))

/-- One head's output of one block of rows. -/
def outHead (p : Stores F) (u : Fin 2) (h : Fin 4) : FVec F S256x128 .f32 :=
  headOut (gain arg6 harg6 x5) (mixed (lamCell (lamRows arg5 harg5 x4)) (arg10.view.readCov p.2 (slotA ⟨8 * u + h, by omega⟩).toLoadRect)
    (arg10.view.readCov p.2 (slotA ⟨8 * u + (4 + h), by omega⟩).toLoadRect))

/-- The stores of the run into the output, where no pair of tiles lies before the diagonal. -/
theorem run_first (hc0 : ¬cond0_0 i) :
    (kernelRun0_A (F := F) c i arg1 harg1 arg2 harg2 arg3 harg3 arg4 harg4 arg5 harg5 arg6 harg6 arg7 harg7 arg8 harg8 arg9 harg9 arg10 harg10 hc0 x0 x1 x2 x3 x4 x5).1
    = [⟨Rect.unit (s := S512x512) ![256, 0] S256x512.size Cert.DiffIdeal.Facts₀.inb_S512x512_S256x512_256_0,
          heads (outHead arg5 harg5 arg6 harg6 arg10 x4 x5 (diagStores i arg1 harg1 arg2 harg2 arg3 harg3 arg4 harg4 arg8 arg9 arg10 x0 x1 x2 x3 (far c i arg1 harg1 arg2 harg2 arg3 harg3 arg4 harg4 arg5 harg5 arg6 harg6 arg7 harg7 arg8 harg8 arg9 harg9 arg10 harg10 x0 x1 x2)) 1)⟩,
       ⟨Rect.unit (s := S512x512) ![0, 0] S256x512.size Cert.DiffIdeal.Facts₀.inb_S512x512_S256x512_0_0,
          heads (outHead arg5 harg5 arg6 harg6 arg10 x4 x5 (diagStores i arg1 harg1 arg2 harg2 arg3 harg3 arg4 harg4 arg8 arg9 arg10 x0 x1 x2 x3 (far c i arg1 harg1 arg2 harg2 arg3 harg3 arg4 harg4 arg5 harg5 arg6 harg6 arg7 harg7 arg8 harg8 arg9 harg9 arg10 harg10 x0 x1 x2)) 0)⟩] := by
  unfold kernelRun0_A
  dsimp only
  rfl

/-- The stores of the run into the output, where a pair of tiles lies before the diagonal. -/
theorem run_later (hc0 : cond0_0 i) (h : k0_cond1 i = 1#1) :
    (kernelRun0_B (F := F) c i arg1 harg1 arg2 harg2 arg3 harg3 arg4 harg4 arg5 harg5 arg6 harg6 arg7 harg7 arg8 harg8 arg9 harg9 arg10 harg10 hc0 x0 x1 x2 x3 x4 x5).1
    = [⟨Rect.unit (s := S512x512) ![256, 0] S256x512.size Cert.DiffIdeal.Facts₀.inb_S512x512_S256x512_256_0,
          heads (outHead arg5 harg5 arg6 harg6 arg10 x4 x5 (diagStores i arg1 harg1 arg2 harg2 arg3 harg3 arg4 harg4 arg8 arg9 arg10 x0 x1 x2 x3
            (nearStores i arg1 harg1 arg2 harg2 arg3 harg3 arg4 harg4 arg8 arg9 arg10 x0 x1 x2 x3 h (far c i arg1 harg1 arg2 harg2 arg3 harg3 arg4 harg4 arg5 harg5 arg6 harg6 arg7 harg7 arg8 harg8 arg9 harg9 arg10 harg10 x0 x1 x2))) 1)⟩,
       ⟨Rect.unit (s := S512x512) ![0, 0] S256x512.size Cert.DiffIdeal.Facts₀.inb_S512x512_S256x512_0_0,
          heads (outHead arg5 harg5 arg6 harg6 arg10 x4 x5 (diagStores i arg1 harg1 arg2 harg2 arg3 harg3 arg4 harg4 arg8 arg9 arg10 x0 x1 x2 x3
            (nearStores i arg1 harg1 arg2 harg2 arg3 harg3 arg4 harg4 arg8 arg9 arg10 x0 x1 x2 x3 h (far c i arg1 harg1 arg2 harg2 arg3 harg3 arg4 harg4 arg5 harg5 arg6 harg6 arg7 harg7 arg8 harg8 arg9 harg9 arg10 harg10 x0 x1 x2))) 0)⟩] := by
  unfold kernelRun0_B
  dsimp only
  rfl

end near

end Cert.DiffIdeal.Step

end
-- ==== Proof.DiffSlots.lean ====
module

public import proofs.«01_k».proof.Proof.DiffStep

@[expose] public section

set_option maxRecDepth 16384

noncomputable section

/-! # The differential attention, one slot at a time -/

namespace Cert.DiffIdeal.Slots

open Idealize.ShloMosaic Idealize.ShloMosaic.TcCoe Cert.DiffIdeal.Gen Cert.DiffIdeal.Step
open Cert.KernelIdeal.Step (lo hi max1 max2 sum1 sum2 wrapM wrapA valueRows firstRows masked slots slotM slotA slotM_inb slotA_inb Stores fill)
open Cert.KernelIdeal.Slots (slotM_not_mem readM_cons readA_cons readM_map readA_map State held start held_fill held_foldr mem_slots)

variable {F : FTy → Type} [FloatOps F] [Named F]

/-- A slot of the queries, read after the stores into all of them. -/
theorem readQ_map (l : List (Fin 16)) (w : Fin 16 → FVec F S1x256x128 .bf16) (n : Fin 16) (hn : n ∈ l) :
    View.ld (View.canon (l.map fun a => (⟨slotM a, w a⟩ : View.Piece (Elt F) S16x256x128 .bf16))) (slotM n) = w n := by
  induction l with
  | nil => simp at hn
  | cons a l ih =>
    rw [List.map_cons]
    by_cases h : a = n
    · subst h
      funext x
      have e : ∀ (v : FVec F S1x256x128 .bf16) (L : List (View.Piece (Elt F) S16x256x128 .bf16)),
        View.canon (⟨slotM a, v⟩ :: L) ((slotM a).idx x) = v x := fun v L => View.canon_cons_emb (slotM a) v L x
      exact e (w a) _
    · rw [← ih (by simpa [Ne.symm h] using hn)]
      funext x
      exact View.canon_cons_of_not_mem _ _ (slotM_not_mem h x)

/-- The step of a slot over one tile of scores. -/
def one (σ : FVec F S256x256 .f32) (v : Vec F S512x256 .bf16) (p : State F) : State F :=
  (wrapM (max1 σ p.1), wrapA (sum1 σ (firstRows (valueRows v)) (max1 σ p.1) p.1 p.2))

/-- The step of a slot over two tiles of scores. -/
def two (σ τ : FVec F S256x256 .f32) (v : Vec F S512x256 .bf16) (p : State F) : State F :=
  (wrapM (max2 σ τ p.1), wrapA (sum2 σ τ (valueRows v) (max2 σ τ p.1) p.1 p.2))

section
variable (arg9 : Memref sig .tc .vmem S16x256x128 .f32) (arg10 : Memref sig .tc .vmem S16x256x256 .f32)

/-- One tile's step, read at any slot. -/
theorem held_step1 (σ : FVec F S256x256 .f32) (v : Vec F S512x256 .bf16) (a n : Fin 16) (p : Stores F) :
    held (step1 arg9 arg10 σ v a p) n = if a = n then one σ v (held p a) else held p n := by
  unfold held step1 one
  dsimp only
  rw [readM_cons, readA_cons, View.readCov_eq_canon', View.readCov_eq_canon']
  split <;> rfl

/-- Two tiles' step, read at any slot. -/
theorem held_step2 (σ τ : FVec F S256x256 .f32) (v : Vec F S512x256 .bf16) (a n : Fin 16) (p : Stores F) :
    held (step2 arg9 arg10 σ τ v a p) n = if a = n then two σ τ v (held p a) else held p n := by
  unfold held step2 two
  dsimp only
  rw [readM_cons, readA_cons, View.readCov_eq_canon', View.readCov_eq_canon']
  split <;> rfl

end

section run
variable (c : Dev nD) (i : grid0.Coords)
  (arg1 : Memref sig .tc .vmem S512x512 .f32) (harg1 : arg1.IsWhole)
  (arg2 : Memref sig .tc .vmem S64x128x256 .bf16) (harg2 : arg2.IsWhole)
  (arg3 : Memref sig .tc .vmem S16384x256 .bf16) (harg3 : arg3.IsWhole)
  (arg4 : Memref sig .tc .vmem S4x2x256x256 .f32) (harg4 : arg4.IsWhole)
  (arg5 : Memref sig .tc .vmem S4x64 .f32) (harg5 : arg5.IsWhole)
  (arg6 : Memref sig .tc .vmem S1x128 .f32) (harg6 : arg6.IsWhole)
  (arg7 : Memref sig .tc .vmem S512x512 .f32) (harg7 : arg7.IsWhole)
  (arg8 : Memref sig .tc .vmem S16x256x128 .bf16) (harg8 : arg8.IsWhole)
  (arg9 : Memref sig .tc .vmem S16x256x128 .f32) (harg9 : arg9.IsWhole)
  (arg10 : Memref sig .tc .vmem S16x256x256 .f32) (harg10 : arg10.IsWhole)
  (x0 : Vec F S512x512 .f32) (x1 : Vec F S64x128x256 .bf16) (x2 : Vec F S16384x256 .bf16) (x3 : Vec F S4x2x256x256 .f32)

/-- A slot's queries are what was stored into the slot. -/
theorem dquery_eq (n : Fin 16) : dquery arg1 harg1 arg8 x0 n = slotQuery x0 n := by
  unfold dquery
  rw [harg1.read_unread, View.readCov_eq_canon']
  exact readQ_map slots _ n (mem_slots n)

/-- What slot `n` holds after `k` trips over far tiles. -/
def loopState (n : Fin 16) : ℕ → State F
  | 0 => start
  | k + 1 => if h : k < (k0_t1_loop i).trips then
      two (score (slotQuery x0 n) (key0 i ⟨k, h⟩ x1)) (score (slotQuery x0 n) (key1 i ⟨k, h⟩ x1)) (vals i ⟨k, h⟩ x2) (loopState n k)
    else loopState n k

/-- After `k` trips slot `n` holds `loopState n k`. -/
theorem held_trips (n : Fin 16) (k : ℕ) (hk : k ≤ (k0_t1_loop i).trips) :
    held ((trips c i arg1 harg1 arg2 harg2 arg3 harg3 arg4 harg4 arg5 harg5 arg6 harg6 arg7 harg7 arg8 harg8 arg9 harg9 arg10 harg10 x0 x1 x2 k).1 ++ fill.1,
      (trips c i arg1 harg1 arg2 harg2 arg3 harg3 arg4 harg4 arg5 harg5 arg6 harg6 arg7 harg7 arg8 harg8 arg9 harg9 arg10 harg10 x0 x1 x2 k).2 ++ fill.2) n
      = loopState i x0 x1 x2 n k := by
  induction k with
  | zero => exact held_fill n
  | succ k ih =>
    have hk' : k < (k0_t1_loop i).trips := hk
    specialize ih hk'.le
    have hs : trips c i arg1 harg1 arg2 harg2 arg3 harg3 arg4 harg4 arg5 harg5 arg6 harg6 arg7 harg7 arg8 harg8 arg9 harg9 arg10 harg10 x0 x1 x2 (k + 1) = _ :=
      pb_k0_t1_succ (F := F) Variants.none c none i arg1 harg1 arg2 harg2 arg3 harg3 arg4 harg4 arg5 harg5 arg6 harg6 arg7 harg7 arg8 harg8 arg9 harg9 arg10 harg10
        (BitVec.ofNat 32 (i 0).val) 0#32 (Scalar.subi (Scalar.maxsi (Scalar.subi (BitVec.ofNat 32 (i 0).val) 1#32) 0#32) 0#32) 1#32
        (harg2.unread x1) (harg3.unread x2) (arg8.view.writes (Elt F) arg8.view.junk (stage (arg1.view.read (Elt F) (harg1.unread x0))))
        (arg9.view.writes (Elt F) arg9.view.junk fill.1) (arg10.view.writes (Elt F) arg10.view.junk fill.2) ⟨k, hk'⟩
    rw [hs]
    unfold tripL_k0_t1
    dsimp only
    rw [trip_maxima, trip_sums, List.append_assoc, List.append_assoc, ← View.writes_append, ← View.writes_append,
      View.read_writes_junk_eq_canon, View.read_writes_junk_eq_canon, View.read_writes_junk_eq_canon, harg1.read_unread, harg2.read_unread,
      harg3.read_unread, loopState, dif_pos hk', ← ih]
    have hq : View.ld (View.canon (stage x0)) (slotM n) = slotQuery x0 n := readQ_map slots _ n (mem_slots n)
    generalize View.canon (stage x0) = Q at hq ⊢
    unfold held
    dsimp only
    rw [readM_map, readA_map, if_pos (mem_slots n), if_pos (mem_slots n)]
    unfold tripA tripM
    unfold two trips
    rw [hq, harg1.read_unread]
    rfl

/-- The second loop makes no trips. -/
theorem loop2_trips : ∀ i : grid0.Coords, Scf.trips (k0_t2_loop i).lb (k0_t2_loop i).ub (k0_t2_loop i).st = 0 := by
  decide +kernel

/-- What slot `n` holds after the far tiles. -/
theorem held_far (n : Fin 16) :
    held (far c i arg1 harg1 arg2 harg2 arg3 harg3 arg4 harg4 arg5 harg5 arg6 harg6 arg7 harg7 arg8 harg8 arg9 harg9 arg10 harg10 x0 x1 x2) n
      = loopState i x0 x1 x2 n (k0_t1_loop i).trips := by
  rw [← held_trips c i arg1 harg1 arg2 harg2 arg3 harg3 arg4 harg4 arg5 harg5 arg6 harg6 arg7 harg7 arg8 harg8 arg9 harg9 arg10 harg10 x0 x1 x2 n _ le_rfl]
  unfold far loop2
  rw [loop2_trips]
  rfl

/-- What slot `n` holds after the pair of tiles before the diagonal. -/
def nearState (h : k0_cond1 i = 1#1) (n : Fin 16) (p : State F) : State F :=
  if n ∈ ([15, 14, 13, 12, 11, 10, 9, 8] : List (Fin 16)) then
    two (score (slotQuery x0 n) (nkey0 i arg2 harg2 x1 h)) (score (slotQuery x0 n) (nkey1 i arg2 harg2 x1 h)) (nvals i arg3 harg3 x2 h) p
  else two (score (slotQuery x0 n) (nkey0 i arg2 harg2 x1 h))
    (biased (score (slotQuery x0 n) (nkey1 i arg2 harg2 x1 h)) (bias arg4 harg4 x3 n 1)) (nvals i arg3 harg3 x2 h) p

/-- The pair of tiles before the diagonal, read at a slot. -/
theorem held_near (h : k0_cond1 i = 1#1) (n : Fin 16) (p : Stores F) :
    held (nearStores i arg1 harg1 arg2 harg2 arg3 harg3 arg4 harg4 arg8 arg9 arg10 x0 x1 x2 x3 h p) n
      = nearState i arg2 harg2 arg3 harg3 arg4 harg4 x0 x1 x2 x3 h n (held p n) := by
  unfold nearStores nearState
  rw [held_foldr _ (fun n => two (score (dquery arg1 harg1 arg8 x0 n) (nkey0 i arg2 harg2 x1 h)) (score (dquery arg1 harg1 arg8 x0 n) (nkey1 i arg2 harg2 x1 h)) (nvals i arg3 harg3 x2 h))
      (fun a n p => by rw [held_step2]; by_cases h : a = n <;> simp [h]) _ (by decide),
    held_foldr _ (fun n => two (score (dquery arg1 harg1 arg8 x0 n) (nkey0 i arg2 harg2 x1 h))
        (biased (score (dquery arg1 harg1 arg8 x0 n) (nkey1 i arg2 harg2 x1 h)) (bias arg4 harg4 x3 n 1)) (nvals i arg3 harg3 x2 h))
      (fun a n p => by rw [held_step2]; by_cases h : a = n <;> simp [h]) _ (by decide)]
  simp only [dquery_eq]
  by_cases h : n ∈ ([15, 14, 13, 12, 11, 10, 9, 8] : List (Fin 16))
  · rw [if_pos h, if_pos h, if_neg (by revert n; decide)]
  · rw [if_neg h, if_neg h, if_pos (by revert n; decide)]

/-- What slot `n` holds after the diagonal's tiles. -/
def diagState (n : Fin 16) (p : State F) : State F :=
  if n ∈ ([15, 14, 13, 12, 11, 10, 9, 8] : List (Fin 16)) then
    two (biased (score (slotQuery x0 n) (dkey0 i arg2 harg2 x1)) (bias arg4 harg4 x3 n 1))
      (masked (biased (score (slotQuery x0 n) (dkey1 i arg2 harg2 x1)) (bias arg4 harg4 x3 n 0))) (dvals i arg3 harg3 x2) p
  else one (masked (biased (score (slotQuery x0 n) (dkey0 i arg2 harg2 x1)) (bias arg4 harg4 x3 n 0))) (dvals i arg3 harg3 x2) p

/-- The diagonal's tiles, read at a slot. -/
theorem held_diag (n : Fin 16) (p : Stores F) :
    held (diagStores i arg1 harg1 arg2 harg2 arg3 harg3 arg4 harg4 arg8 arg9 arg10 x0 x1 x2 x3 p) n
      = diagState i arg2 harg2 arg3 harg3 arg4 harg4 x0 x1 x2 x3 n (held p n) := by
  unfold diagStores diagState
  rw [held_foldr _ (fun n => two (biased (score (dquery arg1 harg1 arg8 x0 n) (dkey0 i arg2 harg2 x1)) (bias arg4 harg4 x3 n 1))
        (masked (biased (score (dquery arg1 harg1 arg8 x0 n) (dkey1 i arg2 harg2 x1)) (bias arg4 harg4 x3 n 0))) (dvals i arg3 harg3 x2))
      (fun a n p => by rw [held_step2]; by_cases h : a = n <;> simp [h]) _ (by decide),
    held_foldr _ (fun n => one (masked (biased (score (dquery arg1 harg1 arg8 x0 n) (dkey0 i arg2 harg2 x1)) (bias arg4 harg4 x3 n 0))) (dvals i arg3 harg3 x2))
      (fun a n p => by rw [held_step1]; by_cases h : a = n <;> simp [h]) _ (by decide)]
  simp only [dquery_eq]
  by_cases h : n ∈ ([15, 14, 13, 12, 11, 10, 9, 8] : List (Fin 16))
  · rw [if_pos h, if_pos h, if_neg (by revert n; decide)]
  · rw [if_neg h, if_neg h, if_pos (by revert n; decide)]

end run

end Cert.DiffIdeal.Slots

end
-- ==== Proof.DiffLoop.lean ====
module

public import proofs.«01_k».proof.Proof.DiffSlots
public import proofs.«01_k».proof.Proof.DiffModel
public import proofs.«01_k».proof.Proof.Rows
public import Idealize.ShloMosaic.Lib.Pipeline.ValueKit

@[expose] public section

set_option maxRecDepth 16384

noncomputable section

/-! # The differential attention's run of one grid point

Grid point `i` owns the query rows `512 i … 512 i + 511`. Its loop takes the keys before `512 (i - 1)`, which are so far
away that they all have the last bucket; the pair of tiles before the diagonal and the diagonal's tiles add what the
nearer buckets have more than the last one. After them row `q` has seen the keys `0 … q`. -/

namespace Cert.DiffIdeal.Loop

open Idealize.ShloMosaic Idealize.ShloMosaic.TcCoe Cert.DiffIdeal.Gen Cert.DiffIdeal.Step Cert.DiffIdeal.Slots Cert.Softmax
open Cert.KernelIdeal.Step (lo hi wrapM wrapA valueRows firstRows masked slotM slotA Stores)
open Cert.KernelIdeal.Slots (State held start)
open Cert.KernelIdeal.Rows (RowAt rowAt_start rowAt_one rowAt_two masked_at)

/-! ## Where the loads are -/

theorem trips_eq : ∀ i : grid0.Coords, (k0_t1_loop i).trips = (i 0 : ℕ) - 1 := by decide +kernel
theorem off1 : ∀ (i : grid0.Coords) (k : Fin (k0_t1_loop i).trips), k0_off1 i k = ![2 * (k : ℕ), 0, 0] := by decide +kernel
theorem off2 : ∀ (i : grid0.Coords) (k : Fin (k0_t1_loop i).trips), k0_off2 i k = ![2 * (k : ℕ) + 1, 0, 0] := by decide +kernel
theorem off3 : ∀ (i : grid0.Coords) (k : Fin (k0_t1_loop i).trips), k0_off3 i k = ![512 * (k : ℕ), 0] := by decide +kernel
theorem off7 : ∀ i : grid0.Coords, 1 ≤ (i 0 : ℕ) → k0_off7 i = ![2 * ((i 0 : ℕ) - 1), 0, 0] := by decide +kernel
theorem off8 : ∀ i : grid0.Coords, 1 ≤ (i 0 : ℕ) → k0_off8 i = ![2 * ((i 0 : ℕ) - 1) + 1, 0, 0] := by decide +kernel
theorem off9 : ∀ i : grid0.Coords, 1 ≤ (i 0 : ℕ) → k0_off9 i = ![512 * ((i 0 : ℕ) - 1), 0] := by decide +kernel
theorem off10 : ∀ i : grid0.Coords, k0_off10 i = ![2 * (i 0 : ℕ), 0, 0] := by decide +kernel
theorem off11 : ∀ i : grid0.Coords, k0_off11 i = ![2 * (i 0 : ℕ) + 1, 0, 0] := by decide +kernel
theorem off12 : ∀ i : grid0.Coords, k0_off12 i = ![512 * (i 0 : ℕ), 0] := by decide +kernel
theorem near_pos : ∀ i : grid0.Coords, k0_cond1 i = 1#1 → 1 ≤ (i 0 : ℕ) := by decide +kernel

/-- A key tile read at an index, wherever the tile starts. -/
theorem keyTile_at (x1 : Vec Ideal S64x128x256 .bf16) (off : Fin 3 → ℕ) (inb) (T : Fin 64) (h : off = ![(T : ℕ), 0, 0]) (d : Fin 128) (t : Fin 256) :
    View.ld x1 (Rect.unit (s := S64x128x256) off S1x128x256.size inb) (ix3 0 d t) = x1 (ix3 T d t) := by
  subst h
  pointwise

/-- Value rows read at an index, wherever they start. -/
theorem valueTile_at (x2 : Vec Ideal S16384x256 .bf16) (off : Fin 2 → ℕ) (inb) (b : ℕ) (h : off = ![b, 0]) (x : Fin 512) (c : Fin 256)
    (hb : b + 512 ≤ 16384) :
    View.ld x2 (Rect.unit (s := S16384x256) off S512x256.size inb) (ix2 x c) = x2 (ix2 ⟨b + x, by omega⟩ c) := by
  subst h
  pointwise

/-- A score is the product of a query row and a key column. -/
theorem score_at (q : Vec Ideal S1x256x128 .bf16) (k : Vec Ideal S1x128x256 .bf16) (r t : Fin 256) :
    score (F := Ideal) q k (ix2 r t) = ∑ x : Fin 128, q (ix3 0 r x) * k (ix3 0 x t) := by
  pointwise [score]

/-- A score with its bias. -/
theorem biased_at (s : FVec Ideal S256x256 .f32) (b : Vec Ideal S1x1x256x256 .f32) (r t : Fin 256) :
    biased (F := Ideal) s b (ix2 r t) = s (ix2 r t) + b (ix4 0 0 r t) := by
  pointwise [biased]

/-- A tile of biases read at an index. -/
theorem bias_at (arg4 : Memref sig .tc .vmem S4x2x256x256 .f32) (harg4 : arg4.IsWhole) (x3 : Vec Ideal S4x2x256x256 .f32) (n : Fin 16) (j : Fin 2)
    (r t : Fin 256) : bias (F := Ideal) arg4 harg4 x3 n j (ix4 0 0 r t) = x3 (ix4 ⟨(n : ℕ) % 4, by omega⟩ j r t) := by
  unfold bias
  rw [harg4.read_unread]
  pointwise

/-! ## The queries -/

/-- The first half keeps the lanes below 64. -/
theorem first_at (x : FVec Ideal S256x128 .f32) (r : Fin 256) (d : Fin 128) :
    first (F := Ideal) x (ix2 r d) = if (d : ℕ) < 64 then x (ix2 r d) else 0 := by
  have hd : (d : ℕ) < 2 ^ (32 - 1) := lt_trans d.isLt (by norm_num)
  pointwise [first, lane]
  rw [show (64#32 : BitVec 32) = BitVec.ofNat 32 64 from rfl, WordCmp.cmpi_slt_ofNat hd (by norm_num)]
  by_cases h : (d : ℕ) < 64 <;> simp [h, Scalar.select, Ideal.ofBits_zero_f32]

/-- The second half keeps the lanes from 64 on. -/
theorem second_at (x : FVec Ideal S256x128 .f32) (r : Fin 256) (d : Fin 128) :
    second (F := Ideal) x (ix2 r d) = if 64 ≤ (d : ℕ) then x (ix2 r d) else 0 := by
  have hd : (d : ℕ) < 2 ^ (32 - 1) := lt_trans d.isLt (by norm_num)
  pointwise [second, lane]
  rw [show (64#32 : BitVec 32) = BitVec.ofNat 32 64 from rfl, WordCmp.cmpi_sge_ofNat hd (by norm_num)]
  by_cases h : 64 ≤ (d : ℕ) <;> simp [h, Scalar.select, Ideal.ofBits_zero_f32]

/-- One head's columns of the scaled queries. -/
theorem scaled_at (q : Vec Ideal S256x512 .f32) (o : ℕ) (hs) (ho : o + 128 ≤ 512) (r : Fin 256) (d : Fin 128) :
    extractStridedSlice S256x128 ![0, o] (scaled (F := Ideal) q) hs (ix2 r d) = q (ix2 r ⟨o + d, by omega⟩) * Ideal.ofBits .f32 0x3E000000#32 := by
  pointwise [scaled]

/-- Eight blocks one below the other, read at an index. -/
theorem eight_at (f : Fin 8 → FVec Ideal S256x128 .bf16) (b : Fin 8) (r : Fin 256) (d : Fin 128) :
    concatenate S2048x128 0 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩]
      concatenates_S256x128_S256x128_S256x128_S256x128_S256x128_S256x128_S256x128_S256x128_S2048x128_d0 (ix2 ⟨256 * (b : ℕ) + r, by omega⟩ d) = f b (ix2 r d) := by
  pointwise []
  have hr := r.isLt
  fin_vals b with hb
  all_goals
    simp only [hb]
    repeat (first | rw [dif_pos (by omega)] | rw [dif_neg (by omega)])
    congr 2
    · exact Fin.ext hb.symm
    · apply Fin.ext; dsimp only; omega

/-- One half of a head's scaled queries, the other lanes zero. -/
def half (q : ℕ → EReal) (b : ℕ) (d : ℕ) : EReal :=
  if b < 4 then (if d < 64 then q (128 * (b % 4) + d) * Ideal.ofBits .f32 0x3E000000#32 else 0)
  else if 64 ≤ d then q (128 * (b % 4) + d) * Ideal.ofBits .f32 0x3E000000#32 else 0

/-- A query block, read at an index. -/
theorem packed_at (q : Vec Ideal S256x512 .f32) (Q : ℕ → EReal) (b : Fin 8) (r : Fin 256) (d : Fin 128)
    (hQ : ∀ j : Fin 512, q (ix2 r j) = Q j) :
    packed (F := Ideal) q (ix2 ⟨256 * (b : ℕ) + r, by omega⟩ d) = half Q b d := by
  have e := eight_at ![first (extractStridedSlice S256x128 ![0, 0] (scaled q) slices_S256x512_o0_0_S256x128),
    first (extractStridedSlice S256x128 ![0, 128] (scaled q) slices_S256x512_o0_128_S256x128),
    first (extractStridedSlice S256x128 ![0, 256] (scaled q) slices_S256x512_o0_256_S256x128),
    first (extractStridedSlice S256x128 ![0, 384] (scaled q) slices_S256x512_o0_384_S256x128),
    second (extractStridedSlice S256x128 ![0, 0] (scaled q) slices_S256x512_o0_0_S256x128),
    second (extractStridedSlice S256x128 ![0, 128] (scaled q) slices_S256x512_o0_128_S256x128),
    second (extractStridedSlice S256x128 ![0, 256] (scaled q) slices_S256x512_o0_256_S256x128),
    second (extractStridedSlice S256x128 ![0, 384] (scaled q) slices_S256x512_o0_384_S256x128)] b r d
  refine Eq.trans e ?_
  clear e
  have h0 : ∀ (o : ℕ) (hs) (ho : o + 128 ≤ 512), first (extractStridedSlice S256x128 ![0, o] (scaled (F := Ideal) q) hs) (ix2 r d)
      = if (d : ℕ) < 64 then Q (o + d) * Ideal.ofBits .f32 0x3E000000#32 else 0 := fun o hs ho => by
    rw [first_at, scaled_at q o hs ho, hQ]
  have h1 : ∀ (o : ℕ) (hs) (ho : o + 128 ≤ 512), second (extractStridedSlice S256x128 ![0, o] (scaled (F := Ideal) q) hs) (ix2 r d)
      = if 64 ≤ (d : ℕ) then Q (o + d) * Ideal.ofBits .f32 0x3E000000#32 else 0 := fun o hs ho => by
    rw [second_at, scaled_at q o hs ho, hQ]
  fin_cases b
  · exact h0 0 _ (by norm_num)
  · exact h0 128 _ (by norm_num)
  · exact h0 256 _ (by norm_num)
  · exact h0 384 _ (by norm_num)
  · exact h1 0 _ (by norm_num)
  · exact h1 128 _ (by norm_num)
  · exact h1 256 _ (by norm_num)
  · exact h1 384 _ (by norm_num)

/-- A slot's queries read at an index. -/
theorem slotQuery_at (x0 : Vec Ideal S512x512 .f32) (n : Fin 16) (r : Fin 256) (d : Fin 128) (Q : ℕ → EReal)
    (hQ : ∀ j : Fin 512, x0 (ix2 ⟨256 * ((n : ℕ) / 8) + r, by omega⟩ j) = Q j) :
    slotQuery (F := Ideal) x0 n (ix3 0 r d) = half Q ((n : ℕ) % 8) d := by
  have hb : ∀ (q : Vec Ideal S256x512 .f32) (b : Fin 8), staged (F := Ideal) q b (ix3 0 r d) = packed q (ix2 ⟨256 * (b : ℕ) + r, by omega⟩ d) := by
    intro q b
    pointwise [staged]
  unfold slotQuery
  rw [hb]
  refine packed_at _ Q _ r d fun j => ?_
  rw [← hQ]
  unfold queryRows
  pointwise

/-! ## A row of a slot -/

section run
variable (i : grid0.Coords) (x0 : Vec Ideal S512x512 .f32) (x1 : Vec Ideal S64x128x256 .bf16) (x2 : Vec Ideal S16384x256 .bf16)
  (x3 : Vec Ideal S4x2x256x256 .f32) (n : Fin 16) (r : Fin 256) (e β : ℕ → ℝ) (v : ℕ → Fin 256 → ℝ)

/-- The row's products with all keys are the real numbers `e`, the value rows are `v`, and the biases less the last
    bucket's are `β`. -/
structure Reals : Prop where
  products : ∀ (T : Fin 64) (t : Fin 256), ∑ d : Fin 128, slotQuery (F := Ideal) x0 n (ix3 0 r d) * x1 (ix3 T d t) = ((e (256 * T + t) : ℝ) : EReal)
  value : ∀ (y : Fin 16384) (c : Fin 256), x2 (ix2 y c) = ((v y c : ℝ) : EReal)
  far : ∀ d, 113 ≤ d → β d = 0
  tile0 : ∀ t : Fin 256, (t : ℕ) ≤ r → x3 (ix4 ⟨(n : ℕ) % 4, by omega⟩ 0 r t) = ((β (r - t) : ℝ) : EReal)
  tile1 : ∀ t : Fin 256, x3 (ix4 ⟨(n : ℕ) % 4, by omega⟩ 1 r t) = ((β (256 + r - t) : ℝ) : EReal)

/-- The row's query. -/
def query : ℕ := 512 * (i 0 : ℕ) + 256 * ((n : ℕ) / 8) + r

/-- The row's scores. -/
def total (t : ℕ) : ℝ := e t + β (query i n r - t)

variable {x0 x1 x2 x3 n r e β v}

/-- A tile's products. -/
theorem Reals.tile (R : Reals x0 x1 x2 x3 n r e β v) (off : Fin 3 → ℕ) (inb) (T : Fin 64) (h : off = ![(T : ℕ), 0, 0]) (t : Fin 256) :
    score (F := Ideal) (slotQuery x0 n) (View.ld x1 (Rect.unit (s := S64x128x256) off S1x128x256.size inb)) (ix2 r t)
      = ((e (256 * T + t) : ℝ) : EReal) := by
  rw [score_at, ← R.products]
  refine Finset.sum_congr rfl fun d _ => ?_
  rw [keyTile_at x1 off inb T h]

/-- A far key's product is its score. -/
theorem Reals.far_key (R : Reals x0 x1 x2 x3 n r e β v) {a t : ℕ} (h : a = t) (ht : t + 113 ≤ query i n r) :
    ((e a : ℝ) : EReal) = ((total i n r e β t : ℝ) : EReal) := by
  rw [total, R.far _ (by omega), add_zero, h]

/-- A product with its bias is a score. -/
theorem near_key {a d t : ℕ} (h : a = t) (hd : query i n r - t = d) :
    ((e a : ℝ) : EReal) + ((β d : ℝ) : EReal) = ((total i n r e β t : ℝ) : EReal) := by
  rw [total, hd, h, EReal.coe_add]

/-- After `k` trips the row has seen the keys before `512 k`. -/
theorem rowAt_loop (R : Reals x0 x1 x2 x3 n r e β v) (k : ℕ) (hk : k ≤ (k0_t1_loop i).trips) :
    RowAt (512 * k) (total i n r e β) v r (loopState i x0 x1 x2 n k) := by
  induction k with
  | zero => exact rowAt_start _ v r
  | succ k ih =>
    have hk' : k < (k0_t1_loop i).trips := hk
    have hi : (i 0 : ℕ) < 32 := (i 0).isLt
    have hki : k < (i 0 : ℕ) - 1 := by rw [← trips_eq]; exact hk'
    rw [loopState, dif_pos hk']
    have e : 512 * (k + 1) = 512 * k + (256 + 256) := by omega
    rw [e]
    unfold two
    refine rowAt_two (ih hk'.le) _ _ _ 256 le_rfl (fun t => ?_) (fun t => ?_) (fun x c => ?_)
    · unfold key0
      rw [R.tile _ _ ⟨2 * k, by omega⟩ (off1 i ⟨k, hk'⟩)]
      exact R.far_key i (by dsimp only; omega) (by unfold query; omega)
    · unfold key1
      rw [R.tile _ _ ⟨2 * k + 1, by omega⟩ (off2 i ⟨k, hk'⟩), if_pos t.isLt]
      exact R.far_key i (by dsimp only; omega) (by unfold query; omega)
    · unfold vals
      rw [valueTile_at x2 _ _ (512 * k) (off3 i ⟨k, hk'⟩) x c (by omega), R.value]

section ends
variable (arg2 : Memref sig .tc .vmem S64x128x256 .bf16) (harg2 : arg2.IsWhole)
  (arg3 : Memref sig .tc .vmem S16384x256 .bf16) (harg3 : arg3.IsWhole)
  (arg4 : Memref sig .tc .vmem S4x2x256x256 .f32) (harg4 : arg4.IsWhole)

theorem upper {n : Fin 16} : n ∈ ([15, 14, 13, 12, 11, 10, 9, 8] : List (Fin 16)) → (n : ℕ) / 8 = 1 := by revert n; decide
theorem lower {n : Fin 16} : n ∉ ([15, 14, 13, 12, 11, 10, 9, 8] : List (Fin 16)) → (n : ℕ) / 8 = 0 := by revert n; decide

/-- After the pair of tiles before the diagonal the row has seen the keys before the diagonal. -/
theorem rowAt_near (R : Reals x0 x1 x2 x3 n r e β v) (hc : k0_cond1 i = 1#1) (p : State Ideal)
    (h : RowAt (512 * ((i 0 : ℕ) - 1)) (total i n r e β) v r p) :
    RowAt (512 * (i 0 : ℕ)) (total i n r e β) v r (nearState i arg2 harg2 arg3 harg3 arg4 harg4 x0 x1 x2 x3 hc n p) := by
  have hi : (i 0 : ℕ) < 32 := (i 0).isLt
  have hpos := near_pos i hc
  have hK : 512 * (i 0 : ℕ) = 512 * ((i 0 : ℕ) - 1) + (256 + 256) := by omega
  have hw : ∀ (x : Fin 512) c, nvals (F := Ideal) i arg3 harg3 x2 hc (ix2 x c) = ((v (512 * ((i 0 : ℕ) - 1) + x) c : ℝ) : EReal) := by
    intro x c
    unfold nvals rows
    rw [harg3.read_unread, valueTile_at x2 _ _ (512 * ((i 0 : ℕ) - 1)) (off9 i hpos) x c (by omega), R.value]
  have h0 : ∀ t : Fin 256, score (F := Ideal) (slotQuery x0 n) (nkey0 i arg2 harg2 x1 hc) (ix2 r t)
      = ((total i n r e β (512 * ((i 0 : ℕ) - 1) + t) : ℝ) : EReal) := by
    intro t
    unfold nkey0 tile
    rw [harg2.read_unread, R.tile _ _ ⟨2 * ((i 0 : ℕ) - 1), by omega⟩ (off7 i hpos)]
    exact R.far_key i (by dsimp only; omega) (by unfold query; omega)
  have h1 : ∀ t : Fin 256, score (F := Ideal) (slotQuery x0 n) (nkey1 i arg2 harg2 x1 hc) (ix2 r t)
      = ((e (256 * (2 * ((i 0 : ℕ) - 1) + 1) + t) : ℝ) : EReal) := by
    intro t
    unfold nkey1 tile
    rw [harg2.read_unread, R.tile _ _ ⟨2 * ((i 0 : ℕ) - 1) + 1, by omega⟩ (off8 i hpos)]
  rw [hK]
  unfold nearState
  split
  · next hn =>
    have hn' := upper hn
    refine rowAt_two h _ _ _ 256 le_rfl h0 (fun t => ?_) hw
    rw [h1, if_pos t.isLt]
    exact R.far_key i (by omega) (by unfold query; omega)
  · next hn =>
    have hn' := lower hn
    refine rowAt_two h _ _ _ 256 le_rfl h0 (fun t => ?_) hw
    rw [biased_at, h1, bias_at, R.tile1, if_pos t.isLt]
    exact near_key i (by omega) (by unfold query; omega)

/-- After the diagonal the row has seen every key up to itself. -/
theorem rowAt_diag (R : Reals x0 x1 x2 x3 n r e β v) (p : State Ideal) (h : RowAt (512 * (i 0 : ℕ)) (total i n r e β) v r p) :
    RowAt (query i n r + 1) (total i n r e β) v r (diagState i arg2 harg2 arg3 harg3 arg4 harg4 x0 x1 x2 x3 n p) := by
  have hi : (i 0 : ℕ) < 32 := (i 0).isLt
  have hw : ∀ (x : Fin 512) c, dvals (F := Ideal) i arg3 harg3 x2 (ix2 x c) = ((v (512 * (i 0 : ℕ) + x) c : ℝ) : EReal) := by
    intro x c
    unfold dvals rows
    rw [harg3.read_unread, valueTile_at x2 _ _ (512 * (i 0 : ℕ)) (off12 i) x c (by omega), R.value]
  have h0 : ∀ t : Fin 256, score (F := Ideal) (slotQuery x0 n) (dkey0 i arg2 harg2 x1) (ix2 r t)
      = ((e (256 * (2 * (i 0 : ℕ)) + t) : ℝ) : EReal) := by
    intro t
    unfold dkey0 tile
    rw [harg2.read_unread, R.tile _ _ ⟨2 * (i 0 : ℕ), by omega⟩ (off10 i)]
  have h1 : ∀ t : Fin 256, score (F := Ideal) (slotQuery x0 n) (dkey1 i arg2 harg2 x1) (ix2 r t)
      = ((e (256 * (2 * (i 0 : ℕ) + 1) + t) : ℝ) : EReal) := by
    intro t
    unfold dkey1 tile
    rw [harg2.read_unread, R.tile _ _ ⟨2 * (i 0 : ℕ) + 1, by omega⟩ (off11 i)]
  unfold diagState
  split
  · next hn =>
    have hn' := upper hn
    have hK : query i n r + 1 = 512 * (i 0 : ℕ) + (256 + (r + 1)) := by unfold query; omega
    rw [hK]
    refine rowAt_two h _ _ _ (r + 1) (by omega) (fun t => ?_) (fun t => ?_) hw
    · rw [biased_at, h0, bias_at, R.tile1]
      exact near_key i (by omega) (by unfold query; omega)
    · rw [masked_at]
      by_cases ht : (t : ℕ) ≤ r
      · rw [if_pos ht, if_pos (by omega), biased_at, h1, bias_at, R.tile0 t ht]
        exact near_key i (by omega) (by unfold query; omega)
      · rw [if_neg ht, if_neg (by omega)]
  · next hn =>
    have hn' := lower hn
    have hK : query i n r + 1 = 512 * (i 0 : ℕ) + (r + 1) := by unfold query; omega
    rw [hK]
    refine rowAt_one h _ _ (r + 1) (by omega) (by omega) (fun t => ?_) hw
    rw [masked_at]
    by_cases ht : (t : ℕ) ≤ r
    · rw [if_pos ht, if_pos (by omega), biased_at, h0, bias_at, R.tile0 t ht]
      exact near_key i (by omega) (by unfold query; omega)
    · rw [if_neg ht, if_neg (by omega)]

end ends
end run

/-! ## The output block -/

/-- Four heads side by side, read at an index. -/
theorem heads_at (f : Fin 4 → FVec Ideal S256x128 .f32) (r : Fin 256) (h : Fin 4) (x : Fin 128) :
    heads (F := Ideal) f (ix2 r ⟨128 * (h : ℕ) + x, by omega⟩) = f h (ix2 r x) := by
  pointwise [heads]
  have hx := x.isLt
  fin_vals h with hh
  all_goals
    simp only [hh]
    repeat (first | rw [dif_pos (by omega)] | rw [dif_neg (by omega)])
    congr 2
    · exact Fin.ext hh.symm
    · apply Fin.ext; dsimp only; omega

/-- A slot's mean, read at an index. -/
theorem mean_at (a : Vec Ideal S1x256x256 .f32) (r : Fin 256) (x : Fin 128) :
    mean (F := Ideal) a (ix2 r x) = Ideal.div (a (ix3 0 r ⟨x, by omega⟩)) (a (ix3 0 r ⟨128 + x, by omega⟩)) := by
  pointwise [mean, lo, hi]

/-- The difference of two means, read at an index. -/
theorem mixed_at (l : FVec Ideal S1x1 .f32) (a b : Vec Ideal S1x256x256 .f32) (r : Fin 256) (x : Fin 128) :
    mixed (F := Ideal) l a b (ix2 r x) = mean (F := Ideal) a (ix2 r x) - l (ix2 0 0) * mean (F := Ideal) b (ix2 r x) := by
  pointwise [mixed]

/-- A head's output, read at an index. -/
theorem headOut_at (g : Vec Ideal S1x128 .f32) (o : FVec Ideal S256x128 .f32) (r : Fin 256) (x : Fin 128) :
    headOut (F := Ideal) g o (ix2 r x) = DiffModel.norm (fun x => o (ix2 r x)) (fun x => g (ix2 0 x)) x := by
  pointwise [headOut, scale]
  rfl

/-- The mixing weight. -/
theorem lamCell_at (l : Vec Ideal S4x64 .f32) :
    lamCell (F := Ideal) l (ix2 0 0) = Ideal.exp (∑ d : Fin 64, l (ix2 0 d) * l (ix2 1 d)) - Ideal.exp (∑ d : Fin 64, l (ix2 2 d) * l (ix2 3 d))
      + Ideal.ofBits .f32 0x3E4CCCCD#32 := by
  pointwise [lamCell]

section out
variable (arg5 : Memref sig .tc .vmem S4x64 .f32) (harg5 : arg5.IsWhole) (arg6 : Memref sig .tc .vmem S1x128 .f32) (harg6 : arg6.IsWhole)
  (arg10 : Memref sig .tc .vmem S16x256x256 .f32) (x4 : Vec Ideal S4x64 .f32) (x5 : Vec Ideal S1x128 .f32)

/-- Reading a slot's sums back. -/
theorem slot_read (p : Stores Ideal) (n : Fin 16) : arg10.view.readCov p.2 (slotA n).toLoadRect = (held p n).2 := by
  rw [View.readCov_eq_canon']
  rfl

theorem lamRows_eq : lamRows (F := Ideal) arg5 harg5 x4 = x4 := by
  unfold lamRows
  rw [harg5.read_unread]
  exact View.ld_unit_lit _ _ (by decide)

theorem gain_eq : gain (F := Ideal) arg6 harg6 x5 = x5 := by
  unfold gain
  rw [harg6.read_unread]
  exact View.ld_unit_lit _ _ (by decide)

/-- The output block at head `h`, feature `x` of row `256 u + r`, from the means of the head's two slots. -/
theorem out_at (P : Stores Ideal) (u : Fin 2) (r : Fin 256) (h : Fin 4) (x : Fin 128) (a b : Fin 128 → ℝ) (l : ℝ)
    (ha : ∀ x : Fin 128, mean (F := Ideal) (held P ⟨8 * (u : ℕ) + h, by omega⟩).2 (ix2 r x) = ((a x : ℝ) : EReal))
    (hb : ∀ x : Fin 128, mean (F := Ideal) (held P ⟨8 * (u : ℕ) + (4 + h), by omega⟩).2 (ix2 r x) = ((b x : ℝ) : EReal))
    (hl : lamCell (F := Ideal) x4 (ix2 0 0) = ((l : ℝ) : EReal)) :
    View.canon [(⟨Rect.unit (s := S512x512) ![256, 0] S256x512.size Cert.DiffIdeal.Facts₀.inb_S512x512_S256x512_256_0,
          heads (outHead (F := Ideal) arg5 harg5 arg6 harg6 arg10 x4 x5 P 1)⟩ : View.Piece (Elt Ideal) S512x512 .f32),
        ⟨Rect.unit (s := S512x512) ![0, 0] S256x512.size Cert.DiffIdeal.Facts₀.inb_S512x512_S256x512_0_0,
          heads (outHead (F := Ideal) arg5 harg5 arg6 harg6 arg10 x4 x5 P 0)⟩]
        (ix2 ⟨256 * (u : ℕ) + r, by omega⟩ ⟨128 * (h : ℕ) + x, by omega⟩)
      = DiffModel.norm (fun x => ((a x - l * b x : ℝ) : EReal)) (fun x => x5 (ix2 0 x)) x := by
  have hhead : heads (outHead (F := Ideal) arg5 harg5 arg6 harg6 arg10 x4 x5 P u) (ix2 r ⟨128 * (h : ℕ) + x, by omega⟩)
      = DiffModel.norm (fun x => ((a x - l * b x : ℝ) : EReal)) (fun x => x5 (ix2 0 x)) x := by
    rw [heads_at]
    unfold outHead
    rw [slot_read, slot_read, headOut_at, lamRows_eq, gain_eq]
    refine congrArg (fun o => DiffModel.norm o (fun x => x5 (ix2 0 x)) x) (funext fun x => ?_)
    rw [mixed_at, ha, hb, hl, ← EReal.coe_mul, ← EReal.coe_sub]
  have hu2 := u.isLt
  obtain rfl | rfl : u = 0 ∨ u = 1 := by omega
  · rw [View.canon_cons_of_not_mem]
    · rw [← hhead]
      refine Eq.trans ?_ (View.canon_cons_emb (Rect.unit (s := S512x512) ![0, 0] S256x512.size Cert.DiffIdeal.Facts₀.inb_S512x512_S256x512_0_0) _ []
        (ix2 r ⟨128 * (h : ℕ) + x, by omega⟩))
      congr 1
      funext a; fin_cases a <;> exact Fin.ext (by simp [Rect.emb, LoadRect.idx, Rect.unit, ix2])
    · intro hm
      rw [Rect.mem_set_unit] at hm
      have := hm 0
      simp [ix2] at this
      omega
  · rw [← hhead]
    refine Eq.trans (congrArg (View.canon _) ?_) (View.canon_cons_emb (Rect.unit (s := S512x512) ![256, 0] S256x512.size
      Cert.DiffIdeal.Facts₀.inb_S512x512_S256x512_256_0) _ _ (ix2 r ⟨128 * (h : ℕ) + x, by omega⟩))
    funext a; fin_cases a <;> exact Fin.ext (by simp [Rect.emb, LoadRect.idx, Rect.unit, ix2])

end out

end Cert.DiffIdeal.Loop

end
-- ==== Proof.DiffMeaning.lean ====
module

public import proofs.«01_k».proof.Proof.DiffHost
public import proofs.«01_k».proof.Proof.DiffLoop

@[expose] public section

set_option maxRecDepth 16384

noncomputable section

/-! # What the differential attention computes -/

namespace Cert.DiffIdeal.Meaning

open Idealize.ShloMosaic Idealize.ShloMosaic.TcCoe Cert.DiffIdeal Cert.DiffIdeal.Gen Cert.DiffIdeal.Host Cert.Softmax Cert.Buckets
open Cert.DiffIdeal.Step Cert.DiffIdeal.Slots Cert.DiffModel
open Cert.KernelIdeal.Step (Stores)
open Cert.KernelIdeal.Slots (State held start)
open Cert.KernelIdeal.Rows (RowAt)
open Idealize.ShloMosaic.Pipeline (Dat)

variable (m : (ℓ : Loc nD τ sig) → Buf (Elt Ideal) ℓ) (c : Dev nD) (X Y : ℕ → ℕ → ℝ) (q1 k1 q2 k2 : Fin 64 → ℝ)

/-- The arguments the attention reads, except the gains, are real numbers. -/
structure Reals : Prop where
  query : ∀ (t : Fin 16384) (j : Fin 512), features m c (ix2 t ⟨512 + j, by omega⟩) = ((X t (512 + j) : ℝ) : EReal)
  keys : ∀ (t : Fin 16384) (j : Fin 256), features m c (ix2 t ⟨1792 + j, by omega⟩) = ((X t (1792 + j) : ℝ) : EReal)
  bias : ∀ (b : Fin 32) (h : Fin 4), biases m c (ix2 b ⟨8 + h, by omega⟩) = ((Y b (8 + h) : ℝ) : EReal)
  q1 : ∀ d, lq1 m c (ix1 d) = ((q1 d : ℝ) : EReal)
  k1 : ∀ d, lk1 m c (ix1 d) = ((k1 d : ℝ) : EReal)
  q2 : ∀ d, lq2 m c (ix1 d) = ((q2 d : ℝ) : EReal)
  k2 : ∀ d, lk2 m c (ix1 d) = ((k2 d : ℝ) : EReal)

variable {m c X Y q1 k1 q2 k2}

/-- Half of a query against a whole key: only the half's entries count. -/
theorem half_sum (f : ℕ → ℝ) (g : ℕ → ℝ) (p : Fin 2) (h : Fin 4) :
    ∑ d : Fin 128, Loop.half (fun j => ((f j : ℝ) : EReal)) (4 * (p : ℕ) + h) d * ((g d : ℝ) : EReal)
      = ((∑ d : Fin 64, f (128 * (h : ℕ) + (64 * (p : ℕ) + d)) * (1 / 8) * g (64 * (p : ℕ) + d) : ℝ) : EReal) := by
  rw [← coe_sum]
  refine (Fin.sum_univ_add (a := 64) (b := 64) (fun d : Fin (64 + 64) =>
    Loop.half (fun j => ((f j : ℝ) : EReal)) (4 * (p : ℕ) + h) d * ((g d : ℝ) : EReal))).trans ?_
  have h4 : (h : ℕ) % 4 = h := Nat.mod_eq_of_lt h.isLt
  have hh := h.isLt
  have e0 : ∀ d : Fin 64, ((Fin.castAdd 64 d : Fin (64 + 64)) : ℕ) = d := fun d => rfl
  have e1 : ∀ d : Fin 64, ((Fin.natAdd 64 d : Fin (64 + 64)) : ℕ) = 64 + d := fun d => rfl
  simp only [e0, e1, Loop.half]
  obtain rfl | rfl : p = 0 ∨ p = 1 := by omega
  · have a : 4 * ((0 : Fin 2) : ℕ) + (h : ℕ) = h := by simp
    have b : ∀ d : Fin 64, ¬ 64 + (d : ℕ) < 64 := fun d => by omega
    simp only [a, if_pos hh, h4, if_pos (Fin.isLt _), b, if_false, zero_mul, Finset.sum_const_zero, add_zero]
    refine Finset.sum_congr rfl fun d _ => ?_
    rw [eighth, ← EReal.coe_mul, ← EReal.coe_mul]
    simp
  · have a : 4 * ((1 : Fin 2) : ℕ) + (h : ℕ) = 4 + h := by simp
    have a1 : ¬ 4 + (h : ℕ) < 4 := by omega
    have a2 : (4 + (h : ℕ)) % 4 = h := by omega
    have b : ∀ d : Fin 64, ¬ 64 ≤ (d : ℕ) := fun d => by omega
    have b1 : ∀ d : Fin 64, 64 ≤ 64 + (d : ℕ) := fun d => by omega
    simp only [a, if_neg a1, a2, b, b1, if_false, if_true, zero_mul, Finset.sum_const_zero, zero_add]
    refine Finset.sum_congr rfl fun d _ => ?_
    rw [eighth, ← EReal.coe_mul, ← EReal.coe_mul]
    simp

/-- The value rows: the value columns, then ones. -/
def wide (X : ℕ → ℕ → ℝ) (t : ℕ) (d : Fin 256) : ℝ := if (d : ℕ) < 128 then value X t d else 1

/-- What a bias has more than the last bucket's. -/
def extra (Y : ℕ → ℕ → ℝ) (h d : ℕ) : ℝ := Y (bucket d) (8 + h) - Y 31 (8 + h)

/-- An entry of the table of biases. -/
theorem Reals.row (H : Reals m c X Y q1 k1 q2 k2) (h : Fin 4) {b : ℕ} (hb : b ≤ 31) : Host.row m c h b = ((Y b (8 + h) : ℝ) : EReal) := by
  unfold Host.row
  rw [H.bias]
  exact congrArg (fun b => ((Y b (8 + h) : ℝ) : EReal)) (Nat.mod_eq_of_lt (by omega))

/-- An entry of a bias tile. -/
theorem Reals.extra (H : Reals m c X Y q1 k1 q2 k2) (h : Fin 4) (d : ℕ) :
    Host.row m c h (bucket d) - Host.row m c h 31 = ((Meaning.extra Y h d : ℝ) : EReal) := by
  rw [H.row h (b := bucket d) (upTo_lt d 31), H.row h le_rfl, ← EReal.coe_sub]
  rfl

/-- A slot's row at grid point `t`, in real numbers. -/
theorem Reals.slot (H : Reals m c X Y q1 k1 q2 k2) (t : Fin cfg0.N) (u p : Fin 2) (h : Fin 4) (r : Fin 256) (n : Fin 16)
    (hn : (n : ℕ) = 8 * (u : ℕ) + (4 * (p : ℕ) + h)) (q : Fin 16384) (hq : (q : ℕ) = 512 * (grid0.coords t 0 : ℕ) + (256 * (u : ℕ) + r)) :
    Loop.Reals (X0_0 m c t) (iblk m c 1 t) (iblk m c 2 t) (iblk m c 3 t) n r (dots X p h q) (Meaning.extra Y h) (wide X) where
  products T k := by
    have hu : (n : ℕ) / 8 = u := by omega
    have hm : (n : ℕ) % 8 = 4 * (p : ℕ) + h := by omega
    rw [block1]
    have hK : ∀ d : Fin 128, (V m c main_v193 : FVec Ideal S64x128x256 .bf16) (ix3 T d k)
        = ((X (256 * (T : ℕ) + k) (1792 + d) : ℝ) : EReal) := by
      intro d
      rw [k_entry]
      exact H.keys ⟨256 * (T : ℕ) + k, by omega⟩ ⟨d, by omega⟩
    have hS : ∀ d : Fin 128, slotQuery (F := Ideal) (X0_0 m c t) n (ix3 0 r d)
        = Loop.half (fun j => ((X q (512 + j) : ℝ) : EReal)) (4 * (p : ℕ) + h) d := by
      intro d
      rw [← hm]
      refine Loop.slotQuery_at _ n r d _ fun j => ?_
      rw [block0 m c t _ j q (by rw [hq]; dsimp only; rw [hu])]
      exact H.query q j
    simp only [hK, hS]
    exact half_sum (fun j => X q (512 + j)) (fun d => X (256 * (T : ℕ) + k) (1792 + d)) p h
  value y d := by
    rw [block2, v_entry]
    unfold wide
    split
    · next hd =>
      have := H.keys y ⟨128 + d, by omega⟩
      have e : 1792 + (128 + (d : ℕ)) = 1920 + d := by omega
      simp only [e] at this
      exact this
    · rfl
  far d hd := by
    unfold Meaning.extra
    rw [bucket_far hd, sub_self]
  tile0 k hk := by
    have h4 : (n : ℕ) % 4 = h := by omega
    have e : (⟨(n : ℕ) % 4, by omega⟩ : Fin 4) = h := Fin.ext h4
    rw [block3, e, t_entry0 m c h r k hk]
    exact H.extra h _
  tile1 k := by
    have h4 : (n : ℕ) % 4 = h := by omega
    have e : (⟨(n : ℕ) % 4, by omega⟩ : Fin 4) = h := Fin.ext h4
    rw [block3, e, t_entry1 m c h r k]
    exact H.extra h _

/-- A slot's mean at the end, from its row. -/
theorem mean_of_row {K : ℕ} {s : ℕ → ℝ} {r : Fin 256} {p : State Ideal} (h : RowAt (K + 1) s (wide X) r p) (x : Fin 128) :
    Step.mean (F := Ideal) p.2 (ix2 r x) = ((soft (K + 1) s (fun t => value X t x) : ℝ) : EReal) := by
  obtain ⟨μ, -, hrow⟩ := h
  have hfin := hrow.finish (by omega) ⟨x, by omega⟩ ⟨128 + x, by omega⟩ (fun t => if_neg (by dsimp only; omega))
  rw [Loop.mean_at, hfin]
  have hw : ∀ t, wide X t ⟨x, by omega⟩ = value X t x := fun t => if_pos x.isLt
  simp only [hw]

/-- The constant part of the biases does not change the mean. -/
theorem soft_total (i : grid0.Coords) (n : Fin 16) (r : Fin 256) (p h q : ℕ) (hq : q = Loop.query i n r) (x : ℕ) :
    soft (q + 1) (Loop.total i n r (dots X p h q) (extra Y h)) (fun t => value X t x) = DiffModel.mean X Y p h q x := by
  have e : Loop.total i n r (dots X p h q) (extra Y h) = fun t => DiffModel.score X Y p h q t - Y 31 (8 + h) := by
    funext t
    unfold Loop.total extra DiffModel.score
    rw [← hq]
    ring
  rw [e]
  unfold DiffModel.mean
  rw [← soft_shift (q + 1) (DiffModel.score X Y p h q) _ (Y 31 (8 + h))]
  rfl

/-- The mixing weight. -/
theorem Reals.weight (H : Reals m c X Y q1 k1 q2 k2) (t : Fin cfg0.N) :
    lamCell (F := Ideal) (iblk m c 4 t) (ix2 0 0) = ((lam q1 k1 q2 k2 : ℝ) : EReal) := by
  rw [block4, Loop.lamCell_at]
  have h0 := fun d => (l_entry m c d).1
  have h1 := fun d => (l_entry m c d).2.1
  have h2 := fun d => (l_entry m c d).2.2.1
  have h3 := fun d => (l_entry m c d).2.2.2
  simp only [h0, h1, h2, h3, H.q1, H.k1, H.q2, H.k2, ← EReal.coe_mul, coe_sum, Ideal.exp_coe, ← EReal.coe_sub]
  rw [start_eq, ← EReal.coe_add]
  rfl

/-- What the stores of a grid point leave, if each slot's row has seen every key up to its query: at head `h`, feature
    `x` of row `256 u + r` the differential attention of query `q`. -/
theorem Reals.point (H : Reals m c X Y q1 k1 q2 k2) (t : Fin cfg0.N) (u : Fin 2) (r : Fin 256) (h : Fin 4) (x : Fin 128) (q : Fin 16384)
    (hq : (q : ℕ) = 512 * (grid0.coords t 0 : ℕ) + (256 * (u : ℕ) + r))
    (arg5 : Memref sig .tc .vmem S4x64 .f32) (harg5 : arg5.IsWhole) (arg6 : Memref sig .tc .vmem S1x128 .f32) (harg6 : arg6.IsWhole)
    (arg10 : Memref sig .tc .vmem S16x256x256 .f32) (P : Stores Ideal)
    (hP : ∀ (n : Fin 16) (e β : ℕ → ℝ), Loop.Reals (X0_0 m c t) (iblk m c 1 t) (iblk m c 2 t) (iblk m c 3 t) n r e β (wide X) →
      RowAt (Loop.query (grid0.coords t) n r + 1) (Loop.total (grid0.coords t) n r e β) (wide X) r (held P n)) :
    View.canon [(⟨Rect.unit (s := S512x512) ![256, 0] S256x512.size Cert.DiffIdeal.Facts₀.inb_S512x512_S256x512_256_0,
          heads (outHead (F := Ideal) arg5 harg5 arg6 harg6 arg10 (iblk m c 4 t) (iblk m c 5 t) P 1)⟩ : View.Piece (Elt Ideal) S512x512 .f32),
        ⟨Rect.unit (s := S512x512) ![0, 0] S256x512.size Cert.DiffIdeal.Facts₀.inb_S512x512_S256x512_0_0,
          heads (outHead (F := Ideal) arg5 harg5 arg6 harg6 arg10 (iblk m c 4 t) (iblk m c 5 t) P 0)⟩]
        (ix2 ⟨256 * (u : ℕ) + r, by omega⟩ ⟨128 * (h : ℕ) + x, by omega⟩)
      = norm (fun x => ((diff X Y (lam q1 k1 q2 k2) h q x : ℝ) : EReal)) (fun x => gains m c (ix1 x)) x := by
  have hmean : ∀ (p : Fin 2) (n : Fin 16), (n : ℕ) = 8 * (u : ℕ) + (4 * (p : ℕ) + h) → ∀ x : Fin 128,
      Step.mean (F := Ideal) (held P n).2 (ix2 r x) = ((DiffModel.mean X Y p h q x : ℝ) : EReal) := by
    intro p n hn x
    have hqq : (q : ℕ) = Loop.query (grid0.coords t) n r := by unfold Loop.query; omega
    have hrow := hP n _ _ (H.slot t u p h r n hn q hq)
    rw [mean_of_row hrow x, ← hqq, soft_total _ n r p h q hqq]
  rw [Loop.out_at arg5 harg5 arg6 harg6 arg10 (iblk m c 4 t) (iblk m c 5 t) P u r h x
    (fun x => DiffModel.mean X Y 0 h q x) (fun x => DiffModel.mean X Y 1 h q x) (lam q1 k1 q2 k2)
    (hmean 0 _ (by simp)) (hmean 1 _ (by simp)) (H.weight t)]
  rw [block5]
  exact congrArg (fun g => norm _ g x) (funext fun x => g_entry m c x)

/-- From the second grid point on a pair of tiles lies before the diagonal. -/
theorem near_at : ∀ i : grid0.Coords, 1 ≤ (i 0 : ℕ) → k0_cond1 i = 1#1 := by decide +kernel
theorem coords_at : ∀ t : Fin cfg0.N, (grid0.coords t 0 : ℕ) = t := (by decide +kernel : ∀ t : Fin grid0.N, (grid0.coords t 0 : ℕ) = t)

/-- What grid point `t` writes at head `h`, feature `x` of row `256 u + r`. -/
theorem block_at (H : Reals m c X Y q1 k1 q2 k2) (t : Fin cfg0.N) (u : Fin 2) (r : Fin 256) (h : Fin 4) (x : Fin 128) (q : Fin 16384)
    (hq : (q : ℕ) = 512 * (grid0.coords t 0 : ℕ) + (256 * (u : ℕ) + r)) :
    outsAt0 (F := Ideal) m c t.val t.isLt (ix2 ⟨256 * (u : ℕ) + r, by omega⟩ ⟨128 * (h : ℕ) + x, by omega⟩)
      = norm (fun x => ((diff X Y (lam q1 k1 q2 k2) h q x : ℝ) : EReal)) (fun x => gains m c (ix1 x)) x := by
  have hc := coords_at t
  by_cases h0 : 1 ≤ t.val
  · have hn := near_at (grid0.coords t) (by omega)
    rw [outsAt0_B m c t h0]
    unfold out0_B_6
    rw [View.read_writes_eq_canon _ _ _ (cover0_B_6 c _ _ _ _ _ _ _ _ _ _ _ _ _ _ _ _ _ _ _ _ _ _ _ _ _ _ _ _), run_later _ _ _ _ _ _ _ _ _ _ _ _ _ _ _ _ _ _ _ _ _ _ _ _ _ _ _ _ _ hn]
    refine H.point t u r h x q hq _ _ _ _ _ _ fun n e β R => ?_
    rw [held_diag, held_near, held_far]
    refine Loop.rowAt_diag _ _ _ _ _ _ _ R _ (Loop.rowAt_near _ _ _ _ _ _ _ R hn _ ?_)
    have := Loop.rowAt_loop (grid0.coords t) R _ le_rfl
    rwa [Loop.trips_eq] at this ⊢
  · rw [outsAt0_A m c t h0]
    unfold out0_A_6
    rw [View.read_writes_eq_canon _ _ _ (cover0_A_6 c _ _ _ _ _ _ _ _ _ _ _ _ _ _ _ _ _ _ _ _ _ _ _ _ _ _ _ _), run_first]
    refine H.point t u r h x q hq _ _ _ _ _ _ fun n e β R => ?_
    rw [held_diag, held_far]
    refine Loop.rowAt_diag _ _ _ _ _ _ _ R _ ?_
    have := Loop.rowAt_loop (grid0.coords t) R _ le_rfl
    have hz : (grid0.coords t 0 : ℕ) = 0 := by omega
    rw [Loop.trips_eq] at this ⊢
    rw [hz] at this ⊢
    exact this

/-- What grid point `t` writes at row `a`, column `b` of its block. -/
theorem point_at (H : Reals m c X Y q1 k1 q2 k2) (t : Fin cfg0.N) (a b : Fin 512) (q : Fin 16384) (hq : (q : ℕ) = 512 * (grid0.coords t 0 : ℕ) + a) :
    outsAt0 (F := Ideal) m c t.val t.isLt (ix2 a b) = table X Y (lam q1 k1 q2 k2) (fun x => gains m c (ix1 x)) q b := by
  have e := block_at H t ⟨(a : ℕ) / 256, by omega⟩ ⟨(a : ℕ) % 256, by omega⟩ ⟨(b : ℕ) / 128, by omega⟩ ⟨(b : ℕ) % 128, by omega⟩ q
    (by dsimp only; omega)
  unfold table
  rw [← e]
  congr 1
  congr 1
  · exact Fin.ext (by dsimp only; omega)
  · exact Fin.ext (by dsimp only; omega)

/-- The kernel's result array. -/
theorem result (H : Reals m c X Y q1 k1 q2 k2) :
    (Gen.dats m 0 c).arrAt 6 cfg0.N
      = fun i : S16384x512.Idx => table X Y (lam q1 k1 q2 k2) (fun x => gains m c (ix1 x)) (i 0) (i 1) := by
  refine (Gen.dats m 0 c).arrAt_eq_of_covers 6 _ covers fun t hf y => ?_
  obtain ⟨a, b, rfl⟩ : ∃ a b : Fin 512, y = (ix2 a b : S512x512.Idx) :=
    ⟨y 0, y 1, by funext a; match a with | ⟨0, _⟩ => rfl | ⟨1, _⟩ => rfl⟩
  have e0 : ((win0_6.blk t).view.emb (ix2 a b : S512x512.Idx) 0 : ℕ) = 512 * (grid0.coords t 0 : ℕ) + a := by
    blk_simp [index6]
    rw [Nat.mul_comm]
  have e1 : (win0_6.blk t).view.emb (ix2 a b : S512x512.Idx) 1 = b := Fin.ext (by
    blk_simp [index6])
  blk_simp
  rw [after0_6]
  rw [point_at H t a b ⟨512 * (grid0.coords t 0 : ℕ) + a, e0 ▸ Fin.isLt _⟩ rfl]
  exact (congrArg₂ (table X Y (lam q1 k1 q2 k2) fun x => gains m c (ix1 x)) (Fin.ext e0) e1).symm

end Cert.DiffIdeal.Meaning

end
-- ==== Proof.DiffRef.lean ====
module

public import proofs.«01_k».proof.Proof.Gen.DiffPlainIdeal.Read
public import proofs.«01_k».proof.Proof.DiffModel
public import proofs.«01_k».proof.Proof.Attn
public import Idealize.ShloMosaic.Lib.Pointwise
public import Idealize.ShloMosaic.Lib.WordCmp

@[expose] public section

set_option maxRecDepth 16384

noncomputable section

/-! # What the differential attention's reference computes

Two softmaxes per query and head, each over all keys with the later ones masked, and the norm of the difference. -/

namespace Cert.DiffPlainIdeal.Ref

open Idealize.ShloMosaic Idealize.ShloMosaic.TcCoe Cert.DiffPlainIdeal.Gen Cert.DiffPlainIdeal.Read Cert.Buckets Cert.Softmax Cert.DiffModel
open Cert.Attn (below_inf)

/-- The row of the table that the gather takes: the index read signed, kept within the table. -/
theorem gather_at {α : Type} (x : S32x1x4.Idx → α) (idx : IVec S16384x16384x1 32) (q t : Fin 16384) (h : Fin 4) :
    Host.gather gather_S32x1x4_S16384x16384x1_S16384x16384x1x4_23_0_n_n_0_2_114 x idx (ix4 q t 0 h)
      = x (ix3 ⟨min (idx (ix3 q t 0)).toInt.toNat 31, by omega⟩ 0 h) := by
  unfold Host.gather
  congr 1
  funext a
  refine Fin.ext ?_
  show GatherDims.start _ (ix4 q t 0 h) idx a + GatherDims.batchCoord _ (ix4 q t 0 h) a + GatherDims.offCoord _ (ix4 q t 0 h) a = _
  rw [GatherDims.batchCoord_eq_zero _ _ _ List.not_mem_nil, Nat.add_zero]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x1x4_S16384x16384x1_S16384x16384x1x4_23_0_n_n_0_2_114.startIndexMap from List.mem_singleton.mpr rfl)]
    have hsi : gather_S32x1x4_S16384x16384x1_S16384x16384x1x4_23_0_n_n_0_2_114.siIdx (ix4 q t 0 h)
        ⟨List.idxOf (0 : Fin 3) gather_S32x1x4_S16384x16384x1_S16384x16384x1x4_23_0_n_n_0_2_114.startIndexMap,
          List.idxOf_lt_length_iff.2 (List.mem_singleton.mpr rfl)⟩ = ix3 q t 0 := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 3) ∉ gather_S32x1x4_S16384x16384x1_S16384x16384x1x4_23_0_n_n_0_2_114.startIndexMap by
      intro hm; exact absurd (List.mem_singleton.mp hm) (by decide)), Nat.zero_add]
    unfold GatherDims.offCoord
    rfl
  · unfold GatherDims.start
    rw [dif_neg (show (2 : Fin 3) ∉ gather_S32x1x4_S16384x16384x1_S16384x16384x1x4_23_0_n_n_0_2_114.startIndexMap by
      intro hm; exact absurd (List.mem_singleton.mp hm) (by decide)), Nat.zero_add]
    unfold GatherDims.offCoord
    rfl

/-! ## The bucket of a distance, as the reference computes it in words -/

theorem toInt_ofInt {a : ℤ} (h : -2147483648 ≤ a) (h' : a < 2147483648) : (BitVec.ofInt 32 a).toInt = a := by
  rw [BitVec.toInt_ofInt]
  unfold Int.bmod
  norm_num
  split <;> omega

/-- The larger of two words that hold small integers. -/
theorem maxsi_ofInt {a b : ℤ} (ha : -2147483648 ≤ a) (ha' : a < 2147483648) (hb : -2147483648 ≤ b) (hb' : b < 2147483648) :
    IntOp.maxsi (BitVec.ofInt 32 a) (BitVec.ofInt 32 b) = BitVec.ofInt 32 (max a b) := by
  unfold IntOp.maxsi
  rw [BitVec.slt, toInt_ofInt ha ha', toInt_ofInt hb hb']
  by_cases h : b < a
  · rw [decide_eq_true h, max_eq_left h.le]; rfl
  · rw [decide_eq_false h, max_eq_right (not_lt.1 h)]; rfl

/-- The smaller of two words that hold small integers. -/
theorem minsi_ofInt {a b : ℤ} (ha : -2147483648 ≤ a) (ha' : a < 2147483648) (hb : -2147483648 ≤ b) (hb' : b < 2147483648) :
    IntOp.minsi (BitVec.ofInt 32 a) (BitVec.ofInt 32 b) = BitVec.ofInt 32 (min a b) := by
  unfold IntOp.minsi
  rw [BitVec.slt, toInt_ofInt ha ha', toInt_ofInt hb hb']
  by_cases h : a < b
  · rw [decide_eq_true h, min_eq_left h.le]; rfl
  · rw [decide_eq_false h, min_eq_right (not_lt.1 h)]; rfl

/-- The logarithmic part of the bucket, of a word. -/
def logWord (m : BitVec 32) : BitVec 32 :=
  Ideal.fptosi 32 (Ideal.div (Ideal.log (Ideal.div (((m.toInt : ℝ)) : EReal) (Ideal.ofBits .f32 0x41800000#32))) (Ideal.ofBits .f32 0x40051592#32)
    * Ideal.ofBits .f32 0x41800000#32)

/-- The bucket of a distance, of a word. -/
def bucketWord (d : BitVec 32) : BitVec 32 :=
  let p := IntOp.maxsi d 0#32
  let b := Scalar.select (IntOp.cmpi .slt p 16#32) p (IntOp.minsi (IntOp.addi 16#32 (logWord (IntOp.maxsi p 16#32))) 31#32)
  Scalar.select (IntOp.cmpi .slt b 0#32) (IntOp.addi b 32#32) b

theorem sixteen : Ideal.ofBits .f32 0x41800000#32 = ((16 : ℝ) : EReal) := by
  simp [Ideal.ofBits, Ideal.ieee, -EReal.coe_mul]
  norm_num

theorem width_eq : Ideal.ofBits .f32 0x40051592#32 = ((width : ℝ) : EReal) := by
  unfold width
  simp [Ideal.ofBits, Ideal.ieee, -EReal.coe_mul]
  norm_num

/-- The logarithmic part counts the steps. -/
theorem logWord_eq {n : ℕ} (h16 : 16 ≤ n) (h : n < 16384) : logWord (BitVec.ofInt 32 n) = BitVec.ofInt 32 ⌊steps n⌋ := by
  have hn : (16 : ℝ) ≤ n := by exact_mod_cast h16
  have hn' : (n : ℝ) < 16384 := by exact_mod_cast h
  have hlog : 0 ≤ Real.log ((n : ℝ) / 16) := Real.log_nonneg (by rw [le_div_iff₀ (by norm_num)]; linarith)
  have hs : 0 ≤ steps n := by
    unfold steps
    have := width_pos
    positivity
  have hup : steps n < 2147483647 := by
    have h1 : Real.log ((n : ℝ) / 16) ≤ (n : ℝ) / 16 - 1 := Real.log_le_sub_one_of_pos (by positivity)
    have h2 : 1 / width < 1 := by unfold width; norm_num
    have h3 : 0 < 1 / width := by have := width_pos; positivity
    unfold steps
    nlinarith
  unfold logWord
  rw [toInt_ofInt (by omega) (by omega), sixteen, width_eq, Ideal.div_coe (by norm_num : (16 : ℝ) ≠ 0), ← EReal.coe_mul, Ideal.log_coe]
  have hpos : ¬ (((n : ℤ) : ℝ) * (1 / 16) ≤ 0) := by push_cast; linarith
  rw [if_neg hpos, Ideal.div_coe width_pos.ne', ← EReal.coe_mul, ← EReal.coe_mul]
  have e : Real.log (((n : ℤ) : ℝ) * (1 / 16)) * (1 / width) * 16 = steps n := by
    unfold steps
    rw [show ((n : ℤ) : ℝ) * (1 / 16) = (n : ℝ) / 16 by push_cast; ring]
  rw [e, Ideal.fptosi, Ideal.toIntClamped_coe, if_pos hs]
  congr 1
  have h0 : 0 ≤ ⌊steps n⌋ := Int.floor_nonneg.2 hs
  have h1 : ⌊steps n⌋ < 2147483647 := Int.floor_lt.2 (by exact_mod_cast hup)
  norm_num
  omega

/-- The bucket's word is the bucket. -/
theorem bucketWord_eq {n : ℕ} (h : n < 16384) : bucketWord (BitVec.ofInt 32 n) = BitVec.ofInt 32 (bucket n : ℤ) := by
  have hb : bucket n ≤ 31 := upTo_lt n 31
  have e0 : (0#32 : BitVec 32) = BitVec.ofInt 32 0 := rfl
  have e16 : (16#32 : BitVec 32) = BitVec.ofInt 32 16 := rfl
  have e31 : (31#32 : BitVec 32) = BitVec.ofInt 32 31 := rfl
  have key : Scalar.select (IntOp.cmpi .slt (BitVec.ofInt 32 (n : ℤ)) 16#32) (BitVec.ofInt 32 (n : ℤ))
      (IntOp.minsi (IntOp.addi 16#32 (logWord (IntOp.maxsi (BitVec.ofInt 32 (n : ℤ)) 16#32))) 31#32) = BitVec.ofInt 32 (bucket n : ℤ) := by
    rw [e16, WordCmp.cmpi_slt_eq, toInt_ofInt (by omega) (by omega), toInt_ofInt (by norm_num) (by norm_num)]
    by_cases h16 : n < 16
    · rw [decide_eq_true (by omega : (n : ℤ) < 16), bucket_near h16]; rfl
    · rw [decide_eq_false (by omega : ¬ (n : ℤ) < 16)]
      have hn : (16 : ℝ) ≤ n := by exact_mod_cast not_lt.1 h16
      have hs : 0 ≤ steps n := by
        have hlog : 0 ≤ Real.log ((n : ℝ) / 16) := Real.log_nonneg (by rw [le_div_iff₀ (by norm_num)]; linarith)
        unfold steps
        have := width_pos
        positivity
      have hup : steps n < 100000 := by
        have hn' : (n : ℝ) < 16384 := by exact_mod_cast h
        have h1 : Real.log ((n : ℝ) / 16) ≤ (n : ℝ) / 16 - 1 := Real.log_le_sub_one_of_pos (by positivity)
        have h2 : 1 / width < 1 := by unfold width; norm_num
        have h3 : 0 < 1 / width := by have := width_pos; positivity
        unfold steps
        nlinarith
      have h0 : 0 ≤ ⌊steps n⌋ := Int.floor_nonneg.2 hs
      have h1 : ⌊steps n⌋ < 100000 := Int.floor_lt.2 (by exact_mod_cast hup)
      rw [maxsi_ofInt (by omega) (by omega) (by norm_num) (by norm_num), max_eq_left (by omega), logWord_eq (by omega) h]
      show IntOp.minsi (BitVec.ofInt 32 16 + BitVec.ofInt 32 ⌊steps n⌋) 31#32 = _
      rw [← BitVec.ofInt_add, e31, minsi_ofInt (by omega) (by omega) (by norm_num) (by norm_num), bucket_log (by omega)]
  unfold bucketWord
  dsimp only
  rw [e0, maxsi_ofInt (by omega) (by omega) (by norm_num) (by norm_num), max_eq_left (by omega), key, WordCmp.cmpi_slt_eq,
    toInt_ofInt (by omega) (by omega), toInt_ofInt (by norm_num) (by norm_num), decide_eq_false (by omega)]
  rfl

/-- The index the table is read at. -/
theorem index_at {q t : Fin 16384} (h : (t : ℕ) ≤ q) :
    val_main_v48 (F := Ideal) (ix3 q t 0) = BitVec.ofInt 32 (bucket ((q : ℕ) - t) : ℤ) := by
  rw [← bucketWord_eq (by omega)]
  have e : IntOp.subi (BitVec.ofNat 32 (q : ℕ)) (BitVec.ofNat 32 (t : ℕ)) = BitVec.ofInt 32 (((q : ℕ) - (t : ℕ) : ℕ) : ℤ) := by
    apply BitVec.eq_of_toNat_eq
    show (BitVec.ofNat 32 (q : ℕ) - BitVec.ofNat 32 (t : ℕ)).toNat = (BitVec.ofInt 32 (((q : ℕ) - (t : ℕ) : ℕ) : ℤ)).toNat
    rw [BitVec.toNat_sub, BitVec.toNat_ofNat, BitVec.toNat_ofNat, BitVec.ofInt_natCast, BitVec.toNat_ofNat]
    omega
  rw [← e]
  have e : idx_main_v48 (ix3 q t 0) = ix2 q t := by
    funext a
    match a with
    | ⟨0, _⟩ => rfl
    | ⟨1, _⟩ => rfl
  rw [val_main_v48_apply, e, val_main_v47_apply, val_main_v44_apply, val_main_v46_apply, val_main_v42_apply, val_main_v39_apply, val_main_v41_apply,
    val_main_v37_apply, val_main_v35_apply, val_main_v34_apply, val_main_v32_apply, val_main_v30_apply, val_main_v29_apply, val_main_v27_apply,
    val_main_v26_apply, val_main_v24_apply, val_main_v22_apply]
  have c20 : val_main_v20 (F := Ideal) (ix2 q t) = BitVec.ofNat 32 (q : ℕ) := rfl
  have c21 : val_main_v21 (F := Ideal) (ix2 q t) = BitVec.ofNat 32 (t : ℕ) := rfl
  have c23 : val_main_v23 (F := Ideal) (ix2 q t) = 0#32 := rfl
  have c25 : val_main_v25 (F := Ideal) (ix2 q t) = 16#32 := rfl
  have c36 : val_main_v36 (F := Ideal) (ix2 q t) = 16#32 := rfl
  have c38 : val_main_v38 (F := Ideal) (ix2 q t) = 16#32 := rfl
  have c40 : val_main_v40 (F := Ideal) (ix2 q t) = 31#32 := rfl
  have c43 : val_main_v43 (F := Ideal) (ix2 q t) = 0#32 := rfl
  have c45 : val_main_v45 (F := Ideal) (ix2 q t) = 32#32 := rfl
  have c28 : val_main_v28 (F := Ideal) (ix2 q t) = Ideal.ofBits .f32 0x41800000#32 := rfl
  have c31 : val_main_v31 (F := Ideal) (ix2 q t) = Ideal.ofBits .f32 0x40051592#32 := rfl
  have c33 : val_main_v33 (F := Ideal) (ix2 q t) = Ideal.ofBits .f32 0x41800000#32 := rfl
  rw [c20, c21, c23, c25, c36, c38, c40, c43, c45, c28, c31, c33]
  generalize IntOp.subi (BitVec.ofNat 32 (q : ℕ)) (BitVec.ofNat 32 (t : ℕ)) = d
  rfl

/-- The bias of a visible key. -/
theorem bias_at (x1 : FVec Ideal S32x12 .f32) {q t : Fin 16384} (h : Fin 4) (hm : (t : ℕ) ≤ q) (b : Fin 32) (hb : (b : ℕ) = bucket ((q : ℕ) - t)) :
    val_main_v50 (F := Ideal) x1 (ix4 q 0 h t) = x1 (ix2 b ⟨8 + h, by omega⟩) := by
  have e : idx_main_v50 (ix4 q 0 h t) = ix4 q t 0 h := by
    funext a
    match a with
    | ⟨0, _⟩ => rfl
    | ⟨1, _⟩ => rfl
    | ⟨2, _⟩ => rfl
    | ⟨3, _⟩ => rfl
  rw [val_main_v50_apply, e]
  unfold val_main_v49
  have hi := index_at hm
  rw [← hb] at hi
  generalize val_main_v48 (F := Ideal) = y at hi ⊢
  have h17 : ∀ b : Fin 32, val_main_v17 (F := Ideal) x1 (ix3 b 0 h) = x1 (ix2 b ⟨8 + h, by omega⟩) := by
    intro b
    pointwise [val_main_v17, val_main_v16]
  generalize val_main_v17 (F := Ideal) x1 = z at h17 ⊢
  refine (gather_at z y q t h).trans ?_
  rw [← h17]
  refine congrArg (fun b => z (ix3 b 0 h)) (Fin.ext ?_)
  dsimp only
  have hb := b.isLt
  rw [hi, toInt_ofInt (by omega) (by omega)]
  omega

/-! ## One softmax of the reference, over any scores -/

/-- The scores with those of the later keys replaced. -/
def keep (σ : FVec Ideal S1x16384x1x4x16384 .f32) : FVec Ideal S1x16384x1x4x16384 .f32 :=
  select (val_main_call1_v1 (F := Ideal)) σ (val_main_call1_v2 (F := Ideal))

/-- The rows' maxima. -/
def top (σ : FVec Ideal S1x16384x1x4x16384 .f32) : FVec Ideal S1x16384x1x4 .f32 :=
  Host.reduce FloatOps.maximumf (keep σ) (val_main_cst_13 (F := Ideal)) reducesTo_S1x16384x1x4x16384_S1x16384x1x4_d4 h_S_

/-- The rows' maxima, as columns. -/
def column (σ : FVec Ideal S1x16384x1x4x16384 .f32) : FVec Ideal S1x16384x1x4x1 .f32 :=
  broadcastInDim S1x16384x1x4x1 ![0, 1, 2, 3] bcast_S1x16384x1x4_S1x16384x1x4x1_0_1_2_3 (top σ)

/-- The maxima that are finite, and zero for the others. -/
def finiteTop (σ : FVec Ideal S1x16384x1x4x16384 .f32) : FVec Ideal S1x16384x1x4x1 .f32 :=
  select (cmpf .olt (Host.absf (column σ)) (val_main_v73 (F := Ideal))) (column σ) (val_main_call2_v1 (F := Ideal))

/-- The weights. -/
def weights (σ : FVec Ideal S1x16384x1x4x16384 .f32) : FVec Ideal S1x16384x1x4x16384 .f32 :=
  select (val_main_call3_v1 (F := Ideal))
    (Host.exp (subf (keep σ) (broadcastInDim S1x16384x1x4x16384 ![0, 1, 2, 3, 4] bcast_S1x16384x1x4x1_S1x16384x1x4x16384_0_1_2_3_4 (finiteTop σ))))
    (val_main_call3_v2 (F := Ideal))

/-- The rows' total weights, guarded. -/
def total (σ : FVec Ideal S1x16384x1x4x16384 .f32) : FVec Ideal S1x16384x1x4x1 .f32 :=
  maximumf (broadcastInDim S1x16384x1x4x1 ![0, 1, 2, 3] bcast_S1x16384x1x4_S1x16384x1x4x1_0_1_2_3
    (Host.reduceAdd (weights σ) (val_main_cst_17 (F := Ideal)) reducesTo_S1x16384x1x4x16384_S1x16384x1x4_d4 h_S_)) (val_main_v82 (F := Ideal))

/-- The weights over their totals. -/
def dist (σ : FVec Ideal S1x16384x1x4x16384 .f32) : FVec Ideal S1x16384x1x4x16384 .f32 :=
  Host.divf (weights σ) (broadcastInDim S1x16384x1x4x16384 ![0, 1, 2, 3, 4] bcast_S1x16384x1x4x1_S1x16384x1x4x16384_0_1_2_3_4 (total σ))

/-- Both softmaxes of the reference are that one. -/
theorem first_eq (x0 : FVec Ideal S16384x2688 .f32) (x1 : FVec Ideal S32x12 .f32) : val_main_v85 (F := Ideal) x0 x1 = dist (val_main_v62 (F := Ideal) x0 x1) := rfl

theorem second_eq (x0 : FVec Ideal S16384x2688 .f32) (x1 : FVec Ideal S32x12 .f32) : val_main_v102 (F := Ideal) x0 x1 = dist (val_main_v68 (F := Ideal) x0 x1) := rfl

/-- A query sees itself and the keys before it. -/
theorem mask_at (q : Fin 16384) (t : Fin 16384) : val_main_v56 (F := Ideal) (ix5 0 q 0 0 t) = BitVec.ofBool (decide ((t : ℕ) ≤ q)) := by
  pointwise [val_main_v56, val_main_v55, val_main_v54, val_main_v53, val_main_v52, val_main_v51, val_main_v0]
  exact WordCmp.cmpi_sle_ofNat (by omega) (by omega)

theorem neg_inf : Ideal.ofBits .f32 0xFF800000#32 = (⊥ : EReal) := by simp [Ideal.ofBits, Ideal.ieee]

section entries
variable {s : Shape} (a b : FVec Ideal s .f32) (m : IVec s 1) (i : s.Idx)

theorem divf_at : Host.divf a b i = Ideal.div (a i) (b i) := rfl

theorem exp_at : Host.exp a i = Ideal.exp (a i) := rfl

theorem subf_at : subf a b i = a i - b i := rfl

theorem maximumf_at : maximumf a b i = max (a i) (b i) := rfl

theorem select_at : select m a b i = Scalar.select (m i) (a i) (b i) := rfl

/-- A real number below infinity is kept. -/
theorem guard_at (M : ℝ) (c : FVec Ideal s .f32) (ha : a i = ((M : ℝ) : EReal)) (hb : b i = FloatOps.ofBits .f32 0x7F800000#32) :
    select (cmpf .olt (Host.absf a) b) a c i = ((M : ℝ) : EReal) := by
  have hc : (FloatOps.cmpf (F := Ideal) (φ := .f32) .olt (FloatOps.hostAbsf (F := Ideal) (φ := .f32) ((M : ℝ) : EReal)) (FloatOps.ofBits .f32 0x7F800000#32)) = 1#1 :=
    (below_inf _).2 ⟨EReal.coe_ne_top _, EReal.coe_ne_bot _⟩
  show Scalar.select (FloatOps.cmpf (F := Ideal) (φ := .f32) .olt (FloatOps.hostAbsf (F := Ideal) (φ := .f32) (a i)) (b i)) (a i) (c i) = _
  rw [ha, hb, hc]
  rfl

end entries

section softmax
variable {σ : FVec Ideal S1x16384x1x4x16384 .f32} {q : Fin 16384} {h : Fin 4} {s : ℕ → ℝ}

/-- The scores of the later keys are `−∞`. -/
theorem keep_at (H : ∀ t : Fin 16384, (t : ℕ) ≤ q → σ (ix5 0 q 0 h t) = ((s t : ℝ) : EReal)) (t : Fin 16384) :
    keep σ (ix5 0 q 0 h t) = if (t : ℕ) ≤ q then ((s t : ℝ) : EReal) else ⊥ := by
  have e1 : val_main_call1_v1 (F := Ideal) (ix5 0 q 0 h t) = BitVec.ofBool (decide ((t : ℕ) ≤ q)) := by
    rw [← mask_at]
    pointwise [val_main_call1_v1]
  have e2 : val_main_call1_v2 (F := Ideal) (ix5 0 q 0 h t) = ⊥ := neg_inf
  unfold keep
  rw [select_at, e1, e2]
  by_cases hm : (t : ℕ) ≤ q
  · rw [if_pos hm, decide_eq_true hm, ← H t hm]; rfl
  · rw [if_neg hm, decide_eq_false hm]; rfl

/-- The row's maximum is a real number, and one of its keys attains it. -/
theorem top_real (H : ∀ t : Fin 16384, (t : ℕ) ≤ q → σ (ix5 0 q 0 h t) = ((s t : ℝ) : EReal)) :
    ∃ M : ℝ, top σ (ix4 0 q 0 h) = ((M : ℝ) : EReal) ∧ ∃ t : ℕ, t < (q : ℕ) + 1 ∧ M ≤ s t := by
  have e : top σ (ix4 0 q 0 h) = Finset.fold max (⊥ : EReal) (fun t : Fin 16384 => if (t : ℕ) ≤ q then ((s t : ℝ) : EReal) else ⊥) Finset.univ := by
    pointwise [top, val_main_cst_13]
    simp only [keep_at H, neg_inf]
  obtain ⟨M, hM⟩ := fold_max_real (fun t : Fin 16384 => if (t : ℕ) ≤ q then ((s t : ℝ) : EReal) else ⊥)
    (fun t => by split; exacts [EReal.coe_lt_top _, bot_lt_top]) q (by simp)
  refine ⟨M, e.trans hM, ?_⟩
  obtain hb | ⟨t, -, ht⟩ := (Finset.le_fold_max (M : EReal)).1 hM.ge
  · exact absurd hb (by simp)
  · split at ht
    · next hq => exact ⟨t, by omega, EReal.coe_le_coe_iff.1 ht⟩
    · exact absurd ht (by simp)

/-- The maximum, kept because it is finite. -/
theorem finiteTop_at (M : ℝ) (hM : top σ (ix4 0 q 0 h) = ((M : ℝ) : EReal)) : finiteTop σ (ix5 0 q 0 h 0) = ((M : ℝ) : EReal) := by
  have hcol : column σ (ix5 0 q 0 h 0) = ((M : ℝ) : EReal) := by
    rw [← hM]
    unfold column
    generalize top σ = y
    pointwise
  exact guard_at _ _ _ M _ hcol ((val_main_v73_apply _).trans (val_main_cst_14_apply _))

/-- A key's weight. -/
theorem weights_at (H : ∀ t : Fin 16384, (t : ℕ) ≤ q → σ (ix5 0 q 0 h t) = ((s t : ℝ) : EReal)) (M : ℝ)
    (hM : top σ (ix4 0 q 0 h) = ((M : ℝ) : EReal)) (t : Fin 16384) :
    weights σ (ix5 0 q 0 h t) = ((if (t : ℕ) < (q : ℕ) + 1 then Real.exp (s t - M) else 0 : ℝ) : EReal) := by
  have e1 : val_main_call3_v1 (F := Ideal) (ix5 0 q 0 h t) = BitVec.ofBool (decide ((t : ℕ) ≤ q)) := by
    rw [← mask_at]
    pointwise [val_main_call3_v1]
  have e2 : val_main_call3_v2 (F := Ideal) (ix5 0 q 0 h t) = ((0 : ℝ) : EReal) := Ideal.ofBits_zero_f32
  have e3 : broadcastInDim S1x16384x1x4x16384 ![0, 1, 2, 3, 4] bcast_S1x16384x1x4x1_S1x16384x1x4x16384_0_1_2_3_4 (finiteTop σ) (ix5 0 q 0 h t) = ((M : ℝ) : EReal) := by
    rw [← finiteTop_at M hM]
    generalize finiteTop σ = y
    pointwise
  unfold weights
  rw [select_at, exp_at, subf_at, e1, e2, e3, keep_at H]
  by_cases hm : (t : ℕ) ≤ q
  · rw [if_pos hm, if_pos (by omega), decide_eq_true hm, ← EReal.coe_sub]
    exact Ideal.exp_coe _
  · rw [if_neg hm, if_neg (by omega), decide_eq_false hm]
    rfl

theorem tiny_le : Ideal.ofBits .f32 0x00800000#32 ≤ (1 : EReal) := by
  rw [← EReal.coe_one]
  simp [Ideal.ofBits, Ideal.ieee, -EReal.coe_mul]
  rw [← EReal.coe_one, EReal.coe_le_coe_iff]
  norm_num

/-- The row's total weight: the guard against division by nothing does nothing. -/
theorem total_at (H : ∀ t : Fin 16384, (t : ℕ) ≤ q → σ (ix5 0 q 0 h t) = ((s t : ℝ) : EReal)) (M : ℝ)
    (hM : top σ (ix4 0 q 0 h) = ((M : ℝ) : EReal)) (ha : ∃ t : ℕ, t < (q : ℕ) + 1 ∧ M ≤ s t) :
    total σ (ix5 0 q 0 h 0) = ((∑ t ∈ Finset.range ((q : ℕ) + 1), Real.exp (s t - M) : ℝ) : EReal) := by
  have e : broadcastInDim S1x16384x1x4x1 ![0, 1, 2, 3] bcast_S1x16384x1x4_S1x16384x1x4x1_0_1_2_3
      (Host.reduceAdd (weights σ) (val_main_cst_17 (F := Ideal)) reducesTo_S1x16384x1x4x16384_S1x16384x1x4_d4 h_S_) (ix5 0 q 0 h 0)
      = ((∑ t ∈ Finset.range ((q : ℕ) + 1), Real.exp (s t - M) : ℝ) : EReal) := by
    pointwise [val_main_cst_17]
    simp only [weights_at H M hM]
    rw [coe_sum, sum_visible (by omega) (fun t => Real.exp (s t - M))]
  unfold total
  rw [maximumf_at, e, val_main_v82_apply, val_main_cst_18_apply]
  refine max_eq_left (le_trans tiny_le ?_)
  obtain ⟨t, ht, hle⟩ := ha
  rw [← EReal.coe_one, EReal.coe_le_coe_iff]
  refine le_trans (Real.one_le_exp (by linarith : 0 ≤ s t - M)) ?_
  exact Finset.single_le_sum (f := fun t => Real.exp (s t - M)) (fun _ _ => (Real.exp_pos _).le) (Finset.mem_range.2 ht)

/-- One key's share of the row's weight. -/
theorem dist_at (H : ∀ t : Fin 16384, (t : ℕ) ≤ q → σ (ix5 0 q 0 h t) = ((s t : ℝ) : EReal)) :
    ∃ M : ℝ, ∀ t : Fin 16384, dist σ (ix5 0 q 0 h t)
      = ((if (t : ℕ) < (q : ℕ) + 1 then Real.exp (s t - M) / ∑ t ∈ Finset.range ((q : ℕ) + 1), Real.exp (s t - M) else 0 : ℝ) : EReal) := by
  obtain ⟨M, hM, ha⟩ := top_real H
  refine ⟨M, fun t => ?_⟩
  have hpos := sum_exp_pos (K := (q : ℕ) + 1) (by omega) (fun t => s t - M)
  have e : broadcastInDim S1x16384x1x4x16384 ![0, 1, 2, 3, 4] bcast_S1x16384x1x4x1_S1x16384x1x4x16384_0_1_2_3_4 (total σ) (ix5 0 q 0 h t)
      = ((∑ t ∈ Finset.range ((q : ℕ) + 1), Real.exp (s t - M) : ℝ) : EReal) := by
    rw [← total_at H M hM ha]
    generalize total σ = y
    pointwise
  unfold dist
  rw [divf_at, e, weights_at H M hM, Ideal.div_coe hpos.ne', ← EReal.coe_mul]
  refine congrArg Real.toEReal ?_
  split
  · ring
  · ring

/-- A mean under one softmax. -/
theorem mean_sum (M : ℝ) (K : ℕ) (hK : K ≤ 16384) (s v : ℕ → ℝ) :
    ∑ t : Fin 16384, v t * (if (t : ℕ) < K then Real.exp (s t - M) / ∑ t ∈ Finset.range K, Real.exp (s t - M) else 0) = soft K s v := by
  rw [← soft_shift K s v M, Finset.sum_div,
    ← sum_visible (W := 16384) hK (fun t => Real.exp (s t - M) * v t / ∑ t ∈ Finset.range K, Real.exp (s t - M))]
  refine Finset.sum_congr rfl fun t _ => ?_
  split
  · ring
  · ring

end softmax

/-! ## The scores and the result -/

variable {x0 : FVec Ideal S16384x2688 .f32} {x1 : FVec Ideal S32x12 .f32} {x2 x3 x4 x5 : FVec Ideal S64 .f32} {x6 : FVec Ideal S128 .f32}
  {X Y : ℕ → ℕ → ℝ} {q1 k1 q2 k2 : Fin 64 → ℝ}

/-- The arguments the softmaxes read are real numbers. -/
structure Reals (x0 : FVec Ideal S16384x2688 .f32) (x1 : FVec Ideal S32x12 .f32) (x2 x3 x4 x5 : FVec Ideal S64 .f32) (X Y : ℕ → ℕ → ℝ)
    (q1 k1 q2 k2 : Fin 64 → ℝ) : Prop where
  query : ∀ (t : Fin 16384) (j : Fin 512), x0 (ix2 t ⟨512 + j, by omega⟩) = ((X t (512 + j) : ℝ) : EReal)
  keys : ∀ (t : Fin 16384) (j : Fin 256), x0 (ix2 t ⟨1792 + j, by omega⟩) = ((X t (1792 + j) : ℝ) : EReal)
  bias : ∀ (b : Fin 32) (h : Fin 4), x1 (ix2 b ⟨8 + h, by omega⟩) = ((Y b (8 + h) : ℝ) : EReal)
  q1 : ∀ d, x2 (ix1 d) = ((q1 d : ℝ) : EReal)
  k1 : ∀ d, x3 (ix1 d) = ((k1 d : ℝ) : EReal)
  q2 : ∀ d, x4 (ix1 d) = ((q2 d : ℝ) : EReal)
  k2 : ∀ d, x5 (ix1 d) = ((k2 d : ℝ) : EReal)

/-- A scaled query. -/
theorem query_at (H : Reals x0 x1 x2 x3 x4 x5 X Y q1 k1 q2 k2) (q : Fin 16384) (h : Fin 4) (d : Fin 128) :
    val_main_v15 (F := Ideal) x0 (ix5 0 q 0 h d) = ((X q (512 + (128 * h + d)) * (1 / 8) : ℝ) : EReal) := by
  have e : val_main_v13 (F := Ideal) x0 (ix5 0 q 0 h d) = x0 (ix2 q ⟨512 + (⟨128 * h + d, by omega⟩ : Fin 512), by dsimp only; omega⟩) := by
    pointwise [val_main_v13, val_main_v2, val_main_v1]
    simp only [Nat.mul_comm (h : ℕ) 128]
  have e2 : val_main_v14 (F := Ideal) (ix5 0 q 0 h d) = ((1 / 8 : ℝ) : EReal) := eighth
  show val_main_v13 (F := Ideal) x0 (ix5 0 q 0 h d) * _ = _
  rw [e, e2, H.query, ← EReal.coe_mul]

/-- A key. -/
theorem key_at (H : Reals x0 x1 x2 x3 x4 x5 X Y q1 k1 q2 k2) (t : Fin 16384) (d : Fin 256) :
    val_main_v4 (F := Ideal) x0 (ix4 0 t 0 d) = ((X t (1792 + d) : ℝ) : EReal) := by
  rw [← H.keys]
  pointwise [val_main_v4, val_main_v3]

/-- The bias as it is added. -/
theorem added_at (H : Reals x0 x1 x2 x3 x4 x5 X Y q1 k1 q2 k2) (q t : Fin 16384) (h : Fin 4) (hm : (t : ℕ) ≤ q) :
    val_main_v61 (F := Ideal) x1 (ix5 0 q 0 h t) = ((Y (bucket ((q : ℕ) - t)) (8 + h) : ℝ) : EReal) := by
  have hb : bucket ((q : ℕ) - t) ≤ 31 := upTo_lt _ 31
  rw [← H.bias ⟨bucket ((q : ℕ) - t), by omega⟩ h, ← bias_at x1 h hm ⟨bucket ((q : ℕ) - t), by omega⟩ rfl]
  unfold val_main_v61
  generalize val_main_v50 (F := Ideal) x1 = y
  pointwise

/-- The first half's scores. -/
theorem score0_at (H : Reals x0 x1 x2 x3 x4 x5 X Y q1 k1 q2 k2) (q t : Fin 16384) (h : Fin 4) (hm : (t : ℕ) ≤ q) :
    val_main_v62 (F := Ideal) x0 x1 (ix5 0 q 0 h t) = ((score X Y 0 h q t : ℝ) : EReal) := by
  have e : val_main_v60 (F := Ideal) x0 (ix5 0 q 0 h t) = ((dots X 0 h q t : ℝ) : EReal) := by
    pointwise [val_main_v60, val_main_v59, val_main_v58, val_main_v57]
    unfold dots
    rw [← coe_sum]
    refine Finset.sum_congr rfl fun d _ => ?_
    have e1 := query_at H q h ⟨d, by omega⟩
    have e2 := key_at H t ⟨d, by omega⟩
    dsimp only at e1 e2
    rw [e1, e2, ← EReal.coe_mul, mul_comm]
    simp only [Nat.mul_zero, Nat.zero_add]
  show val_main_v60 (F := Ideal) x0 (ix5 0 q 0 h t) + val_main_v61 (F := Ideal) x1 (ix5 0 q 0 h t) = _
  rw [e, added_at H q t h hm, ← EReal.coe_add]
  rfl

/-- The second half's scores. -/
theorem score1_at (H : Reals x0 x1 x2 x3 x4 x5 X Y q1 k1 q2 k2) (q t : Fin 16384) (h : Fin 4) (hm : (t : ℕ) ≤ q) :
    val_main_v68 (F := Ideal) x0 x1 (ix5 0 q 0 h t) = ((score X Y 1 h q t : ℝ) : EReal) := by
  have e : val_main_v66 (F := Ideal) x0 (ix5 0 q 0 h t) = ((dots X 1 h q t : ℝ) : EReal) := by
    pointwise [val_main_v66, val_main_v65, val_main_v64, val_main_v63]
    unfold dots
    rw [← coe_sum]
    refine Finset.sum_congr rfl fun d _ => ?_
    have e1 := query_at H q h ⟨64 + d, by omega⟩
    have e2 := key_at H t ⟨64 + d, by omega⟩
    dsimp only at e1 e2
    rw [e1, e2, ← EReal.coe_mul, mul_comm]
  show val_main_v66 (F := Ideal) x0 (ix5 0 q 0 h t) + val_main_v67 (F := Ideal) x1 (ix5 0 q 0 h t) = _
  rw [e, show val_main_v67 (F := Ideal) x1 = val_main_v61 (F := Ideal) x1 from rfl, added_at H q t h hm, ← EReal.coe_add]
  rfl

/-- A sum over the entries of a vector. -/
theorem sum_entries (f : S64.Idx → EReal) : ∑ i : S64.Idx, f i = ∑ d : Fin 64, f (ix1 d) :=
  Fintype.sum_equiv ⟨fun i => i 0, fun d => ix1 d, fun i => by funext a; match a with | ⟨0, _⟩ => rfl, fun d => rfl⟩ _ _
    (fun i => congrArg f (by funext a; match a with | ⟨0, _⟩ => rfl))

/-- The second half's weight. -/
theorem lam_at (H : Reals x0 x1 x2 x3 x4 x5 X Y q1 k1 q2 k2) :
    val_main_v12 (F := Ideal) x2 x3 x4 x5 (fun a => a.elim0) = ((lam q1 k1 q2 k2 : ℝ) : EReal) := by
  have e1 : val_main_v6 (F := Ideal) x2 x3 (fun a => a.elim0) = ((∑ d, q1 d * k1 d : ℝ) : EReal) := by
    rw [val_main_v6_apply, sum_entries, ← coe_sum]
    refine (congrArg₂ (· + ·) (Ideal.ofBits_zero_f32 : val_main_cst (F := Ideal) (Shape.Idx.first h_S_) = 0)
      (Finset.sum_congr rfl fun d _ => ?_ : _ = ∑ d, ((q1 d * k1 d : ℝ) : EReal))).trans (zero_add _)
    show x2 (ix1 d) * x3 (ix1 d) = _
    rw [H.q1, H.k1, ← EReal.coe_mul]
  have e2 : val_main_v9 (F := Ideal) x4 x5 (fun a => a.elim0) = ((∑ d, q2 d * k2 d : ℝ) : EReal) := by
    rw [val_main_v9_apply, sum_entries, ← coe_sum]
    refine (congrArg₂ (· + ·) (Ideal.ofBits_zero_f32 : val_main_cst_0 (F := Ideal) (Shape.Idx.first h_S_) = 0)
      (Finset.sum_congr rfl fun d _ => ?_ : _ = ∑ d, ((q2 d * k2 d : ℝ) : EReal))).trans (zero_add _)
    show x4 (ix1 d) * x5 (ix1 d) = _
    rw [H.q2, H.k2, ← EReal.coe_mul]
  show Ideal.exp (val_main_v6 (F := Ideal) x2 x3 (fun a => a.elim0)) - Ideal.exp (val_main_v9 (F := Ideal) x4 x5 (fun a => a.elim0)) + Ideal.ofBits .f32 0x3E4CCCCD#32 = _
  rw [e1, e2, Ideal.exp_coe, Ideal.exp_coe, start_eq, ← EReal.coe_sub, ← EReal.coe_add]
  rfl

/-- The difference of the two halves' means. -/
theorem diff_at (H : Reals x0 x1 x2 x3 x4 x5 X Y q1 k1 q2 k2) (q : Fin 16384) (h : Fin 4) (x : Fin 128) :
    val_main_v108 (F := Ideal) x0 x1 x2 x3 x4 x5 (ix5 0 q 0 h x) = ((diff X Y (lam q1 k1 q2 k2) h q x : ℝ) : EReal) := by
  obtain ⟨M, hM⟩ := dist_at (s := score X Y 0 h q) (fun t hm => score0_at H q t h hm)
  obtain ⟨N, hN⟩ := dist_at (s := score X Y 1 h q) (fun t hm => score1_at H q t h hm)
  have e : ∀ t : Fin 16384, val_main_v105 (F := Ideal) x0 x1 x2 x3 x4 x5 (ix5 0 q 0 h t)
      = ((((if (t : ℕ) < (q : ℕ) + 1 then Real.exp (score X Y 0 h q t - M) / ∑ t ∈ Finset.range ((q : ℕ) + 1), Real.exp (score X Y 0 h q t - M) else 0)
        - lam q1 k1 q2 k2 * (if (t : ℕ) < (q : ℕ) + 1 then Real.exp (score X Y 1 h q t - N) / ∑ t ∈ Finset.range ((q : ℕ) + 1), Real.exp (score X Y 1 h q t - N) else 0) : ℝ)) : EReal) := fun t => by
    have el : val_main_v103 (F := Ideal) x2 x3 x4 x5 (ix5 0 q 0 h t) = ((lam q1 k1 q2 k2 : ℝ) : EReal) := by
      rw [val_main_v103_apply, ← lam_at H]
    show val_main_v85 (F := Ideal) x0 x1 (ix5 0 q 0 h t) - val_main_v103 (F := Ideal) x2 x3 x4 x5 (ix5 0 q 0 h t) * val_main_v102 (F := Ideal) x0 x1 (ix5 0 q 0 h t) = _
    rw [first_eq, second_eq, hM, hN, el, ← EReal.coe_mul, ← EReal.coe_sub]
  have ev : ∀ t : Fin 16384, val_main_v106 (F := Ideal) x0 (ix4 0 t 0 x) = ((value X t x : ℝ) : EReal) := fun t => by
    have e2 := key_at H t ⟨128 + x, by omega⟩
    dsimp only at e2
    rw [value, show 1920 + (x : ℕ) = 1792 + (128 + x) by omega, ← e2]
    unfold val_main_v106
    generalize val_main_v4 (F := Ideal) x0 = y
    pointwise
  have e4 : val_main_v108 (F := Ideal) x0 x1 x2 x3 x4 x5 (ix5 0 q 0 h x)
      = ∑ t : Fin 16384, val_main_v106 (F := Ideal) x0 (ix4 0 t 0 x) * val_main_v105 (F := Ideal) x0 x1 x2 x3 x4 x5 (ix5 0 q 0 h t) := by
    unfold val_main_v108 val_main_v107
    generalize val_main_v106 (F := Ideal) x0 = y
    generalize val_main_v105 (F := Ideal) x0 x1 x2 x3 x4 x5 = z
    pointwise
  rw [e4]
  simp only [ev, e, ← EReal.coe_mul]
  rw [coe_sum]
  refine congrArg Real.toEReal ?_
  unfold diff mean
  rw [← mean_sum M _ (by omega) (score X Y 0 h q), ← mean_sum N _ (by omega) (score X Y 1 h q), Finset.mul_sum, ← Finset.sum_sub_distrib]
  exact Finset.sum_congr rfl fun t _ => by ring

/-- One entry of the reference's result. -/
theorem out_at (H : Reals x0 x1 x2 x3 x4 x5 X Y q1 k1 q2 k2) (q : Fin 16384) (h : Fin 4) (x : Fin 128) :
    val_main_v124 (F := Ideal) x0 x1 x2 x3 x4 x5 x6 (ix2 q ⟨128 * (h : ℕ) + x, by omega⟩)
      = norm (fun x => ((diff X Y (lam q1 k1 q2 k2) h q x : ℝ) : EReal)) (fun x => x6 (ix1 x)) x := by
  have hd := diff_at H q h
  have e1 : val_main_v116 (F := Ideal) x0 x1 x2 x3 x4 x5 (ix5 0 q 0 h 0)
      = Ideal.rsqrt (Ideal.div (∑ j : Fin 128, ((diff X Y (lam q1 k1 q2 k2) h q j : ℝ) : EReal) * ((diff X Y (lam q1 k1 q2 k2) h q j : ℝ) : EReal))
        (Ideal.ofBits .f32 0x43000000#32) + Ideal.ofBits .f32 0x358637BD#32) := by
    have e2 : val_main_v111 (F := Ideal) x0 x1 x2 x3 x4 x5 (ix5 0 q 0 h 0)
        = ∑ j : Fin 128, ((diff X Y (lam q1 k1 q2 k2) h q j : ℝ) : EReal) * ((diff X Y (lam q1 k1 q2 k2) h q j : ℝ) : EReal) := by
      unfold val_main_v111 val_main_v110 val_main_v109
      generalize val_main_v108 (F := Ideal) x0 x1 x2 x3 x4 x5 = y at hd ⊢
      pointwise [val_main_cst_26]
      simp only [hd]
    rw [← e2]
    rfl
  have e3 : val_main_v117 (F := Ideal) x0 x1 x2 x3 x4 x5 (ix5 0 q 0 h x) = val_main_v116 (F := Ideal) x0 x1 x2 x3 x4 x5 (ix5 0 q 0 h 0) := by
    unfold val_main_v117
    generalize val_main_v116 (F := Ideal) x0 x1 x2 x3 x4 x5 = y
    pointwise
  have e4 : val_main_v120 (F := Ideal) x6 (ix5 0 q 0 h x) = x6 (ix1 x) := by
    pointwise [val_main_v120, val_main_v119]
  have e5 : val_main_v124 (F := Ideal) x0 x1 x2 x3 x4 x5 x6 (ix2 q ⟨128 * (h : ℕ) + x, by omega⟩)
      = val_main_v123 (F := Ideal) x0 x1 x2 x3 x4 x5 x6 (ix5 0 q 0 h x) := by
    unfold val_main_v124
    generalize val_main_v123 (F := Ideal) x0 x1 x2 x3 x4 x5 x6 = y
    pointwise
  rw [e5]
  show val_main_v108 (F := Ideal) x0 x1 x2 x3 x4 x5 (ix5 0 q 0 h x) * val_main_v117 (F := Ideal) x0 x1 x2 x3 x4 x5 (ix5 0 q 0 h x)
    * val_main_v120 (F := Ideal) x6 (ix5 0 q 0 h x) * Ideal.ofBits .f32 0x3F4CCCCD#32 = _
  rw [e3, e4, e1, hd]
  rfl

/-- The reference's result array. -/
theorem result (H : Reals x0 x1 x2 x3 x4 x5 X Y q1 k1 q2 k2) :
    val_main_v124 (F := Ideal) x0 x1 x2 x3 x4 x5 x6
      = fun i : S16384x512.Idx => table X Y (lam q1 k1 q2 k2) (fun x => x6 (ix1 x)) (i 0) (i 1) := by
  funext i
  obtain ⟨q, b, rfl⟩ : ∃ (q : Fin 16384) (b : Fin 512), i = ix2 q b := ⟨i 0, i 1, by funext a; match a with | ⟨0, _⟩ => rfl | ⟨1, _⟩ => rfl⟩
  rw [show (ix2 q b : S16384x512.Idx) = ix2 q ⟨128 * ((b : ℕ) / 128) + (b : ℕ) % 128, by omega⟩ from congrArg (ix2 q) (Fin.ext (by dsimp only; omega))]
  refine (out_at (x6 := x6) H q ⟨(b : ℕ) / 128, by omega⟩ ⟨(b : ℕ) % 128, by omega⟩).trans ?_
  exact congrArg (table X Y (lam q1 k1 q2 k2) (fun x => x6 (ix1 x)) q) (Fin.ext (by dsimp only; omega) : b = ⟨128 * ((b : ℕ) / 128) + (b : ℕ) % 128, by omega⟩)

end Cert.DiffPlainIdeal.Ref
end
-- ==== Proof.DiffPost.lean ====
/- The predicate `matches_diff` asks of every entry of an array that it equals the entry of the reference program `DiffPlain`:
   its operations are those of `DiffPlain`, followed by the comparison. -/
module

public import proofs.«01_k».proof.Post_matches_diff
public import proofs.«01_k».proof.Proof.Gen.DiffPlainIdeal
public import proofs.«01_k».proof.Proof.Gen.DiffPlainIdeal.Read

@[expose] public section

noncomputable section

namespace Cert.DiffPlainIdeal.Post

open Cert.DiffPlainIdeal Cert.DiffPlainIdeal.Gen Cert.DiffPlainIdeal.Read Idealize.ShloMosaic

/-- The shape relations that the predicate takes are the reference's. -/
theorem facts : Cert.Post_matches_diff.Facts where
  slices_S16384x2688_S16384x512_0_512 := Cert.DiffPlainIdeal.Gen.slices_S16384x2688_S16384x512_0_512
  shapeCasts_S16384x512_S1x16384x4x128 := Cert.DiffPlainIdeal.Gen.shapeCasts_S16384x512_S1x16384x4x128
  slices_S16384x2688_S16384x256_0_1792 := Cert.DiffPlainIdeal.Gen.slices_S16384x2688_S16384x256_0_1792
  shapeCasts_S16384x256_S1x16384x1x256 := Cert.DiffPlainIdeal.Gen.shapeCasts_S16384x256_S1x16384x1x256
  reducesTo_S64_S_d0 := Cert.DiffPlainIdeal.Gen.reducesTo_S64_S_d0
  h_S_ := Cert.DiffPlainIdeal.Gen.h_S_
  shapeCasts_S1x16384x4x128_S1x16384x1x4x128 := Cert.DiffPlainIdeal.Gen.shapeCasts_S1x16384x4x128_S1x16384x1x4x128
  bcast_S_S1x16384x1x4x128 := Cert.DiffPlainIdeal.Gen.bcast_S_S1x16384x1x4x128
  slices_S32x12_S32x4_0_8 := Cert.DiffPlainIdeal.Gen.slices_S32x12_S32x4_0_8
  shapeCasts_S32x4_S32x1x4 := Cert.DiffPlainIdeal.Gen.shapeCasts_S32x4_S32x1x4
  bcast_S16384_S16384x1_0 := Cert.DiffPlainIdeal.Gen.bcast_S16384_S16384x1_0
  bcast_S16384_S1x16384_1 := Cert.DiffPlainIdeal.Gen.bcast_S16384_S1x16384_1
  bcast_S16384x1_S16384x16384_0_1 := Cert.DiffPlainIdeal.Gen.bcast_S16384x1_S16384x16384_0_1
  bcast_S1x16384_S16384x16384_0_1 := Cert.DiffPlainIdeal.Gen.bcast_S1x16384_S16384x16384_0_1
  bcast_S_S16384x16384 := Cert.DiffPlainIdeal.Gen.bcast_S_S16384x16384
  bcast_S16384x16384_S16384x16384x1_0_1 := Cert.DiffPlainIdeal.Gen.bcast_S16384x16384_S16384x16384x1_0_1
  transposes_S16384x16384x1x4_S16384x1x4x16384_0_2_3_1 := Cert.DiffPlainIdeal.Gen.transposes_S16384x16384x1x4_S16384x1x4x16384_0_2_3_1
  bcast_S16384x16384_S1x16384x1x1x16384_1_4 := Cert.DiffPlainIdeal.Gen.bcast_S16384x16384_S1x16384x1x1x16384_1_4
  slices_S1x16384x1x4x128_S1x16384x1x4x64_0_0_0_0_0 := Cert.DiffPlainIdeal.Gen.slices_S1x16384x1x4x128_S1x16384x1x4x64_0_0_0_0_0
  slices_S1x16384x1x256_S1x16384x1x64_0_0_0_0 := Cert.DiffPlainIdeal.Gen.slices_S1x16384x1x256_S1x16384x1x64_0_0_0_0
  transposes_S1x1x16384x16384x4_S1x16384x1x4x16384_0_3_1_4_2 := Cert.DiffPlainIdeal.Gen.transposes_S1x1x16384x16384x4_S1x16384x1x4x16384_0_3_1_4_2
  bcast_S16384x1x4x16384_S1x16384x1x4x16384_1_2_3_4 := Cert.DiffPlainIdeal.Gen.bcast_S16384x1x4x16384_S1x16384x1x4x16384_1_2_3_4
  slices_S1x16384x1x4x128_S1x16384x1x4x64_0_0_0_0_64 := Cert.DiffPlainIdeal.Gen.slices_S1x16384x1x4x128_S1x16384x1x4x64_0_0_0_0_64
  slices_S1x16384x1x256_S1x16384x1x64_0_0_0_64 := Cert.DiffPlainIdeal.Gen.slices_S1x16384x1x256_S1x16384x1x64_0_0_0_64
  bcast_S1x16384x1x1x16384_S1x16384x1x4x16384_0_1_2_3_4 := Cert.DiffPlainIdeal.Gen.bcast_S1x16384x1x1x16384_S1x16384x1x4x16384_0_1_2_3_4
  bcast_S_S1x16384x1x4x16384 := Cert.DiffPlainIdeal.Gen.bcast_S_S1x16384x1x4x16384
  reducesTo_S1x16384x1x4x16384_S1x16384x1x4_d4 := Cert.DiffPlainIdeal.Gen.reducesTo_S1x16384x1x4x16384_S1x16384x1x4_d4
  bcast_S1x16384x1x4_S1x16384x1x4x1_0_1_2_3 := Cert.DiffPlainIdeal.Gen.bcast_S1x16384x1x4_S1x16384x1x4x1_0_1_2_3
  bcast_S_S1x16384x1x4x1 := Cert.DiffPlainIdeal.Gen.bcast_S_S1x16384x1x4x1
  bcast_S1x16384x1x4x1_S1x16384x1x4x16384_0_1_2_3_4 := Cert.DiffPlainIdeal.Gen.bcast_S1x16384x1x4x1_S1x16384x1x4x16384_0_1_2_3_4
  slices_S1x16384x1x256_S1x16384x1x128_0_0_0_128 := Cert.DiffPlainIdeal.Gen.slices_S1x16384x1x256_S1x16384x1x128_0_0_0_128
  transposes_S1x1x128x16384x4_S1x16384x1x4x128_0_3_1_4_2 := Cert.DiffPlainIdeal.Gen.transposes_S1x1x128x16384x4_S1x16384x1x4x128_0_3_1_4_2
  reducesTo_S1x16384x1x4x128_S1x16384x1x4_d4 := Cert.DiffPlainIdeal.Gen.reducesTo_S1x16384x1x4x128_S1x16384x1x4_d4
  bcast_S1x16384x1x4x1_S1x16384x1x4x128_0_1_2_3_4 := Cert.DiffPlainIdeal.Gen.bcast_S1x16384x1x4x1_S1x16384x1x4x128_0_1_2_3_4
  bcast_S128_S1x1x1x1x128_4 := Cert.DiffPlainIdeal.Gen.bcast_S128_S1x1x1x1x128_4
  bcast_S1x1x1x1x128_S1x16384x1x4x128_0_1_2_3_4 := Cert.DiffPlainIdeal.Gen.bcast_S1x1x1x1x128_S1x16384x1x4x128_0_1_2_3_4
  shapeCasts_S1x16384x1x4x128_S16384x512 := Cert.DiffPlainIdeal.Gen.shapeCasts_S1x16384x1x4x128_S16384x512
  gather_S32x1x4_S16384x16384x1_S16384x16384x1x4_23_0_n_n_0_2_114_wf := Cert.DiffPlainIdeal.Gen.gather_S32x1x4_S16384x16384x1_S16384x16384x1x4_23_0_n_n_0_2_114_wf
  dot_S1x16384x1x64_S1x16384x1x4x64_S1x1x16384x16384x4_3_4_1_13_02_02_wf := Cert.DiffPlainIdeal.Gen.dot_S1x16384x1x64_S1x16384x1x4x64_S1x1x16384x16384x4_3_4_1_13_02_02_wf
  dot_S1x16384x1x128_S1x16384x1x4x16384_S1x1x128x16384x4_1_4_3_13_02_02_wf := Cert.DiffPlainIdeal.Gen.dot_S1x16384x1x128_S1x16384x1x4x16384_S1x1x128x16384x4_1_4_3_13_02_02_wf

variable {F : FTy → Type} [FloatOps F] [hP : Cert.Post_matches_diff.Facts]
variable (x0 : (⟨S16384x2688, .f32⟩ : BufTy).Contents (Elt F)) (x1 : (⟨S32x12, .f32⟩ : BufTy).Contents (Elt F)) (x2 : (⟨S64, .f32⟩ : BufTy).Contents (Elt F)) (x3 : (⟨S64, .f32⟩ : BufTy).Contents (Elt F)) (x4 : (⟨S64, .f32⟩ : BufTy).Contents (Elt F)) (x5 : (⟨S64, .f32⟩ : BufTy).Contents (Elt F)) (x6 : (⟨S128, .f32⟩ : BufTy).Contents (Elt F)) (y : (⟨S16384x512, .f32⟩ : BufTy).Contents (Elt F))

/-- The last operations of the predicate: the root-mean-square normalization, the gains and the comparison. -/
theorem part6 : Cert.Post_matches_diff.fn_part6 (F := F) x6 y (val_main_v108 (F := F) x0 x1 x2 x3 x4 x5) (val_main_v113 (F := F) x0 x1 x2 x3 x4 x5)
    = cmpf .oeq y (val_main_v124 (F := F) x0 x1 x2 x3 x4 x5 x6) :=
  rfl

/-- The predicate from its part 5 on. -/
theorem part5 : Cert.Post_matches_diff.fn_part5 (F := F) x6 y (val_main_v4 (F := F) x0) (val_main_v12 (F := F) x2 x3 x4 x5) (val_main_v56 (F := F)) (val_main_v85 (F := F) x0 x1) (val_main_v94 (F := F) x0 x1)
    = cmpf .oeq y (val_main_v124 (F := F) x0 x1 x2 x3 x4 x5 x6) :=
  (show _ = Cert.Post_matches_diff.fn_part6 (F := F) x6 y (val_main_v108 (F := F) x0 x1 x2 x3 x4 x5) (val_main_v113 (F := F) x0 x1 x2 x3 x4 x5) from rfl).trans (part6 ..)

/-- The predicate from its part 4 on. -/
theorem part4 : Cert.Post_matches_diff.fn_part4 (F := F) x6 y (val_main_v4 (F := F) x0) (val_main_v12 (F := F) x2 x3 x4 x5) (val_main_v56 (F := F)) (val_main_v68 (F := F) x0 x1) (val_main_v77 (F := F) x0 x1)
    = cmpf .oeq y (val_main_v124 (F := F) x0 x1 x2 x3 x4 x5 x6) :=
  (show _ = Cert.Post_matches_diff.fn_part5 (F := F) x6 y (val_main_v4 (F := F) x0) (val_main_v12 (F := F) x2 x3 x4 x5) (val_main_v56 (F := F)) (val_main_v85 (F := F) x0 x1) (val_main_v94 (F := F) x0 x1) from rfl).trans (part5 ..)

/-- The predicate from its part 3 on. -/
theorem part3 : Cert.Post_matches_diff.fn_part3 (F := F) x6 y (val_main_v4 (F := F) x0) (val_main_v12 (F := F) x2 x3 x4 x5) (val_main_v15 (F := F) x0) (val_main_v50 (F := F) x1) (val_main_v56 (F := F)) (val_main_v57 (F := F) x0)
    = cmpf .oeq y (val_main_v124 (F := F) x0 x1 x2 x3 x4 x5 x6) :=
  (show _ = Cert.Post_matches_diff.fn_part4 (F := F) x6 y (val_main_v4 (F := F) x0) (val_main_v12 (F := F) x2 x3 x4 x5) (val_main_v56 (F := F)) (val_main_v68 (F := F) x0 x1) (val_main_v77 (F := F) x0 x1) from rfl).trans (part4 ..)

/-- The predicate from its part 2 on. -/
theorem part2 : Cert.Post_matches_diff.fn_part2 (F := F) x6 y (val_main_v0 (F := F)) (val_main_v4 (F := F) x0) (val_main_v12 (F := F) x2 x3 x4 x5) (val_main_v15 (F := F) x0) (val_main_v17 (F := F) x1) (val_main_v24 (F := F)) (val_main_v37 (F := F))
    = cmpf .oeq y (val_main_v124 (F := F) x0 x1 x2 x3 x4 x5 x6) :=
  (show _ = Cert.Post_matches_diff.fn_part3 (F := F) x6 y (val_main_v4 (F := F) x0) (val_main_v12 (F := F) x2 x3 x4 x5) (val_main_v15 (F := F) x0) (val_main_v50 (F := F) x1) (val_main_v56 (F := F)) (val_main_v57 (F := F) x0) from rfl).trans (part3 ..)

/-- The predicate from its part 1 on. -/
theorem part1 : Cert.Post_matches_diff.fn_part1 (F := F) x6 y (val_main_v0 (F := F)) (val_main_v4 (F := F) x0) (val_main_v12 (F := F) x2 x3 x4 x5) (val_main_v15 (F := F) x0) (val_main_v17 (F := F) x1) (val_main_v18 (F := F)) (val_main_v19 (F := F))
    = cmpf .oeq y (val_main_v124 (F := F) x0 x1 x2 x3 x4 x5 x6) :=
  (show _ = Cert.Post_matches_diff.fn_part2 (F := F) x6 y (val_main_v0 (F := F)) (val_main_v4 (F := F) x0) (val_main_v12 (F := F) x2 x3 x4 x5) (val_main_v15 (F := F) x0) (val_main_v17 (F := F) x1) (val_main_v24 (F := F)) (val_main_v37 (F := F)) from rfl).trans (part2 ..)

/-- The predicate compares the given array with the result array of the reference program. -/
theorem matches_eq : Cert.Post_matches_diff.fn (F := F) x0 x1 x2 x3 x4 x5 x6 y
    = cmpf .oeq y (val_main_v124 (F := F) x0 x1 x2 x3 x4 x5 x6) :=
  (show _ = Cert.Post_matches_diff.fn_part1 (F := F) x6 y (val_main_v0 (F := F)) (val_main_v4 (F := F) x0) (val_main_v12 (F := F) x2 x3 x4 x5) (val_main_v15 (F := F) x0) (val_main_v17 (F := F) x1) (val_main_v18 (F := F)) (val_main_v19 (F := F)) from rfl).trans (part1 ..)

end Cert.DiffPlainIdeal.Post

end

end
-- ==== Proof.LateModel.lean ====
module

public import proofs.«01_k».proof.Proof.Buckets

@[expose] public section

noncomputable section

/-! # The second layer's differential attention in real numbers

The prompt's features and the table of biases as functions of row and column. A head has two halves of 64 query columns;
each half attends on its own, and the result is the first half's mean less `lam` times the second's. -/

namespace Cert.LateModel

open Idealize.ShloMosaic Cert.Softmax Cert.Buckets

variable (X : ℕ → ℕ → ℝ) (Y : ℕ → ℕ → ℝ)

/-- The product of half `p` of a query with the same half of a key. -/
def dots (p h q t : ℕ) : ℝ := ∑ d : Fin 64, X q (512 + (128 * h + (64 * p + d))) * (1 / 8) * X t (1792 + (64 * p + d))

/-- The score of a key: the product and the bias of the distance. -/
def score (p h q t : ℕ) : ℝ := dots X p h q t + Y (bucket (q - t)) (8 + h)

/-- A key's value. -/
def value (t x : ℕ) : ℝ := X t (1920 + x)

/-- The mean of the values of the keys `0 … q` that half `p` sees. -/
def mean (p h q x : ℕ) : ℝ := soft (q + 1) (score X Y p h q) (fun t => value X t x)

/-- The difference of the two halves' means. -/
def diff (lam : ℝ) (h q x : ℕ) : ℝ := mean X Y 0 h q x - lam * mean X Y 1 h q x

/-- A row of 128, divided by the root of its mean square, scaled entry by entry and by a constant. -/
def norm (o g : Fin 128 → EReal) (x : Fin 128) : EReal :=
  o x * Ideal.rsqrt (Ideal.div (∑ j : Fin 128, o j * o j) (Ideal.ofBits .f32 0x43000000#32) + Ideal.ofBits .f32 0x358637BD#32) * g x
    * Ideal.ofBits .f32 0x3F24FD5C#32

/-- The weight of the second half, from the four vectors of lambda. -/
def lam (q1 k1 q2 k2 : Fin 64 → ℝ) : ℝ :=
  Real.exp (∑ d, q1 d * k1 d) - Real.exp (∑ d, q2 d * k2 d) + (Ideal.ofBits .f32 0x3EB60549#32).toReal

theorem start_eq : Ideal.ofBits .f32 0x3EB60549#32 = (((Ideal.ofBits .f32 0x3EB60549#32).toReal : ℝ) : EReal) := by
  have h : Ideal.ofBits .f32 0x3EB60549#32 ≠ ⊤ ∧ Ideal.ofBits .f32 0x3EB60549#32 ≠ ⊥ := by
    simp [Ideal.ofBits, Ideal.ieee, -EReal.coe_mul]
  exact (EReal.coe_toReal h.1 h.2).symm

/-- The factor on the queries. -/
theorem eighth : Ideal.ofBits .f32 0x3E000000#32 = ((1 / 8 : ℝ) : EReal) := by
  simp [Ideal.ofBits, Ideal.ieee, -EReal.coe_mul]
  norm_num

/-- The whole result: head by head, 128 features each. -/
def table (l : ℝ) (g : Fin 128 → EReal) (q : Fin 16384) (b : Fin 512) : EReal :=
  norm (fun x => ((diff X Y l ((b : ℕ) / 128) q x : ℝ) : EReal)) g ⟨(b : ℕ) % 128, by omega⟩

end Cert.LateModel

end
-- ==== Proof.LateHost.lean ====
module

public import proofs.«01_k».proof.Proof.Gen.LateIdeal.Value
public import proofs.«01_k».proof.Proof.LateModel
public import Idealize.ShloMosaic.Lib.WordCmp
public import Idealize.ShloMosaic.Lib.StableHlo.ReadAt
public import Idealize.ShloMosaic.Lib.Pipeline.ValueKit

@[expose] public section

set_option maxRecDepth 16384

noncomputable section

/-! # The second layer's differential attention's arguments

The host cuts keys and values out of the features, and lays the table of biases out as two tiles per head: one for the
diagonal, one for the tile before it. -/

namespace Cert.LateIdeal.Host

open Idealize.ShloMosaic Idealize.ShloMosaic.TcCoe Cert.LateIdeal Cert.LateIdeal.Gen Cert.Buckets

variable (m : (ℓ : Loc nD τ sig) → Buf (Elt Ideal) ℓ) (c : Dev nD)

/-- The features of the prompt. -/
abbrev features : FVec Ideal S16384x2688 .f32 := m ((c : Thread nD τ).loc main_arg0)
/-- The table of biases. -/
abbrev biases : FVec Ideal S32x12 .f32 := m ((c : Thread nD τ).loc main_arg1)
/-- The four vectors of lambda. -/
abbrev lq1 : FVec Ideal S64 .f32 := m ((c : Thread nD τ).loc main_arg2)
abbrev lk1 : FVec Ideal S64 .f32 := m ((c : Thread nD τ).loc main_arg3)
abbrev lq2 : FVec Ideal S64 .f32 := m ((c : Thread nD τ).loc main_arg4)
abbrev lk2 : FVec Ideal S64 .f32 := m ((c : Thread nD τ).loc main_arg5)
/-- The gains. -/
abbrev gains : FVec Ideal S128 .f32 := m ((c : Thread nD τ).loc main_arg6)

theorem k_entry (T : Fin 64) (d : Fin 128) (t : Fin 256) :
    (V m c main_v193 : FVec Ideal S64x128x256 .bf16) (ix3 T d t) = features m c (ix2 ⟨256 * (T : ℕ) + t, by omega⟩ ⟨1792 + d, by omega⟩) := by
  unfold V
  after_reads_at
  simp only [Nat.mul_comm (T : ℕ) 256]

theorem v_entry (y : Fin 16384) (d : Fin 256) :
    (V m c main_v196 : FVec Ideal S16384x256 .bf16) (ix2 y d)
      = if hd : (d : ℕ) < 128 then features m c (ix2 y ⟨1920 + d, by omega⟩) else 1 := by
  unfold V
  after_reads_at
  split
  · congr 2
    apply Fin.ext
    dsimp only
    omega
  · rfl

theorem g_entry (x : Fin 128) : (V m c main_v197 : FVec Ideal S1x128 .f32) (ix2 0 x) = gains m c (ix1 x) := by
  unfold V
  after_reads_at

theorem l_entry (d : Fin 64) :
    (V m c main_v188 : FVec Ideal S4x64 .f32) (ix2 0 d) = lq1 m c (ix1 d) ∧ (V m c main_v188 : FVec Ideal S4x64 .f32) (ix2 1 d) = lk1 m c (ix1 d)
      ∧ (V m c main_v188 : FVec Ideal S4x64 .f32) (ix2 2 d) = lq2 m c (ix1 d) ∧ (V m c main_v188 : FVec Ideal S4x64 .f32) (ix2 3 d) = lk2 m c (ix1 d) := by
  unfold V
  refine ⟨?_, ?_, ?_, ?_⟩
  all_goals
    after_reads_at
    after_reads_at

/-! ## The tiles of biases -/

/-- The host's choice by first distances, the distance a word. -/
def chain (w : BitVec 32) (f : ℕ → EReal) : ℕ → EReal
  | 0 => f 0
  | b + 1 => Scalar.select (α := EReal) (IntOp.cmpi .sge w (BitVec.ofNat 32 (thr (b + 1)))) (f (b + 1)) (chain w f b)

/-- The choice by a comparison of small words. -/
theorem choose (d b : ℕ) (hd : d < 512) (hb : b < 512) (x y : EReal) :
    Scalar.select (α := EReal) (IntOp.cmpi .sge (BitVec.ofNat 32 d) (BitVec.ofNat 32 b)) x y = if b ≤ d then x else y := by
  have h := WordCmp.cmpi_sge_ofNat (a := d) (b := b) (w := 32) (lt_trans hd (by norm_num)) (lt_trans hb (by norm_num))
  rw [h]
  by_cases h : b ≤ d <;> simp [h, Scalar.select]

theorem thr_small : ∀ b : Fin 31, thr ((b : ℕ) + 1) < 512 := by decide

/-- The host's choice is the one at the bucket. -/
theorem chain_eq {w : BitVec 32} {d : ℕ} (hw : w = BitVec.ofNat 32 d) (hd : d < 512) (f : ℕ → EReal) : chain w f 31 = f (bucket d) :=
  pick f d (chain w f) rfl fun b hb => by rw [chain, hw, choose d _ hd (thr_small ⟨b, hb⟩)]

/-- The difference of two small words. -/
theorem distance {r t : ℕ} (h : t ≤ r) (hr : r < 512) : IntOp.subi (BitVec.ofNat 32 r) (BitVec.ofNat 32 t) = BitVec.ofNat 32 (r - t) := by
  apply BitVec.eq_of_toNat_eq
  simp [IntOp.subi, BitVec.toNat_sub]
  omega

/-- The biases of a head by bucket. -/
def row (h : Fin 4) (b : ℕ) : EReal := biases m c (ix2 ⟨b % 32, by omega⟩ ⟨8 + h, by omega⟩)

set_option maxHeartbeats 8000000 in
/-- The diagonal's tile of biases, where the key is not beyond the query. -/
theorem t_entry0 (h : Fin 4) (r t : Fin 256) (ht : (t : ℕ) ≤ r) :
    (V m c main_v183 : FVec Ideal S4x2x256x256 .f32) (ix4 h 0 r t) = row m c h (bucket (r - t)) - row m c h 31 := by
  unfold V
  after_reads_at
  after_reads_at
  exact congrArg (· - row m c h 31) (chain_eq (distance ht (by omega)) (by omega) (row m c h))

set_option maxHeartbeats 8000000 in
/-- The tile of biases before the diagonal. -/
theorem t_entry1 (h : Fin 4) (r t : Fin 256) :
    (V m c main_v183 : FVec Ideal S4x2x256x256 .f32) (ix4 h 1 r t) = row m c h (bucket (256 + r - t)) - row m c h 31 := by
  have e : IntOp.subi (IntOp.addi (256#32) (BitVec.ofNat 32 r)) (BitVec.ofNat 32 t) = BitVec.ofNat 32 (256 + r - t) := by
    rw [show IntOp.addi (256#32) (BitVec.ofNat 32 r) = BitVec.ofNat 32 (256 + r) from WordCmp.addi_ofNat _ _]
    exact distance (by omega) (by omega)
  unfold V
  after_reads_at
  after_reads_at
  exact congrArg (· - row m c h 31) (chain_eq e (by omega) (row m c h))

/-! ## The blocks of a grid point -/

theorem index0 : ∀ t : Fin cfg0.N, win0_0.index t = ![(grid0.coords t 0 : ℕ), 1] :=
  (by decide +kernel : ∀ t : Fin grid0.N, win0_0.index t = ![(grid0.coords t 0 : ℕ), 1])
theorem index1 : ∀ t : Fin cfg0.N, win0_1.index t = ![0, 0, 0] := (by decide +kernel : ∀ t : Fin grid0.N, win0_1.index t = ![0, 0, 0])
theorem index2 : ∀ t : Fin cfg0.N, win0_2.index t = ![0, 0] := (by decide +kernel : ∀ t : Fin grid0.N, win0_2.index t = ![0, 0])
theorem index3 : ∀ t : Fin cfg0.N, win0_3.index t = ![0, 0, 0, 0] := (by decide +kernel : ∀ t : Fin grid0.N, win0_3.index t = ![0, 0, 0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![(grid0.coords t 0 : ℕ), 0] :=
  (by decide +kernel : ∀ t : Fin grid0.N, win0_6.index t = ![(grid0.coords t 0 : ℕ), 0])

theorem block0 (t : Fin cfg0.N) (a b : Fin 512) (T : Fin 16384) (hT : (T : ℕ) = 512 * (grid0.coords t 0 : ℕ) + a) :
    (X0_0 m c t : Vec Ideal S512x512 .f32) (ix2 a b) = features m c (ix2 T ⟨512 + b, by omega⟩) := by
  unfold X0_0 Pipeline.Window.fill
  rw [dif_pos (moved0_0 t _)]
  blk_simp [iblk]
  congr 1
  blk_ext [index0]

theorem block1 (t : Fin cfg0.N) : (iblk m c 1 t : Vec Ideal S64x128x256 .bf16) = V m c main_v193 := by
  funext y
  blk_simp [iblk]
  congr 1
  blk_ext [index1]

theorem block2 (t : Fin cfg0.N) : (iblk m c 2 t : Vec Ideal S16384x256 .bf16) = V m c main_v196 := by
  funext y
  blk_simp [iblk]
  congr 1
  blk_ext [index2]

theorem block3 (t : Fin cfg0.N) : (iblk m c 3 t : Vec Ideal S4x2x256x256 .f32) = V m c main_v183 := by
  funext y
  blk_simp [iblk]
  congr 1
  blk_ext [index3]

theorem block4 (t : Fin cfg0.N) : (iblk m c 4 t : Vec Ideal S4x64 .f32) = V m c main_v188 := by
  funext y
  blk_simp [iblk]
  congr 1
  blk_ext [index4]

theorem block5 (t : Fin cfg0.N) : (iblk m c 5 t : Vec Ideal S1x128 .f32) = V m c main_v197 := by
  funext y
  blk_simp [iblk]
  congr 1
  blk_ext [index5]

theorem covers : (win0_6).Covers := by decide +kernel

end Cert.LateIdeal.Host

end
-- ==== Proof.LateStep.lean ====
module

public import proofs.«01_k».proof.Proof.Gen.LateIdeal.Value
public import proofs.«01_k».proof.Proof.Slots

@[expose] public section

set_option maxRecDepth 16384

noncomputable section

/-! # The second layer's differential attention's steps

The kernel keeps, for each of two row blocks, two softmaxes and four heads, one slot of queries, one of running row
maxima and one of weighted sums. Far key tiles add no bias; the tile before the diagonal and the diagonal's tiles add a
tile of biases. The joint steps on maxima and sums are those of `Step`. -/

namespace Cert.LateIdeal.Step

open Idealize.ShloMosaic Idealize.ShloMosaic.TcCoe Cert.LateIdeal.Gen
open Cert.KernelIdeal.Step (lo hi max1 max2 sum1 sum2 wrapM wrapA valueRows firstRows masked slots slotM slotA slotM_inb slotA_inb Stores fill)

variable {F : FTy → Type} [FloatOps F] [Named F]

/-- The scores of one query block against one key tile. -/
def score (q : Vec F S1x256x128 .bf16) (k : Vec F S1x128x256 .bf16) : FVec F S256x256 .f32 :=
  matmul dot_S256x128_S128x256_S256x256_1_0_0_1_n_n none (shapeCast S256x128 q shapeCasts_S1x256x128_S256x128 : FVec F S256x128 .bf16)
    (shapeCast S128x256 k shapeCasts_S1x128x256_S128x256 : FVec F S128x256 .bf16) (constant S256x256 .f32 0x00000000#32)

/-- Scores with a tile of biases added. -/
def biased (s : FVec F S256x256 .f32) (b : Vec F S1x1x256x256 .f32) : FVec F S256x256 .f32 :=
  addf s (shapeCast S256x256 b shapeCasts_S1x1x256x256_S256x256 : FVec F S256x256 .f32)

/-! ## The queries -/

/-- The lane of each entry of a query block. -/
def lane : IVec S256x128 32 := iota .tc S256x128 32 [1] iota_S256x128_d1_w32

/-- The queries, scaled. -/
def scaled (q : Vec F S256x512 .f32) : FVec F S256x512 .f32 :=
  mulf q (broadcast S256x512 (Scalar.ofBits .f32 0x3E000000#32 : F .f32))

/-- One head's queries for the first softmax: the lanes below 64. -/
def first (x : FVec F S256x128 .f32) : FVec F S256x128 .bf16 :=
  truncf .bf16 (select (cmpi .slt lane (broadcast S256x128 64#32)) x (broadcast S256x128 (Scalar.ofBits .f32 0x00000000#32 : F .f32))) bitsLt_bf16_f32

/-- One head's queries for the second softmax: the lanes from 64 on. -/
def second (x : FVec F S256x128 .f32) : FVec F S256x128 .bf16 :=
  truncf .bf16 (select (cmpi .sge lane (broadcast S256x128 64#32)) x (broadcast S256x128 (Scalar.ofBits .f32 0x00000000#32 : F .f32))) bitsLt_bf16_f32

/-- All eight query blocks of a block of rows, one below the other. -/
def packed (q : Vec F S256x512 .f32) : FVec F S2048x128 .bf16 :=
  concatenate S2048x128 0
    [⟨S256x128, first (extractStridedSlice S256x128 ![0, 0] (scaled q) slices_S256x512_o0_0_S256x128)⟩,
     ⟨S256x128, first (extractStridedSlice S256x128 ![0, 128] (scaled q) slices_S256x512_o0_128_S256x128)⟩,
     ⟨S256x128, first (extractStridedSlice S256x128 ![0, 256] (scaled q) slices_S256x512_o0_256_S256x128)⟩,
     ⟨S256x128, first (extractStridedSlice S256x128 ![0, 384] (scaled q) slices_S256x512_o0_384_S256x128)⟩,
     ⟨S256x128, second (extractStridedSlice S256x128 ![0, 0] (scaled q) slices_S256x512_o0_0_S256x128)⟩,
     ⟨S256x128, second (extractStridedSlice S256x128 ![0, 128] (scaled q) slices_S256x512_o0_128_S256x128)⟩,
     ⟨S256x128, second (extractStridedSlice S256x128 ![0, 256] (scaled q) slices_S256x512_o0_256_S256x128)⟩,
     ⟨S256x128, second (extractStridedSlice S256x128 ![0, 384] (scaled q) slices_S256x512_o0_384_S256x128)⟩]
    concatenates_S256x128_S256x128_S256x128_S256x128_S256x128_S256x128_S256x128_S256x128_S2048x128_d0

theorem block_slices (n : Fin 8) : S2048x128.Slices ![256 * (n : ℕ), 0] S256x128 := by
  revert n; decide

/-- Query block `n` of the eight, as a slot's block. -/
def staged (q : Vec F S256x512 .f32) (n : Fin 8) : FVec F S1x256x128 .bf16 :=
  shapeCast S1x256x128 (extractStridedSlice S256x128 ![256 * (n : ℕ), 0] (packed q) (block_slices n)) shapeCasts_S256x128_S1x256x128

theorem rows_inb (u : Fin 2) : ∀ a, (![256 * (u : ℕ), 0] : Fin 2 → ℕ) a + S256x512.size a ≤ S512x512.size a := by
  have := u.isLt
  intro a; fin_cases a <;> simp <;> omega

/-- A block of rows of the queries. -/
def queryRows (x0 : Vec F S512x512 .f32) (u : Fin 2) : Vec F S256x512 .f32 :=
  View.ld x0 (Rect.unit (s := S512x512) ![256 * (u : ℕ), 0] S256x512.size (rows_inb u))

/-- What slot `n` of the queries receives. -/
def slotQuery (x0 : Vec F S512x512 .f32) (n : Fin 16) : FVec F S1x256x128 .bf16 :=
  staged (queryRows x0 ⟨(n : ℕ) / 8, by omega⟩) ⟨(n : ℕ) % 8, by omega⟩

/-- The stores into the queries' slots. -/
def stage (x0 : Vec F S512x512 .f32) : List (View.Piece (Elt F) S16x256x128 .bf16) := slots.map fun n => ⟨slotM n, slotQuery x0 n⟩

/-! ## One trip of the loop over pairs of far key tiles -/

section trip
variable (c : Dev nD) (i : grid0.Coords)
  (arg1 : Memref sig .tc .vmem S512x512 .f32) (harg1 : arg1.IsWhole)
  (arg2 : Memref sig .tc .vmem S64x128x256 .bf16) (harg2 : arg2.IsWhole)
  (arg3 : Memref sig .tc .vmem S16384x256 .bf16) (harg3 : arg3.IsWhole)
  (arg4 : Memref sig .tc .vmem S4x2x256x256 .f32) (harg4 : arg4.IsWhole)
  (arg5 : Memref sig .tc .vmem S4x64 .f32) (harg5 : arg5.IsWhole)
  (arg6 : Memref sig .tc .vmem S1x128 .f32) (harg6 : arg6.IsWhole)
  (arg7 : Memref sig .tc .vmem S512x512 .f32) (harg7 : arg7.IsWhole)
  (arg8 : Memref sig .tc .vmem S16x256x128 .bf16) (harg8 : arg8.IsWhole)
  (arg9 : Memref sig .tc .vmem S16x256x128 .f32) (harg9 : arg9.IsWhole)
  (arg10 : Memref sig .tc .vmem S16x256x256 .f32) (harg10 : arg10.IsWhole)

/-- What a trip stores into the running maxima, from the maxima it finds. -/
def tripM (Q : Vec F S16x256x128 .bf16) (k0 k1 : Vec F S1x128x256 .bf16) (M : Vec F S16x256x128 .f32) (n : Fin 16) : FVec F S256x128 .f32 :=
  max2 (score (View.ld Q (slotM n)) k0) (score (View.ld Q (slotM n)) k1) (View.ld M (slotM n))

/-- What a trip stores into the weighted sums, from the maxima and sums it finds. -/
def tripA (Q : Vec F S16x256x128 .bf16) (k0 k1 : Vec F S1x128x256 .bf16) (v : Vec F S512x256 .bf16)
    (M : Vec F S16x256x128 .f32) (A : Vec F S16x256x256 .f32) (n : Fin 16) : FVec F S256x256 .f32 :=
  sum2 (score (View.ld Q (slotM n)) k0) (score (View.ld Q (slotM n)) k1) (valueRows v) (tripM Q k0 k1 M n)
    (View.ld M (slotM n)) (View.ld A (slotA n))

variable (w0 w1 w2 w3 : BitVec 32) (X2 : BufTy.Contents (Elt F) arg2.view.ty) (X3 : BufTy.Contents (Elt F) arg3.view.ty)
  (X8 : BufTy.Contents (Elt F) arg8.view.ty) (k : Fin (k0_t1_loop i).trips)
  (f9 : BufTy.Contents (Elt F) arg9.view.ty) (f10 : BufTy.Contents (Elt F) arg10.view.ty)

/-- The first key tile of trip `k`. -/
def key0 (x1 : Vec F S64x128x256 .bf16) : Vec F S1x128x256 .bf16 :=
  View.ld x1 (Rect.unit (s := S64x128x256) (k0_off1 i k) S1x128x256.size (Cert.LateIdeal.Facts₀.k0_off1_inb i k))

/-- The second key tile of trip `k`. -/
def key1 (x1 : Vec F S64x128x256 .bf16) : Vec F S1x128x256 .bf16 :=
  View.ld x1 (Rect.unit (s := S64x128x256) (k0_off2 i k) S1x128x256.size (Cert.LateIdeal.Facts₀.k0_off2_inb i k))

/-- The value rows of trip `k`. -/
def vals (x2 : Vec F S16384x256 .bf16) : Vec F S512x256 .bf16 :=
  View.ld x2 (Rect.unit (s := S16384x256) (k0_off3 i k) S512x256.size (Cert.LateIdeal.Facts₀.k0_off3_inb i k))

/-- The stores of one trip into the running maxima, slot by slot. -/
theorem trip_maxima : (trip_k0_t1 (F := F) Variants.none c none i arg1 harg1 arg2 harg2 arg3 harg3 arg4 harg4 arg5 harg5 arg6 harg6 arg7 harg7 arg8 harg8 arg9 harg9 arg10 harg10 w0 w1 w2 w3 X2 X3 X8 k).1 f9 f10
    = slots.map (fun n => ⟨slotM n, wrapM (tripM (arg8.view.read (Elt F) X8) (key0 i k (arg2.view.read (Elt F) X2)) (key1 i k (arg2.view.read (Elt F) X2))
        (arg9.view.read (Elt F) f9) n)⟩) := by
  unfold trip_k0_t1
  dsimp only
  sl_unfold_words
  rfl

/-- The stores of one trip into the weighted sums, slot by slot. -/
theorem trip_sums : (trip_k0_t1 (F := F) Variants.none c none i arg1 harg1 arg2 harg2 arg3 harg3 arg4 harg4 arg5 harg5 arg6 harg6 arg7 harg7 arg8 harg8 arg9 harg9 arg10 harg10 w0 w1 w2 w3 X2 X3 X8 k).2.1 f9 f10
    = slots.map (fun n => ⟨slotA n, wrapA (tripA (arg8.view.read (Elt F) X8) (key0 i k (arg2.view.read (Elt F) X2)) (key1 i k (arg2.view.read (Elt F) X2))
        (vals i k (arg3.view.read (Elt F) X3)) (arg9.view.read (Elt F) f9) (arg10.view.read (Elt F) f10) n)⟩) := by
  unfold trip_k0_t1
  dsimp only
  sl_unfold_words
  rfl

end trip

/-! ## The nearest tiles, and the output -/

section near
variable (c : Dev nD) (i : grid0.Coords)
  (arg1 : Memref sig .tc .vmem S512x512 .f32) (harg1 : arg1.IsWhole)
  (arg2 : Memref sig .tc .vmem S64x128x256 .bf16) (harg2 : arg2.IsWhole)
  (arg3 : Memref sig .tc .vmem S16384x256 .bf16) (harg3 : arg3.IsWhole)
  (arg4 : Memref sig .tc .vmem S4x2x256x256 .f32) (harg4 : arg4.IsWhole)
  (arg5 : Memref sig .tc .vmem S4x64 .f32) (harg5 : arg5.IsWhole)
  (arg6 : Memref sig .tc .vmem S1x128 .f32) (harg6 : arg6.IsWhole)
  (arg7 : Memref sig .tc .vmem S512x512 .f32) (harg7 : arg7.IsWhole)
  (arg8 : Memref sig .tc .vmem S16x256x128 .bf16) (harg8 : arg8.IsWhole)
  (arg9 : Memref sig .tc .vmem S16x256x128 .f32) (harg9 : arg9.IsWhole)
  (arg10 : Memref sig .tc .vmem S16x256x256 .f32) (harg10 : arg10.IsWhole)
  (x0 : Vec F S512x512 .f32) (x1 : Vec F S64x128x256 .bf16) (x2 : Vec F S16384x256 .bf16) (x3 : Vec F S4x2x256x256 .f32)
  (x4 : Vec F S4x64 .f32) (x5 : Vec F S1x128 .f32)

/-- A key tile, wherever it starts. -/
def tile (off : Fin 3 → ℕ) (inb : ∀ a, off a + S1x128x256.size a ≤ S64x128x256.size a) : Vec F S1x128x256 .bf16 :=
  View.ld (arg2.view.read (Elt F) (harg2.unread x1)) (Rect.unit (s := S64x128x256) off S1x128x256.size inb)

/-- Value rows, wherever they start. -/
def rows (off : Fin 2 → ℕ) (inb : ∀ a, off a + S512x256.size a ≤ S16384x256.size a) : Vec F S512x256 .bf16 :=
  View.ld (arg3.view.read (Elt F) (harg3.unread x2)) (Rect.unit (s := S16384x256) off S512x256.size inb)

/-- The first key tile on the diagonal. -/
def dkey0 : Vec F S1x128x256 .bf16 := tile arg2 harg2 x1 (k0_off10 i) (Cert.LateIdeal.Facts₀.k0_off10_inb i)

/-- The second key tile on the diagonal. -/
def dkey1 : Vec F S1x128x256 .bf16 := tile arg2 harg2 x1 (k0_off11 i) (Cert.LateIdeal.Facts₀.k0_off11_inb i)

/-- The value rows of the diagonal's tiles. -/
def dvals : Vec F S512x256 .bf16 := rows arg3 harg3 x2 (k0_off12 i) (Cert.LateIdeal.Facts₀.k0_off12_inb i)

/-- The first key tile of the pair before the diagonal. -/
def nkey0 (h : k0_cond1 i = 1#1) : Vec F S1x128x256 .bf16 := tile arg2 harg2 x1 (k0_off7 i) (Cert.LateIdeal.Facts₀.k0_off7_inb i h)

/-- The second key tile of the pair before the diagonal. -/
def nkey1 (h : k0_cond1 i = 1#1) : Vec F S1x128x256 .bf16 := tile arg2 harg2 x1 (k0_off8 i) (Cert.LateIdeal.Facts₀.k0_off8_inb i h)

/-- The value rows of the pair before the diagonal. -/
def nvals (h : k0_cond1 i = 1#1) : Vec F S512x256 .bf16 := rows arg3 harg3 x2 (k0_off9 i) (Cert.LateIdeal.Facts₀.k0_off9_inb i h)

/-- The queries of a slot, as read back from their slot. -/
def dquery (n : Fin 16) : Vec F S1x256x128 .bf16 :=
  arg8.view.readCov (stage (arg1.view.read (Elt F) (harg1.unread x0))) (slotM n).toLoadRect

theorem bias_inb (n : Fin 16) (j : Fin 2) : ∀ a, (![(n : ℕ) % 4, (j : ℕ), 0, 0] : Fin 4 → ℕ) a + S1x1x256x256.size a ≤ S4x2x256x256.size a := by
  have := j.isLt
  intro a; fin_cases a <;> simp <;> omega

/-- A tile of biases of the slot's head. -/
def bias (n : Fin 16) (j : Fin 2) : Vec F S1x1x256x256 .f32 :=
  View.ld (arg4.view.read (Elt F) (harg4.unread x3)) (Rect.unit (s := S4x2x256x256) ![(n : ℕ) % 4, (j : ℕ), 0, 0] S1x1x256x256.size (bias_inb n j))

/-- A slot's step over one tile of scores. -/
def step1 (σ : FVec F S256x256 .f32) (v : Vec F S512x256 .bf16) (n : Fin 16) (p : Stores F) : Stores F :=
  let m := arg9.view.readCov p.1 (slotM n).toLoadRect
  let a := arg10.view.readCov p.2 (slotA n).toLoadRect
  (⟨slotM n, wrapM (max1 σ m)⟩ :: p.1, ⟨slotA n, wrapA (sum1 σ (firstRows (valueRows v)) (max1 σ m) m a)⟩ :: p.2)

/-- A slot's step over two tiles of scores. -/
def step2 (σ τ : FVec F S256x256 .f32) (v : Vec F S512x256 .bf16) (n : Fin 16) (p : Stores F) : Stores F :=
  let m := arg9.view.readCov p.1 (slotM n).toLoadRect
  let a := arg10.view.readCov p.2 (slotA n).toLoadRect
  (⟨slotM n, wrapM (max2 σ τ m)⟩ :: p.1, ⟨slotA n, wrapA (sum2 σ τ (valueRows v) (max2 σ τ m) m a)⟩ :: p.2)

/-- The stores of the first `k` trips over far tiles. -/
def trips (k : ℕ) : Stores F :=
  pb_k0_t1 (F := F) Variants.none c none i arg1 harg1 arg2 harg2 arg3 harg3 arg4 harg4 arg5 harg5 arg6 harg6 arg7 harg7 arg8 harg8 arg9 harg9 arg10 harg10
    (BitVec.ofNat 32 (i 0).val) 0#32 (Scalar.subi (Scalar.maxsi (Scalar.subi (BitVec.ofNat 32 (i 0).val) 1#32) 0#32) 0#32) 1#32
    (harg2.unread x1) (harg3.unread x2) (arg8.view.writes (Elt F) arg8.view.junk (stage (arg1.view.read (Elt F) (harg1.unread x0))))
    (arg9.view.writes (Elt F) arg9.view.junk fill.1) (arg10.view.writes (Elt F) arg10.view.junk fill.2) k

/-- The stores of the loop over far tiles. -/
def loop1 : Stores F := trips c i arg1 harg1 arg2 harg2 arg3 harg3 arg4 harg4 arg5 harg5 arg6 harg6 arg7 harg7 arg8 harg8 arg9 harg9 arg10 harg10 x0 x1 x2 (Scf.trips (k0_t1_loop i).lb (k0_t1_loop i).ub (k0_t1_loop i).st)

/-- The stores of the loop that takes the pairs the first one left. -/
def loop2 : Stores F :=
  pb_k0_t2 (F := F) Variants.none c none i arg1 harg1 arg2 harg2 arg3 harg3 arg4 harg4 arg5 harg5 arg6 harg6 arg7 harg7 arg8 harg8 arg9 harg9 arg10 harg10
    (BitVec.ofNat 32 (i 0).val) 0#32 (Scalar.subi (Scalar.maxsi (Scalar.subi (BitVec.ofNat 32 (i 0).val) 1#32) 0#32) 0#32) 1#32
    (Scalar.addi 0#32 (Scalar.muli (Scalar.divsi (Scalar.subi (Scalar.maxsi (Scalar.subi (BitVec.ofNat 32 (i 0).val) 1#32) 0#32) 0#32) 1#32) 1#32))
    (harg2.unread x1) (harg3.unread x2) (arg8.view.writes (Elt F) arg8.view.junk (stage (arg1.view.read (Elt F) (harg1.unread x0))))
    (arg9.view.writes (Elt F) arg9.view.junk ((loop1 c i arg1 harg1 arg2 harg2 arg3 harg3 arg4 harg4 arg5 harg5 arg6 harg6 arg7 harg7 arg8 harg8 arg9 harg9 arg10 harg10 x0 x1 x2).1 ++ fill.1))
    (arg10.view.writes (Elt F) arg10.view.junk ((loop1 c i arg1 harg1 arg2 harg2 arg3 harg3 arg4 harg4 arg5 harg5 arg6 harg6 arg7 harg7 arg8 harg8 arg9 harg9 arg10 harg10 x0 x1 x2).2 ++ fill.2))
    (Scf.trips (k0_t2_loop i).lb (k0_t2_loop i).ub (k0_t2_loop i).st)

/-- The stores over the far tiles. -/
def far : Stores F :=
  ((loop2 c i arg1 harg1 arg2 harg2 arg3 harg3 arg4 harg4 arg5 harg5 arg6 harg6 arg7 harg7 arg8 harg8 arg9 harg9 arg10 harg10 x0 x1 x2).1 ++ ((loop1 c i arg1 harg1 arg2 harg2 arg3 harg3 arg4 harg4 arg5 harg5 arg6 harg6 arg7 harg7 arg8 harg8 arg9 harg9 arg10 harg10 x0 x1 x2).1 ++ fill.1), (loop2 c i arg1 harg1 arg2 harg2 arg3 harg3 arg4 harg4 arg5 harg5 arg6 harg6 arg7 harg7 arg8 harg8 arg9 harg9 arg10 harg10 x0 x1 x2).2 ++ ((loop1 c i arg1 harg1 arg2 harg2 arg3 harg3 arg4 harg4 arg5 harg5 arg6 harg6 arg7 harg7 arg8 harg8 arg9 harg9 arg10 harg10 x0 x1 x2).2 ++ fill.2))

/-- The stores after the pair of tiles before the diagonal. -/
def nearStores (h : k0_cond1 i = 1#1) (p : Stores F) : Stores F :=
  List.foldr (fun n => step2 arg9 arg10 (score (dquery arg1 harg1 arg8 x0 n) (nkey0 i arg2 harg2 x1 h)) (score (dquery arg1 harg1 arg8 x0 n) (nkey1 i arg2 harg2 x1 h))
      (nvals i arg3 harg3 x2 h) n)
    (List.foldr (fun n => step2 arg9 arg10 (score (dquery arg1 harg1 arg8 x0 n) (nkey0 i arg2 harg2 x1 h))
        (biased (score (dquery arg1 harg1 arg8 x0 n) (nkey1 i arg2 harg2 x1 h)) (bias arg4 harg4 x3 n 1)) (nvals i arg3 harg3 x2 h) n)
      p [7, 6, 5, 4, 3, 2, 1, 0])
    [15, 14, 13, 12, 11, 10, 9, 8]

/-- The stores after the diagonal's tiles. -/
def diagStores (p : Stores F) : Stores F :=
  List.foldr (fun n => step2 arg9 arg10 (biased (score (dquery arg1 harg1 arg8 x0 n) (dkey0 i arg2 harg2 x1)) (bias arg4 harg4 x3 n 1))
      (masked (biased (score (dquery arg1 harg1 arg8 x0 n) (dkey1 i arg2 harg2 x1)) (bias arg4 harg4 x3 n 0))) (dvals i arg3 harg3 x2) n)
    (List.foldr (fun n => step1 arg9 arg10 (masked (biased (score (dquery arg1 harg1 arg8 x0 n) (dkey0 i arg2 harg2 x1)) (bias arg4 harg4 x3 n 0)))
        (dvals i arg3 harg3 x2) n)
      p [7, 6, 5, 4, 3, 2, 1, 0])
    [15, 14, 13, 12, 11, 10, 9, 8]

/-- The first softmax's mixing weight, from the four vectors. -/
def lamCell (l : Vec F S4x64 .f32) : FVec F S1x1 .f32 :=
  addf
    (subf
      (exp (shapeCast S1x1 (multiReduction .add [1] S1 (mulf (extractStridedSlice S1x64 ![0, 0] (shapeCast S4x64 l shapeCasts_S4x64_S4x64 : FVec F S4x64 .f32) slices_S4x64_o0_0_S1x64) (extractStridedSlice S1x64 ![1, 0] (shapeCast S4x64 l shapeCasts_S4x64_S4x64 : FVec F S4x64 .f32) slices_S4x64_o1_0_S1x64))
        0x00000000#32 reduces_S1x64_S1 (.inl rfl) rfl : FVec F S1 .f32) shapeCasts_S1_S1x1))
      (exp (shapeCast S1x1 (multiReduction .add [1] S1 (mulf (extractStridedSlice S1x64 ![2, 0] (shapeCast S4x64 l shapeCasts_S4x64_S4x64 : FVec F S4x64 .f32) slices_S4x64_o2_0_S1x64) (extractStridedSlice S1x64 ![3, 0] (shapeCast S4x64 l shapeCasts_S4x64_S4x64 : FVec F S4x64 .f32) slices_S4x64_o3_0_S1x64))
        0x00000000#32 reduces_S1x64_S1 (.inl rfl) rfl : FVec F S1 .f32) shapeCasts_S1_S1x1)))
    (broadcast S1x1 (Scalar.ofBits .f32 0x3EB60549#32 : F .f32))

/-- The mean of one slot: its sums over its total weight. -/
def mean (a : Vec F S1x256x256 .f32) : FVec F S256x128 .f32 :=
  divf (lo (shapeCast S256x256 a shapeCasts_S1x256x256_S256x256)) (hi (shapeCast S256x256 a shapeCasts_S1x256x256_S256x256))

/-- The difference of the two means. -/
def mixed (l : FVec F S1x1 .f32) (a b : Vec F S1x256x256 .f32) : FVec F S256x128 .f32 :=
  subf (mean a) (mulf (broadcastTo S256x128 l broadcasts_S1x1_S256x128) (mean b))

/-- The root of the mean square of each row, inverted. -/
def scale (o : FVec F S256x128 .f32) : FVec F S256x1 .f32 :=
  rsqrt (addf (divf (shapeCast S256x1 (multiReduction .add [1] S256 (mulf o o) 0x00000000#32 reduces_S256x128_S256 (.inl rfl) rfl : FVec F S256 .f32) shapeCasts_S256_S256x1)
      (broadcast S256x1 (Scalar.ofBits .f32 0x43000000#32 : F .f32)))
    (broadcast S256x1 (Scalar.ofBits .f32 0x358637BD#32 : F .f32)))

/-- One head of the output. -/
def headOut (g : Vec F S1x128 .f32) (o : FVec F S256x128 .f32) : FVec F S256x128 .f32 :=
  mulf (mulf (mulf o (broadcastTo S256x128 (scale o) broadcasts_S256x1_S256x128))
      (broadcastTo S256x128 (shapeCast S1x128 g shapeCasts_S1x128_S1x128 : FVec F S1x128 .f32) broadcasts_S1x128_S256x128))
    (broadcast S256x128 (Scalar.ofBits .f32 0x3F24FD5C#32 : F .f32))

/-- Four heads side by side. -/
def heads (f : Fin 4 → FVec F S256x128 .f32) : FVec F S256x512 .f32 :=
  concatenate S256x512 1 [⟨S256x128, f 0⟩, ⟨S256x128, f 1⟩, ⟨S256x128, f 2⟩, ⟨S256x128, f 3⟩] concatenates_S256x128_S256x128_S256x128_S256x128_S256x512_d1

/-- The four vectors as loaded. -/
def lamRows : Vec F S4x64 .f32 :=
  View.ld (arg5.view.read (Elt F) (harg5.unread x4)) (Rect.unit (s := S4x64) ![0, 0] S4x64.size (by intro a; fin_cases a <;> simp))

/-- The gain as loaded. -/
def gain : Vec F S1x128 .f32 :=
  View.ld (arg6.view.read (Elt F) (harg6.unread x5)) (Rect.unit (s := S1x128) ![0, 0] S1x128.size (by intro a; fin_cases a <;> simp))

/-- One head's output of one block of rows. -/
def outHead (p : Stores F) (u : Fin 2) (h : Fin 4) : FVec F S256x128 .f32 :=
  headOut (gain arg6 harg6 x5) (mixed (lamCell (lamRows arg5 harg5 x4)) (arg10.view.readCov p.2 (slotA ⟨8 * u + h, by omega⟩).toLoadRect)
    (arg10.view.readCov p.2 (slotA ⟨8 * u + (4 + h), by omega⟩).toLoadRect))

/-- The stores of the run into the output, where no pair of tiles lies before the diagonal. -/
theorem run_first (hc0 : ¬cond0_0 i) :
    (kernelRun0_A (F := F) c i arg1 harg1 arg2 harg2 arg3 harg3 arg4 harg4 arg5 harg5 arg6 harg6 arg7 harg7 arg8 harg8 arg9 harg9 arg10 harg10 hc0 x0 x1 x2 x3 x4 x5).1
    = [⟨Rect.unit (s := S512x512) ![256, 0] S256x512.size Cert.LateIdeal.Facts₀.inb_S512x512_S256x512_256_0,
          heads (outHead arg5 harg5 arg6 harg6 arg10 x4 x5 (diagStores i arg1 harg1 arg2 harg2 arg3 harg3 arg4 harg4 arg8 arg9 arg10 x0 x1 x2 x3 (far c i arg1 harg1 arg2 harg2 arg3 harg3 arg4 harg4 arg5 harg5 arg6 harg6 arg7 harg7 arg8 harg8 arg9 harg9 arg10 harg10 x0 x1 x2)) 1)⟩,
       ⟨Rect.unit (s := S512x512) ![0, 0] S256x512.size Cert.LateIdeal.Facts₀.inb_S512x512_S256x512_0_0,
          heads (outHead arg5 harg5 arg6 harg6 arg10 x4 x5 (diagStores i arg1 harg1 arg2 harg2 arg3 harg3 arg4 harg4 arg8 arg9 arg10 x0 x1 x2 x3 (far c i arg1 harg1 arg2 harg2 arg3 harg3 arg4 harg4 arg5 harg5 arg6 harg6 arg7 harg7 arg8 harg8 arg9 harg9 arg10 harg10 x0 x1 x2)) 0)⟩] := by
  unfold kernelRun0_A
  dsimp only
  rfl

/-- The stores of the run into the output, where a pair of tiles lies before the diagonal. -/
theorem run_later (hc0 : cond0_0 i) (h : k0_cond1 i = 1#1) :
    (kernelRun0_B (F := F) c i arg1 harg1 arg2 harg2 arg3 harg3 arg4 harg4 arg5 harg5 arg6 harg6 arg7 harg7 arg8 harg8 arg9 harg9 arg10 harg10 hc0 x0 x1 x2 x3 x4 x5).1
    = [⟨Rect.unit (s := S512x512) ![256, 0] S256x512.size Cert.LateIdeal.Facts₀.inb_S512x512_S256x512_256_0,
          heads (outHead arg5 harg5 arg6 harg6 arg10 x4 x5 (diagStores i arg1 harg1 arg2 harg2 arg3 harg3 arg4 harg4 arg8 arg9 arg10 x0 x1 x2 x3
            (nearStores i arg1 harg1 arg2 harg2 arg3 harg3 arg4 harg4 arg8 arg9 arg10 x0 x1 x2 x3 h (far c i arg1 harg1 arg2 harg2 arg3 harg3 arg4 harg4 arg5 harg5 arg6 harg6 arg7 harg7 arg8 harg8 arg9 harg9 arg10 harg10 x0 x1 x2))) 1)⟩,
       ⟨Rect.unit (s := S512x512) ![0, 0] S256x512.size Cert.LateIdeal.Facts₀.inb_S512x512_S256x512_0_0,
          heads (outHead arg5 harg5 arg6 harg6 arg10 x4 x5 (diagStores i arg1 harg1 arg2 harg2 arg3 harg3 arg4 harg4 arg8 arg9 arg10 x0 x1 x2 x3
            (nearStores i arg1 harg1 arg2 harg2 arg3 harg3 arg4 harg4 arg8 arg9 arg10 x0 x1 x2 x3 h (far c i arg1 harg1 arg2 harg2 arg3 harg3 arg4 harg4 arg5 harg5 arg6 harg6 arg7 harg7 arg8 harg8 arg9 harg9 arg10 harg10 x0 x1 x2))) 0)⟩] := by
  unfold kernelRun0_B
  dsimp only
  rfl

end near

end Cert.LateIdeal.Step

end
-- ==== Proof.LateSlots.lean ====
module

public import proofs.«01_k».proof.Proof.LateStep

@[expose] public section

set_option maxRecDepth 16384

noncomputable section

/-! # The second layer's differential attention, one slot at a time -/

namespace Cert.LateIdeal.Slots

open Idealize.ShloMosaic Idealize.ShloMosaic.TcCoe Cert.LateIdeal.Gen Cert.LateIdeal.Step
open Cert.KernelIdeal.Step (lo hi max1 max2 sum1 sum2 wrapM wrapA valueRows firstRows masked slots slotM slotA slotM_inb slotA_inb Stores fill)
open Cert.KernelIdeal.Slots (slotM_not_mem readM_cons readA_cons readM_map readA_map State held start held_fill held_foldr mem_slots)

variable {F : FTy → Type} [FloatOps F] [Named F]

/-- A slot of the queries, read after the stores into all of them. -/
theorem readQ_map (l : List (Fin 16)) (w : Fin 16 → FVec F S1x256x128 .bf16) (n : Fin 16) (hn : n ∈ l) :
    View.ld (View.canon (l.map fun a => (⟨slotM a, w a⟩ : View.Piece (Elt F) S16x256x128 .bf16))) (slotM n) = w n := by
  induction l with
  | nil => simp at hn
  | cons a l ih =>
    rw [List.map_cons]
    by_cases h : a = n
    · subst h
      funext x
      have e : ∀ (v : FVec F S1x256x128 .bf16) (L : List (View.Piece (Elt F) S16x256x128 .bf16)),
        View.canon (⟨slotM a, v⟩ :: L) ((slotM a).idx x) = v x := fun v L => View.canon_cons_emb (slotM a) v L x
      exact e (w a) _
    · rw [← ih (by simpa [Ne.symm h] using hn)]
      funext x
      exact View.canon_cons_of_not_mem _ _ (slotM_not_mem h x)

/-- The step of a slot over one tile of scores. -/
def one (σ : FVec F S256x256 .f32) (v : Vec F S512x256 .bf16) (p : State F) : State F :=
  (wrapM (max1 σ p.1), wrapA (sum1 σ (firstRows (valueRows v)) (max1 σ p.1) p.1 p.2))

/-- The step of a slot over two tiles of scores. -/
def two (σ τ : FVec F S256x256 .f32) (v : Vec F S512x256 .bf16) (p : State F) : State F :=
  (wrapM (max2 σ τ p.1), wrapA (sum2 σ τ (valueRows v) (max2 σ τ p.1) p.1 p.2))

section
variable (arg9 : Memref sig .tc .vmem S16x256x128 .f32) (arg10 : Memref sig .tc .vmem S16x256x256 .f32)

/-- One tile's step, read at any slot. -/
theorem held_step1 (σ : FVec F S256x256 .f32) (v : Vec F S512x256 .bf16) (a n : Fin 16) (p : Stores F) :
    held (step1 arg9 arg10 σ v a p) n = if a = n then one σ v (held p a) else held p n := by
  unfold held step1 one
  dsimp only
  rw [readM_cons, readA_cons, View.readCov_eq_canon', View.readCov_eq_canon']
  split <;> rfl

/-- Two tiles' step, read at any slot. -/
theorem held_step2 (σ τ : FVec F S256x256 .f32) (v : Vec F S512x256 .bf16) (a n : Fin 16) (p : Stores F) :
    held (step2 arg9 arg10 σ τ v a p) n = if a = n then two σ τ v (held p a) else held p n := by
  unfold held step2 two
  dsimp only
  rw [readM_cons, readA_cons, View.readCov_eq_canon', View.readCov_eq_canon']
  split <;> rfl

end

section run
variable (c : Dev nD) (i : grid0.Coords)
  (arg1 : Memref sig .tc .vmem S512x512 .f32) (harg1 : arg1.IsWhole)
  (arg2 : Memref sig .tc .vmem S64x128x256 .bf16) (harg2 : arg2.IsWhole)
  (arg3 : Memref sig .tc .vmem S16384x256 .bf16) (harg3 : arg3.IsWhole)
  (arg4 : Memref sig .tc .vmem S4x2x256x256 .f32) (harg4 : arg4.IsWhole)
  (arg5 : Memref sig .tc .vmem S4x64 .f32) (harg5 : arg5.IsWhole)
  (arg6 : Memref sig .tc .vmem S1x128 .f32) (harg6 : arg6.IsWhole)
  (arg7 : Memref sig .tc .vmem S512x512 .f32) (harg7 : arg7.IsWhole)
  (arg8 : Memref sig .tc .vmem S16x256x128 .bf16) (harg8 : arg8.IsWhole)
  (arg9 : Memref sig .tc .vmem S16x256x128 .f32) (harg9 : arg9.IsWhole)
  (arg10 : Memref sig .tc .vmem S16x256x256 .f32) (harg10 : arg10.IsWhole)
  (x0 : Vec F S512x512 .f32) (x1 : Vec F S64x128x256 .bf16) (x2 : Vec F S16384x256 .bf16) (x3 : Vec F S4x2x256x256 .f32)

/-- A slot's queries are what was stored into the slot. -/
theorem dquery_eq (n : Fin 16) : dquery arg1 harg1 arg8 x0 n = slotQuery x0 n := by
  unfold dquery
  rw [harg1.read_unread, View.readCov_eq_canon']
  exact readQ_map slots _ n (mem_slots n)

/-- What slot `n` holds after `k` trips over far tiles. -/
def loopState (n : Fin 16) : ℕ → State F
  | 0 => start
  | k + 1 => if h : k < (k0_t1_loop i).trips then
      two (score (slotQuery x0 n) (key0 i ⟨k, h⟩ x1)) (score (slotQuery x0 n) (key1 i ⟨k, h⟩ x1)) (vals i ⟨k, h⟩ x2) (loopState n k)
    else loopState n k

/-- After `k` trips slot `n` holds `loopState n k`. -/
theorem held_trips (n : Fin 16) (k : ℕ) (hk : k ≤ (k0_t1_loop i).trips) :
    held ((trips c i arg1 harg1 arg2 harg2 arg3 harg3 arg4 harg4 arg5 harg5 arg6 harg6 arg7 harg7 arg8 harg8 arg9 harg9 arg10 harg10 x0 x1 x2 k).1 ++ fill.1,
      (trips c i arg1 harg1 arg2 harg2 arg3 harg3 arg4 harg4 arg5 harg5 arg6 harg6 arg7 harg7 arg8 harg8 arg9 harg9 arg10 harg10 x0 x1 x2 k).2 ++ fill.2) n
      = loopState i x0 x1 x2 n k := by
  induction k with
  | zero => exact held_fill n
  | succ k ih =>
    have hk' : k < (k0_t1_loop i).trips := hk
    specialize ih hk'.le
    have hs : trips c i arg1 harg1 arg2 harg2 arg3 harg3 arg4 harg4 arg5 harg5 arg6 harg6 arg7 harg7 arg8 harg8 arg9 harg9 arg10 harg10 x0 x1 x2 (k + 1) = _ :=
      pb_k0_t1_succ (F := F) Variants.none c none i arg1 harg1 arg2 harg2 arg3 harg3 arg4 harg4 arg5 harg5 arg6 harg6 arg7 harg7 arg8 harg8 arg9 harg9 arg10 harg10
        (BitVec.ofNat 32 (i 0).val) 0#32 (Scalar.subi (Scalar.maxsi (Scalar.subi (BitVec.ofNat 32 (i 0).val) 1#32) 0#32) 0#32) 1#32
        (harg2.unread x1) (harg3.unread x2) (arg8.view.writes (Elt F) arg8.view.junk (stage (arg1.view.read (Elt F) (harg1.unread x0))))
        (arg9.view.writes (Elt F) arg9.view.junk fill.1) (arg10.view.writes (Elt F) arg10.view.junk fill.2) ⟨k, hk'⟩
    rw [hs]
    unfold tripL_k0_t1
    dsimp only
    rw [trip_maxima, trip_sums, List.append_assoc, List.append_assoc, ← View.writes_append, ← View.writes_append,
      View.read_writes_junk_eq_canon, View.read_writes_junk_eq_canon, View.read_writes_junk_eq_canon, harg1.read_unread, harg2.read_unread,
      harg3.read_unread, loopState, dif_pos hk', ← ih]
    have hq : View.ld (View.canon (stage x0)) (slotM n) = slotQuery x0 n := readQ_map slots _ n (mem_slots n)
    generalize View.canon (stage x0) = Q at hq ⊢
    unfold held
    dsimp only
    rw [readM_map, readA_map, if_pos (mem_slots n), if_pos (mem_slots n)]
    unfold tripA tripM
    unfold two trips
    rw [hq, harg1.read_unread]
    rfl

/-- The second loop makes no trips. -/
theorem loop2_trips : ∀ i : grid0.Coords, Scf.trips (k0_t2_loop i).lb (k0_t2_loop i).ub (k0_t2_loop i).st = 0 := by
  decide +kernel

/-- What slot `n` holds after the far tiles. -/
theorem held_far (n : Fin 16) :
    held (far c i arg1 harg1 arg2 harg2 arg3 harg3 arg4 harg4 arg5 harg5 arg6 harg6 arg7 harg7 arg8 harg8 arg9 harg9 arg10 harg10 x0 x1 x2) n
      = loopState i x0 x1 x2 n (k0_t1_loop i).trips := by
  rw [← held_trips c i arg1 harg1 arg2 harg2 arg3 harg3 arg4 harg4 arg5 harg5 arg6 harg6 arg7 harg7 arg8 harg8 arg9 harg9 arg10 harg10 x0 x1 x2 n _ le_rfl]
  unfold far loop2
  rw [loop2_trips]
  rfl

/-- What slot `n` holds after the pair of tiles before the diagonal. -/
def nearState (h : k0_cond1 i = 1#1) (n : Fin 16) (p : State F) : State F :=
  if n ∈ ([15, 14, 13, 12, 11, 10, 9, 8] : List (Fin 16)) then
    two (score (slotQuery x0 n) (nkey0 i arg2 harg2 x1 h)) (score (slotQuery x0 n) (nkey1 i arg2 harg2 x1 h)) (nvals i arg3 harg3 x2 h) p
  else two (score (slotQuery x0 n) (nkey0 i arg2 harg2 x1 h))
    (biased (score (slotQuery x0 n) (nkey1 i arg2 harg2 x1 h)) (bias arg4 harg4 x3 n 1)) (nvals i arg3 harg3 x2 h) p

/-- The pair of tiles before the diagonal, read at a slot. -/
theorem held_near (h : k0_cond1 i = 1#1) (n : Fin 16) (p : Stores F) :
    held (nearStores i arg1 harg1 arg2 harg2 arg3 harg3 arg4 harg4 arg8 arg9 arg10 x0 x1 x2 x3 h p) n
      = nearState i arg2 harg2 arg3 harg3 arg4 harg4 x0 x1 x2 x3 h n (held p n) := by
  unfold nearStores nearState
  rw [held_foldr _ (fun n => two (score (dquery arg1 harg1 arg8 x0 n) (nkey0 i arg2 harg2 x1 h)) (score (dquery arg1 harg1 arg8 x0 n) (nkey1 i arg2 harg2 x1 h)) (nvals i arg3 harg3 x2 h))
      (fun a n p => by rw [held_step2]; by_cases h : a = n <;> simp [h]) _ (by decide),
    held_foldr _ (fun n => two (score (dquery arg1 harg1 arg8 x0 n) (nkey0 i arg2 harg2 x1 h))
        (biased (score (dquery arg1 harg1 arg8 x0 n) (nkey1 i arg2 harg2 x1 h)) (bias arg4 harg4 x3 n 1)) (nvals i arg3 harg3 x2 h))
      (fun a n p => by rw [held_step2]; by_cases h : a = n <;> simp [h]) _ (by decide)]
  simp only [dquery_eq]
  by_cases h : n ∈ ([15, 14, 13, 12, 11, 10, 9, 8] : List (Fin 16))
  · rw [if_pos h, if_pos h, if_neg (by revert n; decide)]
  · rw [if_neg h, if_neg h, if_pos (by revert n; decide)]

/-- What slot `n` holds after the diagonal's tiles. -/
def diagState (n : Fin 16) (p : State F) : State F :=
  if n ∈ ([15, 14, 13, 12, 11, 10, 9, 8] : List (Fin 16)) then
    two (biased (score (slotQuery x0 n) (dkey0 i arg2 harg2 x1)) (bias arg4 harg4 x3 n 1))
      (masked (biased (score (slotQuery x0 n) (dkey1 i arg2 harg2 x1)) (bias arg4 harg4 x3 n 0))) (dvals i arg3 harg3 x2) p
  else one (masked (biased (score (slotQuery x0 n) (dkey0 i arg2 harg2 x1)) (bias arg4 harg4 x3 n 0))) (dvals i arg3 harg3 x2) p

/-- The diagonal's tiles, read at a slot. -/
theorem held_diag (n : Fin 16) (p : Stores F) :
    held (diagStores i arg1 harg1 arg2 harg2 arg3 harg3 arg4 harg4 arg8 arg9 arg10 x0 x1 x2 x3 p) n
      = diagState i arg2 harg2 arg3 harg3 arg4 harg4 x0 x1 x2 x3 n (held p n) := by
  unfold diagStores diagState
  rw [held_foldr _ (fun n => two (biased (score (dquery arg1 harg1 arg8 x0 n) (dkey0 i arg2 harg2 x1)) (bias arg4 harg4 x3 n 1))
        (masked (biased (score (dquery arg1 harg1 arg8 x0 n) (dkey1 i arg2 harg2 x1)) (bias arg4 harg4 x3 n 0))) (dvals i arg3 harg3 x2))
      (fun a n p => by rw [held_step2]; by_cases h : a = n <;> simp [h]) _ (by decide),
    held_foldr _ (fun n => one (masked (biased (score (dquery arg1 harg1 arg8 x0 n) (dkey0 i arg2 harg2 x1)) (bias arg4 harg4 x3 n 0))) (dvals i arg3 harg3 x2))
      (fun a n p => by rw [held_step1]; by_cases h : a = n <;> simp [h]) _ (by decide)]
  simp only [dquery_eq]
  by_cases h : n ∈ ([15, 14, 13, 12, 11, 10, 9, 8] : List (Fin 16))
  · rw [if_pos h, if_pos h, if_neg (by revert n; decide)]
  · rw [if_neg h, if_neg h, if_pos (by revert n; decide)]

end run

end Cert.LateIdeal.Slots

end
-- ==== Proof.LateLoop.lean ====
module

public import proofs.«01_k».proof.Proof.LateSlots
public import proofs.«01_k».proof.Proof.LateModel
public import proofs.«01_k».proof.Proof.Rows
public import Idealize.ShloMosaic.Lib.Pipeline.ValueKit

@[expose] public section

set_option maxRecDepth 16384

noncomputable section

/-! # The second layer's differential attention's run of one grid point

Grid point `i` owns the query rows `512 i … 512 i + 511`. Its loop takes the keys before `512 (i - 1)`, which are so far
away that they all have the last bucket; the pair of tiles before the diagonal and the diagonal's tiles add what the
nearer buckets have more than the last one. After them row `q` has seen the keys `0 … q`. -/

namespace Cert.LateIdeal.Loop

open Idealize.ShloMosaic Idealize.ShloMosaic.TcCoe Cert.LateIdeal.Gen Cert.LateIdeal.Step Cert.LateIdeal.Slots Cert.Softmax
open Cert.KernelIdeal.Step (lo hi wrapM wrapA valueRows firstRows masked slotM slotA Stores)
open Cert.KernelIdeal.Slots (State held start)
open Cert.KernelIdeal.Rows (RowAt rowAt_start rowAt_one rowAt_two masked_at)

/-! ## Where the loads are -/

theorem trips_eq : ∀ i : grid0.Coords, (k0_t1_loop i).trips = (i 0 : ℕ) - 1 := by decide +kernel
theorem off1 : ∀ (i : grid0.Coords) (k : Fin (k0_t1_loop i).trips), k0_off1 i k = ![2 * (k : ℕ), 0, 0] := by decide +kernel
theorem off2 : ∀ (i : grid0.Coords) (k : Fin (k0_t1_loop i).trips), k0_off2 i k = ![2 * (k : ℕ) + 1, 0, 0] := by decide +kernel
theorem off3 : ∀ (i : grid0.Coords) (k : Fin (k0_t1_loop i).trips), k0_off3 i k = ![512 * (k : ℕ), 0] := by decide +kernel
theorem off7 : ∀ i : grid0.Coords, 1 ≤ (i 0 : ℕ) → k0_off7 i = ![2 * ((i 0 : ℕ) - 1), 0, 0] := by decide +kernel
theorem off8 : ∀ i : grid0.Coords, 1 ≤ (i 0 : ℕ) → k0_off8 i = ![2 * ((i 0 : ℕ) - 1) + 1, 0, 0] := by decide +kernel
theorem off9 : ∀ i : grid0.Coords, 1 ≤ (i 0 : ℕ) → k0_off9 i = ![512 * ((i 0 : ℕ) - 1), 0] := by decide +kernel
theorem off10 : ∀ i : grid0.Coords, k0_off10 i = ![2 * (i 0 : ℕ), 0, 0] := by decide +kernel
theorem off11 : ∀ i : grid0.Coords, k0_off11 i = ![2 * (i 0 : ℕ) + 1, 0, 0] := by decide +kernel
theorem off12 : ∀ i : grid0.Coords, k0_off12 i = ![512 * (i 0 : ℕ), 0] := by decide +kernel
theorem near_pos : ∀ i : grid0.Coords, k0_cond1 i = 1#1 → 1 ≤ (i 0 : ℕ) := by decide +kernel

/-- A key tile read at an index, wherever the tile starts. -/
theorem keyTile_at (x1 : Vec Ideal S64x128x256 .bf16) (off : Fin 3 → ℕ) (inb) (T : Fin 64) (h : off = ![(T : ℕ), 0, 0]) (d : Fin 128) (t : Fin 256) :
    View.ld x1 (Rect.unit (s := S64x128x256) off S1x128x256.size inb) (ix3 0 d t) = x1 (ix3 T d t) := by
  subst h
  pointwise

/-- Value rows read at an index, wherever they start. -/
theorem valueTile_at (x2 : Vec Ideal S16384x256 .bf16) (off : Fin 2 → ℕ) (inb) (b : ℕ) (h : off = ![b, 0]) (x : Fin 512) (c : Fin 256)
    (hb : b + 512 ≤ 16384) :
    View.ld x2 (Rect.unit (s := S16384x256) off S512x256.size inb) (ix2 x c) = x2 (ix2 ⟨b + x, by omega⟩ c) := by
  subst h
  pointwise

/-- A score is the product of a query row and a key column. -/
theorem score_at (q : Vec Ideal S1x256x128 .bf16) (k : Vec Ideal S1x128x256 .bf16) (r t : Fin 256) :
    score (F := Ideal) q k (ix2 r t) = ∑ x : Fin 128, q (ix3 0 r x) * k (ix3 0 x t) := by
  pointwise [score]

/-- A score with its bias. -/
theorem biased_at (s : FVec Ideal S256x256 .f32) (b : Vec Ideal S1x1x256x256 .f32) (r t : Fin 256) :
    biased (F := Ideal) s b (ix2 r t) = s (ix2 r t) + b (ix4 0 0 r t) := by
  pointwise [biased]

/-- A tile of biases read at an index. -/
theorem bias_at (arg4 : Memref sig .tc .vmem S4x2x256x256 .f32) (harg4 : arg4.IsWhole) (x3 : Vec Ideal S4x2x256x256 .f32) (n : Fin 16) (j : Fin 2)
    (r t : Fin 256) : bias (F := Ideal) arg4 harg4 x3 n j (ix4 0 0 r t) = x3 (ix4 ⟨(n : ℕ) % 4, by omega⟩ j r t) := by
  unfold bias
  rw [harg4.read_unread]
  pointwise

/-! ## The queries -/

/-- The first half keeps the lanes below 64. -/
theorem first_at (x : FVec Ideal S256x128 .f32) (r : Fin 256) (d : Fin 128) :
    first (F := Ideal) x (ix2 r d) = if (d : ℕ) < 64 then x (ix2 r d) else 0 := by
  have hd : (d : ℕ) < 2 ^ (32 - 1) := lt_trans d.isLt (by norm_num)
  pointwise [first, lane]
  rw [show (64#32 : BitVec 32) = BitVec.ofNat 32 64 from rfl, WordCmp.cmpi_slt_ofNat hd (by norm_num)]
  by_cases h : (d : ℕ) < 64 <;> simp [h, Scalar.select, Ideal.ofBits_zero_f32]

/-- The second half keeps the lanes from 64 on. -/
theorem second_at (x : FVec Ideal S256x128 .f32) (r : Fin 256) (d : Fin 128) :
    second (F := Ideal) x (ix2 r d) = if 64 ≤ (d : ℕ) then x (ix2 r d) else 0 := by
  have hd : (d : ℕ) < 2 ^ (32 - 1) := lt_trans d.isLt (by norm_num)
  pointwise [second, lane]
  rw [show (64#32 : BitVec 32) = BitVec.ofNat 32 64 from rfl, WordCmp.cmpi_sge_ofNat hd (by norm_num)]
  by_cases h : 64 ≤ (d : ℕ) <;> simp [h, Scalar.select, Ideal.ofBits_zero_f32]

/-- One head's columns of the scaled queries. -/
theorem scaled_at (q : Vec Ideal S256x512 .f32) (o : ℕ) (hs) (ho : o + 128 ≤ 512) (r : Fin 256) (d : Fin 128) :
    extractStridedSlice S256x128 ![0, o] (scaled (F := Ideal) q) hs (ix2 r d) = q (ix2 r ⟨o + d, by omega⟩) * Ideal.ofBits .f32 0x3E000000#32 := by
  pointwise [scaled]

/-- Eight blocks one below the other, read at an index. -/
theorem eight_at (f : Fin 8 → FVec Ideal S256x128 .bf16) (b : Fin 8) (r : Fin 256) (d : Fin 128) :
    concatenate S2048x128 0 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩]
      concatenates_S256x128_S256x128_S256x128_S256x128_S256x128_S256x128_S256x128_S256x128_S2048x128_d0 (ix2 ⟨256 * (b : ℕ) + r, by omega⟩ d) = f b (ix2 r d) := by
  pointwise []
  have hr := r.isLt
  fin_vals b with hb
  all_goals
    simp only [hb]
    repeat (first | rw [dif_pos (by omega)] | rw [dif_neg (by omega)])
    congr 2
    · exact Fin.ext hb.symm
    · apply Fin.ext; dsimp only; omega

/-- One half of a head's scaled queries, the other lanes zero. -/
def half (q : ℕ → EReal) (b : ℕ) (d : ℕ) : EReal :=
  if b < 4 then (if d < 64 then q (128 * (b % 4) + d) * Ideal.ofBits .f32 0x3E000000#32 else 0)
  else if 64 ≤ d then q (128 * (b % 4) + d) * Ideal.ofBits .f32 0x3E000000#32 else 0

/-- A query block, read at an index. -/
theorem packed_at (q : Vec Ideal S256x512 .f32) (Q : ℕ → EReal) (b : Fin 8) (r : Fin 256) (d : Fin 128)
    (hQ : ∀ j : Fin 512, q (ix2 r j) = Q j) :
    packed (F := Ideal) q (ix2 ⟨256 * (b : ℕ) + r, by omega⟩ d) = half Q b d := by
  have e := eight_at ![first (extractStridedSlice S256x128 ![0, 0] (scaled q) slices_S256x512_o0_0_S256x128),
    first (extractStridedSlice S256x128 ![0, 128] (scaled q) slices_S256x512_o0_128_S256x128),
    first (extractStridedSlice S256x128 ![0, 256] (scaled q) slices_S256x512_o0_256_S256x128),
    first (extractStridedSlice S256x128 ![0, 384] (scaled q) slices_S256x512_o0_384_S256x128),
    second (extractStridedSlice S256x128 ![0, 0] (scaled q) slices_S256x512_o0_0_S256x128),
    second (extractStridedSlice S256x128 ![0, 128] (scaled q) slices_S256x512_o0_128_S256x128),
    second (extractStridedSlice S256x128 ![0, 256] (scaled q) slices_S256x512_o0_256_S256x128),
    second (extractStridedSlice S256x128 ![0, 384] (scaled q) slices_S256x512_o0_384_S256x128)] b r d
  refine Eq.trans e ?_
  clear e
  have h0 : ∀ (o : ℕ) (hs) (ho : o + 128 ≤ 512), first (extractStridedSlice S256x128 ![0, o] (scaled (F := Ideal) q) hs) (ix2 r d)
      = if (d : ℕ) < 64 then Q (o + d) * Ideal.ofBits .f32 0x3E000000#32 else 0 := fun o hs ho => by
    rw [first_at, scaled_at q o hs ho, hQ]
  have h1 : ∀ (o : ℕ) (hs) (ho : o + 128 ≤ 512), second (extractStridedSlice S256x128 ![0, o] (scaled (F := Ideal) q) hs) (ix2 r d)
      = if 64 ≤ (d : ℕ) then Q (o + d) * Ideal.ofBits .f32 0x3E000000#32 else 0 := fun o hs ho => by
    rw [second_at, scaled_at q o hs ho, hQ]
  fin_cases b
  · exact h0 0 _ (by norm_num)
  · exact h0 128 _ (by norm_num)
  · exact h0 256 _ (by norm_num)
  · exact h0 384 _ (by norm_num)
  · exact h1 0 _ (by norm_num)
  · exact h1 128 _ (by norm_num)
  · exact h1 256 _ (by norm_num)
  · exact h1 384 _ (by norm_num)

/-- A slot's queries read at an index. -/
theorem slotQuery_at (x0 : Vec Ideal S512x512 .f32) (n : Fin 16) (r : Fin 256) (d : Fin 128) (Q : ℕ → EReal)
    (hQ : ∀ j : Fin 512, x0 (ix2 ⟨256 * ((n : ℕ) / 8) + r, by omega⟩ j) = Q j) :
    slotQuery (F := Ideal) x0 n (ix3 0 r d) = half Q ((n : ℕ) % 8) d := by
  have hb : ∀ (q : Vec Ideal S256x512 .f32) (b : Fin 8), staged (F := Ideal) q b (ix3 0 r d) = packed q (ix2 ⟨256 * (b : ℕ) + r, by omega⟩ d) := by
    intro q b
    pointwise [staged]
  unfold slotQuery
  rw [hb]
  refine packed_at _ Q _ r d fun j => ?_
  rw [← hQ]
  unfold queryRows
  pointwise

/-! ## A row of a slot -/

section run
variable (i : grid0.Coords) (x0 : Vec Ideal S512x512 .f32) (x1 : Vec Ideal S64x128x256 .bf16) (x2 : Vec Ideal S16384x256 .bf16)
  (x3 : Vec Ideal S4x2x256x256 .f32) (n : Fin 16) (r : Fin 256) (e β : ℕ → ℝ) (v : ℕ → Fin 256 → ℝ)

/-- The row's products with all keys are the real numbers `e`, the value rows are `v`, and the biases less the last
    bucket's are `β`. -/
structure Reals : Prop where
  products : ∀ (T : Fin 64) (t : Fin 256), ∑ d : Fin 128, slotQuery (F := Ideal) x0 n (ix3 0 r d) * x1 (ix3 T d t) = ((e (256 * T + t) : ℝ) : EReal)
  value : ∀ (y : Fin 16384) (c : Fin 256), x2 (ix2 y c) = ((v y c : ℝ) : EReal)
  far : ∀ d, 113 ≤ d → β d = 0
  tile0 : ∀ t : Fin 256, (t : ℕ) ≤ r → x3 (ix4 ⟨(n : ℕ) % 4, by omega⟩ 0 r t) = ((β (r - t) : ℝ) : EReal)
  tile1 : ∀ t : Fin 256, x3 (ix4 ⟨(n : ℕ) % 4, by omega⟩ 1 r t) = ((β (256 + r - t) : ℝ) : EReal)

/-- The row's query. -/
def query : ℕ := 512 * (i 0 : ℕ) + 256 * ((n : ℕ) / 8) + r

/-- The row's scores. -/
def total (t : ℕ) : ℝ := e t + β (query i n r - t)

variable {x0 x1 x2 x3 n r e β v}

/-- A tile's products. -/
theorem Reals.tile (R : Reals x0 x1 x2 x3 n r e β v) (off : Fin 3 → ℕ) (inb) (T : Fin 64) (h : off = ![(T : ℕ), 0, 0]) (t : Fin 256) :
    score (F := Ideal) (slotQuery x0 n) (View.ld x1 (Rect.unit (s := S64x128x256) off S1x128x256.size inb)) (ix2 r t)
      = ((e (256 * T + t) : ℝ) : EReal) := by
  rw [score_at, ← R.products]
  refine Finset.sum_congr rfl fun d _ => ?_
  rw [keyTile_at x1 off inb T h]

/-- A far key's product is its score. -/
theorem Reals.far_key (R : Reals x0 x1 x2 x3 n r e β v) {a t : ℕ} (h : a = t) (ht : t + 113 ≤ query i n r) :
    ((e a : ℝ) : EReal) = ((total i n r e β t : ℝ) : EReal) := by
  rw [total, R.far _ (by omega), add_zero, h]

/-- A product with its bias is a score. -/
theorem near_key {a d t : ℕ} (h : a = t) (hd : query i n r - t = d) :
    ((e a : ℝ) : EReal) + ((β d : ℝ) : EReal) = ((total i n r e β t : ℝ) : EReal) := by
  rw [total, hd, h, EReal.coe_add]

/-- After `k` trips the row has seen the keys before `512 k`. -/
theorem rowAt_loop (R : Reals x0 x1 x2 x3 n r e β v) (k : ℕ) (hk : k ≤ (k0_t1_loop i).trips) :
    RowAt (512 * k) (total i n r e β) v r (loopState i x0 x1 x2 n k) := by
  induction k with
  | zero => exact rowAt_start _ v r
  | succ k ih =>
    have hk' : k < (k0_t1_loop i).trips := hk
    have hi : (i 0 : ℕ) < 32 := (i 0).isLt
    have hki : k < (i 0 : ℕ) - 1 := by rw [← trips_eq]; exact hk'
    rw [loopState, dif_pos hk']
    have e : 512 * (k + 1) = 512 * k + (256 + 256) := by omega
    rw [e]
    unfold two
    refine rowAt_two (ih hk'.le) _ _ _ 256 le_rfl (fun t => ?_) (fun t => ?_) (fun x c => ?_)
    · unfold key0
      rw [R.tile _ _ ⟨2 * k, by omega⟩ (off1 i ⟨k, hk'⟩)]
      exact R.far_key i (by dsimp only; omega) (by unfold query; omega)
    · unfold key1
      rw [R.tile _ _ ⟨2 * k + 1, by omega⟩ (off2 i ⟨k, hk'⟩), if_pos t.isLt]
      exact R.far_key i (by dsimp only; omega) (by unfold query; omega)
    · unfold vals
      rw [valueTile_at x2 _ _ (512 * k) (off3 i ⟨k, hk'⟩) x c (by omega), R.value]

section ends
variable (arg2 : Memref sig .tc .vmem S64x128x256 .bf16) (harg2 : arg2.IsWhole)
  (arg3 : Memref sig .tc .vmem S16384x256 .bf16) (harg3 : arg3.IsWhole)
  (arg4 : Memref sig .tc .vmem S4x2x256x256 .f32) (harg4 : arg4.IsWhole)

theorem upper {n : Fin 16} : n ∈ ([15, 14, 13, 12, 11, 10, 9, 8] : List (Fin 16)) → (n : ℕ) / 8 = 1 := by revert n; decide
theorem lower {n : Fin 16} : n ∉ ([15, 14, 13, 12, 11, 10, 9, 8] : List (Fin 16)) → (n : ℕ) / 8 = 0 := by revert n; decide

/-- After the pair of tiles before the diagonal the row has seen the keys before the diagonal. -/
theorem rowAt_near (R : Reals x0 x1 x2 x3 n r e β v) (hc : k0_cond1 i = 1#1) (p : State Ideal)
    (h : RowAt (512 * ((i 0 : ℕ) - 1)) (total i n r e β) v r p) :
    RowAt (512 * (i 0 : ℕ)) (total i n r e β) v r (nearState i arg2 harg2 arg3 harg3 arg4 harg4 x0 x1 x2 x3 hc n p) := by
  have hi : (i 0 : ℕ) < 32 := (i 0).isLt
  have hpos := near_pos i hc
  have hK : 512 * (i 0 : ℕ) = 512 * ((i 0 : ℕ) - 1) + (256 + 256) := by omega
  have hw : ∀ (x : Fin 512) c, nvals (F := Ideal) i arg3 harg3 x2 hc (ix2 x c) = ((v (512 * ((i 0 : ℕ) - 1) + x) c : ℝ) : EReal) := by
    intro x c
    unfold nvals rows
    rw [harg3.read_unread, valueTile_at x2 _ _ (512 * ((i 0 : ℕ) - 1)) (off9 i hpos) x c (by omega), R.value]
  have h0 : ∀ t : Fin 256, score (F := Ideal) (slotQuery x0 n) (nkey0 i arg2 harg2 x1 hc) (ix2 r t)
      = ((total i n r e β (512 * ((i 0 : ℕ) - 1) + t) : ℝ) : EReal) := by
    intro t
    unfold nkey0 tile
    rw [harg2.read_unread, R.tile _ _ ⟨2 * ((i 0 : ℕ) - 1), by omega⟩ (off7 i hpos)]
    exact R.far_key i (by dsimp only; omega) (by unfold query; omega)
  have h1 : ∀ t : Fin 256, score (F := Ideal) (slotQuery x0 n) (nkey1 i arg2 harg2 x1 hc) (ix2 r t)
      = ((e (256 * (2 * ((i 0 : ℕ) - 1) + 1) + t) : ℝ) : EReal) := by
    intro t
    unfold nkey1 tile
    rw [harg2.read_unread, R.tile _ _ ⟨2 * ((i 0 : ℕ) - 1) + 1, by omega⟩ (off8 i hpos)]
  rw [hK]
  unfold nearState
  split
  · next hn =>
    have hn' := upper hn
    refine rowAt_two h _ _ _ 256 le_rfl h0 (fun t => ?_) hw
    rw [h1, if_pos t.isLt]
    exact R.far_key i (by omega) (by unfold query; omega)
  · next hn =>
    have hn' := lower hn
    refine rowAt_two h _ _ _ 256 le_rfl h0 (fun t => ?_) hw
    rw [biased_at, h1, bias_at, R.tile1, if_pos t.isLt]
    exact near_key i (by omega) (by unfold query; omega)

/-- After the diagonal the row has seen every key up to itself. -/
theorem rowAt_diag (R : Reals x0 x1 x2 x3 n r e β v) (p : State Ideal) (h : RowAt (512 * (i 0 : ℕ)) (total i n r e β) v r p) :
    RowAt (query i n r + 1) (total i n r e β) v r (diagState i arg2 harg2 arg3 harg3 arg4 harg4 x0 x1 x2 x3 n p) := by
  have hi : (i 0 : ℕ) < 32 := (i 0).isLt
  have hw : ∀ (x : Fin 512) c, dvals (F := Ideal) i arg3 harg3 x2 (ix2 x c) = ((v (512 * (i 0 : ℕ) + x) c : ℝ) : EReal) := by
    intro x c
    unfold dvals rows
    rw [harg3.read_unread, valueTile_at x2 _ _ (512 * (i 0 : ℕ)) (off12 i) x c (by omega), R.value]
  have h0 : ∀ t : Fin 256, score (F := Ideal) (slotQuery x0 n) (dkey0 i arg2 harg2 x1) (ix2 r t)
      = ((e (256 * (2 * (i 0 : ℕ)) + t) : ℝ) : EReal) := by
    intro t
    unfold dkey0 tile
    rw [harg2.read_unread, R.tile _ _ ⟨2 * (i 0 : ℕ), by omega⟩ (off10 i)]
  have h1 : ∀ t : Fin 256, score (F := Ideal) (slotQuery x0 n) (dkey1 i arg2 harg2 x1) (ix2 r t)
      = ((e (256 * (2 * (i 0 : ℕ) + 1) + t) : ℝ) : EReal) := by
    intro t
    unfold dkey1 tile
    rw [harg2.read_unread, R.tile _ _ ⟨2 * (i 0 : ℕ) + 1, by omega⟩ (off11 i)]
  unfold diagState
  split
  · next hn =>
    have hn' := upper hn
    have hK : query i n r + 1 = 512 * (i 0 : ℕ) + (256 + (r + 1)) := by unfold query; omega
    rw [hK]
    refine rowAt_two h _ _ _ (r + 1) (by omega) (fun t => ?_) (fun t => ?_) hw
    · rw [biased_at, h0, bias_at, R.tile1]
      exact near_key i (by omega) (by unfold query; omega)
    · rw [masked_at]
      by_cases ht : (t : ℕ) ≤ r
      · rw [if_pos ht, if_pos (by omega), biased_at, h1, bias_at, R.tile0 t ht]
        exact near_key i (by omega) (by unfold query; omega)
      · rw [if_neg ht, if_neg (by omega)]
  · next hn =>
    have hn' := lower hn
    have hK : query i n r + 1 = 512 * (i 0 : ℕ) + (r + 1) := by unfold query; omega
    rw [hK]
    refine rowAt_one h _ _ (r + 1) (by omega) (by omega) (fun t => ?_) hw
    rw [masked_at]
    by_cases ht : (t : ℕ) ≤ r
    · rw [if_pos ht, if_pos (by omega), biased_at, h0, bias_at, R.tile0 t ht]
      exact near_key i (by omega) (by unfold query; omega)
    · rw [if_neg ht, if_neg (by omega)]

end ends
end run

/-! ## The output block -/

/-- Four heads side by side, read at an index. -/
theorem heads_at (f : Fin 4 → FVec Ideal S256x128 .f32) (r : Fin 256) (h : Fin 4) (x : Fin 128) :
    heads (F := Ideal) f (ix2 r ⟨128 * (h : ℕ) + x, by omega⟩) = f h (ix2 r x) := by
  pointwise [heads]
  have hx := x.isLt
  fin_vals h with hh
  all_goals
    simp only [hh]
    repeat (first | rw [dif_pos (by omega)] | rw [dif_neg (by omega)])
    congr 2
    · exact Fin.ext hh.symm
    · apply Fin.ext; dsimp only; omega

/-- A slot's mean, read at an index. -/
theorem mean_at (a : Vec Ideal S1x256x256 .f32) (r : Fin 256) (x : Fin 128) :
    mean (F := Ideal) a (ix2 r x) = Ideal.div (a (ix3 0 r ⟨x, by omega⟩)) (a (ix3 0 r ⟨128 + x, by omega⟩)) := by
  pointwise [mean, lo, hi]

/-- The difference of two means, read at an index. -/
theorem mixed_at (l : FVec Ideal S1x1 .f32) (a b : Vec Ideal S1x256x256 .f32) (r : Fin 256) (x : Fin 128) :
    mixed (F := Ideal) l a b (ix2 r x) = mean (F := Ideal) a (ix2 r x) - l (ix2 0 0) * mean (F := Ideal) b (ix2 r x) := by
  pointwise [mixed]

/-- A head's output, read at an index. -/
theorem headOut_at (g : Vec Ideal S1x128 .f32) (o : FVec Ideal S256x128 .f32) (r : Fin 256) (x : Fin 128) :
    headOut (F := Ideal) g o (ix2 r x) = LateModel.norm (fun x => o (ix2 r x)) (fun x => g (ix2 0 x)) x := by
  pointwise [headOut, scale]
  rfl

/-- The mixing weight. -/
theorem lamCell_at (l : Vec Ideal S4x64 .f32) :
    lamCell (F := Ideal) l (ix2 0 0) = Ideal.exp (∑ d : Fin 64, l (ix2 0 d) * l (ix2 1 d)) - Ideal.exp (∑ d : Fin 64, l (ix2 2 d) * l (ix2 3 d))
      + Ideal.ofBits .f32 0x3EB60549#32 := by
  pointwise [lamCell]

section out
variable (arg5 : Memref sig .tc .vmem S4x64 .f32) (harg5 : arg5.IsWhole) (arg6 : Memref sig .tc .vmem S1x128 .f32) (harg6 : arg6.IsWhole)
  (arg10 : Memref sig .tc .vmem S16x256x256 .f32) (x4 : Vec Ideal S4x64 .f32) (x5 : Vec Ideal S1x128 .f32)

/-- Reading a slot's sums back. -/
theorem slot_read (p : Stores Ideal) (n : Fin 16) : arg10.view.readCov p.2 (slotA n).toLoadRect = (held p n).2 := by
  rw [View.readCov_eq_canon']
  rfl

theorem lamRows_eq : lamRows (F := Ideal) arg5 harg5 x4 = x4 := by
  unfold lamRows
  rw [harg5.read_unread]
  exact View.ld_unit_lit _ _ (by decide)

theorem gain_eq : gain (F := Ideal) arg6 harg6 x5 = x5 := by
  unfold gain
  rw [harg6.read_unread]
  exact View.ld_unit_lit _ _ (by decide)

/-- The output block at head `h`, feature `x` of row `256 u + r`, from the means of the head's two slots. -/
theorem out_at (P : Stores Ideal) (u : Fin 2) (r : Fin 256) (h : Fin 4) (x : Fin 128) (a b : Fin 128 → ℝ) (l : ℝ)
    (ha : ∀ x : Fin 128, mean (F := Ideal) (held P ⟨8 * (u : ℕ) + h, by omega⟩).2 (ix2 r x) = ((a x : ℝ) : EReal))
    (hb : ∀ x : Fin 128, mean (F := Ideal) (held P ⟨8 * (u : ℕ) + (4 + h), by omega⟩).2 (ix2 r x) = ((b x : ℝ) : EReal))
    (hl : lamCell (F := Ideal) x4 (ix2 0 0) = ((l : ℝ) : EReal)) :
    View.canon [(⟨Rect.unit (s := S512x512) ![256, 0] S256x512.size Cert.LateIdeal.Facts₀.inb_S512x512_S256x512_256_0,
          heads (outHead (F := Ideal) arg5 harg5 arg6 harg6 arg10 x4 x5 P 1)⟩ : View.Piece (Elt Ideal) S512x512 .f32),
        ⟨Rect.unit (s := S512x512) ![0, 0] S256x512.size Cert.LateIdeal.Facts₀.inb_S512x512_S256x512_0_0,
          heads (outHead (F := Ideal) arg5 harg5 arg6 harg6 arg10 x4 x5 P 0)⟩]
        (ix2 ⟨256 * (u : ℕ) + r, by omega⟩ ⟨128 * (h : ℕ) + x, by omega⟩)
      = LateModel.norm (fun x => ((a x - l * b x : ℝ) : EReal)) (fun x => x5 (ix2 0 x)) x := by
  have hhead : heads (outHead (F := Ideal) arg5 harg5 arg6 harg6 arg10 x4 x5 P u) (ix2 r ⟨128 * (h : ℕ) + x, by omega⟩)
      = LateModel.norm (fun x => ((a x - l * b x : ℝ) : EReal)) (fun x => x5 (ix2 0 x)) x := by
    rw [heads_at]
    unfold outHead
    rw [slot_read, slot_read, headOut_at, lamRows_eq, gain_eq]
    refine congrArg (fun o => LateModel.norm o (fun x => x5 (ix2 0 x)) x) (funext fun x => ?_)
    rw [mixed_at, ha, hb, hl, ← EReal.coe_mul, ← EReal.coe_sub]
  have hu2 := u.isLt
  obtain rfl | rfl : u = 0 ∨ u = 1 := by omega
  · rw [View.canon_cons_of_not_mem]
    · rw [← hhead]
      refine Eq.trans ?_ (View.canon_cons_emb (Rect.unit (s := S512x512) ![0, 0] S256x512.size Cert.LateIdeal.Facts₀.inb_S512x512_S256x512_0_0) _ []
        (ix2 r ⟨128 * (h : ℕ) + x, by omega⟩))
      congr 1
      funext a; fin_cases a <;> exact Fin.ext (by simp [Rect.emb, LoadRect.idx, Rect.unit, ix2])
    · intro hm
      rw [Rect.mem_set_unit] at hm
      have := hm 0
      simp [ix2] at this
      omega
  · rw [← hhead]
    refine Eq.trans (congrArg (View.canon _) ?_) (View.canon_cons_emb (Rect.unit (s := S512x512) ![256, 0] S256x512.size
      Cert.LateIdeal.Facts₀.inb_S512x512_S256x512_256_0) _ _ (ix2 r ⟨128 * (h : ℕ) + x, by omega⟩))
    funext a; fin_cases a <;> exact Fin.ext (by simp [Rect.emb, LoadRect.idx, Rect.unit, ix2])

end out

end Cert.LateIdeal.Loop

end
-- ==== Proof.LateMeaning.lean ====
module

public import proofs.«01_k».proof.Proof.LateHost
public import proofs.«01_k».proof.Proof.LateLoop

@[expose] public section

set_option maxRecDepth 16384

noncomputable section

/-! # What the second layer's differential attention computes -/

namespace Cert.LateIdeal.Meaning

open Idealize.ShloMosaic Idealize.ShloMosaic.TcCoe Cert.LateIdeal Cert.LateIdeal.Gen Cert.LateIdeal.Host Cert.Softmax Cert.Buckets
open Cert.LateIdeal.Step Cert.LateIdeal.Slots Cert.LateModel
open Cert.KernelIdeal.Step (Stores)
open Cert.KernelIdeal.Slots (State held start)
open Cert.KernelIdeal.Rows (RowAt)
open Idealize.ShloMosaic.Pipeline (Dat)

variable (m : (ℓ : Loc nD τ sig) → Buf (Elt Ideal) ℓ) (c : Dev nD) (X Y : ℕ → ℕ → ℝ) (q1 k1 q2 k2 : Fin 64 → ℝ)

/-- The arguments the attention reads, except the gains, are real numbers. -/
structure Reals : Prop where
  query : ∀ (t : Fin 16384) (j : Fin 512), features m c (ix2 t ⟨512 + j, by omega⟩) = ((X t (512 + j) : ℝ) : EReal)
  keys : ∀ (t : Fin 16384) (j : Fin 256), features m c (ix2 t ⟨1792 + j, by omega⟩) = ((X t (1792 + j) : ℝ) : EReal)
  bias : ∀ (b : Fin 32) (h : Fin 4), biases m c (ix2 b ⟨8 + h, by omega⟩) = ((Y b (8 + h) : ℝ) : EReal)
  q1 : ∀ d, lq1 m c (ix1 d) = ((q1 d : ℝ) : EReal)
  k1 : ∀ d, lk1 m c (ix1 d) = ((k1 d : ℝ) : EReal)
  q2 : ∀ d, lq2 m c (ix1 d) = ((q2 d : ℝ) : EReal)
  k2 : ∀ d, lk2 m c (ix1 d) = ((k2 d : ℝ) : EReal)

variable {m c X Y q1 k1 q2 k2}

/-- Half of a query against a whole key: only the half's entries count. -/
theorem half_sum (f : ℕ → ℝ) (g : ℕ → ℝ) (p : Fin 2) (h : Fin 4) :
    ∑ d : Fin 128, Loop.half (fun j => ((f j : ℝ) : EReal)) (4 * (p : ℕ) + h) d * ((g d : ℝ) : EReal)
      = ((∑ d : Fin 64, f (128 * (h : ℕ) + (64 * (p : ℕ) + d)) * (1 / 8) * g (64 * (p : ℕ) + d) : ℝ) : EReal) := by
  rw [← coe_sum]
  refine (Fin.sum_univ_add (a := 64) (b := 64) (fun d : Fin (64 + 64) =>
    Loop.half (fun j => ((f j : ℝ) : EReal)) (4 * (p : ℕ) + h) d * ((g d : ℝ) : EReal))).trans ?_
  have h4 : (h : ℕ) % 4 = h := Nat.mod_eq_of_lt h.isLt
  have hh := h.isLt
  have e0 : ∀ d : Fin 64, ((Fin.castAdd 64 d : Fin (64 + 64)) : ℕ) = d := fun d => rfl
  have e1 : ∀ d : Fin 64, ((Fin.natAdd 64 d : Fin (64 + 64)) : ℕ) = 64 + d := fun d => rfl
  simp only [e0, e1, Loop.half]
  obtain rfl | rfl : p = 0 ∨ p = 1 := by omega
  · have a : 4 * ((0 : Fin 2) : ℕ) + (h : ℕ) = h := by simp
    have b : ∀ d : Fin 64, ¬ 64 + (d : ℕ) < 64 := fun d => by omega
    simp only [a, if_pos hh, h4, if_pos (Fin.isLt _), b, if_false, zero_mul, Finset.sum_const_zero, add_zero]
    refine Finset.sum_congr rfl fun d _ => ?_
    rw [eighth, ← EReal.coe_mul, ← EReal.coe_mul]
    simp
  · have a : 4 * ((1 : Fin 2) : ℕ) + (h : ℕ) = 4 + h := by simp
    have a1 : ¬ 4 + (h : ℕ) < 4 := by omega
    have a2 : (4 + (h : ℕ)) % 4 = h := by omega
    have b : ∀ d : Fin 64, ¬ 64 ≤ (d : ℕ) := fun d => by omega
    have b1 : ∀ d : Fin 64, 64 ≤ 64 + (d : ℕ) := fun d => by omega
    simp only [a, if_neg a1, a2, b, b1, if_false, if_true, zero_mul, Finset.sum_const_zero, zero_add]
    refine Finset.sum_congr rfl fun d _ => ?_
    rw [eighth, ← EReal.coe_mul, ← EReal.coe_mul]
    simp

/-- The value rows: the value columns, then ones. -/
def wide (X : ℕ → ℕ → ℝ) (t : ℕ) (d : Fin 256) : ℝ := if (d : ℕ) < 128 then value X t d else 1

/-- What a bias has more than the last bucket's. -/
def extra (Y : ℕ → ℕ → ℝ) (h d : ℕ) : ℝ := Y (bucket d) (8 + h) - Y 31 (8 + h)

/-- An entry of the table of biases. -/
theorem Reals.row (H : Reals m c X Y q1 k1 q2 k2) (h : Fin 4) {b : ℕ} (hb : b ≤ 31) : Host.row m c h b = ((Y b (8 + h) : ℝ) : EReal) := by
  unfold Host.row
  rw [H.bias]
  exact congrArg (fun b => ((Y b (8 + h) : ℝ) : EReal)) (Nat.mod_eq_of_lt (by omega))

/-- An entry of a bias tile. -/
theorem Reals.extra (H : Reals m c X Y q1 k1 q2 k2) (h : Fin 4) (d : ℕ) :
    Host.row m c h (bucket d) - Host.row m c h 31 = ((Meaning.extra Y h d : ℝ) : EReal) := by
  rw [H.row h (b := bucket d) (upTo_lt d 31), H.row h le_rfl, ← EReal.coe_sub]
  rfl

/-- A slot's row at grid point `t`, in real numbers. -/
theorem Reals.slot (H : Reals m c X Y q1 k1 q2 k2) (t : Fin cfg0.N) (u p : Fin 2) (h : Fin 4) (r : Fin 256) (n : Fin 16)
    (hn : (n : ℕ) = 8 * (u : ℕ) + (4 * (p : ℕ) + h)) (q : Fin 16384) (hq : (q : ℕ) = 512 * (grid0.coords t 0 : ℕ) + (256 * (u : ℕ) + r)) :
    Loop.Reals (X0_0 m c t) (iblk m c 1 t) (iblk m c 2 t) (iblk m c 3 t) n r (dots X p h q) (Meaning.extra Y h) (wide X) where
  products T k := by
    have hu : (n : ℕ) / 8 = u := by omega
    have hm : (n : ℕ) % 8 = 4 * (p : ℕ) + h := by omega
    rw [block1]
    have hK : ∀ d : Fin 128, (V m c main_v193 : FVec Ideal S64x128x256 .bf16) (ix3 T d k)
        = ((X (256 * (T : ℕ) + k) (1792 + d) : ℝ) : EReal) := by
      intro d
      rw [k_entry]
      exact H.keys ⟨256 * (T : ℕ) + k, by omega⟩ ⟨d, by omega⟩
    have hS : ∀ d : Fin 128, slotQuery (F := Ideal) (X0_0 m c t) n (ix3 0 r d)
        = Loop.half (fun j => ((X q (512 + j) : ℝ) : EReal)) (4 * (p : ℕ) + h) d := by
      intro d
      rw [← hm]
      refine Loop.slotQuery_at _ n r d _ fun j => ?_
      rw [block0 m c t _ j q (by rw [hq]; dsimp only; rw [hu])]
      exact H.query q j
    simp only [hK, hS]
    exact half_sum (fun j => X q (512 + j)) (fun d => X (256 * (T : ℕ) + k) (1792 + d)) p h
  value y d := by
    rw [block2, v_entry]
    unfold wide
    split
    · next hd =>
      have := H.keys y ⟨128 + d, by omega⟩
      have e : 1792 + (128 + (d : ℕ)) = 1920 + d := by omega
      simp only [e] at this
      exact this
    · rfl
  far d hd := by
    unfold Meaning.extra
    rw [bucket_far hd, sub_self]
  tile0 k hk := by
    have h4 : (n : ℕ) % 4 = h := by omega
    have e : (⟨(n : ℕ) % 4, by omega⟩ : Fin 4) = h := Fin.ext h4
    rw [block3, e, t_entry0 m c h r k hk]
    exact H.extra h _
  tile1 k := by
    have h4 : (n : ℕ) % 4 = h := by omega
    have e : (⟨(n : ℕ) % 4, by omega⟩ : Fin 4) = h := Fin.ext h4
    rw [block3, e, t_entry1 m c h r k]
    exact H.extra h _

/-- A slot's mean at the end, from its row. -/
theorem mean_of_row {K : ℕ} {s : ℕ → ℝ} {r : Fin 256} {p : State Ideal} (h : RowAt (K + 1) s (wide X) r p) (x : Fin 128) :
    Step.mean (F := Ideal) p.2 (ix2 r x) = ((soft (K + 1) s (fun t => value X t x) : ℝ) : EReal) := by
  obtain ⟨μ, -, hrow⟩ := h
  have hfin := hrow.finish (by omega) ⟨x, by omega⟩ ⟨128 + x, by omega⟩ (fun t => if_neg (by dsimp only; omega))
  rw [Loop.mean_at, hfin]
  have hw : ∀ t, wide X t ⟨x, by omega⟩ = value X t x := fun t => if_pos x.isLt
  simp only [hw]

/-- The constant part of the biases does not change the mean. -/
theorem soft_total (i : grid0.Coords) (n : Fin 16) (r : Fin 256) (p h q : ℕ) (hq : q = Loop.query i n r) (x : ℕ) :
    soft (q + 1) (Loop.total i n r (dots X p h q) (extra Y h)) (fun t => value X t x) = LateModel.mean X Y p h q x := by
  have e : Loop.total i n r (dots X p h q) (extra Y h) = fun t => LateModel.score X Y p h q t - Y 31 (8 + h) := by
    funext t
    unfold Loop.total extra LateModel.score
    rw [← hq]
    ring
  rw [e]
  unfold LateModel.mean
  rw [← soft_shift (q + 1) (LateModel.score X Y p h q) _ (Y 31 (8 + h))]
  rfl

/-- The mixing weight. -/
theorem Reals.weight (H : Reals m c X Y q1 k1 q2 k2) (t : Fin cfg0.N) :
    lamCell (F := Ideal) (iblk m c 4 t) (ix2 0 0) = ((lam q1 k1 q2 k2 : ℝ) : EReal) := by
  rw [block4, Loop.lamCell_at]
  have h0 := fun d => (l_entry m c d).1
  have h1 := fun d => (l_entry m c d).2.1
  have h2 := fun d => (l_entry m c d).2.2.1
  have h3 := fun d => (l_entry m c d).2.2.2
  simp only [h0, h1, h2, h3, H.q1, H.k1, H.q2, H.k2, ← EReal.coe_mul, coe_sum, Ideal.exp_coe, ← EReal.coe_sub]
  rw [start_eq, ← EReal.coe_add]
  rfl

/-- What the stores of a grid point leave, if each slot's row has seen every key up to its query: at head `h`, feature
    `x` of row `256 u + r` the differential attention of query `q`. -/
theorem Reals.point (H : Reals m c X Y q1 k1 q2 k2) (t : Fin cfg0.N) (u : Fin 2) (r : Fin 256) (h : Fin 4) (x : Fin 128) (q : Fin 16384)
    (hq : (q : ℕ) = 512 * (grid0.coords t 0 : ℕ) + (256 * (u : ℕ) + r))
    (arg5 : Memref sig .tc .vmem S4x64 .f32) (harg5 : arg5.IsWhole) (arg6 : Memref sig .tc .vmem S1x128 .f32) (harg6 : arg6.IsWhole)
    (arg10 : Memref sig .tc .vmem S16x256x256 .f32) (P : Stores Ideal)
    (hP : ∀ (n : Fin 16) (e β : ℕ → ℝ), Loop.Reals (X0_0 m c t) (iblk m c 1 t) (iblk m c 2 t) (iblk m c 3 t) n r e β (wide X) →
      RowAt (Loop.query (grid0.coords t) n r + 1) (Loop.total (grid0.coords t) n r e β) (wide X) r (held P n)) :
    View.canon [(⟨Rect.unit (s := S512x512) ![256, 0] S256x512.size Cert.LateIdeal.Facts₀.inb_S512x512_S256x512_256_0,
          heads (outHead (F := Ideal) arg5 harg5 arg6 harg6 arg10 (iblk m c 4 t) (iblk m c 5 t) P 1)⟩ : View.Piece (Elt Ideal) S512x512 .f32),
        ⟨Rect.unit (s := S512x512) ![0, 0] S256x512.size Cert.LateIdeal.Facts₀.inb_S512x512_S256x512_0_0,
          heads (outHead (F := Ideal) arg5 harg5 arg6 harg6 arg10 (iblk m c 4 t) (iblk m c 5 t) P 0)⟩]
        (ix2 ⟨256 * (u : ℕ) + r, by omega⟩ ⟨128 * (h : ℕ) + x, by omega⟩)
      = norm (fun x => ((diff X Y (lam q1 k1 q2 k2) h q x : ℝ) : EReal)) (fun x => gains m c (ix1 x)) x := by
  have hmean : ∀ (p : Fin 2) (n : Fin 16), (n : ℕ) = 8 * (u : ℕ) + (4 * (p : ℕ) + h) → ∀ x : Fin 128,
      Step.mean (F := Ideal) (held P n).2 (ix2 r x) = ((LateModel.mean X Y p h q x : ℝ) : EReal) := by
    intro p n hn x
    have hqq : (q : ℕ) = Loop.query (grid0.coords t) n r := by unfold Loop.query; omega
    have hrow := hP n _ _ (H.slot t u p h r n hn q hq)
    rw [mean_of_row hrow x, ← hqq, soft_total _ n r p h q hqq]
  rw [Loop.out_at arg5 harg5 arg6 harg6 arg10 (iblk m c 4 t) (iblk m c 5 t) P u r h x
    (fun x => LateModel.mean X Y 0 h q x) (fun x => LateModel.mean X Y 1 h q x) (lam q1 k1 q2 k2)
    (hmean 0 _ (by simp)) (hmean 1 _ (by simp)) (H.weight t)]
  rw [block5]
  exact congrArg (fun g => norm _ g x) (funext fun x => g_entry m c x)

/-- From the second grid point on a pair of tiles lies before the diagonal. -/
theorem near_at : ∀ i : grid0.Coords, 1 ≤ (i 0 : ℕ) → k0_cond1 i = 1#1 := by decide +kernel
theorem coords_at : ∀ t : Fin cfg0.N, (grid0.coords t 0 : ℕ) = t := (by decide +kernel : ∀ t : Fin grid0.N, (grid0.coords t 0 : ℕ) = t)

/-- What grid point `t` writes at head `h`, feature `x` of row `256 u + r`. -/
theorem block_at (H : Reals m c X Y q1 k1 q2 k2) (t : Fin cfg0.N) (u : Fin 2) (r : Fin 256) (h : Fin 4) (x : Fin 128) (q : Fin 16384)
    (hq : (q : ℕ) = 512 * (grid0.coords t 0 : ℕ) + (256 * (u : ℕ) + r)) :
    outsAt0 (F := Ideal) m c t.val t.isLt (ix2 ⟨256 * (u : ℕ) + r, by omega⟩ ⟨128 * (h : ℕ) + x, by omega⟩)
      = norm (fun x => ((diff X Y (lam q1 k1 q2 k2) h q x : ℝ) : EReal)) (fun x => gains m c (ix1 x)) x := by
  have hc := coords_at t
  by_cases h0 : 1 ≤ t.val
  · have hn := near_at (grid0.coords t) (by omega)
    rw [outsAt0_B m c t h0]
    unfold out0_B_6
    rw [View.read_writes_eq_canon _ _ _ (cover0_B_6 c _ _ _ _ _ _ _ _ _ _ _ _ _ _ _ _ _ _ _ _ _ _ _ _ _ _ _ _), run_later _ _ _ _ _ _ _ _ _ _ _ _ _ _ _ _ _ _ _ _ _ _ _ _ _ _ _ _ _ hn]
    refine H.point t u r h x q hq _ _ _ _ _ _ fun n e β R => ?_
    rw [held_diag, held_near, held_far]
    refine Loop.rowAt_diag _ _ _ _ _ _ _ R _ (Loop.rowAt_near _ _ _ _ _ _ _ R hn _ ?_)
    have := Loop.rowAt_loop (grid0.coords t) R _ le_rfl
    rwa [Loop.trips_eq] at this ⊢
  · rw [outsAt0_A m c t h0]
    unfold out0_A_6
    rw [View.read_writes_eq_canon _ _ _ (cover0_A_6 c _ _ _ _ _ _ _ _ _ _ _ _ _ _ _ _ _ _ _ _ _ _ _ _ _ _ _ _), run_first]
    refine H.point t u r h x q hq _ _ _ _ _ _ fun n e β R => ?_
    rw [held_diag, held_far]
    refine Loop.rowAt_diag _ _ _ _ _ _ _ R _ ?_
    have := Loop.rowAt_loop (grid0.coords t) R _ le_rfl
    have hz : (grid0.coords t 0 : ℕ) = 0 := by omega
    rw [Loop.trips_eq] at this ⊢
    rw [hz] at this ⊢
    exact this

/-- What grid point `t` writes at row `a`, column `b` of its block. -/
theorem point_at (H : Reals m c X Y q1 k1 q2 k2) (t : Fin cfg0.N) (a b : Fin 512) (q : Fin 16384) (hq : (q : ℕ) = 512 * (grid0.coords t 0 : ℕ) + a) :
    outsAt0 (F := Ideal) m c t.val t.isLt (ix2 a b) = table X Y (lam q1 k1 q2 k2) (fun x => gains m c (ix1 x)) q b := by
  have e := block_at H t ⟨(a : ℕ) / 256, by omega⟩ ⟨(a : ℕ) % 256, by omega⟩ ⟨(b : ℕ) / 128, by omega⟩ ⟨(b : ℕ) % 128, by omega⟩ q
    (by dsimp only; omega)
  unfold table
  rw [← e]
  congr 1
  congr 1
  · exact Fin.ext (by dsimp only; omega)
  · exact Fin.ext (by dsimp only; omega)

/-- The kernel's result array. -/
theorem result (H : Reals m c X Y q1 k1 q2 k2) :
    (Gen.dats m 0 c).arrAt 6 cfg0.N
      = fun i : S16384x512.Idx => table X Y (lam q1 k1 q2 k2) (fun x => gains m c (ix1 x)) (i 0) (i 1) := by
  refine (Gen.dats m 0 c).arrAt_eq_of_covers 6 _ covers fun t hf y => ?_
  obtain ⟨a, b, rfl⟩ : ∃ a b : Fin 512, y = (ix2 a b : S512x512.Idx) :=
    ⟨y 0, y 1, by funext a; match a with | ⟨0, _⟩ => rfl | ⟨1, _⟩ => rfl⟩
  have e0 : ((win0_6.blk t).view.emb (ix2 a b : S512x512.Idx) 0 : ℕ) = 512 * (grid0.coords t 0 : ℕ) + a := by
    blk_simp [index6]
    rw [Nat.mul_comm]
  have e1 : (win0_6.blk t).view.emb (ix2 a b : S512x512.Idx) 1 = b := Fin.ext (by
    blk_simp [index6])
  blk_simp
  rw [after0_6]
  rw [point_at H t a b ⟨512 * (grid0.coords t 0 : ℕ) + a, e0 ▸ Fin.isLt _⟩ rfl]
  exact (congrArg₂ (table X Y (lam q1 k1 q2 k2) fun x => gains m c (ix1 x)) (Fin.ext e0) e1).symm

end Cert.LateIdeal.Meaning

end
-- ==== Proof.LateRef.lean ====
module

public import proofs.«01_k».proof.Proof.Gen.LatePlainIdeal.Read
public import proofs.«01_k».proof.Proof.LateModel
public import proofs.«01_k».proof.Proof.Attn
public import Idealize.ShloMosaic.Lib.Pointwise
public import Idealize.ShloMosaic.Lib.WordCmp

@[expose] public section

set_option maxRecDepth 16384

noncomputable section

/-! # What the second layer's differential attention's reference computes

Two softmaxes per query and head, each over all keys with the later ones masked, and the norm of the difference. -/

namespace Cert.LatePlainIdeal.Ref

open Idealize.ShloMosaic Idealize.ShloMosaic.TcCoe Cert.LatePlainIdeal.Gen Cert.LatePlainIdeal.Read Cert.Buckets Cert.Softmax Cert.LateModel
open Cert.Attn (below_inf)

/-- The row of the table that the gather takes: the index read signed, kept within the table. -/
theorem gather_at {α : Type} (x : S32x1x4.Idx → α) (idx : IVec S16384x16384x1 32) (q t : Fin 16384) (h : Fin 4) :
    Host.gather gather_S32x1x4_S16384x16384x1_S16384x16384x1x4_23_0_n_n_0_2_114 x idx (ix4 q t 0 h)
      = x (ix3 ⟨min (idx (ix3 q t 0)).toInt.toNat 31, by omega⟩ 0 h) := by
  unfold Host.gather
  congr 1
  funext a
  refine Fin.ext ?_
  show GatherDims.start _ (ix4 q t 0 h) idx a + GatherDims.batchCoord _ (ix4 q t 0 h) a + GatherDims.offCoord _ (ix4 q t 0 h) a = _
  rw [GatherDims.batchCoord_eq_zero _ _ _ List.not_mem_nil, Nat.add_zero]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x1x4_S16384x16384x1_S16384x16384x1x4_23_0_n_n_0_2_114.startIndexMap from List.mem_singleton.mpr rfl)]
    have hsi : gather_S32x1x4_S16384x16384x1_S16384x16384x1x4_23_0_n_n_0_2_114.siIdx (ix4 q t 0 h)
        ⟨List.idxOf (0 : Fin 3) gather_S32x1x4_S16384x16384x1_S16384x16384x1x4_23_0_n_n_0_2_114.startIndexMap,
          List.idxOf_lt_length_iff.2 (List.mem_singleton.mpr rfl)⟩ = ix3 q t 0 := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 3) ∉ gather_S32x1x4_S16384x16384x1_S16384x16384x1x4_23_0_n_n_0_2_114.startIndexMap by
      intro hm; exact absurd (List.mem_singleton.mp hm) (by decide)), Nat.zero_add]
    unfold GatherDims.offCoord
    rfl
  · unfold GatherDims.start
    rw [dif_neg (show (2 : Fin 3) ∉ gather_S32x1x4_S16384x16384x1_S16384x16384x1x4_23_0_n_n_0_2_114.startIndexMap by
      intro hm; exact absurd (List.mem_singleton.mp hm) (by decide)), Nat.zero_add]
    unfold GatherDims.offCoord
    rfl

/-! ## The bucket of a distance, as the reference computes it in words -/

theorem toInt_ofInt {a : ℤ} (h : -2147483648 ≤ a) (h' : a < 2147483648) : (BitVec.ofInt 32 a).toInt = a := by
  rw [BitVec.toInt_ofInt]
  unfold Int.bmod
  norm_num
  split <;> omega

/-- The larger of two words that hold small integers. -/
theorem maxsi_ofInt {a b : ℤ} (ha : -2147483648 ≤ a) (ha' : a < 2147483648) (hb : -2147483648 ≤ b) (hb' : b < 2147483648) :
    IntOp.maxsi (BitVec.ofInt 32 a) (BitVec.ofInt 32 b) = BitVec.ofInt 32 (max a b) := by
  unfold IntOp.maxsi
  rw [BitVec.slt, toInt_ofInt ha ha', toInt_ofInt hb hb']
  by_cases h : b < a
  · rw [decide_eq_true h, max_eq_left h.le]; rfl
  · rw [decide_eq_false h, max_eq_right (not_lt.1 h)]; rfl

/-- The smaller of two words that hold small integers. -/
theorem minsi_ofInt {a b : ℤ} (ha : -2147483648 ≤ a) (ha' : a < 2147483648) (hb : -2147483648 ≤ b) (hb' : b < 2147483648) :
    IntOp.minsi (BitVec.ofInt 32 a) (BitVec.ofInt 32 b) = BitVec.ofInt 32 (min a b) := by
  unfold IntOp.minsi
  rw [BitVec.slt, toInt_ofInt ha ha', toInt_ofInt hb hb']
  by_cases h : a < b
  · rw [decide_eq_true h, min_eq_left h.le]; rfl
  · rw [decide_eq_false h, min_eq_right (not_lt.1 h)]; rfl

/-- The logarithmic part of the bucket, of a word. -/
def logWord (m : BitVec 32) : BitVec 32 :=
  Ideal.fptosi 32 (Ideal.div (Ideal.log (Ideal.div (((m.toInt : ℝ)) : EReal) (Ideal.ofBits .f32 0x41800000#32))) (Ideal.ofBits .f32 0x40051592#32)
    * Ideal.ofBits .f32 0x41800000#32)

/-- The bucket of a distance, of a word. -/
def bucketWord (d : BitVec 32) : BitVec 32 :=
  let p := IntOp.maxsi d 0#32
  let b := Scalar.select (IntOp.cmpi .slt p 16#32) p (IntOp.minsi (IntOp.addi 16#32 (logWord (IntOp.maxsi p 16#32))) 31#32)
  Scalar.select (IntOp.cmpi .slt b 0#32) (IntOp.addi b 32#32) b

theorem sixteen : Ideal.ofBits .f32 0x41800000#32 = ((16 : ℝ) : EReal) := by
  simp [Ideal.ofBits, Ideal.ieee, -EReal.coe_mul]
  norm_num

theorem width_eq : Ideal.ofBits .f32 0x40051592#32 = ((width : ℝ) : EReal) := by
  unfold width
  simp [Ideal.ofBits, Ideal.ieee, -EReal.coe_mul]
  norm_num

/-- The logarithmic part counts the steps. -/
theorem logWord_eq {n : ℕ} (h16 : 16 ≤ n) (h : n < 16384) : logWord (BitVec.ofInt 32 n) = BitVec.ofInt 32 ⌊steps n⌋ := by
  have hn : (16 : ℝ) ≤ n := by exact_mod_cast h16
  have hn' : (n : ℝ) < 16384 := by exact_mod_cast h
  have hlog : 0 ≤ Real.log ((n : ℝ) / 16) := Real.log_nonneg (by rw [le_div_iff₀ (by norm_num)]; linarith)
  have hs : 0 ≤ steps n := by
    unfold steps
    have := width_pos
    positivity
  have hup : steps n < 2147483647 := by
    have h1 : Real.log ((n : ℝ) / 16) ≤ (n : ℝ) / 16 - 1 := Real.log_le_sub_one_of_pos (by positivity)
    have h2 : 1 / width < 1 := by unfold width; norm_num
    have h3 : 0 < 1 / width := by have := width_pos; positivity
    unfold steps
    nlinarith
  unfold logWord
  rw [toInt_ofInt (by omega) (by omega), sixteen, width_eq, Ideal.div_coe (by norm_num : (16 : ℝ) ≠ 0), ← EReal.coe_mul, Ideal.log_coe]
  have hpos : ¬ (((n : ℤ) : ℝ) * (1 / 16) ≤ 0) := by push_cast; linarith
  rw [if_neg hpos, Ideal.div_coe width_pos.ne', ← EReal.coe_mul, ← EReal.coe_mul]
  have e : Real.log (((n : ℤ) : ℝ) * (1 / 16)) * (1 / width) * 16 = steps n := by
    unfold steps
    rw [show ((n : ℤ) : ℝ) * (1 / 16) = (n : ℝ) / 16 by push_cast; ring]
  rw [e, Ideal.fptosi, Ideal.toIntClamped_coe, if_pos hs]
  congr 1
  have h0 : 0 ≤ ⌊steps n⌋ := Int.floor_nonneg.2 hs
  have h1 : ⌊steps n⌋ < 2147483647 := Int.floor_lt.2 (by exact_mod_cast hup)
  norm_num
  omega

/-- The bucket's word is the bucket. -/
theorem bucketWord_eq {n : ℕ} (h : n < 16384) : bucketWord (BitVec.ofInt 32 n) = BitVec.ofInt 32 (bucket n : ℤ) := by
  have hb : bucket n ≤ 31 := upTo_lt n 31
  have e0 : (0#32 : BitVec 32) = BitVec.ofInt 32 0 := rfl
  have e16 : (16#32 : BitVec 32) = BitVec.ofInt 32 16 := rfl
  have e31 : (31#32 : BitVec 32) = BitVec.ofInt 32 31 := rfl
  have key : Scalar.select (IntOp.cmpi .slt (BitVec.ofInt 32 (n : ℤ)) 16#32) (BitVec.ofInt 32 (n : ℤ))
      (IntOp.minsi (IntOp.addi 16#32 (logWord (IntOp.maxsi (BitVec.ofInt 32 (n : ℤ)) 16#32))) 31#32) = BitVec.ofInt 32 (bucket n : ℤ) := by
    rw [e16, WordCmp.cmpi_slt_eq, toInt_ofInt (by omega) (by omega), toInt_ofInt (by norm_num) (by norm_num)]
    by_cases h16 : n < 16
    · rw [decide_eq_true (by omega : (n : ℤ) < 16), bucket_near h16]; rfl
    · rw [decide_eq_false (by omega : ¬ (n : ℤ) < 16)]
      have hn : (16 : ℝ) ≤ n := by exact_mod_cast not_lt.1 h16
      have hs : 0 ≤ steps n := by
        have hlog : 0 ≤ Real.log ((n : ℝ) / 16) := Real.log_nonneg (by rw [le_div_iff₀ (by norm_num)]; linarith)
        unfold steps
        have := width_pos
        positivity
      have hup : steps n < 100000 := by
        have hn' : (n : ℝ) < 16384 := by exact_mod_cast h
        have h1 : Real.log ((n : ℝ) / 16) ≤ (n : ℝ) / 16 - 1 := Real.log_le_sub_one_of_pos (by positivity)
        have h2 : 1 / width < 1 := by unfold width; norm_num
        have h3 : 0 < 1 / width := by have := width_pos; positivity
        unfold steps
        nlinarith
      have h0 : 0 ≤ ⌊steps n⌋ := Int.floor_nonneg.2 hs
      have h1 : ⌊steps n⌋ < 100000 := Int.floor_lt.2 (by exact_mod_cast hup)
      rw [maxsi_ofInt (by omega) (by omega) (by norm_num) (by norm_num), max_eq_left (by omega), logWord_eq (by omega) h]
      show IntOp.minsi (BitVec.ofInt 32 16 + BitVec.ofInt 32 ⌊steps n⌋) 31#32 = _
      rw [← BitVec.ofInt_add, e31, minsi_ofInt (by omega) (by omega) (by norm_num) (by norm_num), bucket_log (by omega)]
  unfold bucketWord
  dsimp only
  rw [e0, maxsi_ofInt (by omega) (by omega) (by norm_num) (by norm_num), max_eq_left (by omega), key, WordCmp.cmpi_slt_eq,
    toInt_ofInt (by omega) (by omega), toInt_ofInt (by norm_num) (by norm_num), decide_eq_false (by omega)]
  rfl

/-- The index the table is read at. -/
theorem index_at {q t : Fin 16384} (h : (t : ℕ) ≤ q) :
    val_main_v48 (F := Ideal) (ix3 q t 0) = BitVec.ofInt 32 (bucket ((q : ℕ) - t) : ℤ) := by
  rw [← bucketWord_eq (by omega)]
  have e : IntOp.subi (BitVec.ofNat 32 (q : ℕ)) (BitVec.ofNat 32 (t : ℕ)) = BitVec.ofInt 32 (((q : ℕ) - (t : ℕ) : ℕ) : ℤ) := by
    apply BitVec.eq_of_toNat_eq
    show (BitVec.ofNat 32 (q : ℕ) - BitVec.ofNat 32 (t : ℕ)).toNat = (BitVec.ofInt 32 (((q : ℕ) - (t : ℕ) : ℕ) : ℤ)).toNat
    rw [BitVec.toNat_sub, BitVec.toNat_ofNat, BitVec.toNat_ofNat, BitVec.ofInt_natCast, BitVec.toNat_ofNat]
    omega
  rw [← e]
  have e : idx_main_v48 (ix3 q t 0) = ix2 q t := by
    funext a
    match a with
    | ⟨0, _⟩ => rfl
    | ⟨1, _⟩ => rfl
  rw [val_main_v48_apply, e, val_main_v47_apply, val_main_v44_apply, val_main_v46_apply, val_main_v42_apply, val_main_v39_apply, val_main_v41_apply,
    val_main_v37_apply, val_main_v35_apply, val_main_v34_apply, val_main_v32_apply, val_main_v30_apply, val_main_v29_apply, val_main_v27_apply,
    val_main_v26_apply, val_main_v24_apply, val_main_v22_apply]
  have c20 : val_main_v20 (F := Ideal) (ix2 q t) = BitVec.ofNat 32 (q : ℕ) := rfl
  have c21 : val_main_v21 (F := Ideal) (ix2 q t) = BitVec.ofNat 32 (t : ℕ) := rfl
  have c23 : val_main_v23 (F := Ideal) (ix2 q t) = 0#32 := rfl
  have c25 : val_main_v25 (F := Ideal) (ix2 q t) = 16#32 := rfl
  have c36 : val_main_v36 (F := Ideal) (ix2 q t) = 16#32 := rfl
  have c38 : val_main_v38 (F := Ideal) (ix2 q t) = 16#32 := rfl
  have c40 : val_main_v40 (F := Ideal) (ix2 q t) = 31#32 := rfl
  have c43 : val_main_v43 (F := Ideal) (ix2 q t) = 0#32 := rfl
  have c45 : val_main_v45 (F := Ideal) (ix2 q t) = 32#32 := rfl
  have c28 : val_main_v28 (F := Ideal) (ix2 q t) = Ideal.ofBits .f32 0x41800000#32 := rfl
  have c31 : val_main_v31 (F := Ideal) (ix2 q t) = Ideal.ofBits .f32 0x40051592#32 := rfl
  have c33 : val_main_v33 (F := Ideal) (ix2 q t) = Ideal.ofBits .f32 0x41800000#32 := rfl
  rw [c20, c21, c23, c25, c36, c38, c40, c43, c45, c28, c31, c33]
  generalize IntOp.subi (BitVec.ofNat 32 (q : ℕ)) (BitVec.ofNat 32 (t : ℕ)) = d
  rfl

/-- The bias of a visible key. -/
theorem bias_at (x1 : FVec Ideal S32x12 .f32) {q t : Fin 16384} (h : Fin 4) (hm : (t : ℕ) ≤ q) (b : Fin 32) (hb : (b : ℕ) = bucket ((q : ℕ) - t)) :
    val_main_v50 (F := Ideal) x1 (ix4 q 0 h t) = x1 (ix2 b ⟨8 + h, by omega⟩) := by
  have e : idx_main_v50 (ix4 q 0 h t) = ix4 q t 0 h := by
    funext a
    match a with
    | ⟨0, _⟩ => rfl
    | ⟨1, _⟩ => rfl
    | ⟨2, _⟩ => rfl
    | ⟨3, _⟩ => rfl
  rw [val_main_v50_apply, e]
  unfold val_main_v49
  have hi := index_at hm
  rw [← hb] at hi
  generalize val_main_v48 (F := Ideal) = y at hi ⊢
  have h17 : ∀ b : Fin 32, val_main_v17 (F := Ideal) x1 (ix3 b 0 h) = x1 (ix2 b ⟨8 + h, by omega⟩) := by
    intro b
    pointwise [val_main_v17, val_main_v16]
  generalize val_main_v17 (F := Ideal) x1 = z at h17 ⊢
  refine (gather_at z y q t h).trans ?_
  rw [← h17]
  refine congrArg (fun b => z (ix3 b 0 h)) (Fin.ext ?_)
  dsimp only
  have hb := b.isLt
  rw [hi, toInt_ofInt (by omega) (by omega)]
  omega

/-! ## One softmax of the reference, over any scores -/

/-- The scores with those of the later keys replaced. -/
def keep (σ : FVec Ideal S1x16384x1x4x16384 .f32) : FVec Ideal S1x16384x1x4x16384 .f32 :=
  select (val_main_call1_v1 (F := Ideal)) σ (val_main_call1_v2 (F := Ideal))

/-- The rows' maxima. -/
def top (σ : FVec Ideal S1x16384x1x4x16384 .f32) : FVec Ideal S1x16384x1x4 .f32 :=
  Host.reduce FloatOps.maximumf (keep σ) (val_main_cst_13 (F := Ideal)) reducesTo_S1x16384x1x4x16384_S1x16384x1x4_d4 h_S_

/-- The rows' maxima, as columns. -/
def column (σ : FVec Ideal S1x16384x1x4x16384 .f32) : FVec Ideal S1x16384x1x4x1 .f32 :=
  broadcastInDim S1x16384x1x4x1 ![0, 1, 2, 3] bcast_S1x16384x1x4_S1x16384x1x4x1_0_1_2_3 (top σ)

/-- The maxima that are finite, and zero for the others. -/
def finiteTop (σ : FVec Ideal S1x16384x1x4x16384 .f32) : FVec Ideal S1x16384x1x4x1 .f32 :=
  select (cmpf .olt (Host.absf (column σ)) (val_main_v73 (F := Ideal))) (column σ) (val_main_call2_v1 (F := Ideal))

/-- The weights. -/
def weights (σ : FVec Ideal S1x16384x1x4x16384 .f32) : FVec Ideal S1x16384x1x4x16384 .f32 :=
  select (val_main_call3_v1 (F := Ideal))
    (Host.exp (subf (keep σ) (broadcastInDim S1x16384x1x4x16384 ![0, 1, 2, 3, 4] bcast_S1x16384x1x4x1_S1x16384x1x4x16384_0_1_2_3_4 (finiteTop σ))))
    (val_main_call3_v2 (F := Ideal))

/-- The rows' total weights, guarded. -/
def total (σ : FVec Ideal S1x16384x1x4x16384 .f32) : FVec Ideal S1x16384x1x4x1 .f32 :=
  maximumf (broadcastInDim S1x16384x1x4x1 ![0, 1, 2, 3] bcast_S1x16384x1x4_S1x16384x1x4x1_0_1_2_3
    (Host.reduceAdd (weights σ) (val_main_cst_17 (F := Ideal)) reducesTo_S1x16384x1x4x16384_S1x16384x1x4_d4 h_S_)) (val_main_v82 (F := Ideal))

/-- The weights over their totals. -/
def dist (σ : FVec Ideal S1x16384x1x4x16384 .f32) : FVec Ideal S1x16384x1x4x16384 .f32 :=
  Host.divf (weights σ) (broadcastInDim S1x16384x1x4x16384 ![0, 1, 2, 3, 4] bcast_S1x16384x1x4x1_S1x16384x1x4x16384_0_1_2_3_4 (total σ))

/-- Both softmaxes of the reference are that one. -/
theorem first_eq (x0 : FVec Ideal S16384x2688 .f32) (x1 : FVec Ideal S32x12 .f32) : val_main_v85 (F := Ideal) x0 x1 = dist (val_main_v62 (F := Ideal) x0 x1) := rfl

theorem second_eq (x0 : FVec Ideal S16384x2688 .f32) (x1 : FVec Ideal S32x12 .f32) : val_main_v102 (F := Ideal) x0 x1 = dist (val_main_v68 (F := Ideal) x0 x1) := rfl

/-- A query sees itself and the keys before it. -/
theorem mask_at (q : Fin 16384) (t : Fin 16384) : val_main_v56 (F := Ideal) (ix5 0 q 0 0 t) = BitVec.ofBool (decide ((t : ℕ) ≤ q)) := by
  pointwise [val_main_v56, val_main_v55, val_main_v54, val_main_v53, val_main_v52, val_main_v51, val_main_v0]
  exact WordCmp.cmpi_sle_ofNat (by omega) (by omega)

theorem neg_inf : Ideal.ofBits .f32 0xFF800000#32 = (⊥ : EReal) := by simp [Ideal.ofBits, Ideal.ieee]

section entries
variable {s : Shape} (a b : FVec Ideal s .f32) (m : IVec s 1) (i : s.Idx)

theorem divf_at : Host.divf a b i = Ideal.div (a i) (b i) := rfl

theorem exp_at : Host.exp a i = Ideal.exp (a i) := rfl

theorem subf_at : subf a b i = a i - b i := rfl

theorem maximumf_at : maximumf a b i = max (a i) (b i) := rfl

theorem select_at : select m a b i = Scalar.select (m i) (a i) (b i) := rfl

/-- A real number below infinity is kept. -/
theorem guard_at (M : ℝ) (c : FVec Ideal s .f32) (ha : a i = ((M : ℝ) : EReal)) (hb : b i = FloatOps.ofBits .f32 0x7F800000#32) :
    select (cmpf .olt (Host.absf a) b) a c i = ((M : ℝ) : EReal) := by
  have hc : (FloatOps.cmpf (F := Ideal) (φ := .f32) .olt (FloatOps.hostAbsf (F := Ideal) (φ := .f32) ((M : ℝ) : EReal)) (FloatOps.ofBits .f32 0x7F800000#32)) = 1#1 :=
    (below_inf _).2 ⟨EReal.coe_ne_top _, EReal.coe_ne_bot _⟩
  show Scalar.select (FloatOps.cmpf (F := Ideal) (φ := .f32) .olt (FloatOps.hostAbsf (F := Ideal) (φ := .f32) (a i)) (b i)) (a i) (c i) = _
  rw [ha, hb, hc]
  rfl

end entries

section softmax
variable {σ : FVec Ideal S1x16384x1x4x16384 .f32} {q : Fin 16384} {h : Fin 4} {s : ℕ → ℝ}

/-- The scores of the later keys are `−∞`. -/
theorem keep_at (H : ∀ t : Fin 16384, (t : ℕ) ≤ q → σ (ix5 0 q 0 h t) = ((s t : ℝ) : EReal)) (t : Fin 16384) :
    keep σ (ix5 0 q 0 h t) = if (t : ℕ) ≤ q then ((s t : ℝ) : EReal) else ⊥ := by
  have e1 : val_main_call1_v1 (F := Ideal) (ix5 0 q 0 h t) = BitVec.ofBool (decide ((t : ℕ) ≤ q)) := by
    rw [← mask_at]
    pointwise [val_main_call1_v1]
  have e2 : val_main_call1_v2 (F := Ideal) (ix5 0 q 0 h t) = ⊥ := neg_inf
  unfold keep
  rw [select_at, e1, e2]
  by_cases hm : (t : ℕ) ≤ q
  · rw [if_pos hm, decide_eq_true hm, ← H t hm]; rfl
  · rw [if_neg hm, decide_eq_false hm]; rfl

/-- The row's maximum is a real number, and one of its keys attains it. -/
theorem top_real (H : ∀ t : Fin 16384, (t : ℕ) ≤ q → σ (ix5 0 q 0 h t) = ((s t : ℝ) : EReal)) :
    ∃ M : ℝ, top σ (ix4 0 q 0 h) = ((M : ℝ) : EReal) ∧ ∃ t : ℕ, t < (q : ℕ) + 1 ∧ M ≤ s t := by
  have e : top σ (ix4 0 q 0 h) = Finset.fold max (⊥ : EReal) (fun t : Fin 16384 => if (t : ℕ) ≤ q then ((s t : ℝ) : EReal) else ⊥) Finset.univ := by
    pointwise [top, val_main_cst_13]
    simp only [keep_at H, neg_inf]
  obtain ⟨M, hM⟩ := fold_max_real (fun t : Fin 16384 => if (t : ℕ) ≤ q then ((s t : ℝ) : EReal) else ⊥)
    (fun t => by split; exacts [EReal.coe_lt_top _, bot_lt_top]) q (by simp)
  refine ⟨M, e.trans hM, ?_⟩
  obtain hb | ⟨t, -, ht⟩ := (Finset.le_fold_max (M : EReal)).1 hM.ge
  · exact absurd hb (by simp)
  · split at ht
    · next hq => exact ⟨t, by omega, EReal.coe_le_coe_iff.1 ht⟩
    · exact absurd ht (by simp)

/-- The maximum, kept because it is finite. -/
theorem finiteTop_at (M : ℝ) (hM : top σ (ix4 0 q 0 h) = ((M : ℝ) : EReal)) : finiteTop σ (ix5 0 q 0 h 0) = ((M : ℝ) : EReal) := by
  have hcol : column σ (ix5 0 q 0 h 0) = ((M : ℝ) : EReal) := by
    rw [← hM]
    unfold column
    generalize top σ = y
    pointwise
  exact guard_at _ _ _ M _ hcol ((val_main_v73_apply _).trans (val_main_cst_14_apply _))

/-- A key's weight. -/
theorem weights_at (H : ∀ t : Fin 16384, (t : ℕ) ≤ q → σ (ix5 0 q 0 h t) = ((s t : ℝ) : EReal)) (M : ℝ)
    (hM : top σ (ix4 0 q 0 h) = ((M : ℝ) : EReal)) (t : Fin 16384) :
    weights σ (ix5 0 q 0 h t) = ((if (t : ℕ) < (q : ℕ) + 1 then Real.exp (s t - M) else 0 : ℝ) : EReal) := by
  have e1 : val_main_call3_v1 (F := Ideal) (ix5 0 q 0 h t) = BitVec.ofBool (decide ((t : ℕ) ≤ q)) := by
    rw [← mask_at]
    pointwise [val_main_call3_v1]
  have e2 : val_main_call3_v2 (F := Ideal) (ix5 0 q 0 h t) = ((0 : ℝ) : EReal) := Ideal.ofBits_zero_f32
  have e3 : broadcastInDim S1x16384x1x4x16384 ![0, 1, 2, 3, 4] bcast_S1x16384x1x4x1_S1x16384x1x4x16384_0_1_2_3_4 (finiteTop σ) (ix5 0 q 0 h t) = ((M : ℝ) : EReal) := by
    rw [← finiteTop_at M hM]
    generalize finiteTop σ = y
    pointwise
  unfold weights
  rw [select_at, exp_at, subf_at, e1, e2, e3, keep_at H]
  by_cases hm : (t : ℕ) ≤ q
  · rw [if_pos hm, if_pos (by omega), decide_eq_true hm, ← EReal.coe_sub]
    exact Ideal.exp_coe _
  · rw [if_neg hm, if_neg (by omega), decide_eq_false hm]
    rfl

theorem tiny_le : Ideal.ofBits .f32 0x00800000#32 ≤ (1 : EReal) := by
  rw [← EReal.coe_one]
  simp [Ideal.ofBits, Ideal.ieee, -EReal.coe_mul]
  rw [← EReal.coe_one, EReal.coe_le_coe_iff]
  norm_num

/-- The row's total weight: the guard against division by nothing does nothing. -/
theorem total_at (H : ∀ t : Fin 16384, (t : ℕ) ≤ q → σ (ix5 0 q 0 h t) = ((s t : ℝ) : EReal)) (M : ℝ)
    (hM : top σ (ix4 0 q 0 h) = ((M : ℝ) : EReal)) (ha : ∃ t : ℕ, t < (q : ℕ) + 1 ∧ M ≤ s t) :
    total σ (ix5 0 q 0 h 0) = ((∑ t ∈ Finset.range ((q : ℕ) + 1), Real.exp (s t - M) : ℝ) : EReal) := by
  have e : broadcastInDim S1x16384x1x4x1 ![0, 1, 2, 3] bcast_S1x16384x1x4_S1x16384x1x4x1_0_1_2_3
      (Host.reduceAdd (weights σ) (val_main_cst_17 (F := Ideal)) reducesTo_S1x16384x1x4x16384_S1x16384x1x4_d4 h_S_) (ix5 0 q 0 h 0)
      = ((∑ t ∈ Finset.range ((q : ℕ) + 1), Real.exp (s t - M) : ℝ) : EReal) := by
    pointwise [val_main_cst_17]
    simp only [weights_at H M hM]
    rw [coe_sum, sum_visible (by omega) (fun t => Real.exp (s t - M))]
  unfold total
  rw [maximumf_at, e, val_main_v82_apply, val_main_cst_18_apply]
  refine max_eq_left (le_trans tiny_le ?_)
  obtain ⟨t, ht, hle⟩ := ha
  rw [← EReal.coe_one, EReal.coe_le_coe_iff]
  refine le_trans (Real.one_le_exp (by linarith : 0 ≤ s t - M)) ?_
  exact Finset.single_le_sum (f := fun t => Real.exp (s t - M)) (fun _ _ => (Real.exp_pos _).le) (Finset.mem_range.2 ht)

/-- One key's share of the row's weight. -/
theorem dist_at (H : ∀ t : Fin 16384, (t : ℕ) ≤ q → σ (ix5 0 q 0 h t) = ((s t : ℝ) : EReal)) :
    ∃ M : ℝ, ∀ t : Fin 16384, dist σ (ix5 0 q 0 h t)
      = ((if (t : ℕ) < (q : ℕ) + 1 then Real.exp (s t - M) / ∑ t ∈ Finset.range ((q : ℕ) + 1), Real.exp (s t - M) else 0 : ℝ) : EReal) := by
  obtain ⟨M, hM, ha⟩ := top_real H
  refine ⟨M, fun t => ?_⟩
  have hpos := sum_exp_pos (K := (q : ℕ) + 1) (by omega) (fun t => s t - M)
  have e : broadcastInDim S1x16384x1x4x16384 ![0, 1, 2, 3, 4] bcast_S1x16384x1x4x1_S1x16384x1x4x16384_0_1_2_3_4 (total σ) (ix5 0 q 0 h t)
      = ((∑ t ∈ Finset.range ((q : ℕ) + 1), Real.exp (s t - M) : ℝ) : EReal) := by
    rw [← total_at H M hM ha]
    generalize total σ = y
    pointwise
  unfold dist
  rw [divf_at, e, weights_at H M hM, Ideal.div_coe hpos.ne', ← EReal.coe_mul]
  refine congrArg Real.toEReal ?_
  split
  · ring
  · ring

/-- A mean under one softmax. -/
theorem mean_sum (M : ℝ) (K : ℕ) (hK : K ≤ 16384) (s v : ℕ → ℝ) :
    ∑ t : Fin 16384, v t * (if (t : ℕ) < K then Real.exp (s t - M) / ∑ t ∈ Finset.range K, Real.exp (s t - M) else 0) = soft K s v := by
  rw [← soft_shift K s v M, Finset.sum_div,
    ← sum_visible (W := 16384) hK (fun t => Real.exp (s t - M) * v t / ∑ t ∈ Finset.range K, Real.exp (s t - M))]
  refine Finset.sum_congr rfl fun t _ => ?_
  split
  · ring
  · ring

end softmax

/-! ## The scores and the result -/

variable {x0 : FVec Ideal S16384x2688 .f32} {x1 : FVec Ideal S32x12 .f32} {x2 x3 x4 x5 : FVec Ideal S64 .f32} {x6 : FVec Ideal S128 .f32}
  {X Y : ℕ → ℕ → ℝ} {q1 k1 q2 k2 : Fin 64 → ℝ}

/-- The arguments the softmaxes read are real numbers. -/
structure Reals (x0 : FVec Ideal S16384x2688 .f32) (x1 : FVec Ideal S32x12 .f32) (x2 x3 x4 x5 : FVec Ideal S64 .f32) (X Y : ℕ → ℕ → ℝ)
    (q1 k1 q2 k2 : Fin 64 → ℝ) : Prop where
  query : ∀ (t : Fin 16384) (j : Fin 512), x0 (ix2 t ⟨512 + j, by omega⟩) = ((X t (512 + j) : ℝ) : EReal)
  keys : ∀ (t : Fin 16384) (j : Fin 256), x0 (ix2 t ⟨1792 + j, by omega⟩) = ((X t (1792 + j) : ℝ) : EReal)
  bias : ∀ (b : Fin 32) (h : Fin 4), x1 (ix2 b ⟨8 + h, by omega⟩) = ((Y b (8 + h) : ℝ) : EReal)
  q1 : ∀ d, x2 (ix1 d) = ((q1 d : ℝ) : EReal)
  k1 : ∀ d, x3 (ix1 d) = ((k1 d : ℝ) : EReal)
  q2 : ∀ d, x4 (ix1 d) = ((q2 d : ℝ) : EReal)
  k2 : ∀ d, x5 (ix1 d) = ((k2 d : ℝ) : EReal)

/-- A scaled query. -/
theorem query_at (H : Reals x0 x1 x2 x3 x4 x5 X Y q1 k1 q2 k2) (q : Fin 16384) (h : Fin 4) (d : Fin 128) :
    val_main_v15 (F := Ideal) x0 (ix5 0 q 0 h d) = ((X q (512 + (128 * h + d)) * (1 / 8) : ℝ) : EReal) := by
  have e : val_main_v13 (F := Ideal) x0 (ix5 0 q 0 h d) = x0 (ix2 q ⟨512 + (⟨128 * h + d, by omega⟩ : Fin 512), by dsimp only; omega⟩) := by
    pointwise [val_main_v13, val_main_v2, val_main_v1]
    simp only [Nat.mul_comm (h : ℕ) 128]
  have e2 : val_main_v14 (F := Ideal) (ix5 0 q 0 h d) = ((1 / 8 : ℝ) : EReal) := eighth
  show val_main_v13 (F := Ideal) x0 (ix5 0 q 0 h d) * _ = _
  rw [e, e2, H.query, ← EReal.coe_mul]

/-- A key. -/
theorem key_at (H : Reals x0 x1 x2 x3 x4 x5 X Y q1 k1 q2 k2) (t : Fin 16384) (d : Fin 256) :
    val_main_v4 (F := Ideal) x0 (ix4 0 t 0 d) = ((X t (1792 + d) : ℝ) : EReal) := by
  rw [← H.keys]
  pointwise [val_main_v4, val_main_v3]

/-- The bias as it is added. -/
theorem added_at (H : Reals x0 x1 x2 x3 x4 x5 X Y q1 k1 q2 k2) (q t : Fin 16384) (h : Fin 4) (hm : (t : ℕ) ≤ q) :
    val_main_v61 (F := Ideal) x1 (ix5 0 q 0 h t) = ((Y (bucket ((q : ℕ) - t)) (8 + h) : ℝ) : EReal) := by
  have hb : bucket ((q : ℕ) - t) ≤ 31 := upTo_lt _ 31
  rw [← H.bias ⟨bucket ((q : ℕ) - t), by omega⟩ h, ← bias_at x1 h hm ⟨bucket ((q : ℕ) - t), by omega⟩ rfl]
  unfold val_main_v61
  generalize val_main_v50 (F := Ideal) x1 = y
  pointwise

/-- The first half's scores. -/
theorem score0_at (H : Reals x0 x1 x2 x3 x4 x5 X Y q1 k1 q2 k2) (q t : Fin 16384) (h : Fin 4) (hm : (t : ℕ) ≤ q) :
    val_main_v62 (F := Ideal) x0 x1 (ix5 0 q 0 h t) = ((score X Y 0 h q t : ℝ) : EReal) := by
  have e : val_main_v60 (F := Ideal) x0 (ix5 0 q 0 h t) = ((dots X 0 h q t : ℝ) : EReal) := by
    pointwise [val_main_v60, val_main_v59, val_main_v58, val_main_v57]
    unfold dots
    rw [← coe_sum]
    refine Finset.sum_congr rfl fun d _ => ?_
    have e1 := query_at H q h ⟨d, by omega⟩
    have e2 := key_at H t ⟨d, by omega⟩
    dsimp only at e1 e2
    rw [e1, e2, ← EReal.coe_mul, mul_comm]
    simp only [Nat.mul_zero, Nat.zero_add]
  show val_main_v60 (F := Ideal) x0 (ix5 0 q 0 h t) + val_main_v61 (F := Ideal) x1 (ix5 0 q 0 h t) = _
  rw [e, added_at H q t h hm, ← EReal.coe_add]
  rfl

/-- The second half's scores. -/
theorem score1_at (H : Reals x0 x1 x2 x3 x4 x5 X Y q1 k1 q2 k2) (q t : Fin 16384) (h : Fin 4) (hm : (t : ℕ) ≤ q) :
    val_main_v68 (F := Ideal) x0 x1 (ix5 0 q 0 h t) = ((score X Y 1 h q t : ℝ) : EReal) := by
  have e : val_main_v66 (F := Ideal) x0 (ix5 0 q 0 h t) = ((dots X 1 h q t : ℝ) : EReal) := by
    pointwise [val_main_v66, val_main_v65, val_main_v64, val_main_v63]
    unfold dots
    rw [← coe_sum]
    refine Finset.sum_congr rfl fun d _ => ?_
    have e1 := query_at H q h ⟨64 + d, by omega⟩
    have e2 := key_at H t ⟨64 + d, by omega⟩
    dsimp only at e1 e2
    rw [e1, e2, ← EReal.coe_mul, mul_comm]
  show val_main_v66 (F := Ideal) x0 (ix5 0 q 0 h t) + val_main_v67 (F := Ideal) x1 (ix5 0 q 0 h t) = _
  rw [e, show val_main_v67 (F := Ideal) x1 = val_main_v61 (F := Ideal) x1 from rfl, added_at H q t h hm, ← EReal.coe_add]
  rfl

/-- A sum over the entries of a vector. -/
theorem sum_entries (f : S64.Idx → EReal) : ∑ i : S64.Idx, f i = ∑ d : Fin 64, f (ix1 d) :=
  Fintype.sum_equiv ⟨fun i => i 0, fun d => ix1 d, fun i => by funext a; match a with | ⟨0, _⟩ => rfl, fun d => rfl⟩ _ _
    (fun i => congrArg f (by funext a; match a with | ⟨0, _⟩ => rfl))

/-- The second half's weight. -/
theorem lam_at (H : Reals x0 x1 x2 x3 x4 x5 X Y q1 k1 q2 k2) :
    val_main_v12 (F := Ideal) x2 x3 x4 x5 (fun a => a.elim0) = ((lam q1 k1 q2 k2 : ℝ) : EReal) := by
  have e1 : val_main_v6 (F := Ideal) x2 x3 (fun a => a.elim0) = ((∑ d, q1 d * k1 d : ℝ) : EReal) := by
    rw [val_main_v6_apply, sum_entries, ← coe_sum]
    refine (congrArg₂ (· + ·) (Ideal.ofBits_zero_f32 : val_main_cst (F := Ideal) (Shape.Idx.first h_S_) = 0)
      (Finset.sum_congr rfl fun d _ => ?_ : _ = ∑ d, ((q1 d * k1 d : ℝ) : EReal))).trans (zero_add _)
    show x2 (ix1 d) * x3 (ix1 d) = _
    rw [H.q1, H.k1, ← EReal.coe_mul]
  have e2 : val_main_v9 (F := Ideal) x4 x5 (fun a => a.elim0) = ((∑ d, q2 d * k2 d : ℝ) : EReal) := by
    rw [val_main_v9_apply, sum_entries, ← coe_sum]
    refine (congrArg₂ (· + ·) (Ideal.ofBits_zero_f32 : val_main_cst_0 (F := Ideal) (Shape.Idx.first h_S_) = 0)
      (Finset.sum_congr rfl fun d _ => ?_ : _ = ∑ d, ((q2 d * k2 d : ℝ) : EReal))).trans (zero_add _)
    show x4 (ix1 d) * x5 (ix1 d) = _
    rw [H.q2, H.k2, ← EReal.coe_mul]
  show Ideal.exp (val_main_v6 (F := Ideal) x2 x3 (fun a => a.elim0)) - Ideal.exp (val_main_v9 (F := Ideal) x4 x5 (fun a => a.elim0)) + Ideal.ofBits .f32 0x3EB60549#32 = _
  rw [e1, e2, Ideal.exp_coe, Ideal.exp_coe, start_eq, ← EReal.coe_sub, ← EReal.coe_add]
  rfl

/-- The difference of the two halves' means. -/
theorem diff_at (H : Reals x0 x1 x2 x3 x4 x5 X Y q1 k1 q2 k2) (q : Fin 16384) (h : Fin 4) (x : Fin 128) :
    val_main_v108 (F := Ideal) x0 x1 x2 x3 x4 x5 (ix5 0 q 0 h x) = ((diff X Y (lam q1 k1 q2 k2) h q x : ℝ) : EReal) := by
  obtain ⟨M, hM⟩ := dist_at (s := score X Y 0 h q) (fun t hm => score0_at H q t h hm)
  obtain ⟨N, hN⟩ := dist_at (s := score X Y 1 h q) (fun t hm => score1_at H q t h hm)
  have e : ∀ t : Fin 16384, val_main_v105 (F := Ideal) x0 x1 x2 x3 x4 x5 (ix5 0 q 0 h t)
      = ((((if (t : ℕ) < (q : ℕ) + 1 then Real.exp (score X Y 0 h q t - M) / ∑ t ∈ Finset.range ((q : ℕ) + 1), Real.exp (score X Y 0 h q t - M) else 0)
        - lam q1 k1 q2 k2 * (if (t : ℕ) < (q : ℕ) + 1 then Real.exp (score X Y 1 h q t - N) / ∑ t ∈ Finset.range ((q : ℕ) + 1), Real.exp (score X Y 1 h q t - N) else 0) : ℝ)) : EReal) := fun t => by
    have el : val_main_v103 (F := Ideal) x2 x3 x4 x5 (ix5 0 q 0 h t) = ((lam q1 k1 q2 k2 : ℝ) : EReal) := by
      rw [val_main_v103_apply, ← lam_at H]
    show val_main_v85 (F := Ideal) x0 x1 (ix5 0 q 0 h t) - val_main_v103 (F := Ideal) x2 x3 x4 x5 (ix5 0 q 0 h t) * val_main_v102 (F := Ideal) x0 x1 (ix5 0 q 0 h t) = _
    rw [first_eq, second_eq, hM, hN, el, ← EReal.coe_mul, ← EReal.coe_sub]
  have ev : ∀ t : Fin 16384, val_main_v106 (F := Ideal) x0 (ix4 0 t 0 x) = ((value X t x : ℝ) : EReal) := fun t => by
    have e2 := key_at H t ⟨128 + x, by omega⟩
    dsimp only at e2
    rw [value, show 1920 + (x : ℕ) = 1792 + (128 + x) by omega, ← e2]
    unfold val_main_v106
    generalize val_main_v4 (F := Ideal) x0 = y
    pointwise
  have e4 : val_main_v108 (F := Ideal) x0 x1 x2 x3 x4 x5 (ix5 0 q 0 h x)
      = ∑ t : Fin 16384, val_main_v106 (F := Ideal) x0 (ix4 0 t 0 x) * val_main_v105 (F := Ideal) x0 x1 x2 x3 x4 x5 (ix5 0 q 0 h t) := by
    unfold val_main_v108 val_main_v107
    generalize val_main_v106 (F := Ideal) x0 = y
    generalize val_main_v105 (F := Ideal) x0 x1 x2 x3 x4 x5 = z
    pointwise
  rw [e4]
  simp only [ev, e, ← EReal.coe_mul]
  rw [coe_sum]
  refine congrArg Real.toEReal ?_
  unfold diff mean
  rw [← mean_sum M _ (by omega) (score X Y 0 h q), ← mean_sum N _ (by omega) (score X Y 1 h q), Finset.mul_sum, ← Finset.sum_sub_distrib]
  exact Finset.sum_congr rfl fun t _ => by ring

/-- One entry of the reference's result. -/
theorem out_at (H : Reals x0 x1 x2 x3 x4 x5 X Y q1 k1 q2 k2) (q : Fin 16384) (h : Fin 4) (x : Fin 128) :
    val_main_v124 (F := Ideal) x0 x1 x2 x3 x4 x5 x6 (ix2 q ⟨128 * (h : ℕ) + x, by omega⟩)
      = norm (fun x => ((diff X Y (lam q1 k1 q2 k2) h q x : ℝ) : EReal)) (fun x => x6 (ix1 x)) x := by
  have hd := diff_at H q h
  have e1 : val_main_v116 (F := Ideal) x0 x1 x2 x3 x4 x5 (ix5 0 q 0 h 0)
      = Ideal.rsqrt (Ideal.div (∑ j : Fin 128, ((diff X Y (lam q1 k1 q2 k2) h q j : ℝ) : EReal) * ((diff X Y (lam q1 k1 q2 k2) h q j : ℝ) : EReal))
        (Ideal.ofBits .f32 0x43000000#32) + Ideal.ofBits .f32 0x358637BD#32) := by
    have e2 : val_main_v111 (F := Ideal) x0 x1 x2 x3 x4 x5 (ix5 0 q 0 h 0)
        = ∑ j : Fin 128, ((diff X Y (lam q1 k1 q2 k2) h q j : ℝ) : EReal) * ((diff X Y (lam q1 k1 q2 k2) h q j : ℝ) : EReal) := by
      unfold val_main_v111 val_main_v110 val_main_v109
      generalize val_main_v108 (F := Ideal) x0 x1 x2 x3 x4 x5 = y at hd ⊢
      pointwise [val_main_cst_26]
      simp only [hd]
    rw [← e2]
    rfl
  have e3 : val_main_v117 (F := Ideal) x0 x1 x2 x3 x4 x5 (ix5 0 q 0 h x) = val_main_v116 (F := Ideal) x0 x1 x2 x3 x4 x5 (ix5 0 q 0 h 0) := by
    unfold val_main_v117
    generalize val_main_v116 (F := Ideal) x0 x1 x2 x3 x4 x5 = y
    pointwise
  have e4 : val_main_v120 (F := Ideal) x6 (ix5 0 q 0 h x) = x6 (ix1 x) := by
    pointwise [val_main_v120, val_main_v119]
  have e5 : val_main_v124 (F := Ideal) x0 x1 x2 x3 x4 x5 x6 (ix2 q ⟨128 * (h : ℕ) + x, by omega⟩)
      = val_main_v123 (F := Ideal) x0 x1 x2 x3 x4 x5 x6 (ix5 0 q 0 h x) := by
    unfold val_main_v124
    generalize val_main_v123 (F := Ideal) x0 x1 x2 x3 x4 x5 x6 = y
    pointwise
  rw [e5]
  show val_main_v108 (F := Ideal) x0 x1 x2 x3 x4 x5 (ix5 0 q 0 h x) * val_main_v117 (F := Ideal) x0 x1 x2 x3 x4 x5 (ix5 0 q 0 h x)
    * val_main_v120 (F := Ideal) x6 (ix5 0 q 0 h x) * Ideal.ofBits .f32 0x3F24FD5C#32 = _
  rw [e3, e4, e1, hd]
  rfl

/-- The reference's result array. -/
theorem result (H : Reals x0 x1 x2 x3 x4 x5 X Y q1 k1 q2 k2) :
    val_main_v124 (F := Ideal) x0 x1 x2 x3 x4 x5 x6
      = fun i : S16384x512.Idx => table X Y (lam q1 k1 q2 k2) (fun x => x6 (ix1 x)) (i 0) (i 1) := by
  funext i
  obtain ⟨q, b, rfl⟩ : ∃ (q : Fin 16384) (b : Fin 512), i = ix2 q b := ⟨i 0, i 1, by funext a; match a with | ⟨0, _⟩ => rfl | ⟨1, _⟩ => rfl⟩
  rw [show (ix2 q b : S16384x512.Idx) = ix2 q ⟨128 * ((b : ℕ) / 128) + (b : ℕ) % 128, by omega⟩ from congrArg (ix2 q) (Fin.ext (by dsimp only; omega))]
  refine (out_at (x6 := x6) H q ⟨(b : ℕ) / 128, by omega⟩ ⟨(b : ℕ) % 128, by omega⟩).trans ?_
  exact congrArg (table X Y (lam q1 k1 q2 k2) (fun x => x6 (ix1 x)) q) (Fin.ext (by dsimp only; omega) : b = ⟨128 * ((b : ℕ) / 128) + (b : ℕ) % 128, by omega⟩)

end Cert.LatePlainIdeal.Ref
end
-- ==== Proof.LatePost.lean ====
/- The predicate `matches_late` asks of every entry of an array that it equals the entry of the reference program `LatePlain`:
   its operations are those of `LatePlain`, followed by the comparison. -/
module

public import proofs.«01_k».proof.Post_matches_late
public import proofs.«01_k».proof.Proof.Gen.LatePlainIdeal
public import proofs.«01_k».proof.Proof.Gen.LatePlainIdeal.Read

@[expose] public section

noncomputable section

namespace Cert.LatePlainIdeal.Post

open Cert.LatePlainIdeal Cert.LatePlainIdeal.Gen Cert.LatePlainIdeal.Read Idealize.ShloMosaic

/-- The shape relations that the predicate takes are the reference's. -/
theorem facts : Cert.Post_matches_late.Facts where
  slices_S16384x2688_S16384x512_0_512 := Cert.LatePlainIdeal.Gen.slices_S16384x2688_S16384x512_0_512
  shapeCasts_S16384x512_S1x16384x4x128 := Cert.LatePlainIdeal.Gen.shapeCasts_S16384x512_S1x16384x4x128
  slices_S16384x2688_S16384x256_0_1792 := Cert.LatePlainIdeal.Gen.slices_S16384x2688_S16384x256_0_1792
  shapeCasts_S16384x256_S1x16384x1x256 := Cert.LatePlainIdeal.Gen.shapeCasts_S16384x256_S1x16384x1x256
  reducesTo_S64_S_d0 := Cert.LatePlainIdeal.Gen.reducesTo_S64_S_d0
  h_S_ := Cert.LatePlainIdeal.Gen.h_S_
  shapeCasts_S1x16384x4x128_S1x16384x1x4x128 := Cert.LatePlainIdeal.Gen.shapeCasts_S1x16384x4x128_S1x16384x1x4x128
  bcast_S_S1x16384x1x4x128 := Cert.LatePlainIdeal.Gen.bcast_S_S1x16384x1x4x128
  slices_S32x12_S32x4_0_8 := Cert.LatePlainIdeal.Gen.slices_S32x12_S32x4_0_8
  shapeCasts_S32x4_S32x1x4 := Cert.LatePlainIdeal.Gen.shapeCasts_S32x4_S32x1x4
  bcast_S16384_S16384x1_0 := Cert.LatePlainIdeal.Gen.bcast_S16384_S16384x1_0
  bcast_S16384_S1x16384_1 := Cert.LatePlainIdeal.Gen.bcast_S16384_S1x16384_1
  bcast_S16384x1_S16384x16384_0_1 := Cert.LatePlainIdeal.Gen.bcast_S16384x1_S16384x16384_0_1
  bcast_S1x16384_S16384x16384_0_1 := Cert.LatePlainIdeal.Gen.bcast_S1x16384_S16384x16384_0_1
  bcast_S_S16384x16384 := Cert.LatePlainIdeal.Gen.bcast_S_S16384x16384
  bcast_S16384x16384_S16384x16384x1_0_1 := Cert.LatePlainIdeal.Gen.bcast_S16384x16384_S16384x16384x1_0_1
  transposes_S16384x16384x1x4_S16384x1x4x16384_0_2_3_1 := Cert.LatePlainIdeal.Gen.transposes_S16384x16384x1x4_S16384x1x4x16384_0_2_3_1
  bcast_S16384x16384_S1x16384x1x1x16384_1_4 := Cert.LatePlainIdeal.Gen.bcast_S16384x16384_S1x16384x1x1x16384_1_4
  slices_S1x16384x1x4x128_S1x16384x1x4x64_0_0_0_0_0 := Cert.LatePlainIdeal.Gen.slices_S1x16384x1x4x128_S1x16384x1x4x64_0_0_0_0_0
  slices_S1x16384x1x256_S1x16384x1x64_0_0_0_0 := Cert.LatePlainIdeal.Gen.slices_S1x16384x1x256_S1x16384x1x64_0_0_0_0
  transposes_S1x1x16384x16384x4_S1x16384x1x4x16384_0_3_1_4_2 := Cert.LatePlainIdeal.Gen.transposes_S1x1x16384x16384x4_S1x16384x1x4x16384_0_3_1_4_2
  bcast_S16384x1x4x16384_S1x16384x1x4x16384_1_2_3_4 := Cert.LatePlainIdeal.Gen.bcast_S16384x1x4x16384_S1x16384x1x4x16384_1_2_3_4
  slices_S1x16384x1x4x128_S1x16384x1x4x64_0_0_0_0_64 := Cert.LatePlainIdeal.Gen.slices_S1x16384x1x4x128_S1x16384x1x4x64_0_0_0_0_64
  slices_S1x16384x1x256_S1x16384x1x64_0_0_0_64 := Cert.LatePlainIdeal.Gen.slices_S1x16384x1x256_S1x16384x1x64_0_0_0_64
  bcast_S1x16384x1x1x16384_S1x16384x1x4x16384_0_1_2_3_4 := Cert.LatePlainIdeal.Gen.bcast_S1x16384x1x1x16384_S1x16384x1x4x16384_0_1_2_3_4
  bcast_S_S1x16384x1x4x16384 := Cert.LatePlainIdeal.Gen.bcast_S_S1x16384x1x4x16384
  reducesTo_S1x16384x1x4x16384_S1x16384x1x4_d4 := Cert.LatePlainIdeal.Gen.reducesTo_S1x16384x1x4x16384_S1x16384x1x4_d4
  bcast_S1x16384x1x4_S1x16384x1x4x1_0_1_2_3 := Cert.LatePlainIdeal.Gen.bcast_S1x16384x1x4_S1x16384x1x4x1_0_1_2_3
  bcast_S_S1x16384x1x4x1 := Cert.LatePlainIdeal.Gen.bcast_S_S1x16384x1x4x1
  bcast_S1x16384x1x4x1_S1x16384x1x4x16384_0_1_2_3_4 := Cert.LatePlainIdeal.Gen.bcast_S1x16384x1x4x1_S1x16384x1x4x16384_0_1_2_3_4
  slices_S1x16384x1x256_S1x16384x1x128_0_0_0_128 := Cert.LatePlainIdeal.Gen.slices_S1x16384x1x256_S1x16384x1x128_0_0_0_128
  transposes_S1x1x128x16384x4_S1x16384x1x4x128_0_3_1_4_2 := Cert.LatePlainIdeal.Gen.transposes_S1x1x128x16384x4_S1x16384x1x4x128_0_3_1_4_2
  reducesTo_S1x16384x1x4x128_S1x16384x1x4_d4 := Cert.LatePlainIdeal.Gen.reducesTo_S1x16384x1x4x128_S1x16384x1x4_d4
  bcast_S1x16384x1x4x1_S1x16384x1x4x128_0_1_2_3_4 := Cert.LatePlainIdeal.Gen.bcast_S1x16384x1x4x1_S1x16384x1x4x128_0_1_2_3_4
  bcast_S128_S1x1x1x1x128_4 := Cert.LatePlainIdeal.Gen.bcast_S128_S1x1x1x1x128_4
  bcast_S1x1x1x1x128_S1x16384x1x4x128_0_1_2_3_4 := Cert.LatePlainIdeal.Gen.bcast_S1x1x1x1x128_S1x16384x1x4x128_0_1_2_3_4
  shapeCasts_S1x16384x1x4x128_S16384x512 := Cert.LatePlainIdeal.Gen.shapeCasts_S1x16384x1x4x128_S16384x512
  gather_S32x1x4_S16384x16384x1_S16384x16384x1x4_23_0_n_n_0_2_114_wf := Cert.LatePlainIdeal.Gen.gather_S32x1x4_S16384x16384x1_S16384x16384x1x4_23_0_n_n_0_2_114_wf
  dot_S1x16384x1x64_S1x16384x1x4x64_S1x1x16384x16384x4_3_4_1_13_02_02_wf := Cert.LatePlainIdeal.Gen.dot_S1x16384x1x64_S1x16384x1x4x64_S1x1x16384x16384x4_3_4_1_13_02_02_wf
  dot_S1x16384x1x128_S1x16384x1x4x16384_S1x1x128x16384x4_1_4_3_13_02_02_wf := Cert.LatePlainIdeal.Gen.dot_S1x16384x1x128_S1x16384x1x4x16384_S1x1x128x16384x4_1_4_3_13_02_02_wf

variable {F : FTy → Type} [FloatOps F] [hP : Cert.Post_matches_late.Facts]
variable (x0 : (⟨S16384x2688, .f32⟩ : BufTy).Contents (Elt F)) (x1 : (⟨S32x12, .f32⟩ : BufTy).Contents (Elt F)) (x2 : (⟨S64, .f32⟩ : BufTy).Contents (Elt F)) (x3 : (⟨S64, .f32⟩ : BufTy).Contents (Elt F)) (x4 : (⟨S64, .f32⟩ : BufTy).Contents (Elt F)) (x5 : (⟨S64, .f32⟩ : BufTy).Contents (Elt F)) (x6 : (⟨S128, .f32⟩ : BufTy).Contents (Elt F)) (y : (⟨S16384x512, .f32⟩ : BufTy).Contents (Elt F))

/-- The last operations of the predicate: the root-mean-square normalization, the gains and the comparison. -/
theorem part6 : Cert.Post_matches_late.fn_part6 (F := F) x6 y (val_main_v108 (F := F) x0 x1 x2 x3 x4 x5) (val_main_v113 (F := F) x0 x1 x2 x3 x4 x5)
    = cmpf .oeq y (val_main_v124 (F := F) x0 x1 x2 x3 x4 x5 x6) :=
  rfl

/-- The predicate from its part 5 on. -/
theorem part5 : Cert.Post_matches_late.fn_part5 (F := F) x6 y (val_main_v4 (F := F) x0) (val_main_v12 (F := F) x2 x3 x4 x5) (val_main_v56 (F := F)) (val_main_v85 (F := F) x0 x1) (val_main_v94 (F := F) x0 x1)
    = cmpf .oeq y (val_main_v124 (F := F) x0 x1 x2 x3 x4 x5 x6) :=
  (show _ = Cert.Post_matches_late.fn_part6 (F := F) x6 y (val_main_v108 (F := F) x0 x1 x2 x3 x4 x5) (val_main_v113 (F := F) x0 x1 x2 x3 x4 x5) from rfl).trans (part6 ..)

/-- The predicate from its part 4 on. -/
theorem part4 : Cert.Post_matches_late.fn_part4 (F := F) x6 y (val_main_v4 (F := F) x0) (val_main_v12 (F := F) x2 x3 x4 x5) (val_main_v56 (F := F)) (val_main_v68 (F := F) x0 x1) (val_main_v77 (F := F) x0 x1)
    = cmpf .oeq y (val_main_v124 (F := F) x0 x1 x2 x3 x4 x5 x6) :=
  (show _ = Cert.Post_matches_late.fn_part5 (F := F) x6 y (val_main_v4 (F := F) x0) (val_main_v12 (F := F) x2 x3 x4 x5) (val_main_v56 (F := F)) (val_main_v85 (F := F) x0 x1) (val_main_v94 (F := F) x0 x1) from rfl).trans (part5 ..)

/-- The predicate from its part 3 on. -/
theorem part3 : Cert.Post_matches_late.fn_part3 (F := F) x6 y (val_main_v4 (F := F) x0) (val_main_v12 (F := F) x2 x3 x4 x5) (val_main_v15 (F := F) x0) (val_main_v50 (F := F) x1) (val_main_v56 (F := F)) (val_main_v57 (F := F) x0)
    = cmpf .oeq y (val_main_v124 (F := F) x0 x1 x2 x3 x4 x5 x6) :=
  (show _ = Cert.Post_matches_late.fn_part4 (F := F) x6 y (val_main_v4 (F := F) x0) (val_main_v12 (F := F) x2 x3 x4 x5) (val_main_v56 (F := F)) (val_main_v68 (F := F) x0 x1) (val_main_v77 (F := F) x0 x1) from rfl).trans (part4 ..)

/-- The predicate from its part 2 on. -/
theorem part2 : Cert.Post_matches_late.fn_part2 (F := F) x6 y (val_main_v0 (F := F)) (val_main_v4 (F := F) x0) (val_main_v12 (F := F) x2 x3 x4 x5) (val_main_v15 (F := F) x0) (val_main_v17 (F := F) x1) (val_main_v24 (F := F)) (val_main_v37 (F := F))
    = cmpf .oeq y (val_main_v124 (F := F) x0 x1 x2 x3 x4 x5 x6) :=
  (show _ = Cert.Post_matches_late.fn_part3 (F := F) x6 y (val_main_v4 (F := F) x0) (val_main_v12 (F := F) x2 x3 x4 x5) (val_main_v15 (F := F) x0) (val_main_v50 (F := F) x1) (val_main_v56 (F := F)) (val_main_v57 (F := F) x0) from rfl).trans (part3 ..)

/-- The predicate from its part 1 on. -/
theorem part1 : Cert.Post_matches_late.fn_part1 (F := F) x6 y (val_main_v0 (F := F)) (val_main_v4 (F := F) x0) (val_main_v12 (F := F) x2 x3 x4 x5) (val_main_v15 (F := F) x0) (val_main_v17 (F := F) x1) (val_main_v18 (F := F)) (val_main_v19 (F := F))
    = cmpf .oeq y (val_main_v124 (F := F) x0 x1 x2 x3 x4 x5 x6) :=
  (show _ = Cert.Post_matches_late.fn_part2 (F := F) x6 y (val_main_v0 (F := F)) (val_main_v4 (F := F) x0) (val_main_v12 (F := F) x2 x3 x4 x5) (val_main_v15 (F := F) x0) (val_main_v17 (F := F) x1) (val_main_v24 (F := F)) (val_main_v37 (F := F)) from rfl).trans (part2 ..)

/-- The predicate compares the given array with the result array of the reference program. -/
theorem matches_eq : Cert.Post_matches_late.fn (F := F) x0 x1 x2 x3 x4 x5 x6 y
    = cmpf .oeq y (val_main_v124 (F := F) x0 x1 x2 x3 x4 x5 x6) :=
  (show _ = Cert.Post_matches_late.fn_part1 (F := F) x6 y (val_main_v0 (F := F)) (val_main_v4 (F := F) x0) (val_main_v12 (F := F) x2 x3 x4 x5) (val_main_v15 (F := F) x0) (val_main_v17 (F := F) x1) (val_main_v18 (F := F)) (val_main_v19 (F := F)) from rfl).trans (part1 ..)

end Cert.LatePlainIdeal.Post

end

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Proj.Frame
public import proofs.«01_k».proof.Proof.Gen.ProjIdeal.Frame
public import proofs.«01_k».proof.Proof.Gen.ProjIdeal.Value
public import proofs.«01_k».proof.Proof.Gen.ProjPlainIdeal.Run
public import proofs.«01_k».proof.Proof.Gen.ProjPlainIdeal.Read
public import proofs.«01_k».proof.Proof.Gen.Gate.Frame
public import proofs.«01_k».proof.Proof.Gen.GateIdeal.Frame
public import proofs.«01_k».proof.Proof.Gen.GateIdeal.Value
public import proofs.«01_k».proof.Proof.Gen.GatePlainIdeal.Run
public import proofs.«01_k».proof.Proof.Gen.GatePlainIdeal.Read
public import proofs.«01_k».proof.Proof.Gen.Memory.Frame
public import proofs.«01_k».proof.Proof.Gen.MemoryIdeal.Frame
public import proofs.«01_k».proof.Proof.Gen.MemoryIdeal.Value
public import proofs.«01_k».proof.Proof.Gen.MemoryPlainIdeal.Run
public import proofs.«01_k».proof.Proof.Gen.MemoryPlainIdeal.Read
public import proofs.«01_k».proof.Proof.Gen.Diff.Frame
public import proofs.«01_k».proof.Proof.Gen.DiffIdeal.Frame
public import proofs.«01_k».proof.Proof.Gen.DiffIdeal.Value
public import proofs.«01_k».proof.Proof.Gen.DiffPlainIdeal.Run
public import proofs.«01_k».proof.Proof.Gen.DiffPlainIdeal.Read
public import proofs.«01_k».proof.Proof.Gen.Late.Frame
public import proofs.«01_k».proof.Proof.Gen.LateIdeal.Frame
public import proofs.«01_k».proof.Proof.Gen.LateIdeal.Value
public import proofs.«01_k».proof.Proof.Gen.LatePlainIdeal.Run
public import proofs.«01_k».proof.Proof.Gen.LatePlainIdeal.Read
public import proofs.«01_k».proof.Proof.Meaning
public import proofs.«01_k».proof.Proof.Ref
public import proofs.«01_k».proof.Proof.Proj
public import proofs.«01_k».proof.Proof.Gate
public import proofs.«01_k».proof.Proof.Memory
public import proofs.«01_k».proof.Proof.DiffMeaning
public import proofs.«01_k».proof.Proof.DiffRef
public import proofs.«01_k».proof.Proof.DiffPost
public import proofs.«01_k».proof.Proof.LateMeaning
public import proofs.«01_k».proof.Proof.LateRef
public import proofs.«01_k».proof.Proof.LatePost
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Attn

/-- The precondition's side conditions. -/
theorem pre_facts : Cert.Pre_finite_args.Facts := ⟨by decide, by decide, by decide⟩

/-- The side conditions of the differential attention's precondition. -/
theorem pre_diff_facts : Cert.Pre_finite_diff.Facts := ⟨by decide, by decide, by decide, by decide, by decide, by decide, by decide⟩

/-- An array that passes the precondition's comparison is the array of its entries' real values. -/
theorem real_of_below {x : EReal}
    (h : FloatOps.cmpf (F := Ideal) (φ := .f32) .olt (FloatOps.hostAbsf (F := Ideal) (φ := .f32) x) (FloatOps.ofBits .f32 0x7F800000#32) = 1#1) :
    x = ((x.toReal : ℝ) : EReal) :=
  (EReal.coe_toReal ((below_inf x).1 h).1 ((below_inf x).1 h).2).symm

open Cert.KernelIdeal in
/-- Under the precondition the kernel's arguments are real numbers. -/
theorem reals [hP : Cert.Pre_finite_args.Facts] (m : (ℓ : Loc nD τ sig) → Buf (Elt Ideal) ℓ) (H : Cert.Pre_KernelIdeal_finite_args m) (c : Dev nD) :
    Meaning.Reals m c (fun t h x => (Host.qLat m c (ix4 0 t h x)).toReal) (fun t h e => (Host.qRope m c (ix4 0 t h e)).toReal)
      (fun t j => (Host.latent m c (ix3 0 t j)).toReal) where
  q t h x := real_of_below (congrFun (H c).1 (ix4 0 t h x))
  r t h e := real_of_below (congrFun (H c).2.1 (ix4 0 t h e))
  l t j := real_of_below (congrFun (H c).2.2 (ix3 0 t j))

/-- The reference runs and leaves its arguments as they were. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The kernel and the reference compute the same array. -/
theorem algebraic [hP : Cert.Pre_finite_args.Facts] : Cert.algebraic_KernelIdeal_ReferenceIdeal_pre_finite_args := by
  intro m g m' g' H hm
  refine ⟨fun c => _, (θ_run Cert.KernelIdeal.defs _ _).mono (fun r h c => ⟨(h c).1.trans (Cert.KernelIdeal.Meaning.result (reals m H c)), (h c).2⟩)
    (Cert.KernelIdeal.Value.run_blocks m g), (θ_run Cert.ReferenceIdeal.defs _ _).mono (fun r h c => ⟨(h c).1.trans ?_, (h c).2⟩)
    (Cert.ReferenceIdeal.Value.run (F := Ideal) m' g')⟩
  rw [Cert.ReferenceIdeal.Read.val_main_v36_eq, (hm c).1, (hm c).2.1, (hm c).2.2.1, (hm c).2.2.2]
  exact Cert.ReferenceIdeal.Meaning.result _ ⟨(reals m H c).q, (reals m H c).r, (reals m H c).l⟩

/-- The small columns of the input projection: the kernel and the reference compute the same array. -/
theorem algebraic_proj : Cert.algebraic_ProjIdeal_ProjPlainIdeal := by
  intro m g m' g' _ hm
  refine ⟨fun c => _, (θ_run Cert.ProjIdeal.defs _ _).mono (fun r h c => ⟨(h c).1.trans (Cert.ProjIdeal.Meaning.result m c), (h c).2⟩)
    (Cert.ProjIdeal.Value.run_blocks m g), (θ_run Cert.ProjPlainIdeal.defs _ _).mono (fun r h c => ⟨(h c).1.trans ?_, (h c).2⟩)
    (Cert.ProjPlainIdeal.Value.run (F := Ideal) m' g')⟩
  rw [Cert.ProjPlainIdeal.Read.val_main_v34_eq, (hm c).1, (hm c).2.1, (hm c).2.2]
  exact Cert.ProjPlainIdeal.Meaning.result _ _ _

/-- The gates: the kernel and the reference compute the same array. -/
theorem algebraic_gate : Cert.algebraic_GateIdeal_GatePlainIdeal := by
  intro m g m' g' _ hm
  refine ⟨fun c => _, (θ_run Cert.GateIdeal.defs _ _).mono (fun r h c => ⟨(h c).1.trans (Cert.GateIdeal.Meaning.result m c), (h c).2⟩)
    (Cert.GateIdeal.Value.run_blocks m g), (θ_run Cert.GatePlainIdeal.defs _ _).mono (fun r h c => ⟨(h c).1.trans ?_, (h c).2⟩)
    (Cert.GatePlainIdeal.Value.run (F := Ideal) m' g')⟩
  rw [Cert.GatePlainIdeal.Read.val_main_v29_eq, (hm c).1, (hm c).2.1, (hm c).2.2]
  exact Cert.GatePlainIdeal.Meaning.result _ _ _

/-- The memory's keys and values: the kernel and the reference compute the same array. -/
theorem algebraic_memory : Cert.algebraic_MemoryIdeal_MemoryPlainIdeal := by
  intro m g m' g' _ hm
  refine ⟨fun c => _, (θ_run Cert.MemoryIdeal.defs _ _).mono (fun r h c => ⟨(h c).1.trans (Cert.MemoryIdeal.Meaning.result m c), (h c).2⟩)
    (Cert.MemoryIdeal.Value.run_blocks m g), (θ_run Cert.MemoryPlainIdeal.defs _ _).mono (fun r h c => ⟨(h c).1.trans ?_, (h c).2⟩)
    (Cert.MemoryPlainIdeal.Value.run (F := Ideal) m' g')⟩
  rw [Cert.MemoryPlainIdeal.Read.val_main_v14_eq, (hm c).1, (hm c).2.1, (hm c).2.2]
  exact Cert.MemoryPlainIdeal.Meaning.result _ _ _

/-- An entry of a slice of columns. -/
theorem slice_entry {a b w : ℕ} (x : FVec Ideal ⟨2, ![a, b]⟩ .f32) (o : ℕ) (h : Shape.Slices ⟨2, ![a, b]⟩ ![0, o] ⟨2, ![a, w]⟩)
    (i : Fin a) (j : Fin w) (hj : o + (j : ℕ) < b) :
    extractStridedSlice (⟨2, ![a, w]⟩ : Shape) ![0, o] x h (ix2 i j) = x (ix2 i ⟨o + j, hj⟩) :=
  extractStridedSlice_apply ![0, o] x h (ix2 i j) (ix2 i ⟨o + j, hj⟩) (fun a => match a with
    | ⟨0, _⟩ => by show (i : ℕ) = 0 + (i : ℕ); omega
    | ⟨1, _⟩ => rfl)

/-- An entry of an array is a real number if the entry of its slice is. -/
theorem real_of_slice {a b w : ℕ} (x : FVec Ideal ⟨2, ![a, b]⟩ .f32) (o : ℕ) (h : Shape.Slices ⟨2, ![a, b]⟩ ![0, o] ⟨2, ![a, w]⟩)
    (i : Fin a) (j : Fin w) (hj : o + (j : ℕ) < b)
    (e : extractStridedSlice (⟨2, ![a, w]⟩ : Shape) ![0, o] x h (ix2 i j)
      = ((EReal.toReal (extractStridedSlice (⟨2, ![a, w]⟩ : Shape) ![0, o] x h (ix2 i j)) : ℝ) : EReal)) :
    x (ix2 i ⟨o + j, hj⟩) = ((EReal.toReal (x (ix2 i ⟨o + j, hj⟩)) : ℝ) : EReal) := by
  rwa [slice_entry x o h i j hj] at e

/-- Every entry of an array equals itself. -/
theorem cmpf_self {s : Idealize.ShloMosaic.Shape} (x : FVec Ideal s .f32) : cmpf .oeq x x = fun _ => 1#1 := by
  funext i
  change Ideal.cmp .oeq (x i) (x i) = 1#1
  simp [Ideal.cmp]

open Cert.DiffIdeal Cert.DiffIdeal.Host in
/-- Under its precondition the differential attention's arguments are real numbers, except the gains. -/
theorem reals_diff [hP : Cert.Pre_finite_diff.Facts] (m : (ℓ : Loc nD τ sig) → Buf (Elt Ideal) ℓ) (H : Cert.Pre_DiffIdeal_finite_diff m) (c : Dev nD) :
    Meaning.Reals m c
      (fun t j => if ht : t < 16384 then if hj : j < 2688 then (features m c (ix2 ⟨t, ht⟩ ⟨j, hj⟩)).toReal else 0 else 0)
      (fun b h => if hb : b < 32 then if hh : h < 12 then (biases m c (ix2 ⟨b, hb⟩ ⟨h, hh⟩)).toReal else 0 else 0)
      (fun d => (lq1 m c (ix1 d)).toReal) (fun d => (lk1 m c (ix1 d)).toReal)
      (fun d => (lq2 m c (ix1 d)).toReal) (fun d => (lk2 m c (ix1 d)).toReal) where
  query t j := by
    have hb : 512 + (j : ℕ) < 2688 := by omega
    rw [dif_pos t.isLt, dif_pos hb]
    exact real_of_slice (features m c) 512 _ t j hb (real_of_below (congrFun (H c).1 (ix2 t j)))
  keys t j := by
    have hb : 1792 + (j : ℕ) < 2688 := by omega
    rw [dif_pos t.isLt, dif_pos hb]
    exact real_of_slice (features m c) 1792 _ t j hb (real_of_below (congrFun (H c).2.1 (ix2 t j)))
  bias b h := by
    have hb : 8 + (h : ℕ) < 12 := by omega
    rw [dif_pos b.isLt, dif_pos hb]
    exact real_of_slice (biases m c) 8 _ b h hb (real_of_below (congrFun (H c).2.2.1 (ix2 b h)))
  q1 d := real_of_below (congrFun (H c).2.2.2.1 (ix1 d))
  k1 d := real_of_below (congrFun (H c).2.2.2.2.1 (ix1 d))
  q2 d := real_of_below (congrFun (H c).2.2.2.2.2.1 (ix1 d))
  k2 d := real_of_below (congrFun (H c).2.2.2.2.2.2 (ix1 d))

open Cert.DiffIdeal in
/-- The arguments that are real numbers for the kernel are so for the reference. -/
theorem reals_ref {m : (ℓ : Loc nD τ sig) → Buf (Elt Ideal) ℓ} {c : Dev nD} {X Y : ℕ → ℕ → ℝ} {q1 k1 q2 k2 : Fin 64 → ℝ}
    (R : Meaning.Reals m c X Y q1 k1 q2 k2) :
    Cert.DiffPlainIdeal.Ref.Reals (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) X Y q1 k1 q2 k2 :=
  ⟨R.query, R.keys, R.bias, R.q1, R.k1, R.q2, R.k2⟩

/-- The differential attention: every entry of the kernel's result is the reference's. -/
theorem holds_diff [hP : Cert.Pre_finite_diff.Facts] [hM : Cert.Post_matches_diff.Facts] : Cert.holds_DiffIdeal_matches_diff_pre_finite_diff := by
  intro m g H
  refine (θ_run Cert.DiffIdeal.defs _ _).mono (fun r h c => ?_) (Cert.DiffIdeal.Value.run_blocks m g)
  obtain ⟨e, a0, a1, a2, a3, a4, a5, a6⟩ := h c
  refine ⟨a0, a1, a2, a3, a4, a5, a6, ?_⟩
  have R := reals_diff m H c
  rw [e.trans (Cert.DiffIdeal.Meaning.result R)]
  refine (Cert.DiffPlainIdeal.Post.matches_eq _ _ _ _ _ _ _ _).trans ?_
  rw [Cert.DiffPlainIdeal.Ref.result (reals_ref R)]
  exact cmpf_self _

open Cert.LateIdeal Cert.LateIdeal.Host in
/-- Under the precondition the second layer's differential attention's arguments are real numbers, except the gains. -/
theorem reals_late [hP : Cert.Pre_finite_diff.Facts] (m : (ℓ : Loc nD τ sig) → Buf (Elt Ideal) ℓ) (H : Cert.Pre_LateIdeal_finite_diff m) (c : Dev nD) :
    Meaning.Reals m c
      (fun t j => if ht : t < 16384 then if hj : j < 2688 then (features m c (ix2 ⟨t, ht⟩ ⟨j, hj⟩)).toReal else 0 else 0)
      (fun b h => if hb : b < 32 then if hh : h < 12 then (biases m c (ix2 ⟨b, hb⟩ ⟨h, hh⟩)).toReal else 0 else 0)
      (fun d => (lq1 m c (ix1 d)).toReal) (fun d => (lk1 m c (ix1 d)).toReal)
      (fun d => (lq2 m c (ix1 d)).toReal) (fun d => (lk2 m c (ix1 d)).toReal) where
  query t j := by
    have hb : 512 + (j : ℕ) < 2688 := by omega
    rw [dif_pos t.isLt, dif_pos hb]
    exact real_of_slice (features m c) 512 _ t j hb (real_of_below (congrFun (H c).1 (ix2 t j)))
  keys t j := by
    have hb : 1792 + (j : ℕ) < 2688 := by omega
    rw [dif_pos t.isLt, dif_pos hb]
    exact real_of_slice (features m c) 1792 _ t j hb (real_of_below (congrFun (H c).2.1 (ix2 t j)))
  bias b h := by
    have hb : 8 + (h : ℕ) < 12 := by omega
    rw [dif_pos b.isLt, dif_pos hb]
    exact real_of_slice (biases m c) 8 _ b h hb (real_of_below (congrFun (H c).2.2.1 (ix2 b h)))
  q1 d := real_of_below (congrFun (H c).2.2.2.1 (ix1 d))
  k1 d := real_of_below (congrFun (H c).2.2.2.2.1 (ix1 d))
  q2 d := real_of_below (congrFun (H c).2.2.2.2.2.1 (ix1 d))
  k2 d := real_of_below (congrFun (H c).2.2.2.2.2.2 (ix1 d))

open Cert.LateIdeal in
/-- The arguments that are real numbers for the second layer's kernel are so for the reference. -/
theorem reals_late_ref {m : (ℓ : Loc nD τ sig) → Buf (Elt Ideal) ℓ} {c : Dev nD} {X Y : ℕ → ℕ → ℝ} {q1 k1 q2 k2 : Fin 64 → ℝ}
    (R : Meaning.Reals m c X Y q1 k1 q2 k2) :
    Cert.LatePlainIdeal.Ref.Reals (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) X Y q1 k1 q2 k2 :=
  ⟨R.query, R.keys, R.bias, R.q1, R.k1, R.q2, R.k2⟩

/-- The second layer's differential attention: every entry of the kernel's result is the reference's. -/
theorem holds_late [hP : Cert.Pre_finite_diff.Facts] [hM : Cert.Post_matches_late.Facts] : Cert.holds_LateIdeal_matches_late_pre_finite_diff := by
  intro m g H
  refine (θ_run Cert.LateIdeal.defs _ _).mono (fun r h c => ?_) (Cert.LateIdeal.Value.run_blocks m g)
  obtain ⟨e, a0, a1, a2, a3, a4, a5, a6⟩ := h c
  refine ⟨a0, a1, a2, a3, a4, a5, a6, ?_⟩
  have R := reals_late m H c
  rw [e.trans (Cert.LateIdeal.Meaning.result R)]
  refine (Cert.LatePlainIdeal.Post.matches_eq _ _ _ _ _ _ _ _).trans ?_
  rw [Cert.LatePlainIdeal.Ref.result (reals_late_ref R)]
  exact cmpf_self _

/-- The claims. -/
theorem claim : Cert.Claim :=
  ⟨Cert.Kernel.Gen.facts, Cert.KernelIdeal.Gen.facts, Cert.ReferenceIdeal.Gen.facts,
    Cert.Proj.Gen.facts, Cert.ProjIdeal.Gen.facts, Cert.ProjPlainIdeal.Gen.facts,
    Cert.Gate.Gen.facts, Cert.GateIdeal.Gen.facts, Cert.GatePlainIdeal.Gen.facts,
    Cert.Memory.Gen.facts, Cert.MemoryIdeal.Gen.facts, Cert.MemoryPlainIdeal.Gen.facts,
    Cert.Diff.Gen.facts, Cert.DiffIdeal.Gen.facts, Cert.DiffPlainIdeal.Gen.facts,
    Cert.Late.Gen.facts, Cert.LateIdeal.Gen.facts, Cert.LatePlainIdeal.Gen.facts,
    pre_facts, pre_diff_facts, Cert.DiffPlainIdeal.Post.facts, Cert.LatePlainIdeal.Post.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    fun m g _ => Cert.Proj.Gen.frame m g,
    fun m g _ => Cert.ProjIdeal.Gen.frame m g,
    fun m g _ => (θ_run Cert.ProjPlainIdeal.defs _ _).mono (fun r h => ⟨fun c => (h c).2, Idealize.ShloMosaic.sem_eq_zero_of_no_sems (by decide) r.2⟩)
      (Cert.ProjPlainIdeal.Value.run (F := Ideal) m g),
    fun m g _ => Cert.Gate.Gen.frame m g,
    fun m g _ => Cert.GateIdeal.Gen.frame m g,
    fun m g _ => (θ_run Cert.GatePlainIdeal.defs _ _).mono (fun r h => ⟨fun c => (h c).2, Idealize.ShloMosaic.sem_eq_zero_of_no_sems (by decide) r.2⟩)
      (Cert.GatePlainIdeal.Value.run (F := Ideal) m g),
    fun m g _ => Cert.Memory.Gen.frame m g,
    fun m g _ => Cert.MemoryIdeal.Gen.frame m g,
    fun m g _ => (θ_run Cert.MemoryPlainIdeal.defs _ _).mono (fun r h => ⟨fun c => (h c).2, Idealize.ShloMosaic.sem_eq_zero_of_no_sems (by decide) r.2⟩)
      (Cert.MemoryPlainIdeal.Value.run (F := Ideal) m g),
    fun m g _ => Cert.Diff.Gen.frame m g,
    fun m g _ => Cert.DiffIdeal.Gen.frame m g,
    fun m g _ => Cert.DiffIdeal.Gen.frame m g,
    fun m g _ => (θ_run Cert.DiffPlainIdeal.defs _ _).mono (fun r h => ⟨fun c => (h c).2, Idealize.ShloMosaic.sem_eq_zero_of_no_sems (by decide) r.2⟩)
      (Cert.DiffPlainIdeal.Value.run (F := Ideal) m g),
    fun m g _ => Cert.Late.Gen.frame m g,
    fun m g _ => Cert.LateIdeal.Gen.frame m g,
    fun m g _ => Cert.LateIdeal.Gen.frame m g,
    fun m g _ => (θ_run Cert.LatePlainIdeal.defs _ _).mono (fun r h => ⟨fun c => (h c).2, Idealize.ShloMosaic.sem_eq_zero_of_no_sems (by decide) r.2⟩)
      (Cert.LatePlainIdeal.Value.run (F := Ideal) m g),
    IdealRules.named_const.statement Cert.KernelIdeal.κ "mask" .f32 0xF149F2CA#32 ⊥ rfl,
    algebraic (hP := pre_facts),
    trivial,
    algebraic_proj,
    trivial,
    algebraic_gate,
    trivial,
    algebraic_memory,
    IdealRules.named_const.statement Cert.DiffIdeal.κ "mask" .f32 0xF149F2CA#32 ⊥ rfl,
    holds_diff (hP := pre_diff_facts) (hM := Cert.DiffPlainIdeal.Post.facts),
    IdealRules.named_const.statement Cert.LateIdeal.κ "mask" .f32 0xF149F2CA#32 ⊥ rfl,
    holds_late (hP := pre_diff_facts) (hM := Cert.LatePlainIdeal.Post.facts)⟩

end Cert.Proof

end
